-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2000 : Shape := ⟨2, ![8192, 2000]⟩
abbrev S8192 : Shape := ⟨1, ![8192]⟩
abbrev S208 : Shape := ⟨1, ![208]⟩
abbrev S16x2000 : Shape := ⟨2, ![16, 2000]⟩
abbrev S_ : Shape := ⟨0, ![]⟩
abbrev S16 : Shape := ⟨1, ![16]⟩

abbrev nBuf : Table → Nat
  | .hbm => 6
  | .local .scVector .vmem => 4
  | _ => 0

abbrev bufTy : (tb : Table) → Fin (nBuf tb) → BufTy
  | .hbm, ⟨0, _⟩ => ⟨S8192x2000, .f32⟩
  | .hbm, ⟨1, _⟩ => ⟨S8192x2000, .f32⟩
  | .hbm, ⟨2, _⟩ => ⟨S8192, .i32⟩
  | .hbm, ⟨3, _⟩ => ⟨S208, .i32⟩
  | .hbm, ⟨4, _⟩ => ⟨S208, .i32⟩
  | .hbm, ⟨5, _⟩ => ⟨S8192x2000, .f32⟩
  | .local .scVector .vmem, ⟨0, _⟩ => ⟨S16x2000, .f32⟩
  | .local .scVector .vmem, ⟨1, _⟩ => ⟨S16x2000, .f32⟩
  | .local .scVector .vmem, ⟨2, _⟩ => ⟨S208, .i32⟩
  | .local .scVector .vmem, ⟨3, _⟩ => ⟨S208, .i32⟩
  | _, _ => ⟨S8192x2000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_arg1_scv : Ref sig .scVector := ⟨.hbm, 1, rfl⟩
abbrev main_c_scv : Ref sig .scVector := ⟨.hbm, 3, rfl⟩
abbrev main_c_0_scv : Ref sig .scVector := ⟨.hbm, 4, rfl⟩
abbrev main_v0_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  let v29 : BitVec 32 := Scalar.addi v2 c0_i32
  let c0_i32_13 : BitVec 32 := 0#32
  ![v29.toNat, 0]
@[reducible] def k0_t1_loop : Scf.Loop 32 :=
  let c0_i32_18 : BitVec 32 := 0#32
  let c16_i32 : BitVec 32 := 16#32
  let v34 : BitVec 32 := Scalar.addi c0_i32_18 c16_i32
  let c1_i32 : BitVec 32 := 1#32
  ⟨c0_i32_18, v34, c1_i32⟩

def k0_chk1 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx1_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.1
theorem k0_idx2_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.1
theorem k0_idx3_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.1
theorem k0_idx4_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.1
theorem k0_idx5_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.1
theorem k0_idx6_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.1
theorem k0_idx7_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.1
theorem k0_idx8_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.1
theorem k0_idx9_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.1
theorem k0_idx10_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.1
theorem k0_idx11_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.1
theorem k0_idx12_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.1
theorem k0_idx13_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.1
theorem k0_idx14_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.2.1
theorem k0_idx15_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.2.2.1
theorem k0_idx16_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.2.2.2.1
theorem k0_idx17_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.2.2.2.2.1
theorem k0_idx18_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.2.2.2.2.2.1
theorem k0_idx19_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.2.2.2.2.2.2.1
theorem k0_idx20_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.2.2.2.2.2.2.2.1
theorem k0_idx21_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.2.2.2.2.2.2.2.2.1
theorem k0_idx22_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.2.2.2.2.2.2.2.2.2.1
theorem k0_idx23_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.2.2.2.2.2.2.2.2.2.2.1
theorem k0_idx24_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.2.2.2.2.2.2.2.2.2.2.2.1
theorem k0_idx25_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.2.2.2.2.2.2.2.2.2.2.2.2.1
theorem k0_idx26_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw1 : k0_chk1 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw1 => k0_hw1.2.2.2.2.2.2.2.2.2.2.2.2.2.2.2.2.2.2.2.2.2.2.2.2.2
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v29 : BitVec 32 := Scalar.addi v2 c0_i32
  let c0_i32_20 : BitVec 32 := 0#32
  ![v29.toNat, 0]
@[reducible] def k0_t2_loop : Scf.Loop 32 :=
  let c0_i32_30 : BitVec 32 := 0#32
  let c16_i32_31 : BitVec 32 := 16#32
  let v44 : BitVec 32 := Scalar.addi c0_i32_30 c16_i32_31
  let c1_i32_32 : BitVec 32 := 1#32
  ⟨c0_i32_30, v44, c1_i32_32⟩

def k0_chk2 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx27_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.1
theorem k0_idx28_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.1
theorem k0_idx29_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.1
theorem k0_idx30_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.1
theorem k0_idx31_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.1
theorem k0_idx32_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.1
theorem k0_idx33_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.1
theorem k0_idx34_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.1
theorem k0_idx35_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.1
theorem k0_idx36_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.1
theorem k0_idx37_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.1
theorem k0_idx38_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.1
theorem k0_idx39_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.1
theorem k0_idx40_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.2.1
theorem k0_idx41_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.2.2.1
theorem k0_idx42_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.2.2.2.1
theorem k0_idx43_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.2.2.2.2.1
theorem k0_idx44_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.2.2.2.2.2.1
theorem k0_idx45_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.2.2.2.2.2.2.1
theorem k0_idx46_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.2.2.2.2.2.2.2.1
theorem k0_idx47_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.2.2.2.2.2.2.2.2.1
theorem k0_idx48_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.2.2.2.2.2.2.2.2.2.1
theorem k0_idx49_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.2.2.2.2.2.2.2.2.2.2.1
theorem k0_idx50_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.2.2.2.2.2.2.2.2.2.2.2.1
theorem k0_idx51_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.2.2.2.2.2.2.2.2.2.2.2.2.1
theorem k0_idx52_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw2 : k0_chk2 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw2 => k0_hw2.2.2.2.2.2.2.2.2.2.2.2.2.2.2.2.2.2.2.2.2.2.2.2.2.2
@[reducible] def k0_t3_loop : Scf.Loop 32 :=
  let c0_i32_43 : BitVec 32 := 0#32
  let c16_i32_44 : BitVec 32 := 16#32
  let v54 : BitVec 32 := Scalar.addi c0_i32_43 c16_i32_44
  let c1_i32_45 : BitVec 32 := 1#32
  ⟨c0_i32_43, v54, c1_i32_45⟩

def k0_chk3 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx53_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.1
theorem k0_idx54_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.1
theorem k0_idx55_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.1
theorem k0_idx56_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.1
theorem k0_idx57_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.1
theorem k0_idx58_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.1
theorem k0_idx59_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.1
theorem k0_idx60_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.1
theorem k0_idx61_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.1
theorem k0_idx62_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.1
theorem k0_idx63_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.1
theorem k0_idx64_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.1
theorem k0_idx65_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.1
theorem k0_idx66_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.2.1
theorem k0_idx67_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.2.2.1
theorem k0_idx68_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.2.2.2.1
theorem k0_idx69_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.2.2.2.2.1
theorem k0_idx70_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.2.2.2.2.2.1
theorem k0_idx71_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.2.2.2.2.2.2.1
theorem k0_idx72_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.2.2.2.2.2.2.2.1
theorem k0_idx73_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.2.2.2.2.2.2.2.2.1
theorem k0_idx74_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.2.2.2.2.2.2.2.2.2.1
theorem k0_idx75_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.2.2.2.2.2.2.2.2.2.2.1
theorem k0_idx76_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.2.2.2.2.2.2.2.2.2.2.2.1
theorem k0_idx77_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.2.2.2.2.2.2.2.2.2.2.2.2.1
theorem k0_idx78_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw3 : k0_chk3 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw3 => k0_hw3.2.2.2.2.2.2.2.2.2.2.2.2.2.2.2.2.2.2.2.2.2.2.2.2.2
@[reducible] def k0_t4_loop : Scf.Loop 32 :=
  let c0_i32_56 : BitVec 32 := 0#32
  let c16_i32_57 : BitVec 32 := 16#32
  let v64 : BitVec 32 := Scalar.addi c0_i32_56 c16_i32_57
  let c1_i32_58 : BitVec 32 := 1#32
  ⟨c0_i32_56, v64, c1_i32_58⟩

def k0_chk4 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx79_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.1
theorem k0_idx80_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.1
theorem k0_idx81_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.1
theorem k0_idx82_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.1
theorem k0_idx83_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.1
theorem k0_idx84_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.1
theorem k0_idx85_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.1
theorem k0_idx86_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.1
theorem k0_idx87_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.1
theorem k0_idx88_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.1
theorem k0_idx89_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.1
theorem k0_idx90_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.1
theorem k0_idx91_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.1
theorem k0_idx92_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.2.1
theorem k0_idx93_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.2.2.1
theorem k0_idx94_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.2.2.2.1
theorem k0_idx95_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.2.2.2.2.1
theorem k0_idx96_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.2.2.2.2.2.1
theorem k0_idx97_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.2.2.2.2.2.2.1
theorem k0_idx98_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.2.2.2.2.2.2.2.1
theorem k0_idx99_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.2.2.2.2.2.2.2.2.1
theorem k0_idx100_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.2.2.2.2.2.2.2.2.2.1
theorem k0_idx101_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.2.2.2.2.2.2.2.2.2.2.1
theorem k0_idx102_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.2.2.2.2.2.2.2.2.2.2.2.1
theorem k0_idx103_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.2.2.2.2.2.2.2.2.2.2.2.2.1
theorem k0_idx104_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw4 : k0_chk4 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw4 => k0_hw4.2.2.2.2.2.2.2.2.2.2.2.2.2.2.2.2.2.2.2.2.2.2.2.2.2
@[reducible] def k0_t5_loop : Scf.Loop 32 :=
  let c0_i32_69 : BitVec 32 := 0#32
  let c16_i32_70 : BitVec 32 := 16#32
  let v74 : BitVec 32 := Scalar.addi c0_i32_69 c16_i32_70
  let c1_i32_71 : BitVec 32 := 1#32
  ⟨c0_i32_69, v74, c1_i32_71⟩

def k0_chk5 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx105_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.1
theorem k0_idx106_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.1
theorem k0_idx107_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.1
theorem k0_idx108_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.1
theorem k0_idx109_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.1
theorem k0_idx110_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.1
theorem k0_idx111_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.1
theorem k0_idx112_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.1
theorem k0_idx113_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.1
theorem k0_idx114_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.1
theorem k0_idx115_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.1
theorem k0_idx116_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.1
theorem k0_idx117_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.1
theorem k0_idx118_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.2.1
theorem k0_idx119_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.2.2.1
theorem k0_idx120_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.2.2.2.1
theorem k0_idx121_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.2.2.2.2.1
theorem k0_idx122_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.2.2.2.2.2.1
theorem k0_idx123_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.2.2.2.2.2.2.1
theorem k0_idx124_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.2.2.2.2.2.2.2.1
theorem k0_idx125_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.2.2.2.2.2.2.2.2.1
theorem k0_idx126_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.2.2.2.2.2.2.2.2.2.1
theorem k0_idx127_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.2.2.2.2.2.2.2.2.2.2.1
theorem k0_idx128_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.2.2.2.2.2.2.2.2.2.2.2.1
theorem k0_idx129_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.2.2.2.2.2.2.2.2.2.2.2.2.1
theorem k0_idx130_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw5 : k0_chk5 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw5 => k0_hw5.2.2.2.2.2.2.2.2.2.2.2.2.2.2.2.2.2.2.2.2.2.2.2.2.2
@[reducible] def k0_t6_loop : Scf.Loop 32 :=
  let c0_i32_82 : BitVec 32 := 0#32
  let c16_i32_83 : BitVec 32 := 16#32
  let v84 : BitVec 32 := Scalar.addi c0_i32_82 c16_i32_83
  let c1_i32_84 : BitVec 32 := 1#32
  ⟨c0_i32_82, v84, c1_i32_84⟩

def k0_chk6 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx131_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.1
theorem k0_idx132_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.1
theorem k0_idx133_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.1
theorem k0_idx134_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.1
theorem k0_idx135_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.1
theorem k0_idx136_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.1
theorem k0_idx137_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.1
theorem k0_idx138_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.1
theorem k0_idx139_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.1
theorem k0_idx140_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.1
theorem k0_idx141_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.1
theorem k0_idx142_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.1
theorem k0_idx143_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.1
theorem k0_idx144_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.2.1
theorem k0_idx145_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.2.2.1
theorem k0_idx146_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.2.2.2.1
theorem k0_idx147_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.2.2.2.2.1
theorem k0_idx148_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.2.2.2.2.2.1
theorem k0_idx149_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.2.2.2.2.2.2.1
theorem k0_idx150_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.2.2.2.2.2.2.2.1
theorem k0_idx151_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.2.2.2.2.2.2.2.2.1
theorem k0_idx152_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.2.2.2.2.2.2.2.2.2.1
theorem k0_idx153_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.2.2.2.2.2.2.2.2.2.2.1
theorem k0_idx154_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.2.2.2.2.2.2.2.2.2.2.2.1
theorem k0_idx155_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.2.2.2.2.2.2.2.2.2.2.2.2.1
theorem k0_idx156_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw6 : k0_chk6 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw6 => k0_hw6.2.2.2.2.2.2.2.2.2.2.2.2.2.2.2.2.2.2.2.2.2.2.2.2.2
@[reducible] def k0_t7_loop : Scf.Loop 32 :=
  let c0_i32_95 : BitVec 32 := 0#32
  let c16_i32_96 : BitVec 32 := 16#32
  let v94 : BitVec 32 := Scalar.addi c0_i32_95 c16_i32_96
  let c1_i32_97 : BitVec 32 := 1#32
  ⟨c0_i32_95, v94, c1_i32_97⟩

def k0_chk7 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx157_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.1
theorem k0_idx158_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.1
theorem k0_idx159_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.1
theorem k0_idx160_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.1
theorem k0_idx161_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.1
theorem k0_idx162_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.1
theorem k0_idx163_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.1
theorem k0_idx164_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.1
theorem k0_idx165_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.1
theorem k0_idx166_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.1
theorem k0_idx167_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.1
theorem k0_idx168_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.1
theorem k0_idx169_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.1
theorem k0_idx170_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.2.1
theorem k0_idx171_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.2.2.1
theorem k0_idx172_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.2.2.2.1
theorem k0_idx173_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.2.2.2.2.1
theorem k0_idx174_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.2.2.2.2.2.1
theorem k0_idx175_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.2.2.2.2.2.2.1
theorem k0_idx176_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.2.2.2.2.2.2.2.1
theorem k0_idx177_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.2.2.2.2.2.2.2.2.1
theorem k0_idx178_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.2.2.2.2.2.2.2.2.2.1
theorem k0_idx179_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.2.2.2.2.2.2.2.2.2.2.1
theorem k0_idx180_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.2.2.2.2.2.2.2.2.2.2.2.1
theorem k0_idx181_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.2.2.2.2.2.2.2.2.2.2.2.2.1
theorem k0_idx182_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw7 : k0_chk7 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw7 => k0_hw7.2.2.2.2.2.2.2.2.2.2.2.2.2.2.2.2.2.2.2.2.2.2.2.2.2
@[reducible] def k0_t8_loop : Scf.Loop 32 :=
  let c0_i32_108 : BitVec 32 := 0#32
  let c16_i32_109 : BitVec 32 := 16#32
  let v104 : BitVec 32 := Scalar.addi c0_i32_108 c16_i32_109
  let c1_i32_110 : BitVec 32 := 1#32
  ⟨c0_i32_108, v104, c1_i32_110⟩

def k0_chk8 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx183_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.1
theorem k0_idx184_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.1
theorem k0_idx185_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.1
theorem k0_idx186_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.1
theorem k0_idx187_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.1
theorem k0_idx188_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.1
theorem k0_idx189_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.1
theorem k0_idx190_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.1
theorem k0_idx191_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.1
theorem k0_idx192_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.1
theorem k0_idx193_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.1
theorem k0_idx194_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.1
theorem k0_idx195_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.1
theorem k0_idx196_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.2.1
theorem k0_idx197_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.2.2.1
theorem k0_idx198_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.2.2.2.1
theorem k0_idx199_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.2.2.2.2.1
theorem k0_idx200_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.2.2.2.2.2.1
theorem k0_idx201_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.2.2.2.2.2.2.1
theorem k0_idx202_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.2.2.2.2.2.2.2.1
theorem k0_idx203_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.2.2.2.2.2.2.2.2.1
theorem k0_idx204_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.2.2.2.2.2.2.2.2.2.1
theorem k0_idx205_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.2.2.2.2.2.2.2.2.2.2.1
theorem k0_idx206_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.2.2.2.2.2.2.2.2.2.2.2.1
theorem k0_idx207_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.2.2.2.2.2.2.2.2.2.2.2.2.1
theorem k0_idx208_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw8 : k0_chk8 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw8 => k0_hw8.2.2.2.2.2.2.2.2.2.2.2.2.2.2.2.2.2.2.2.2.2.2.2.2.2
@[reducible] def k0_t9_loop : Scf.Loop 32 :=
  let c0_i32_121 : BitVec 32 := 0#32
  let c16_i32_122 : BitVec 32 := 16#32
  let v114 : BitVec 32 := Scalar.addi c0_i32_121 c16_i32_122
  let c1_i32_123 : BitVec 32 := 1#32
  ⟨c0_i32_121, v114, c1_i32_123⟩

def k0_chk9 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx209_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.1
theorem k0_idx210_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.1
theorem k0_idx211_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.1
theorem k0_idx212_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.1
theorem k0_idx213_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.1
theorem k0_idx214_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.1
theorem k0_idx215_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.1
theorem k0_idx216_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.1
theorem k0_idx217_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.1
theorem k0_idx218_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.1
theorem k0_idx219_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.1
theorem k0_idx220_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.1
theorem k0_idx221_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.1
theorem k0_idx222_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.2.1
theorem k0_idx223_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.2.2.1
theorem k0_idx224_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.2.2.2.1
theorem k0_idx225_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.2.2.2.2.1
theorem k0_idx226_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.2.2.2.2.2.1
theorem k0_idx227_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.2.2.2.2.2.2.1
theorem k0_idx228_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.2.2.2.2.2.2.2.1
theorem k0_idx229_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.2.2.2.2.2.2.2.2.1
theorem k0_idx230_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.2.2.2.2.2.2.2.2.2.1
theorem k0_idx231_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.2.2.2.2.2.2.2.2.2.2.1
theorem k0_idx232_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.2.2.2.2.2.2.2.2.2.2.2.1
theorem k0_idx233_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.2.2.2.2.2.2.2.2.2.2.2.2.1
theorem k0_idx234_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw9 : k0_chk9 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw9 => k0_hw9.2.2.2.2.2.2.2.2.2.2.2.2.2.2.2.2.2.2.2.2.2.2.2.2.2
@[reducible] def k0_t10_loop : Scf.Loop 32 :=
  let c0_i32_134 : BitVec 32 := 0#32
  let c16_i32_135 : BitVec 32 := 16#32
  let v124 : BitVec 32 := Scalar.addi c0_i32_134 c16_i32_135
  let c1_i32_136 : BitVec 32 := 1#32
  ⟨c0_i32_134, v124, c1_i32_136⟩

def k0_chk10 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx235_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.1
theorem k0_idx236_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.1
theorem k0_idx237_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.1
theorem k0_idx238_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.1
theorem k0_idx239_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.1
theorem k0_idx240_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.1
theorem k0_idx241_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.1
theorem k0_idx242_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.1
theorem k0_idx243_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.1
theorem k0_idx244_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.1
theorem k0_idx245_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.1
theorem k0_idx246_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.1
theorem k0_idx247_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.1
theorem k0_idx248_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.2.1
theorem k0_idx249_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.2.2.1
theorem k0_idx250_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.2.2.2.1
theorem k0_idx251_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.2.2.2.2.1
theorem k0_idx252_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.2.2.2.2.2.1
theorem k0_idx253_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.2.2.2.2.2.2.1
theorem k0_idx254_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.2.2.2.2.2.2.2.1
theorem k0_idx255_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.2.2.2.2.2.2.2.2.1
theorem k0_idx256_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.2.2.2.2.2.2.2.2.2.1
theorem k0_idx257_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.2.2.2.2.2.2.2.2.2.2.1
theorem k0_idx258_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.2.2.2.2.2.2.2.2.2.2.2.1
theorem k0_idx259_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.2.2.2.2.2.2.2.2.2.2.2.2.1
theorem k0_idx260_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw10 : k0_chk10 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw10 => k0_hw10.2.2.2.2.2.2.2.2.2.2.2.2.2.2.2.2.2.2.2.2.2.2.2.2.2
@[reducible] def k0_t11_loop : Scf.Loop 32 :=
  let c0_i32_147 : BitVec 32 := 0#32
  let c16_i32_148 : BitVec 32 := 16#32
  let v134 : BitVec 32 := Scalar.addi c0_i32_147 c16_i32_148
  let c1_i32_149 : BitVec 32 := 1#32
  ⟨c0_i32_147, v134, c1_i32_149⟩

def k0_chk11 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx261_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.1
theorem k0_idx262_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.1
theorem k0_idx263_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.1
theorem k0_idx264_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.1
theorem k0_idx265_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.1
theorem k0_idx266_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.1
theorem k0_idx267_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.1
theorem k0_idx268_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.1
theorem k0_idx269_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.1
theorem k0_idx270_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.1
theorem k0_idx271_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.1
theorem k0_idx272_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.1
theorem k0_idx273_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.1
theorem k0_idx274_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.2.1
theorem k0_idx275_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.2.2.1
theorem k0_idx276_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.2.2.2.1
theorem k0_idx277_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.2.2.2.2.1
theorem k0_idx278_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.2.2.2.2.2.1
theorem k0_idx279_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.2.2.2.2.2.2.1
theorem k0_idx280_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.2.2.2.2.2.2.2.1
theorem k0_idx281_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.2.2.2.2.2.2.2.2.1
theorem k0_idx282_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.2.2.2.2.2.2.2.2.2.1
theorem k0_idx283_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.2.2.2.2.2.2.2.2.2.2.1
theorem k0_idx284_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.2.2.2.2.2.2.2.2.2.2.2.1
theorem k0_idx285_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.2.2.2.2.2.2.2.2.2.2.2.2.1
theorem k0_idx286_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw11 : k0_chk11 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw11 => k0_hw11.2.2.2.2.2.2.2.2.2.2.2.2.2.2.2.2.2.2.2.2.2.2.2.2.2
@[reducible] def k0_t12_loop : Scf.Loop 32 :=
  let c0_i32_160 : BitVec 32 := 0#32
  let c16_i32_161 : BitVec 32 := 16#32
  let v144 : BitVec 32 := Scalar.addi c0_i32_160 c16_i32_161
  let c1_i32_162 : BitVec 32 := 1#32
  ⟨c0_i32_160, v144, c1_i32_162⟩

def k0_chk12 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx287_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.1
theorem k0_idx288_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.1
theorem k0_idx289_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.1
theorem k0_idx290_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.1
theorem k0_idx291_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.1
theorem k0_idx292_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.1
theorem k0_idx293_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.1
theorem k0_idx294_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.1
theorem k0_idx295_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.1
theorem k0_idx296_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.1
theorem k0_idx297_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.1
theorem k0_idx298_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.1
theorem k0_idx299_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.1
theorem k0_idx300_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.2.1
theorem k0_idx301_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.2.2.1
theorem k0_idx302_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.2.2.2.1
theorem k0_idx303_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.2.2.2.2.1
theorem k0_idx304_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.2.2.2.2.2.1
theorem k0_idx305_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.2.2.2.2.2.2.1
theorem k0_idx306_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.2.2.2.2.2.2.2.1
theorem k0_idx307_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.2.2.2.2.2.2.2.2.1
theorem k0_idx308_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.2.2.2.2.2.2.2.2.2.1
theorem k0_idx309_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.2.2.2.2.2.2.2.2.2.2.1
theorem k0_idx310_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.2.2.2.2.2.2.2.2.2.2.2.1
theorem k0_idx311_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.2.2.2.2.2.2.2.2.2.2.2.2.1
theorem k0_idx312_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw12 : k0_chk12 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw12 => k0_hw12.2.2.2.2.2.2.2.2.2.2.2.2.2.2.2.2.2.2.2.2.2.2.2.2.2
@[reducible] def k0_t13_loop : Scf.Loop 32 :=
  let c0_i32_173 : BitVec 32 := 0#32
  let c16_i32_174 : BitVec 32 := 16#32
  let v154 : BitVec 32 := Scalar.addi c0_i32_173 c16_i32_174
  let c1_i32_175 : BitVec 32 := 1#32
  ⟨c0_i32_173, v154, c1_i32_175⟩

def k0_chk13 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx313_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.1
theorem k0_idx314_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.1
theorem k0_idx315_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.1
theorem k0_idx316_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.1
theorem k0_idx317_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.1
theorem k0_idx318_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.1
theorem k0_idx319_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.1
theorem k0_idx320_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.1
theorem k0_idx321_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.1
theorem k0_idx322_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.1
theorem k0_idx323_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.1
theorem k0_idx324_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.1
theorem k0_idx325_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.1
theorem k0_idx326_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.2.1
theorem k0_idx327_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.2.2.1
theorem k0_idx328_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.2.2.2.1
theorem k0_idx329_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.2.2.2.2.1
theorem k0_idx330_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.2.2.2.2.2.1
theorem k0_idx331_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.2.2.2.2.2.2.1
theorem k0_idx332_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.2.2.2.2.2.2.2.1
theorem k0_idx333_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.2.2.2.2.2.2.2.2.1
theorem k0_idx334_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.2.2.2.2.2.2.2.2.2.1
theorem k0_idx335_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.2.2.2.2.2.2.2.2.2.2.1
theorem k0_idx336_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.2.2.2.2.2.2.2.2.2.2.2.1
theorem k0_idx337_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.2.2.2.2.2.2.2.2.2.2.2.2.1
theorem k0_idx338_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw13 : k0_chk13 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw13 => k0_hw13.2.2.2.2.2.2.2.2.2.2.2.2.2.2.2.2.2.2.2.2.2.2.2.2.2
@[reducible] def k0_t14_loop : Scf.Loop 32 :=
  let c0_i32_186 : BitVec 32 := 0#32
  let c16_i32_187 : BitVec 32 := 16#32
  let v164 : BitVec 32 := Scalar.addi c0_i32_186 c16_i32_187
  let c1_i32_188 : BitVec 32 := 1#32
  ⟨c0_i32_186, v164, c1_i32_188⟩

def k0_chk14 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx339_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.1
theorem k0_idx340_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.1
theorem k0_idx341_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.1
theorem k0_idx342_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.1
theorem k0_idx343_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.1
theorem k0_idx344_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.1
theorem k0_idx345_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.1
theorem k0_idx346_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.1
theorem k0_idx347_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.1
theorem k0_idx348_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.1
theorem k0_idx349_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.1
theorem k0_idx350_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.1
theorem k0_idx351_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.1
theorem k0_idx352_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.2.1
theorem k0_idx353_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.2.2.1
theorem k0_idx354_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.2.2.2.1
theorem k0_idx355_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.2.2.2.2.1
theorem k0_idx356_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.2.2.2.2.2.1
theorem k0_idx357_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.2.2.2.2.2.2.1
theorem k0_idx358_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.2.2.2.2.2.2.2.1
theorem k0_idx359_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.2.2.2.2.2.2.2.2.1
theorem k0_idx360_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.2.2.2.2.2.2.2.2.2.1
theorem k0_idx361_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.2.2.2.2.2.2.2.2.2.2.1
theorem k0_idx362_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.2.2.2.2.2.2.2.2.2.2.2.1
theorem k0_idx363_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.2.2.2.2.2.2.2.2.2.2.2.2.1
theorem k0_idx364_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw14 : k0_chk14 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw14 => k0_hw14.2.2.2.2.2.2.2.2.2.2.2.2.2.2.2.2.2.2.2.2.2.2.2.2.2
@[reducible] def k0_t15_loop : Scf.Loop 32 :=
  let c0_i32_199 : BitVec 32 := 0#32
  let c16_i32_200 : BitVec 32 := 16#32
  let v174 : BitVec 32 := Scalar.addi c0_i32_199 c16_i32_200
  let c1_i32_201 : BitVec 32 := 1#32
  ⟨c0_i32_199, v174, c1_i32_201⟩

def k0_chk15 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx365_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.1
theorem k0_idx366_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.1
theorem k0_idx367_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.1
theorem k0_idx368_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.1
theorem k0_idx369_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.1
theorem k0_idx370_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.1
theorem k0_idx371_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.1
theorem k0_idx372_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.1
theorem k0_idx373_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.1
theorem k0_idx374_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.1
theorem k0_idx375_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.1
theorem k0_idx376_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.1
theorem k0_idx377_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.1
theorem k0_idx378_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.2.1
theorem k0_idx379_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.2.2.1
theorem k0_idx380_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.2.2.2.1
theorem k0_idx381_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.2.2.2.2.1
theorem k0_idx382_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.2.2.2.2.2.1
theorem k0_idx383_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.2.2.2.2.2.2.1
theorem k0_idx384_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.2.2.2.2.2.2.2.1
theorem k0_idx385_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.2.2.2.2.2.2.2.2.1
theorem k0_idx386_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.2.2.2.2.2.2.2.2.2.1
theorem k0_idx387_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.2.2.2.2.2.2.2.2.2.2.1
theorem k0_idx388_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.2.2.2.2.2.2.2.2.2.2.2.1
theorem k0_idx389_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.2.2.2.2.2.2.2.2.2.2.2.2.1
theorem k0_idx390_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw15 : k0_chk15 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw15 => k0_hw15.2.2.2.2.2.2.2.2.2.2.2.2.2.2.2.2.2.2.2.2.2.2.2.2.2
@[reducible] def k0_t16_loop : Scf.Loop 32 :=
  let c0_i32_212 : BitVec 32 := 0#32
  let c16_i32_213 : BitVec 32 := 16#32
  let v184 : BitVec 32 := Scalar.addi c0_i32_212 c16_i32_213
  let c1_i32_214 : BitVec 32 := 1#32
  ⟨c0_i32_212, v184, c1_i32_214⟩

def k0_chk16 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) : Prop :=
  (∀ a x, ((![v189, v16] : Fin 2 → IVec S16 32) a x).toNat < S16x2000.size a) ∧
  (∀ a x, ((![v189, v17] : Fin 2 → IVec S16 32) a x).toNat < S16x2000.size a) ∧
  (∀ a x, ((![v189, v18] : Fin 2 → IVec S16 32) a x).toNat < S16x2000.size a) ∧
  (∀ a x, ((![v189, v19] : Fin 2 → IVec S16 32) a x).toNat < S16x2000.size a) ∧
  (∀ a x, ((![v189, v20] : Fin 2 → IVec S16 32) a x).toNat < S16x2000.size a) ∧
  (∀ a x, ((![v189, v21] : Fin 2 → IVec S16 32) a x).toNat < S16x2000.size a) ∧
  (∀ a x, ((![v189, v22] : Fin 2 → IVec S16 32) a x).toNat < S16x2000.size a) ∧
  (∀ a x, ((![v189, v23] : Fin 2 → IVec S16 32) a x).toNat < S16x2000.size a) ∧
  (∀ a x, ((![v189, v24] : Fin 2 → IVec S16 32) a x).toNat < S16x2000.size a) ∧
  (∀ a x, ((![v189, v25] : Fin 2 → IVec S16 32) a x).toNat < S16x2000.size a) ∧
  (∀ a x, ((![v189, v26] : Fin 2 → IVec S16 32) a x).toNat < S16x2000.size a) ∧
  (∀ a x, ((![v189, v27] : Fin 2 → IVec S16 32) a x).toNat < S16x2000.size a) ∧
  (∀ a x, ((![v189, v28] : Fin 2 → IVec S16 32) a x).toNat < S16x2000.size a) ∧
  (∀ a x, ((![v189, v3] : Fin 2 → IVec S16 32) a x).toNat < S16x2000.size a) ∧
  (∀ a x, ((![v189, v4] : Fin 2 → IVec S16 32) a x).toNat < S16x2000.size a) ∧
  (∀ a x, ((![v189, v5] : Fin 2 → IVec S16 32) a x).toNat < S16x2000.size a) ∧
  (∀ a x, ((![v189, v6] : Fin 2 → IVec S16 32) a x).toNat < S16x2000.size a) ∧
  (∀ a x, ((![v189, v7] : Fin 2 → IVec S16 32) a x).toNat < S16x2000.size a) ∧
  (∀ a x, ((![v189, v8] : Fin 2 → IVec S16 32) a x).toNat < S16x2000.size a) ∧
  (∀ a x, ((![v189, v9] : Fin 2 → IVec S16 32) a x).toNat < S16x2000.size a) ∧
  (∀ a x, ((![v189, v10] : Fin 2 → IVec S16 32) a x).toNat < S16x2000.size a) ∧
  (∀ a x, ((![v189, v11] : Fin 2 → IVec S16 32) a x).toNat < S16x2000.size a) ∧
  (∀ a x, ((![v189, v12] : Fin 2 → IVec S16 32) a x).toNat < S16x2000.size a) ∧
  (∀ a x, ((![v189, v13] : Fin 2 → IVec S16 32) a x).toNat < S16x2000.size a) ∧
  (∀ a x, ((![v189, v14] : Fin 2 → IVec S16 32) a x).toNat < S16x2000.size a) ∧
  (∀ a x, ((![v189, v15] : Fin 2 → IVec S16 32) a x).toNat < S16x2000.size a)
theorem k0_idx391_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v16] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.1
theorem k0_idx392_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v17] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.1
theorem k0_idx393_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v18] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.1
theorem k0_idx394_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v19] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.1
theorem k0_idx395_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v20] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.1
theorem k0_idx396_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v21] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.1
theorem k0_idx397_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v22] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.1
theorem k0_idx398_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v23] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.1
theorem k0_idx399_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v24] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.1
theorem k0_idx400_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v25] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.1
theorem k0_idx401_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v26] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.1
theorem k0_idx402_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v27] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.1
theorem k0_idx403_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v28] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.1
theorem k0_idx404_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v3] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.2.1
theorem k0_idx405_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v4] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.2.2.1
theorem k0_idx406_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v5] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.2.2.2.1
theorem k0_idx407_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v6] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.2.2.2.2.1
theorem k0_idx408_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v7] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.2.2.2.2.2.1
theorem k0_idx409_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v8] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.2.2.2.2.2.2.1
theorem k0_idx410_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v9] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.2.2.2.2.2.2.2.1
theorem k0_idx411_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v10] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.2.2.2.2.2.2.2.2.1
theorem k0_idx412_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v11] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.2.2.2.2.2.2.2.2.2.1
theorem k0_idx413_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v12] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.2.2.2.2.2.2.2.2.2.2.1
theorem k0_idx414_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v13] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.2.2.2.2.2.2.2.2.2.2.2.1
theorem k0_idx415_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v14] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.2.2.2.2.2.2.2.2.2.2.2.2.1
theorem k0_idx416_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v22 : IVec S16 32) (v23 : IVec S16 32) (v24 : IVec S16 32) (v25 : IVec S16 32) (v26 : IVec S16 32) (v27 : IVec S16 32) (v28 : IVec S16 32) (v189 : IVec S16 32) (k0_hw16 : k0_chk16 v3 v4 v5 v6 v7 v8 v9 v10 v11 v12 v13 v14 v15 v16 v17 v18 v19 v20 v21 v22 v23 v24 v25 v26 v27 v28 v189), ∀ a x, ((![v189, v15] : Fin 2 → IVec S16 32) a x).toNat < S16x2000.size a := fun v3 v4 v5 v6 v7 v8 v9 v10 v11 v12 v13 v14 v15 v16 v17 v18 v19 v20 v21 v22 v23 v24 v25 v26 v27 v28 v189 k0_hw16 => k0_hw16.2.2.2.2.2.2.2.2.2.2.2.2.2.2.2.2.2.2.2.2.2.2.2.2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x2000 : Shape := ⟨2, ![8192, 2000]⟩
abbrev S8192 : Shape := ⟨1, ![8192]⟩
abbrev S_ : Shape := ⟨0, ![]⟩
abbrev S1 : Shape := ⟨1, ![1]⟩
abbrev S2 : Shape := ⟨1, ![2]⟩
abbrev S4 : Shape := ⟨1, ![4]⟩
abbrev S4x1 : Shape := ⟨2, ![4, 1]⟩
abbrev S4x2 : Shape := ⟨2, ![4, 2]⟩
abbrev S1x2 : Shape := ⟨2, ![1, 2]⟩
abbrev S1x1 : Shape := ⟨2, ![1, 1]⟩
abbrev S2x1 : Shape := ⟨2, ![2, 1]⟩
abbrev S2x2 : Shape := ⟨2, ![2, 2]⟩
abbrev S100x2 : Shape := ⟨2, ![100, 2]⟩
abbrev S100x1 : Shape := ⟨2, ![100, 1]⟩
abbrev S100 : Shape := ⟨1, ![100]⟩
abbrev S8192x100 : Shape := ⟨2, ![8192, 100]⟩

abbrev nBuf : Space → Nat
  | .hbm => 2277
  | .vmem => 0
  | .smem => 0
  | _ => 0

abbrev hbmTy0_0 (i : Nat) : BufTy := match i % 128 with
  | 0 => ⟨S8192x2000, .f32⟩
  | 1 => ⟨S8192x2000, .f32⟩
  | 2 => ⟨S8192, .i32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S1, .i32⟩
  | 14 => ⟨S_, .i32⟩
  | 15 => ⟨S1, .i32⟩
  | 16 => ⟨S_, .i32⟩
  | 17 => ⟨S4, .i64⟩
  | 18 => ⟨S_, .i64⟩
  | 19 => ⟨S4, .i64⟩
  | 20 => ⟨S4, .i64⟩
  | 21 => ⟨S_, .i64⟩
  | 22 => ⟨S4, .i64⟩
  | 23 => ⟨S4, .i64⟩
  | 24 => ⟨S4, .i32⟩
  | 25 => ⟨S4, .i32⟩
  | 26 => ⟨S_, .i32⟩
  | 27 => ⟨S_, .i32⟩
  | 28 => ⟨S_, .i32⟩
  | 29 => ⟨S4, .i32⟩
  | 30 => ⟨S4, .i32⟩
  | 31 => ⟨S4, .i32⟩
  | 32 => ⟨S4, .i32⟩
  | 33 => ⟨S4, .i32⟩
  | 34 => ⟨S_, .i32⟩
  | 35 => ⟨S4, .i32⟩
  | 36 => ⟨S4, .i32⟩
  | 37 => ⟨S_, .i32⟩
  | 38 => ⟨S4, .i32⟩
  | 39 => ⟨S4, .i32⟩
  | 40 => ⟨S4, .i32⟩
  | 41 => ⟨S4, .i32⟩
  | 42 => ⟨S4, .i32⟩
  | 43 => ⟨S_, .i32⟩
  | 44 => ⟨S4, .i32⟩
  | 45 => ⟨S4, .i32⟩
  | 46 => ⟨S_, .i32⟩
  | 47 => ⟨S4, .i32⟩
  | 48 => ⟨S4, .i32⟩
  | 49 => ⟨S4, .i32⟩
  | 50 => ⟨S4, .i32⟩
  | 51 => ⟨S4, .i32⟩
  | 52 => ⟨S_, .i32⟩
  | 53 => ⟨S4, .i32⟩
  | 54 => ⟨S4, .i32⟩
  | 55 => ⟨S_, .i32⟩
  | 56 => ⟨S4, .i32⟩
  | 57 => ⟨S4, .i32⟩
  | 58 => ⟨S4, .i32⟩
  | 59 => ⟨S4, .i32⟩
  | 60 => ⟨S4, .i32⟩
  | 61 => ⟨S_, .i32⟩
  | 62 => ⟨S4, .i32⟩
  | 63 => ⟨S4, .i32⟩
  | 64 => ⟨S_, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S4, .i32⟩
  | 72 => ⟨S4, .i32⟩
  | 73 => ⟨S_, .i32⟩
  | 74 => ⟨S4, .i32⟩
  | 75 => ⟨S4, .i32⟩
  | 76 => ⟨S4, .i32⟩
  | 77 => ⟨S_, .i32⟩
  | 78 => ⟨S4, .i32⟩
  | 79 => ⟨S4, .i32⟩
  | 80 => ⟨S_, .i32⟩
  | 81 => ⟨S4, .i32⟩
  | 82 => ⟨S4, .i32⟩
  | 83 => ⟨S4, .i32⟩
  | 84 => ⟨S4, .i32⟩
  | 85 => ⟨S4, .i32⟩
  | 86 => ⟨S_, .i32⟩
  | 87 => ⟨S4, .i32⟩
  | 88 => ⟨S4, .i32⟩
  | 89 => ⟨S_, .i32⟩
  | 90 => ⟨S4, .i32⟩
  | 91 => ⟨S4, .i32⟩
  | 92 => ⟨S4, .i32⟩
  | 93 => ⟨S4, .i32⟩
  | 94 => ⟨S4, .i32⟩
  | 95 => ⟨S_, .i32⟩
  | 96 => ⟨S4, .i32⟩
  | 97 => ⟨S4, .i32⟩
  | 98 => ⟨S_, .i32⟩
  | 99 => ⟨S4, .i32⟩
  | 100 => ⟨S4, .i32⟩
  | 101 => ⟨S4, .i32⟩
  | 102 => ⟨S4, .i32⟩
  | 103 => ⟨S4, .i32⟩
  | 104 => ⟨S_, .i32⟩
  | 105 => ⟨S4, .i32⟩
  | 106 => ⟨S4, .i32⟩
  | 107 => ⟨S_, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S4, .i32⟩
  | 115 => ⟨S4, .i32⟩
  | 116 => ⟨S_, .i32⟩
  | 117 => ⟨S4, .i32⟩
  | 118 => ⟨S4, .i32⟩
  | 119 => ⟨S4, .i32⟩
  | 120 => ⟨S_, .i32⟩
  | 121 => ⟨S4, .i32⟩
  | 122 => ⟨S4, .i32⟩
  | 123 => ⟨S_, .i32⟩
  | 124 => ⟨S4, .i32⟩
  | 125 => ⟨S4, .i32⟩
  | 126 => ⟨S4, .i32⟩
  | 127 => ⟨S4, .i32⟩
  | _ => ⟨S8192x2000, .f32⟩

abbrev hbmTy0_1 (i : Nat) : BufTy := match i % 128 with
  | 0 => ⟨S4, .i32⟩
  | 1 => ⟨S_, .i32⟩
  | 2 => ⟨S4, .i32⟩
  | 3 => ⟨S4, .i32⟩
  | 4 => ⟨S_, .i32⟩
  | 5 => ⟨S4, .i32⟩
  | 6 => ⟨S4, .i32⟩
  | 7 => ⟨S4, .i32⟩
  | 8 => ⟨S4, .i32⟩
  | 9 => ⟨S4, .i32⟩
  | 10 => ⟨S_, .i32⟩
  | 11 => ⟨S4, .i32⟩
  | 12 => ⟨S4, .i32⟩
  | 13 => ⟨S_, .i32⟩
  | 14 => ⟨S4, .i32⟩
  | 15 => ⟨S4, .i32⟩
  | 16 => ⟨S4, .i32⟩
  | 17 => ⟨S4, .i32⟩
  | 18 => ⟨S4, .i32⟩
  | 19 => ⟨S_, .i32⟩
  | 20 => ⟨S4, .i32⟩
  | 21 => ⟨S4, .i32⟩
  | 22 => ⟨S_, .i32⟩
  | 23 => ⟨S4, .i32⟩
  | 24 => ⟨S4, .i32⟩
  | 25 => ⟨S4, .i32⟩
  | 26 => ⟨S4, .i32⟩
  | 27 => ⟨S4, .i32⟩
  | 28 => ⟨S4, .i32⟩
  | 29 => ⟨S4, .i32⟩
  | 30 => ⟨S4, .i32⟩
  | 31 => ⟨S_, .i32⟩
  | 32 => ⟨S4, .i32⟩
  | 33 => ⟨S4, .i32⟩
  | 34 => ⟨S4, .i32⟩
  | 35 => ⟨S_, .i32⟩
  | 36 => ⟨S4, .i32⟩
  | 37 => ⟨S4, .i32⟩
  | 38 => ⟨S_, .i32⟩
  | 39 => ⟨S4, .i32⟩
  | 40 => ⟨S4, .i32⟩
  | 41 => ⟨S4, .i32⟩
  | 42 => ⟨S4, .i32⟩
  | 43 => ⟨S4, .i32⟩
  | 44 => ⟨S_, .i32⟩
  | 45 => ⟨S4, .i32⟩
  | 46 => ⟨S4, .i32⟩
  | 47 => ⟨S_, .i32⟩
  | 48 => ⟨S4, .i32⟩
  | 49 => ⟨S4, .i32⟩
  | 50 => ⟨S4, .i32⟩
  | 51 => ⟨S4, .i32⟩
  | 52 => ⟨S4, .i32⟩
  | 53 => ⟨S_, .i32⟩
  | 54 => ⟨S4, .i32⟩
  | 55 => ⟨S4, .i32⟩
  | 56 => ⟨S_, .i32⟩
  | 57 => ⟨S4, .i32⟩
  | 58 => ⟨S4, .i32⟩
  | 59 => ⟨S4, .i32⟩
  | 60 => ⟨S4, .i32⟩
  | 61 => ⟨S4, .i32⟩
  | 62 => ⟨S_, .i32⟩
  | 63 => ⟨S4, .i32⟩
  | 64 => ⟨S4, .i32⟩
  | 65 => ⟨S_, .i32⟩
  | 66 => ⟨S4, .i32⟩
  | 67 => ⟨S4, .i32⟩
  | 68 => ⟨S4, .i32⟩
  | 69 => ⟨S4, .i32⟩
  | 70 => ⟨S4, .i32⟩
  | 71 => ⟨S4, .i32⟩
  | 72 => ⟨S4, .i32⟩
  | 73 => ⟨S4, .i32⟩
  | 74 => ⟨S_, .i32⟩
  | 75 => ⟨S4, .i32⟩
  | 76 => ⟨S4, .i32⟩
  | 77 => ⟨S4, .i32⟩
  | 78 => ⟨S_, .i32⟩
  | 79 => ⟨S4, .i32⟩
  | 80 => ⟨S4, .i32⟩
  | 81 => ⟨S_, .i32⟩
  | 82 => ⟨S4, .i32⟩
  | 83 => ⟨S4, .i32⟩
  | 84 => ⟨S4, .i32⟩
  | 85 => ⟨S4, .i32⟩
  | 86 => ⟨S4, .i32⟩
  | 87 => ⟨S_, .i32⟩
  | 88 => ⟨S4, .i32⟩
  | 89 => ⟨S4, .i32⟩
  | 90 => ⟨S_, .i32⟩
  | 91 => ⟨S4, .i32⟩
  | 92 => ⟨S4, .i32⟩
  | 93 => ⟨S4, .i32⟩
  | 94 => ⟨S4, .i32⟩
  | 95 => ⟨S4, .i32⟩
  | 96 => ⟨S_, .i32⟩
  | 97 => ⟨S4, .i32⟩
  | 98 => ⟨S4, .i32⟩
  | 99 => ⟨S_, .i32⟩
  | 100 => ⟨S4, .i32⟩
  | 101 => ⟨S4, .i32⟩
  | 102 => ⟨S4, .i32⟩
  | 103 => ⟨S4, .i32⟩
  | 104 => ⟨S4, .i32⟩
  | 105 => ⟨S_, .i32⟩
  | 106 => ⟨S4, .i32⟩
  | 107 => ⟨S4, .i32⟩
  | 108 => ⟨S_, .i32⟩
  | 109 => ⟨S4, .i32⟩
  | 110 => ⟨S4, .i32⟩
  | 111 => ⟨S4, .i32⟩
  | 112 => ⟨S4, .i32⟩
  | 113 => ⟨S4, .i32⟩
  | 114 => ⟨S4, .i32⟩
  | 115 => ⟨S4, .i32⟩
  | 116 => ⟨S4, .i32⟩
  | 117 => ⟨S_, .i32⟩
  | 118 => ⟨S4, .i32⟩
  | 119 => ⟨S4, .i32⟩
  | 120 => ⟨S4x1, .i32⟩
  | 121 => ⟨S4x1, .i32⟩
  | 122 => ⟨S4x2, .i32⟩
  | 123 => ⟨S1x2, .i32⟩
  | 124 => ⟨S2, .i32⟩
  | 125 => ⟨S1x2, .i32⟩
  | 126 => ⟨S2, .i32⟩
  | 127 => ⟨S1x2, .i32⟩
  | _ => ⟨S8192x2000, .f32⟩

abbrev hbmTy0_2 (i : Nat) : BufTy := match i % 128 with
  | 0 => ⟨S2, .i32⟩
  | 1 => ⟨S1x2, .i32⟩
  | 2 => ⟨S2, .i32⟩
  | 3 => ⟨S_, .f32⟩
  | 4 => ⟨S_, .f32⟩
  | 5 => ⟨S_, .f32⟩
  | 6 => ⟨S_, .f32⟩
  | 7 => ⟨S1, .i32⟩
  | 8 => ⟨S_, .i32⟩
  | 9 => ⟨S1, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S8192x2000, .f32⟩

abbrev hbmTy0_3 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S1x1, .i32⟩
  | 82 => ⟨S1x1, .i32⟩
  | 83 => ⟨S1, .i32⟩
  | 84 => ⟨S_, .i32⟩
  | 85 => ⟨S1, .i32⟩
  | 86 => ⟨S_, .i32⟩
  | 87 => ⟨S2, .i64⟩
  | 88 => ⟨S_, .i64⟩
  | 89 => ⟨S2, .i64⟩
  | 90 => ⟨S2, .i64⟩
  | 91 => ⟨S_, .i64⟩
  | 92 => ⟨S2, .i64⟩
  | 93 => ⟨S2, .i64⟩
  | 94 => ⟨S2, .i32⟩
  | 95 => ⟨S2, .i32⟩
  | 96 => ⟨S_, .i32⟩
  | 97 => ⟨S_, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S8192x2000, .f32⟩

abbrev hbmTy0_4 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S8192x2000, .f32⟩

abbrev hbmTy0_5 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S2x1, .i32⟩
  | 63 => ⟨S2x1, .i32⟩
  | 64 => ⟨S2x2, .i32⟩
  | 65 => ⟨S1x2, .i32⟩
  | 66 => ⟨S2, .i32⟩
  | 67 => ⟨S1x2, .i32⟩
  | 68 => ⟨S2, .i32⟩
  | 69 => ⟨S1, .i32⟩
  | 70 => ⟨S_, .i32⟩
  | 71 => ⟨S1, .i32⟩
  | 72 => ⟨S_, .i32⟩
  | 73 => ⟨S100x2, .i64⟩
  | 74 => ⟨S100x2, .i64⟩
  | 75 => ⟨S_, .i64⟩
  | 76 => ⟨S100x2, .i64⟩
  | 77 => ⟨S100x2, .i64⟩
  | 78 => ⟨S_, .i64⟩
  | 79 => ⟨S100x2, .i64⟩
  | 80 => ⟨S100x2, .i64⟩
  | 81 => ⟨S100x2, .i64⟩
  | 82 => ⟨S_, .i64⟩
  | 83 => ⟨S100x2, .i64⟩
  | 84 => ⟨S100x2, .i64⟩
  | 85 => ⟨S100x2, .i32⟩
  | 86 => ⟨S100x2, .i32⟩
  | 87 => ⟨S_, .i32⟩
  | 88 => ⟨S_, .i32⟩
  | 89 => ⟨S_, .i32⟩
  | 90 => ⟨S100x2, .i32⟩
  | 91 => ⟨S100x2, .i32⟩
  | 92 => ⟨S100x2, .i32⟩
  | 93 => ⟨S100x2, .i32⟩
  | 94 => ⟨S100x2, .i32⟩
  | 95 => ⟨S_, .i32⟩
  | 96 => ⟨S100x2, .i32⟩
  | 97 => ⟨S100x2, .i32⟩
  | 98 => ⟨S_, .i32⟩
  | 99 => ⟨S100x2, .i32⟩
  | 100 => ⟨S100x2, .i32⟩
  | 101 => ⟨S100x2, .i32⟩
  | 102 => ⟨S100x2, .i32⟩
  | 103 => ⟨S100x2, .i32⟩
  | 104 => ⟨S_, .i32⟩
  | 105 => ⟨S100x2, .i32⟩
  | 106 => ⟨S100x2, .i32⟩
  | 107 => ⟨S_, .i32⟩
  | 108 => ⟨S100x2, .i32⟩
  | 109 => ⟨S100x2, .i32⟩
  | 110 => ⟨S100x2, .i32⟩
  | 111 => ⟨S100x2, .i32⟩
  | 112 => ⟨S100x2, .i32⟩
  | 113 => ⟨S_, .i32⟩
  | 114 => ⟨S100x2, .i32⟩
  | 115 => ⟨S100x2, .i32⟩
  | 116 => ⟨S_, .i32⟩
  | 117 => ⟨S100x2, .i32⟩
  | 118 => ⟨S100x2, .i32⟩
  | 119 => ⟨S100x2, .i32⟩
  | 120 => ⟨S100x2, .i32⟩
  | 121 => ⟨S100x2, .i32⟩
  | 122 => ⟨S_, .i32⟩
  | 123 => ⟨S100x2, .i32⟩
  | 124 => ⟨S100x2, .i32⟩
  | 125 => ⟨S_, .i32⟩
  | 126 => ⟨S100x2, .i32⟩
  | 127 => ⟨S100x2, .i32⟩
  | _ => ⟨S8192x2000, .f32⟩

abbrev hbmTy0_6 (i : Nat) : BufTy := match i % 128 with
  | 0 => ⟨S100x2, .i32⟩
  | 1 => ⟨S100x2, .i32⟩
  | 2 => ⟨S100x2, .i32⟩
  | 3 => ⟨S100x2, .i32⟩
  | 4 => ⟨S100x2, .i32⟩
  | 5 => ⟨S100x2, .i32⟩
  | 6 => ⟨S_, .i32⟩
  | 7 => ⟨S100x2, .i32⟩
  | 8 => ⟨S100x2, .i32⟩
  | 9 => ⟨S100x2, .i32⟩
  | 10 => ⟨S_, .i32⟩
  | 11 => ⟨S100x2, .i32⟩
  | 12 => ⟨S100x2, .i32⟩
  | 13 => ⟨S_, .i32⟩
  | 14 => ⟨S100x2, .i32⟩
  | 15 => ⟨S100x2, .i32⟩
  | 16 => ⟨S100x2, .i32⟩
  | 17 => ⟨S100x2, .i32⟩
  | 18 => ⟨S100x2, .i32⟩
  | 19 => ⟨S_, .i32⟩
  | 20 => ⟨S100x2, .i32⟩
  | 21 => ⟨S100x2, .i32⟩
  | 22 => ⟨S_, .i32⟩
  | 23 => ⟨S100x2, .i32⟩
  | 24 => ⟨S100x2, .i32⟩
  | 25 => ⟨S100x2, .i32⟩
  | 26 => ⟨S100x2, .i32⟩
  | 27 => ⟨S100x2, .i32⟩
  | 28 => ⟨S_, .i32⟩
  | 29 => ⟨S100x2, .i32⟩
  | 30 => ⟨S100x2, .i32⟩
  | 31 => ⟨S_, .i32⟩
  | 32 => ⟨S100x2, .i32⟩
  | 33 => ⟨S100x2, .i32⟩
  | 34 => ⟨S100x2, .i32⟩
  | 35 => ⟨S100x2, .i32⟩
  | 36 => ⟨S100x2, .i32⟩
  | 37 => ⟨S_, .i32⟩
  | 38 => ⟨S100x2, .i32⟩
  | 39 => ⟨S100x2, .i32⟩
  | 40 => ⟨S_, .i32⟩
  | 41 => ⟨S100x2, .i32⟩
  | 42 => ⟨S100x2, .i32⟩
  | 43 => ⟨S100x2, .i32⟩
  | 44 => ⟨S100x2, .i32⟩
  | 45 => ⟨S100x2, .i32⟩
  | 46 => ⟨S100x2, .i32⟩
  | 47 => ⟨S100x2, .i32⟩
  | 48 => ⟨S100x2, .i32⟩
  | 49 => ⟨S_, .i32⟩
  | 50 => ⟨S100x2, .i32⟩
  | 51 => ⟨S100x2, .i32⟩
  | 52 => ⟨S100x2, .i32⟩
  | 53 => ⟨S_, .i32⟩
  | 54 => ⟨S100x2, .i32⟩
  | 55 => ⟨S100x2, .i32⟩
  | 56 => ⟨S_, .i32⟩
  | 57 => ⟨S100x2, .i32⟩
  | 58 => ⟨S100x2, .i32⟩
  | 59 => ⟨S100x2, .i32⟩
  | 60 => ⟨S100x2, .i32⟩
  | 61 => ⟨S100x2, .i32⟩
  | 62 => ⟨S_, .i32⟩
  | 63 => ⟨S100x2, .i32⟩
  | 64 => ⟨S100x2, .i32⟩
  | 65 => ⟨S_, .i32⟩
  | 66 => ⟨S100x2, .i32⟩
  | 67 => ⟨S100x2, .i32⟩
  | 68 => ⟨S100x2, .i32⟩
  | 69 => ⟨S100x2, .i32⟩
  | 70 => ⟨S100x2, .i32⟩
  | 71 => ⟨S_, .i32⟩
  | 72 => ⟨S100x2, .i32⟩
  | 73 => ⟨S100x2, .i32⟩
  | 74 => ⟨S_, .i32⟩
  | 75 => ⟨S100x2, .i32⟩
  | 76 => ⟨S100x2, .i32⟩
  | 77 => ⟨S100x2, .i32⟩
  | 78 => ⟨S100x2, .i32⟩
  | 79 => ⟨S100x2, .i32⟩
  | 80 => ⟨S_, .i32⟩
  | 81 => ⟨S100x2, .i32⟩
  | 82 => ⟨S100x2, .i32⟩
  | 83 => ⟨S_, .i32⟩
  | 84 => ⟨S100x2, .i32⟩
  | 85 => ⟨S100x2, .i32⟩
  | 86 => ⟨S100x2, .i32⟩
  | 87 => ⟨S100x2, .i32⟩
  | 88 => ⟨S100x2, .i32⟩
  | 89 => ⟨S100x2, .i32⟩
  | 90 => ⟨S100x2, .i32⟩
  | 91 => ⟨S100x2, .i32⟩
  | 92 => ⟨S_, .i32⟩
  | 93 => ⟨S100x2, .i32⟩
  | 94 => ⟨S100x2, .i32⟩
  | 95 => ⟨S100x2, .i32⟩
  | 96 => ⟨S_, .i32⟩
  | 97 => ⟨S100x2, .i32⟩
  | 98 => ⟨S100x2, .i32⟩
  | 99 => ⟨S_, .i32⟩
  | 100 => ⟨S100x2, .i32⟩
  | 101 => ⟨S100x2, .i32⟩
  | 102 => ⟨S100x2, .i32⟩
  | 103 => ⟨S100x2, .i32⟩
  | 104 => ⟨S100x2, .i32⟩
  | 105 => ⟨S_, .i32⟩
  | 106 => ⟨S100x2, .i32⟩
  | 107 => ⟨S100x2, .i32⟩
  | 108 => ⟨S_, .i32⟩
  | 109 => ⟨S100x2, .i32⟩
  | 110 => ⟨S100x2, .i32⟩
  | 111 => ⟨S100x2, .i32⟩
  | 112 => ⟨S100x2, .i32⟩
  | 113 => ⟨S100x2, .i32⟩
  | 114 => ⟨S_, .i32⟩
  | 115 => ⟨S100x2, .i32⟩
  | 116 => ⟨S100x2, .i32⟩
  | 117 => ⟨S_, .i32⟩
  | 118 => ⟨S100x2, .i32⟩
  | 119 => ⟨S100x2, .i32⟩
  | 120 => ⟨S100x2, .i32⟩
  | 121 => ⟨S100x2, .i32⟩
  | 122 => ⟨S100x2, .i32⟩
  | 123 => ⟨S_, .i32⟩
  | 124 => ⟨S100x2, .i32⟩
  | 125 => ⟨S100x2, .i32⟩
  | 126 => ⟨S_, .i32⟩
  | 127 => ⟨S100x2, .i32⟩
  | _ => ⟨S8192x2000, .f32⟩

abbrev hbmTy0_7 (i : Nat) : BufTy := match i % 128 with
  | 0 => ⟨S100x2, .i32⟩
  | 1 => ⟨S100x2, .i32⟩
  | 2 => ⟨S100x2, .i32⟩
  | 3 => ⟨S100x2, .i32⟩
  | 4 => ⟨S100x2, .i32⟩
  | 5 => ⟨S100x2, .i32⟩
  | 6 => ⟨S100x2, .i32⟩
  | 7 => ⟨S_, .i32⟩
  | 8 => ⟨S100x2, .i32⟩
  | 9 => ⟨S100x2, .i32⟩
  | 10 => ⟨S100x2, .i32⟩
  | 11 => ⟨S_, .i32⟩
  | 12 => ⟨S100x2, .i32⟩
  | 13 => ⟨S100x2, .i32⟩
  | 14 => ⟨S_, .i32⟩
  | 15 => ⟨S100x2, .i32⟩
  | 16 => ⟨S100x2, .i32⟩
  | 17 => ⟨S100x2, .i32⟩
  | 18 => ⟨S100x2, .i32⟩
  | 19 => ⟨S100x2, .i32⟩
  | 20 => ⟨S_, .i32⟩
  | 21 => ⟨S100x2, .i32⟩
  | 22 => ⟨S100x2, .i32⟩
  | 23 => ⟨S_, .i32⟩
  | 24 => ⟨S100x2, .i32⟩
  | 25 => ⟨S100x2, .i32⟩
  | 26 => ⟨S100x2, .i32⟩
  | 27 => ⟨S100x2, .i32⟩
  | 28 => ⟨S100x2, .i32⟩
  | 29 => ⟨S_, .i32⟩
  | 30 => ⟨S100x2, .i32⟩
  | 31 => ⟨S100x2, .i32⟩
  | 32 => ⟨S_, .i32⟩
  | 33 => ⟨S100x2, .i32⟩
  | 34 => ⟨S100x2, .i32⟩
  | 35 => ⟨S100x2, .i32⟩
  | 36 => ⟨S100x2, .i32⟩
  | 37 => ⟨S100x2, .i32⟩
  | 38 => ⟨S_, .i32⟩
  | 39 => ⟨S100x2, .i32⟩
  | 40 => ⟨S100x2, .i32⟩
  | 41 => ⟨S_, .i32⟩
  | 42 => ⟨S100x2, .i32⟩
  | 43 => ⟨S100x2, .i32⟩
  | 44 => ⟨S100x2, .i32⟩
  | 45 => ⟨S100x2, .i32⟩
  | 46 => ⟨S100x2, .i32⟩
  | 47 => ⟨S100x2, .i32⟩
  | 48 => ⟨S100x2, .i32⟩
  | 49 => ⟨S100x2, .i32⟩
  | 50 => ⟨S_, .i32⟩
  | 51 => ⟨S100x2, .i32⟩
  | 52 => ⟨S100x2, .i32⟩
  | 53 => ⟨S100x2, .i32⟩
  | 54 => ⟨S1, .i32⟩
  | 55 => ⟨S_, .i32⟩
  | 56 => ⟨S1, .i32⟩
  | 57 => ⟨S_, .i32⟩
  | 58 => ⟨S100x2, .i64⟩
  | 59 => ⟨S100x2, .i64⟩
  | 60 => ⟨S_, .i64⟩
  | 61 => ⟨S100x2, .i64⟩
  | 62 => ⟨S100x2, .i64⟩
  | 63 => ⟨S_, .i64⟩
  | 64 => ⟨S100x2, .i64⟩
  | 65 => ⟨S100x2, .i64⟩
  | 66 => ⟨S100x2, .i64⟩
  | 67 => ⟨S_, .i64⟩
  | 68 => ⟨S100x2, .i64⟩
  | 69 => ⟨S100x2, .i64⟩
  | 70 => ⟨S100x2, .i32⟩
  | 71 => ⟨S100x2, .i32⟩
  | 72 => ⟨S_, .i32⟩
  | 73 => ⟨S_, .i32⟩
  | 74 => ⟨S_, .i32⟩
  | 75 => ⟨S100x2, .i32⟩
  | 76 => ⟨S100x2, .i32⟩
  | 77 => ⟨S100x2, .i32⟩
  | 78 => ⟨S100x2, .i32⟩
  | 79 => ⟨S100x2, .i32⟩
  | 80 => ⟨S_, .i32⟩
  | 81 => ⟨S100x2, .i32⟩
  | 82 => ⟨S100x2, .i32⟩
  | 83 => ⟨S_, .i32⟩
  | 84 => ⟨S100x2, .i32⟩
  | 85 => ⟨S100x2, .i32⟩
  | 86 => ⟨S100x2, .i32⟩
  | 87 => ⟨S100x2, .i32⟩
  | 88 => ⟨S100x2, .i32⟩
  | 89 => ⟨S_, .i32⟩
  | 90 => ⟨S100x2, .i32⟩
  | 91 => ⟨S100x2, .i32⟩
  | 92 => ⟨S_, .i32⟩
  | 93 => ⟨S100x2, .i32⟩
  | 94 => ⟨S100x2, .i32⟩
  | 95 => ⟨S100x2, .i32⟩
  | 96 => ⟨S100x2, .i32⟩
  | 97 => ⟨S100x2, .i32⟩
  | 98 => ⟨S_, .i32⟩
  | 99 => ⟨S100x2, .i32⟩
  | 100 => ⟨S100x2, .i32⟩
  | 101 => ⟨S_, .i32⟩
  | 102 => ⟨S100x2, .i32⟩
  | 103 => ⟨S100x2, .i32⟩
  | 104 => ⟨S100x2, .i32⟩
  | 105 => ⟨S100x2, .i32⟩
  | 106 => ⟨S100x2, .i32⟩
  | 107 => ⟨S_, .i32⟩
  | 108 => ⟨S100x2, .i32⟩
  | 109 => ⟨S100x2, .i32⟩
  | 110 => ⟨S_, .i32⟩
  | 111 => ⟨S100x2, .i32⟩
  | 112 => ⟨S100x2, .i32⟩
  | 113 => ⟨S100x2, .i32⟩
  | 114 => ⟨S100x2, .i32⟩
  | 115 => ⟨S100x2, .i32⟩
  | 116 => ⟨S100x2, .i32⟩
  | 117 => ⟨S100x2, .i32⟩
  | 118 => ⟨S100x2, .i32⟩
  | 119 => ⟨S_, .i32⟩
  | 120 => ⟨S100x2, .i32⟩
  | 121 => ⟨S100x2, .i32⟩
  | 122 => ⟨S100x2, .i32⟩
  | 123 => ⟨S_, .i32⟩
  | 124 => ⟨S100x2, .i32⟩
  | 125 => ⟨S100x2, .i32⟩
  | 126 => ⟨S_, .i32⟩
  | 127 => ⟨S100x2, .i32⟩
  | _ => ⟨S8192x2000, .f32⟩

abbrev hbmTy0_8 (i : Nat) : BufTy := match i % 128 with
  | 0 => ⟨S100x2, .i32⟩
  | 1 => ⟨S100x2, .i32⟩
  | 2 => ⟨S100x2, .i32⟩
  | 3 => ⟨S100x2, .i32⟩
  | 4 => ⟨S_, .i32⟩
  | 5 => ⟨S100x2, .i32⟩
  | 6 => ⟨S100x2, .i32⟩
  | 7 => ⟨S_, .i32⟩
  | 8 => ⟨S100x2, .i32⟩
  | 9 => ⟨S100x2, .i32⟩
  | 10 => ⟨S100x2, .i32⟩
  | 11 => ⟨S100x2, .i32⟩
  | 12 => ⟨S100x2, .i32⟩
  | 13 => ⟨S_, .i32⟩
  | 14 => ⟨S100x2, .i32⟩
  | 15 => ⟨S100x2, .i32⟩
  | 16 => ⟨S_, .i32⟩
  | 17 => ⟨S100x2, .i32⟩
  | 18 => ⟨S100x2, .i32⟩
  | 19 => ⟨S100x2, .i32⟩
  | 20 => ⟨S100x2, .i32⟩
  | 21 => ⟨S100x2, .i32⟩
  | 22 => ⟨S_, .i32⟩
  | 23 => ⟨S100x2, .i32⟩
  | 24 => ⟨S100x2, .i32⟩
  | 25 => ⟨S_, .i32⟩
  | 26 => ⟨S100x2, .i32⟩
  | 27 => ⟨S100x2, .i32⟩
  | 28 => ⟨S100x2, .i32⟩
  | 29 => ⟨S100x2, .i32⟩
  | 30 => ⟨S100x2, .i32⟩
  | 31 => ⟨S100x2, .i32⟩
  | 32 => ⟨S100x2, .i32⟩
  | 33 => ⟨S100x2, .i32⟩
  | 34 => ⟨S_, .i32⟩
  | 35 => ⟨S100x2, .i32⟩
  | 36 => ⟨S100x2, .i32⟩
  | 37 => ⟨S100x2, .i32⟩
  | 38 => ⟨S_, .i32⟩
  | 39 => ⟨S100x2, .i32⟩
  | 40 => ⟨S100x2, .i32⟩
  | 41 => ⟨S_, .i32⟩
  | 42 => ⟨S100x2, .i32⟩
  | 43 => ⟨S100x2, .i32⟩
  | 44 => ⟨S100x2, .i32⟩
  | 45 => ⟨S100x2, .i32⟩
  | 46 => ⟨S100x2, .i32⟩
  | 47 => ⟨S_, .i32⟩
  | 48 => ⟨S100x2, .i32⟩
  | 49 => ⟨S100x2, .i32⟩
  | 50 => ⟨S_, .i32⟩
  | 51 => ⟨S100x2, .i32⟩
  | 52 => ⟨S100x2, .i32⟩
  | 53 => ⟨S100x2, .i32⟩
  | 54 => ⟨S100x2, .i32⟩
  | 55 => ⟨S100x2, .i32⟩
  | 56 => ⟨S_, .i32⟩
  | 57 => ⟨S100x2, .i32⟩
  | 58 => ⟨S100x2, .i32⟩
  | 59 => ⟨S_, .i32⟩
  | 60 => ⟨S100x2, .i32⟩
  | 61 => ⟨S100x2, .i32⟩
  | 62 => ⟨S100x2, .i32⟩
  | 63 => ⟨S100x2, .i32⟩
  | 64 => ⟨S100x2, .i32⟩
  | 65 => ⟨S_, .i32⟩
  | 66 => ⟨S100x2, .i32⟩
  | 67 => ⟨S100x2, .i32⟩
  | 68 => ⟨S_, .i32⟩
  | 69 => ⟨S100x2, .i32⟩
  | 70 => ⟨S100x2, .i32⟩
  | 71 => ⟨S100x2, .i32⟩
  | 72 => ⟨S100x2, .i32⟩
  | 73 => ⟨S100x2, .i32⟩
  | 74 => ⟨S100x2, .i32⟩
  | 75 => ⟨S100x2, .i32⟩
  | 76 => ⟨S100x2, .i32⟩
  | 77 => ⟨S_, .i32⟩
  | 78 => ⟨S100x2, .i32⟩
  | 79 => ⟨S100x2, .i32⟩
  | 80 => ⟨S100x2, .i32⟩
  | 81 => ⟨S_, .i32⟩
  | 82 => ⟨S100x2, .i32⟩
  | 83 => ⟨S100x2, .i32⟩
  | 84 => ⟨S_, .i32⟩
  | 85 => ⟨S100x2, .i32⟩
  | 86 => ⟨S100x2, .i32⟩
  | 87 => ⟨S100x2, .i32⟩
  | 88 => ⟨S100x2, .i32⟩
  | 89 => ⟨S100x2, .i32⟩
  | 90 => ⟨S_, .i32⟩
  | 91 => ⟨S100x2, .i32⟩
  | 92 => ⟨S100x2, .i32⟩
  | 93 => ⟨S_, .i32⟩
  | 94 => ⟨S100x2, .i32⟩
  | 95 => ⟨S100x2, .i32⟩
  | 96 => ⟨S100x2, .i32⟩
  | 97 => ⟨S100x2, .i32⟩
  | 98 => ⟨S100x2, .i32⟩
  | 99 => ⟨S_, .i32⟩
  | 100 => ⟨S100x2, .i32⟩
  | 101 => ⟨S100x2, .i32⟩
  | 102 => ⟨S_, .i32⟩
  | 103 => ⟨S100x2, .i32⟩
  | 104 => ⟨S100x2, .i32⟩
  | 105 => ⟨S100x2, .i32⟩
  | 106 => ⟨S100x2, .i32⟩
  | 107 => ⟨S100x2, .i32⟩
  | 108 => ⟨S_, .i32⟩
  | 109 => ⟨S100x2, .i32⟩
  | 110 => ⟨S100x2, .i32⟩
  | 111 => ⟨S_, .i32⟩
  | 112 => ⟨S100x2, .i32⟩
  | 113 => ⟨S100x2, .i32⟩
  | 114 => ⟨S100x2, .i32⟩
  | 115 => ⟨S100x2, .i32⟩
  | 116 => ⟨S100x2, .i32⟩
  | 117 => ⟨S100x2, .i32⟩
  | 118 => ⟨S100x2, .i32⟩
  | 119 => ⟨S100x2, .i32⟩
  | 120 => ⟨S_, .i32⟩
  | 121 => ⟨S100x2, .i32⟩
  | 122 => ⟨S100x2, .i32⟩
  | 123 => ⟨S100x2, .i32⟩
  | 124 => ⟨S_, .i32⟩
  | 125 => ⟨S100x2, .i32⟩
  | 126 => ⟨S100x2, .i32⟩
  | 127 => ⟨S_, .i32⟩
  | _ => ⟨S8192x2000, .f32⟩

abbrev hbmTy0_9 (i : Nat) : BufTy := match i % 128 with
  | 0 => ⟨S100x2, .i32⟩
  | 1 => ⟨S100x2, .i32⟩
  | 2 => ⟨S100x2, .i32⟩
  | 3 => ⟨S100x2, .i32⟩
  | 4 => ⟨S100x2, .i32⟩
  | 5 => ⟨S_, .i32⟩
  | 6 => ⟨S100x2, .i32⟩
  | 7 => ⟨S100x2, .i32⟩
  | 8 => ⟨S_, .i32⟩
  | 9 => ⟨S100x2, .i32⟩
  | 10 => ⟨S100x2, .i32⟩
  | 11 => ⟨S100x2, .i32⟩
  | 12 => ⟨S100x2, .i32⟩
  | 13 => ⟨S100x2, .i32⟩
  | 14 => ⟨S_, .i32⟩
  | 15 => ⟨S100x2, .i32⟩
  | 16 => ⟨S100x2, .i32⟩
  | 17 => ⟨S_, .i32⟩
  | 18 => ⟨S100x2, .i32⟩
  | 19 => ⟨S100x2, .i32⟩
  | 20 => ⟨S100x2, .i32⟩
  | 21 => ⟨S100x2, .i32⟩
  | 22 => ⟨S100x2, .i32⟩
  | 23 => ⟨S_, .i32⟩
  | 24 => ⟨S100x2, .i32⟩
  | 25 => ⟨S100x2, .i32⟩
  | 26 => ⟨S_, .i32⟩
  | 27 => ⟨S100x2, .i32⟩
  | 28 => ⟨S100x2, .i32⟩
  | 29 => ⟨S100x2, .i32⟩
  | 30 => ⟨S100x2, .i32⟩
  | 31 => ⟨S100x2, .i32⟩
  | 32 => ⟨S100x2, .i32⟩
  | 33 => ⟨S100x2, .i32⟩
  | 34 => ⟨S100x2, .i32⟩
  | 35 => ⟨S_, .i32⟩
  | 36 => ⟨S100x2, .i32⟩
  | 37 => ⟨S100x2, .i32⟩
  | 38 => ⟨S100x2, .i32⟩
  | 39 => ⟨S1x1, .i32⟩
  | 40 => ⟨S1x1, .i32⟩
  | 41 => ⟨S1x1, .i1⟩
  | 42 => ⟨S_, .i32⟩
  | 43 => ⟨S1x1, .i32⟩
  | 44 => ⟨S1x1, .i32⟩
  | 45 => ⟨S1x1, .i1⟩
  | 46 => ⟨S1x1, .i1⟩
  | 47 => ⟨S1x1, .i1⟩
  | 48 => ⟨S_, .i32⟩
  | 49 => ⟨S1x1, .i32⟩
  | 50 => ⟨S1x1, .i32⟩
  | 51 => ⟨S1x1, .i32⟩
  | 52 => ⟨S_, .i32⟩
  | 53 => ⟨S1x1, .i32⟩
  | 54 => ⟨S1x1, .i32⟩
  | 55 => ⟨S1x1, .i32⟩
  | 56 => ⟨S1x1, .i32⟩
  | 57 => ⟨S100x2, .i32⟩
  | 58 => ⟨S100x2, .i32⟩
  | 59 => ⟨S100x2, .i32⟩
  | 60 => ⟨S100x2, .i32⟩
  | 61 => ⟨S100x2, .i32⟩
  | 62 => ⟨S100x2, .i32⟩
  | 63 => ⟨S100x2, .i32⟩
  | 64 => ⟨S100x2, .i32⟩
  | 65 => ⟨S100x2, .i32⟩
  | 66 => ⟨S100x2, .i32⟩
  | 67 => ⟨S100x2, .i32⟩
  | 68 => ⟨S100x2, .i32⟩
  | 69 => ⟨S100x1, .i32⟩
  | 70 => ⟨S100, .i32⟩
  | 71 => ⟨S_, .i32⟩
  | 72 => ⟨S100, .i32⟩
  | 73 => ⟨S100, .i1⟩
  | 74 => ⟨S_, .i32⟩
  | 75 => ⟨S100, .i32⟩
  | 76 => ⟨S100, .i32⟩
  | 77 => ⟨S100, .i32⟩
  | 78 => ⟨S100x1, .i32⟩
  | 79 => ⟨S8192x100, .f32⟩
  | 80 => ⟨S100x1, .i32⟩
  | 81 => ⟨S100, .i32⟩
  | 82 => ⟨S_, .i32⟩
  | 83 => ⟨S100, .i32⟩
  | 84 => ⟨S100, .i1⟩
  | 85 => ⟨S_, .i32⟩
  | 86 => ⟨S100, .i32⟩
  | 87 => ⟨S100, .i32⟩
  | 88 => ⟨S100, .i32⟩
  | 89 => ⟨S100x1, .i32⟩
  | 90 => ⟨S8192x100, .f32⟩
  | 91 => ⟨S100x1, .i32⟩
  | 92 => ⟨S100, .i32⟩
  | 93 => ⟨S_, .i32⟩
  | 94 => ⟨S100, .i32⟩
  | 95 => ⟨S100, .i1⟩
  | 96 => ⟨S_, .i32⟩
  | 97 => ⟨S100, .i32⟩
  | 98 => ⟨S100, .i32⟩
  | 99 => ⟨S100, .i32⟩
  | 100 => ⟨S100x1, .i32⟩
  | 101 => ⟨S8192x2000, .f32⟩
  | 102 => ⟨S100x1, .i32⟩
  | 103 => ⟨S100, .i32⟩
  | 104 => ⟨S_, .i32⟩
  | 105 => ⟨S100, .i32⟩
  | 106 => ⟨S100, .i1⟩
  | 107 => ⟨S_, .i32⟩
  | 108 => ⟨S100, .i32⟩
  | 109 => ⟨S100, .i32⟩
  | 110 => ⟨S100, .i32⟩
  | 111 => ⟨S100x1, .i32⟩
  | 112 => ⟨S8192x2000, .f32⟩
  | 113 => ⟨S_, .f32⟩
  | 114 => ⟨S_, .i1⟩
  | 115 => ⟨S8192x2000, .f32⟩
  | 116 => ⟨S_, .f32⟩
  | 117 => ⟨S_, .f32⟩
  | 118 => ⟨S_, .f32⟩
  | 119 => ⟨S_, .f32⟩
  | 120 => ⟨S1, .i32⟩
  | 121 => ⟨S_, .i32⟩
  | 122 => ⟨S1, .i32⟩
  | 123 => ⟨S_, .i32⟩
  | 124 => ⟨S_, .i32⟩
  | 125 => ⟨S_, .i32⟩
  | 126 => ⟨S_, .i32⟩
  | 127 => ⟨S_, .i32⟩
  | _ => ⟨S8192x2000, .f32⟩

abbrev hbmTy0_10 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S8192x2000, .f32⟩

abbrev hbmTy0_11 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S1x1, .i32⟩
  | 67 => ⟨S1x1, .i32⟩
  | 68 => ⟨S1, .i32⟩
  | 69 => ⟨S_, .i32⟩
  | 70 => ⟨S1, .i32⟩
  | 71 => ⟨S_, .i32⟩
  | 72 => ⟨S2, .i64⟩
  | 73 => ⟨S_, .i64⟩
  | 74 => ⟨S2, .i64⟩
  | 75 => ⟨S2, .i64⟩
  | 76 => ⟨S_, .i64⟩
  | 77 => ⟨S2, .i64⟩
  | 78 => ⟨S2, .i64⟩
  | 79 => ⟨S2, .i32⟩
  | 80 => ⟨S2, .i32⟩
  | 81 => ⟨S_, .i32⟩
  | 82 => ⟨S_, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S8192x2000, .f32⟩

abbrev hbmTy0_12 (i : Nat) : BufTy := match i % 128 with
  | 0 => ⟨S_, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S8192x2000, .f32⟩

abbrev hbmTy0_13 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S2x1, .i32⟩
  | 48 => ⟨S2x1, .i32⟩
  | 49 => ⟨S2x2, .i32⟩
  | 50 => ⟨S1x2, .i32⟩
  | 51 => ⟨S2, .i32⟩
  | 52 => ⟨S1x2, .i32⟩
  | 53 => ⟨S2, .i32⟩
  | 54 => ⟨S1, .i32⟩
  | 55 => ⟨S_, .i32⟩
  | 56 => ⟨S1, .i32⟩
  | 57 => ⟨S_, .i32⟩
  | 58 => ⟨S100x2, .i64⟩
  | 59 => ⟨S100x2, .i64⟩
  | 60 => ⟨S_, .i64⟩
  | 61 => ⟨S100x2, .i64⟩
  | 62 => ⟨S100x2, .i64⟩
  | 63 => ⟨S_, .i64⟩
  | 64 => ⟨S100x2, .i64⟩
  | 65 => ⟨S100x2, .i64⟩
  | 66 => ⟨S100x2, .i64⟩
  | 67 => ⟨S_, .i64⟩
  | 68 => ⟨S100x2, .i64⟩
  | 69 => ⟨S100x2, .i64⟩
  | 70 => ⟨S100x2, .i32⟩
  | 71 => ⟨S100x2, .i32⟩
  | 72 => ⟨S_, .i32⟩
  | 73 => ⟨S_, .i32⟩
  | 74 => ⟨S_, .i32⟩
  | 75 => ⟨S100x2, .i32⟩
  | 76 => ⟨S100x2, .i32⟩
  | 77 => ⟨S100x2, .i32⟩
  | 78 => ⟨S100x2, .i32⟩
  | 79 => ⟨S100x2, .i32⟩
  | 80 => ⟨S_, .i32⟩
  | 81 => ⟨S100x2, .i32⟩
  | 82 => ⟨S100x2, .i32⟩
  | 83 => ⟨S_, .i32⟩
  | 84 => ⟨S100x2, .i32⟩
  | 85 => ⟨S100x2, .i32⟩
  | 86 => ⟨S100x2, .i32⟩
  | 87 => ⟨S100x2, .i32⟩
  | 88 => ⟨S100x2, .i32⟩
  | 89 => ⟨S_, .i32⟩
  | 90 => ⟨S100x2, .i32⟩
  | 91 => ⟨S100x2, .i32⟩
  | 92 => ⟨S_, .i32⟩
  | 93 => ⟨S100x2, .i32⟩
  | 94 => ⟨S100x2, .i32⟩
  | 95 => ⟨S100x2, .i32⟩
  | 96 => ⟨S100x2, .i32⟩
  | 97 => ⟨S100x2, .i32⟩
  | 98 => ⟨S_, .i32⟩
  | 99 => ⟨S100x2, .i32⟩
  | 100 => ⟨S100x2, .i32⟩
  | 101 => ⟨S_, .i32⟩
  | 102 => ⟨S100x2, .i32⟩
  | 103 => ⟨S100x2, .i32⟩
  | 104 => ⟨S100x2, .i32⟩
  | 105 => ⟨S100x2, .i32⟩
  | 106 => ⟨S100x2, .i32⟩
  | 107 => ⟨S_, .i32⟩
  | 108 => ⟨S100x2, .i32⟩
  | 109 => ⟨S100x2, .i32⟩
  | 110 => ⟨S_, .i32⟩
  | 111 => ⟨S100x2, .i32⟩
  | 112 => ⟨S100x2, .i32⟩
  | 113 => ⟨S100x2, .i32⟩
  | 114 => ⟨S100x2, .i32⟩
  | 115 => ⟨S100x2, .i32⟩
  | 116 => ⟨S100x2, .i32⟩
  | 117 => ⟨S100x2, .i32⟩
  | 118 => ⟨S100x2, .i32⟩
  | 119 => ⟨S_, .i32⟩
  | 120 => ⟨S100x2, .i32⟩
  | 121 => ⟨S100x2, .i32⟩
  | 122 => ⟨S100x2, .i32⟩
  | 123 => ⟨S_, .i32⟩
  | 124 => ⟨S100x2, .i32⟩
  | 125 => ⟨S100x2, .i32⟩
  | 126 => ⟨S_, .i32⟩
  | 127 => ⟨S100x2, .i32⟩
  | _ => ⟨S8192x2000, .f32⟩

abbrev hbmTy0_14 (i : Nat) : BufTy := match i % 128 with
  | 0 => ⟨S100x2, .i32⟩
  | 1 => ⟨S100x2, .i32⟩
  | 2 => ⟨S100x2, .i32⟩
  | 3 => ⟨S100x2, .i32⟩
  | 4 => ⟨S_, .i32⟩
  | 5 => ⟨S100x2, .i32⟩
  | 6 => ⟨S100x2, .i32⟩
  | 7 => ⟨S_, .i32⟩
  | 8 => ⟨S100x2, .i32⟩
  | 9 => ⟨S100x2, .i32⟩
  | 10 => ⟨S100x2, .i32⟩
  | 11 => ⟨S100x2, .i32⟩
  | 12 => ⟨S100x2, .i32⟩
  | 13 => ⟨S_, .i32⟩
  | 14 => ⟨S100x2, .i32⟩
  | 15 => ⟨S100x2, .i32⟩
  | 16 => ⟨S_, .i32⟩
  | 17 => ⟨S100x2, .i32⟩
  | 18 => ⟨S100x2, .i32⟩
  | 19 => ⟨S100x2, .i32⟩
  | 20 => ⟨S100x2, .i32⟩
  | 21 => ⟨S100x2, .i32⟩
  | 22 => ⟨S_, .i32⟩
  | 23 => ⟨S100x2, .i32⟩
  | 24 => ⟨S100x2, .i32⟩
  | 25 => ⟨S_, .i32⟩
  | 26 => ⟨S100x2, .i32⟩
  | 27 => ⟨S100x2, .i32⟩
  | 28 => ⟨S100x2, .i32⟩
  | 29 => ⟨S100x2, .i32⟩
  | 30 => ⟨S100x2, .i32⟩
  | 31 => ⟨S100x2, .i32⟩
  | 32 => ⟨S100x2, .i32⟩
  | 33 => ⟨S100x2, .i32⟩
  | 34 => ⟨S_, .i32⟩
  | 35 => ⟨S100x2, .i32⟩
  | 36 => ⟨S100x2, .i32⟩
  | 37 => ⟨S100x2, .i32⟩
  | 38 => ⟨S_, .i32⟩
  | 39 => ⟨S100x2, .i32⟩
  | 40 => ⟨S100x2, .i32⟩
  | 41 => ⟨S_, .i32⟩
  | 42 => ⟨S100x2, .i32⟩
  | 43 => ⟨S100x2, .i32⟩
  | 44 => ⟨S100x2, .i32⟩
  | 45 => ⟨S100x2, .i32⟩
  | 46 => ⟨S100x2, .i32⟩
  | 47 => ⟨S_, .i32⟩
  | 48 => ⟨S100x2, .i32⟩
  | 49 => ⟨S100x2, .i32⟩
  | 50 => ⟨S_, .i32⟩
  | 51 => ⟨S100x2, .i32⟩
  | 52 => ⟨S100x2, .i32⟩
  | 53 => ⟨S100x2, .i32⟩
  | 54 => ⟨S100x2, .i32⟩
  | 55 => ⟨S100x2, .i32⟩
  | 56 => ⟨S_, .i32⟩
  | 57 => ⟨S100x2, .i32⟩
  | 58 => ⟨S100x2, .i32⟩
  | 59 => ⟨S_, .i32⟩
  | 60 => ⟨S100x2, .i32⟩
  | 61 => ⟨S100x2, .i32⟩
  | 62 => ⟨S100x2, .i32⟩
  | 63 => ⟨S100x2, .i32⟩
  | 64 => ⟨S100x2, .i32⟩
  | 65 => ⟨S_, .i32⟩
  | 66 => ⟨S100x2, .i32⟩
  | 67 => ⟨S100x2, .i32⟩
  | 68 => ⟨S_, .i32⟩
  | 69 => ⟨S100x2, .i32⟩
  | 70 => ⟨S100x2, .i32⟩
  | 71 => ⟨S100x2, .i32⟩
  | 72 => ⟨S100x2, .i32⟩
  | 73 => ⟨S100x2, .i32⟩
  | 74 => ⟨S100x2, .i32⟩
  | 75 => ⟨S100x2, .i32⟩
  | 76 => ⟨S100x2, .i32⟩
  | 77 => ⟨S_, .i32⟩
  | 78 => ⟨S100x2, .i32⟩
  | 79 => ⟨S100x2, .i32⟩
  | 80 => ⟨S100x2, .i32⟩
  | 81 => ⟨S_, .i32⟩
  | 82 => ⟨S100x2, .i32⟩
  | 83 => ⟨S100x2, .i32⟩
  | 84 => ⟨S_, .i32⟩
  | 85 => ⟨S100x2, .i32⟩
  | 86 => ⟨S100x2, .i32⟩
  | 87 => ⟨S100x2, .i32⟩
  | 88 => ⟨S100x2, .i32⟩
  | 89 => ⟨S100x2, .i32⟩
  | 90 => ⟨S_, .i32⟩
  | 91 => ⟨S100x2, .i32⟩
  | 92 => ⟨S100x2, .i32⟩
  | 93 => ⟨S_, .i32⟩
  | 94 => ⟨S100x2, .i32⟩
  | 95 => ⟨S100x2, .i32⟩
  | 96 => ⟨S100x2, .i32⟩
  | 97 => ⟨S100x2, .i32⟩
  | 98 => ⟨S100x2, .i32⟩
  | 99 => ⟨S_, .i32⟩
  | 100 => ⟨S100x2, .i32⟩
  | 101 => ⟨S100x2, .i32⟩
  | 102 => ⟨S_, .i32⟩
  | 103 => ⟨S100x2, .i32⟩
  | 104 => ⟨S100x2, .i32⟩
  | 105 => ⟨S100x2, .i32⟩
  | 106 => ⟨S100x2, .i32⟩
  | 107 => ⟨S100x2, .i32⟩
  | 108 => ⟨S_, .i32⟩
  | 109 => ⟨S100x2, .i32⟩
  | 110 => ⟨S100x2, .i32⟩
  | 111 => ⟨S_, .i32⟩
  | 112 => ⟨S100x2, .i32⟩
  | 113 => ⟨S100x2, .i32⟩
  | 114 => ⟨S100x2, .i32⟩
  | 115 => ⟨S100x2, .i32⟩
  | 116 => ⟨S100x2, .i32⟩
  | 117 => ⟨S100x2, .i32⟩
  | 118 => ⟨S100x2, .i32⟩
  | 119 => ⟨S100x2, .i32⟩
  | 120 => ⟨S_, .i32⟩
  | 121 => ⟨S100x2, .i32⟩
  | 122 => ⟨S100x2, .i32⟩
  | 123 => ⟨S100x2, .i32⟩
  | 124 => ⟨S_, .i32⟩
  | 125 => ⟨S100x2, .i32⟩
  | 126 => ⟨S100x2, .i32⟩
  | 127 => ⟨S_, .i32⟩
  | _ => ⟨S8192x2000, .f32⟩

abbrev hbmTy0_15 (i : Nat) : BufTy := match i % 128 with
  | 0 => ⟨S100x2, .i32⟩
  | 1 => ⟨S100x2, .i32⟩
  | 2 => ⟨S100x2, .i32⟩
  | 3 => ⟨S100x2, .i32⟩
  | 4 => ⟨S100x2, .i32⟩
  | 5 => ⟨S_, .i32⟩
  | 6 => ⟨S100x2, .i32⟩
  | 7 => ⟨S100x2, .i32⟩
  | 8 => ⟨S_, .i32⟩
  | 9 => ⟨S100x2, .i32⟩
  | 10 => ⟨S100x2, .i32⟩
  | 11 => ⟨S100x2, .i32⟩
  | 12 => ⟨S100x2, .i32⟩
  | 13 => ⟨S100x2, .i32⟩
  | 14 => ⟨S_, .i32⟩
  | 15 => ⟨S100x2, .i32⟩
  | 16 => ⟨S100x2, .i32⟩
  | 17 => ⟨S_, .i32⟩
  | 18 => ⟨S100x2, .i32⟩
  | 19 => ⟨S100x2, .i32⟩
  | 20 => ⟨S100x2, .i32⟩
  | 21 => ⟨S100x2, .i32⟩
  | 22 => ⟨S100x2, .i32⟩
  | 23 => ⟨S_, .i32⟩
  | 24 => ⟨S100x2, .i32⟩
  | 25 => ⟨S100x2, .i32⟩
  | 26 => ⟨S_, .i32⟩
  | 27 => ⟨S100x2, .i32⟩
  | 28 => ⟨S100x2, .i32⟩
  | 29 => ⟨S100x2, .i32⟩
  | 30 => ⟨S100x2, .i32⟩
  | 31 => ⟨S100x2, .i32⟩
  | 32 => ⟨S100x2, .i32⟩
  | 33 => ⟨S100x2, .i32⟩
  | 34 => ⟨S100x2, .i32⟩
  | 35 => ⟨S_, .i32⟩
  | 36 => ⟨S100x2, .i32⟩
  | 37 => ⟨S100x2, .i32⟩
  | 38 => ⟨S100x2, .i32⟩
  | 39 => ⟨S1, .i32⟩
  | 40 => ⟨S_, .i32⟩
  | 41 => ⟨S1, .i32⟩
  | 42 => ⟨S_, .i32⟩
  | 43 => ⟨S100x2, .i64⟩
  | 44 => ⟨S100x2, .i64⟩
  | 45 => ⟨S_, .i64⟩
  | 46 => ⟨S100x2, .i64⟩
  | 47 => ⟨S100x2, .i64⟩
  | 48 => ⟨S_, .i64⟩
  | 49 => ⟨S100x2, .i64⟩
  | 50 => ⟨S100x2, .i64⟩
  | 51 => ⟨S100x2, .i64⟩
  | 52 => ⟨S_, .i64⟩
  | 53 => ⟨S100x2, .i64⟩
  | 54 => ⟨S100x2, .i64⟩
  | 55 => ⟨S100x2, .i32⟩
  | 56 => ⟨S100x2, .i32⟩
  | 57 => ⟨S_, .i32⟩
  | 58 => ⟨S_, .i32⟩
  | 59 => ⟨S_, .i32⟩
  | 60 => ⟨S100x2, .i32⟩
  | 61 => ⟨S100x2, .i32⟩
  | 62 => ⟨S100x2, .i32⟩
  | 63 => ⟨S100x2, .i32⟩
  | 64 => ⟨S100x2, .i32⟩
  | 65 => ⟨S_, .i32⟩
  | 66 => ⟨S100x2, .i32⟩
  | 67 => ⟨S100x2, .i32⟩
  | 68 => ⟨S_, .i32⟩
  | 69 => ⟨S100x2, .i32⟩
  | 70 => ⟨S100x2, .i32⟩
  | 71 => ⟨S100x2, .i32⟩
  | 72 => ⟨S100x2, .i32⟩
  | 73 => ⟨S100x2, .i32⟩
  | 74 => ⟨S_, .i32⟩
  | 75 => ⟨S100x2, .i32⟩
  | 76 => ⟨S100x2, .i32⟩
  | 77 => ⟨S_, .i32⟩
  | 78 => ⟨S100x2, .i32⟩
  | 79 => ⟨S100x2, .i32⟩
  | 80 => ⟨S100x2, .i32⟩
  | 81 => ⟨S100x2, .i32⟩
  | 82 => ⟨S100x2, .i32⟩
  | 83 => ⟨S_, .i32⟩
  | 84 => ⟨S100x2, .i32⟩
  | 85 => ⟨S100x2, .i32⟩
  | 86 => ⟨S_, .i32⟩
  | 87 => ⟨S100x2, .i32⟩
  | 88 => ⟨S100x2, .i32⟩
  | 89 => ⟨S100x2, .i32⟩
  | 90 => ⟨S100x2, .i32⟩
  | 91 => ⟨S100x2, .i32⟩
  | 92 => ⟨S_, .i32⟩
  | 93 => ⟨S100x2, .i32⟩
  | 94 => ⟨S100x2, .i32⟩
  | 95 => ⟨S_, .i32⟩
  | 96 => ⟨S100x2, .i32⟩
  | 97 => ⟨S100x2, .i32⟩
  | 98 => ⟨S100x2, .i32⟩
  | 99 => ⟨S100x2, .i32⟩
  | 100 => ⟨S100x2, .i32⟩
  | 101 => ⟨S100x2, .i32⟩
  | 102 => ⟨S100x2, .i32⟩
  | 103 => ⟨S100x2, .i32⟩
  | 104 => ⟨S_, .i32⟩
  | 105 => ⟨S100x2, .i32⟩
  | 106 => ⟨S100x2, .i32⟩
  | 107 => ⟨S100x2, .i32⟩
  | 108 => ⟨S_, .i32⟩
  | 109 => ⟨S100x2, .i32⟩
  | 110 => ⟨S100x2, .i32⟩
  | 111 => ⟨S_, .i32⟩
  | 112 => ⟨S100x2, .i32⟩
  | 113 => ⟨S100x2, .i32⟩
  | 114 => ⟨S100x2, .i32⟩
  | 115 => ⟨S100x2, .i32⟩
  | 116 => ⟨S100x2, .i32⟩
  | 117 => ⟨S_, .i32⟩
  | 118 => ⟨S100x2, .i32⟩
  | 119 => ⟨S100x2, .i32⟩
  | 120 => ⟨S_, .i32⟩
  | 121 => ⟨S100x2, .i32⟩
  | 122 => ⟨S100x2, .i32⟩
  | 123 => ⟨S100x2, .i32⟩
  | 124 => ⟨S100x2, .i32⟩
  | 125 => ⟨S100x2, .i32⟩
  | 126 => ⟨S_, .i32⟩
  | 127 => ⟨S100x2, .i32⟩
  | _ => ⟨S8192x2000, .f32⟩

abbrev hbmTy0_16 (i : Nat) : BufTy := match i % 128 with
  | 0 => ⟨S100x2, .i32⟩
  | 1 => ⟨S_, .i32⟩
  | 2 => ⟨S100x2, .i32⟩
  | 3 => ⟨S100x2, .i32⟩
  | 4 => ⟨S100x2, .i32⟩
  | 5 => ⟨S100x2, .i32⟩
  | 6 => ⟨S100x2, .i32⟩
  | 7 => ⟨S_, .i32⟩
  | 8 => ⟨S100x2, .i32⟩
  | 9 => ⟨S100x2, .i32⟩
  | 10 => ⟨S_, .i32⟩
  | 11 => ⟨S100x2, .i32⟩
  | 12 => ⟨S100x2, .i32⟩
  | 13 => ⟨S100x2, .i32⟩
  | 14 => ⟨S100x2, .i32⟩
  | 15 => ⟨S100x2, .i32⟩
  | 16 => ⟨S100x2, .i32⟩
  | 17 => ⟨S100x2, .i32⟩
  | 18 => ⟨S100x2, .i32⟩
  | 19 => ⟨S_, .i32⟩
  | 20 => ⟨S100x2, .i32⟩
  | 21 => ⟨S100x2, .i32⟩
  | 22 => ⟨S100x2, .i32⟩
  | 23 => ⟨S_, .i32⟩
  | 24 => ⟨S100x2, .i32⟩
  | 25 => ⟨S100x2, .i32⟩
  | 26 => ⟨S_, .i32⟩
  | 27 => ⟨S100x2, .i32⟩
  | 28 => ⟨S100x2, .i32⟩
  | 29 => ⟨S100x2, .i32⟩
  | 30 => ⟨S100x2, .i32⟩
  | 31 => ⟨S100x2, .i32⟩
  | 32 => ⟨S_, .i32⟩
  | 33 => ⟨S100x2, .i32⟩
  | 34 => ⟨S100x2, .i32⟩
  | 35 => ⟨S_, .i32⟩
  | 36 => ⟨S100x2, .i32⟩
  | 37 => ⟨S100x2, .i32⟩
  | 38 => ⟨S100x2, .i32⟩
  | 39 => ⟨S100x2, .i32⟩
  | 40 => ⟨S100x2, .i32⟩
  | 41 => ⟨S_, .i32⟩
  | 42 => ⟨S100x2, .i32⟩
  | 43 => ⟨S100x2, .i32⟩
  | 44 => ⟨S_, .i32⟩
  | 45 => ⟨S100x2, .i32⟩
  | 46 => ⟨S100x2, .i32⟩
  | 47 => ⟨S100x2, .i32⟩
  | 48 => ⟨S100x2, .i32⟩
  | 49 => ⟨S100x2, .i32⟩
  | 50 => ⟨S_, .i32⟩
  | 51 => ⟨S100x2, .i32⟩
  | 52 => ⟨S100x2, .i32⟩
  | 53 => ⟨S_, .i32⟩
  | 54 => ⟨S100x2, .i32⟩
  | 55 => ⟨S100x2, .i32⟩
  | 56 => ⟨S100x2, .i32⟩
  | 57 => ⟨S100x2, .i32⟩
  | 58 => ⟨S100x2, .i32⟩
  | 59 => ⟨S100x2, .i32⟩
  | 60 => ⟨S100x2, .i32⟩
  | 61 => ⟨S100x2, .i32⟩
  | 62 => ⟨S_, .i32⟩
  | 63 => ⟨S100x2, .i32⟩
  | 64 => ⟨S100x2, .i32⟩
  | 65 => ⟨S100x2, .i32⟩
  | 66 => ⟨S_, .i32⟩
  | 67 => ⟨S100x2, .i32⟩
  | 68 => ⟨S100x2, .i32⟩
  | 69 => ⟨S_, .i32⟩
  | 70 => ⟨S100x2, .i32⟩
  | 71 => ⟨S100x2, .i32⟩
  | 72 => ⟨S100x2, .i32⟩
  | 73 => ⟨S100x2, .i32⟩
  | 74 => ⟨S100x2, .i32⟩
  | 75 => ⟨S_, .i32⟩
  | 76 => ⟨S100x2, .i32⟩
  | 77 => ⟨S100x2, .i32⟩
  | 78 => ⟨S_, .i32⟩
  | 79 => ⟨S100x2, .i32⟩
  | 80 => ⟨S100x2, .i32⟩
  | 81 => ⟨S100x2, .i32⟩
  | 82 => ⟨S100x2, .i32⟩
  | 83 => ⟨S100x2, .i32⟩
  | 84 => ⟨S_, .i32⟩
  | 85 => ⟨S100x2, .i32⟩
  | 86 => ⟨S100x2, .i32⟩
  | 87 => ⟨S_, .i32⟩
  | 88 => ⟨S100x2, .i32⟩
  | 89 => ⟨S100x2, .i32⟩
  | 90 => ⟨S100x2, .i32⟩
  | 91 => ⟨S100x2, .i32⟩
  | 92 => ⟨S100x2, .i32⟩
  | 93 => ⟨S_, .i32⟩
  | 94 => ⟨S100x2, .i32⟩
  | 95 => ⟨S100x2, .i32⟩
  | 96 => ⟨S_, .i32⟩
  | 97 => ⟨S100x2, .i32⟩
  | 98 => ⟨S100x2, .i32⟩
  | 99 => ⟨S100x2, .i32⟩
  | 100 => ⟨S100x2, .i32⟩
  | 101 => ⟨S100x2, .i32⟩
  | 102 => ⟨S100x2, .i32⟩
  | 103 => ⟨S100x2, .i32⟩
  | 104 => ⟨S100x2, .i32⟩
  | 105 => ⟨S_, .i32⟩
  | 106 => ⟨S100x2, .i32⟩
  | 107 => ⟨S100x2, .i32⟩
  | 108 => ⟨S100x2, .i32⟩
  | 109 => ⟨S_, .i32⟩
  | 110 => ⟨S100x2, .i32⟩
  | 111 => ⟨S100x2, .i32⟩
  | 112 => ⟨S_, .i32⟩
  | 113 => ⟨S100x2, .i32⟩
  | 114 => ⟨S100x2, .i32⟩
  | 115 => ⟨S100x2, .i32⟩
  | 116 => ⟨S100x2, .i32⟩
  | 117 => ⟨S100x2, .i32⟩
  | 118 => ⟨S_, .i32⟩
  | 119 => ⟨S100x2, .i32⟩
  | 120 => ⟨S100x2, .i32⟩
  | 121 => ⟨S_, .i32⟩
  | 122 => ⟨S100x2, .i32⟩
  | 123 => ⟨S100x2, .i32⟩
  | 124 => ⟨S100x2, .i32⟩
  | 125 => ⟨S100x2, .i32⟩
  | 126 => ⟨S100x2, .i32⟩
  | 127 => ⟨S_, .i32⟩
  | _ => ⟨S8192x2000, .f32⟩

abbrev hbmTy0_17 (i : Nat) : BufTy := match i % 128 with
  | 0 => ⟨S100x2, .i32⟩
  | 1 => ⟨S100x2, .i32⟩
  | 2 => ⟨S_, .i32⟩
  | 3 => ⟨S100x2, .i32⟩
  | 4 => ⟨S100x2, .i32⟩
  | 5 => ⟨S100x2, .i32⟩
  | 6 => ⟨S100x2, .i32⟩
  | 7 => ⟨S100x2, .i32⟩
  | 8 => ⟨S_, .i32⟩
  | 9 => ⟨S100x2, .i32⟩
  | 10 => ⟨S100x2, .i32⟩
  | 11 => ⟨S_, .i32⟩
  | 12 => ⟨S100x2, .i32⟩
  | 13 => ⟨S100x2, .i32⟩
  | 14 => ⟨S100x2, .i32⟩
  | 15 => ⟨S100x2, .i32⟩
  | 16 => ⟨S100x2, .i32⟩
  | 17 => ⟨S100x2, .i32⟩
  | 18 => ⟨S100x2, .i32⟩
  | 19 => ⟨S100x2, .i32⟩
  | 20 => ⟨S_, .i32⟩
  | 21 => ⟨S100x2, .i32⟩
  | 22 => ⟨S100x2, .i32⟩
  | 23 => ⟨S100x2, .i32⟩
  | 24 => ⟨S1x1, .i32⟩
  | 25 => ⟨S1x1, .i32⟩
  | 26 => ⟨S1x1, .i1⟩
  | 27 => ⟨S_, .i32⟩
  | 28 => ⟨S1x1, .i32⟩
  | 29 => ⟨S1x1, .i32⟩
  | 30 => ⟨S1x1, .i1⟩
  | 31 => ⟨S1x1, .i1⟩
  | 32 => ⟨S1x1, .i1⟩
  | 33 => ⟨S_, .i32⟩
  | 34 => ⟨S1x1, .i32⟩
  | 35 => ⟨S1x1, .i32⟩
  | 36 => ⟨S1x1, .i32⟩
  | 37 => ⟨S_, .i32⟩
  | 38 => ⟨S1x1, .i32⟩
  | 39 => ⟨S1x1, .i32⟩
  | 40 => ⟨S1x1, .i32⟩
  | 41 => ⟨S1x1, .i32⟩
  | 42 => ⟨S100x2, .i32⟩
  | 43 => ⟨S100x2, .i32⟩
  | 44 => ⟨S100x2, .i32⟩
  | 45 => ⟨S100x2, .i32⟩
  | 46 => ⟨S100x2, .i32⟩
  | 47 => ⟨S100x2, .i32⟩
  | 48 => ⟨S100x2, .i32⟩
  | 49 => ⟨S100x2, .i32⟩
  | 50 => ⟨S100x2, .i32⟩
  | 51 => ⟨S100x2, .i32⟩
  | 52 => ⟨S100x2, .i32⟩
  | 53 => ⟨S100x2, .i32⟩
  | 54 => ⟨S100x1, .i32⟩
  | 55 => ⟨S100, .i32⟩
  | 56 => ⟨S_, .i32⟩
  | 57 => ⟨S100, .i32⟩
  | 58 => ⟨S100, .i1⟩
  | 59 => ⟨S_, .i32⟩
  | 60 => ⟨S100, .i32⟩
  | 61 => ⟨S100, .i32⟩
  | 62 => ⟨S100, .i32⟩
  | 63 => ⟨S100x1, .i32⟩
  | 64 => ⟨S8192x100, .f32⟩
  | 65 => ⟨S100x1, .i32⟩
  | 66 => ⟨S100, .i32⟩
  | 67 => ⟨S_, .i32⟩
  | 68 => ⟨S100, .i32⟩
  | 69 => ⟨S100, .i1⟩
  | 70 => ⟨S_, .i32⟩
  | 71 => ⟨S100, .i32⟩
  | 72 => ⟨S100, .i32⟩
  | 73 => ⟨S100, .i32⟩
  | 74 => ⟨S100x1, .i32⟩
  | 75 => ⟨S8192x100, .f32⟩
  | 76 => ⟨S100x1, .i32⟩
  | 77 => ⟨S100, .i32⟩
  | 78 => ⟨S_, .i32⟩
  | 79 => ⟨S100, .i32⟩
  | 80 => ⟨S100, .i1⟩
  | 81 => ⟨S_, .i32⟩
  | 82 => ⟨S100, .i32⟩
  | 83 => ⟨S100, .i32⟩
  | 84 => ⟨S100, .i32⟩
  | 85 => ⟨S100x1, .i32⟩
  | 86 => ⟨S8192x2000, .f32⟩
  | 87 => ⟨S100x1, .i32⟩
  | 88 => ⟨S100, .i32⟩
  | 89 => ⟨S_, .i32⟩
  | 90 => ⟨S100, .i32⟩
  | 91 => ⟨S100, .i1⟩
  | 92 => ⟨S_, .i32⟩
  | 93 => ⟨S100, .i32⟩
  | 94 => ⟨S100, .i32⟩
  | 95 => ⟨S100, .i32⟩
  | 96 => ⟨S100x1, .i32⟩
  | 97 => ⟨S8192x2000, .f32⟩
  | 98 => ⟨S_, .f32⟩
  | 99 => ⟨S_, .i1⟩
  | 100 => ⟨S8192x2000, .f32⟩
  | _ => ⟨S8192x2000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | _ => ⟨S8192x2000, .f32⟩

abbrev bufTy : (tb : Table) → Fin (tcTables nBuf tb) → BufTy
  | .hbm, ⟨i, _⟩ => hbmTy i
  | _, _ => ⟨S8192x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c : Ref sig .tc := ⟨.hbm, 18, rfl⟩
abbrev main_call0_v5 : Ref sig .tc := ⟨.hbm, 19, rfl⟩
abbrev main_call0_v6 : Ref sig .tc := ⟨.hbm, 20, rfl⟩
abbrev main_call0_c_0 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_call0_v0 : Ref sig .tc := ⟨.hbm, 26, rfl⟩
abbrev main_call0_call0_c : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_c_0 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_c_1 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_v12 : Ref sig .tc := ⟨.hbm, 41, rfl⟩
abbrev main_call0_call0_v13 : Ref sig .tc := ⟨.hbm, 42, rfl⟩
abbrev main_call0_call0_c_2 : Ref sig .tc := ⟨.hbm, 43, rfl⟩
abbrev main_call0_call0_v14 : Ref sig .tc := ⟨.hbm, 44, rfl⟩
abbrev main_call0_call0_v15 : Ref sig .tc := ⟨.hbm, 45, rfl⟩
abbrev main_call0_call0_c_3 : Ref sig .tc := ⟨.hbm, 46, rfl⟩
abbrev main_call0_call0_v16 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_c_4 : Ref sig .tc := ⟨.hbm, 52, rfl⟩
abbrev main_call0_call0_v21 : Ref sig .tc := ⟨.hbm, 53, rfl⟩
abbrev main_call0_call0_v22 : Ref sig .tc := ⟨.hbm, 54, rfl⟩
abbrev main_call0_call0_c_5 : Ref sig .tc := ⟨.hbm, 55, rfl⟩
abbrev main_call0_call0_v23 : Ref sig .tc := ⟨.hbm, 56, rfl⟩
abbrev main_call0_call0_v24 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_v27 : Ref sig .tc := ⟨.hbm, 60, rfl⟩
abbrev main_call0_call0_c_6 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_c_7 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_v32 : Ref sig .tc := ⟨.hbm, 67, rfl⟩
abbrev main_call0_call0_v33 : Ref sig .tc := ⟨.hbm, 68, rfl⟩
abbrev main_call0_call0_v34 : Ref sig .tc := ⟨.hbm, 69, rfl⟩
abbrev main_call0_call0_v35 : Ref sig .tc := ⟨.hbm, 70, rfl⟩
abbrev main_call0_call0_v36 : Ref sig .tc := ⟨.hbm, 71, rfl⟩
abbrev main_call0_call0_v37 : Ref sig .tc := ⟨.hbm, 72, rfl⟩
abbrev main_call0_call0_c_8 : Ref sig .tc := ⟨.hbm, 73, rfl⟩
abbrev main_call0_call0_v38 : Ref sig .tc := ⟨.hbm, 74, rfl⟩
abbrev main_call0_call0_v39 : Ref sig .tc := ⟨.hbm, 75, rfl⟩
abbrev main_call0_call0_v40 : Ref sig .tc := ⟨.hbm, 76, rfl⟩
abbrev main_call0_call0_c_9 : Ref sig .tc := ⟨.hbm, 77, rfl⟩
abbrev main_call0_call0_v41 : Ref sig .tc := ⟨.hbm, 78, rfl⟩
abbrev main_call0_call0_v42 : Ref sig .tc := ⟨.hbm, 79, rfl⟩
abbrev main_call0_call0_c_10 : Ref sig .tc := ⟨.hbm, 80, rfl⟩
abbrev main_call0_call0_v43 : Ref sig .tc := ⟨.hbm, 81, rfl⟩
abbrev main_call0_call0_v44 : Ref sig .tc := ⟨.hbm, 82, rfl⟩
abbrev main_call0_call0_v45 : Ref sig .tc := ⟨.hbm, 83, rfl⟩
abbrev main_call0_call0_v46 : Ref sig .tc := ⟨.hbm, 84, rfl⟩
abbrev main_call0_call0_v47 : Ref sig .tc := ⟨.hbm, 85, rfl⟩
abbrev main_call0_call0_c_11 : Ref sig .tc := ⟨.hbm, 86, rfl⟩
abbrev main_call0_call0_v48 : Ref sig .tc := ⟨.hbm, 87, rfl⟩
abbrev main_call0_call0_v49 : Ref sig .tc := ⟨.hbm, 88, rfl⟩
abbrev main_call0_call0_c_12 : Ref sig .tc := ⟨.hbm, 89, rfl⟩
abbrev main_call0_call0_v50 : Ref sig .tc := ⟨.hbm, 90, rfl⟩
abbrev main_call0_call0_v51 : Ref sig .tc := ⟨.hbm, 91, rfl⟩
abbrev main_call0_call0_v52 : Ref sig .tc := ⟨.hbm, 92, rfl⟩
abbrev main_call0_call0_v53 : Ref sig .tc := ⟨.hbm, 93, rfl⟩
abbrev main_call0_call0_v54 : Ref sig .tc := ⟨.hbm, 94, rfl⟩
abbrev main_call0_call0_c_13 : Ref sig .tc := ⟨.hbm, 95, rfl⟩
abbrev main_call0_call0_v55 : Ref sig .tc := ⟨.hbm, 96, rfl⟩
abbrev main_call0_call0_v56 : Ref sig .tc := ⟨.hbm, 97, rfl⟩
abbrev main_call0_call0_c_14 : Ref sig .tc := ⟨.hbm, 98, rfl⟩
abbrev main_call0_call0_v57 : Ref sig .tc := ⟨.hbm, 99, rfl⟩
abbrev main_call0_call0_v58 : Ref sig .tc := ⟨.hbm, 100, rfl⟩
abbrev main_call0_call0_v59 : Ref sig .tc := ⟨.hbm, 101, rfl⟩
abbrev main_call0_call0_v60 : Ref sig .tc := ⟨.hbm, 102, rfl⟩
abbrev main_call0_call0_v61 : Ref sig .tc := ⟨.hbm, 103, rfl⟩
abbrev main_call0_call0_c_15 : Ref sig .tc := ⟨.hbm, 104, rfl⟩
abbrev main_call0_call0_v62 : Ref sig .tc := ⟨.hbm, 105, rfl⟩
abbrev main_call0_call0_v63 : Ref sig .tc := ⟨.hbm, 106, rfl⟩
abbrev main_call0_call0_c_16 : Ref sig .tc := ⟨.hbm, 107, rfl⟩
abbrev main_call0_call0_v64 : Ref sig .tc := ⟨.hbm, 108, rfl⟩
abbrev main_call0_call0_v65 : Ref sig .tc := ⟨.hbm, 109, rfl⟩
abbrev main_call0_call0_v66 : Ref sig .tc := ⟨.hbm, 110, rfl⟩
abbrev main_call0_call0_v67 : Ref sig .tc := ⟨.hbm, 111, rfl⟩
abbrev main_call0_call0_v68 : Ref sig .tc := ⟨.hbm, 112, rfl⟩
abbrev main_call0_call0_v69 : Ref sig .tc := ⟨.hbm, 113, rfl⟩
abbrev main_call0_call0_v70 : Ref sig .tc := ⟨.hbm, 114, rfl⟩
abbrev main_call0_call0_v71 : Ref sig .tc := ⟨.hbm, 115, rfl⟩
abbrev main_call0_call0_c_17 : Ref sig .tc := ⟨.hbm, 116, rfl⟩
abbrev main_call0_call0_v72 : Ref sig .tc := ⟨.hbm, 117, rfl⟩
abbrev main_call0_call0_v73 : Ref sig .tc := ⟨.hbm, 118, rfl⟩
abbrev main_call0_call0_v74 : Ref sig .tc := ⟨.hbm, 119, rfl⟩
abbrev main_call0_call0_c_18 : Ref sig .tc := ⟨.hbm, 120, rfl⟩
abbrev main_call0_call0_v75 : Ref sig .tc := ⟨.hbm, 121, rfl⟩
abbrev main_call0_call0_v76 : Ref sig .tc := ⟨.hbm, 122, rfl⟩
abbrev main_call0_call0_c_19 : Ref sig .tc := ⟨.hbm, 123, rfl⟩
abbrev main_call0_call0_v77 : Ref sig .tc := ⟨.hbm, 124, rfl⟩
abbrev main_call0_call0_v78 : Ref sig .tc := ⟨.hbm, 125, rfl⟩
abbrev main_call0_call0_v79 : Ref sig .tc := ⟨.hbm, 126, rfl⟩
abbrev main_call0_call0_v80 : Ref sig .tc := ⟨.hbm, 127, rfl⟩
abbrev main_call0_call0_v81 : Ref sig .tc := ⟨.hbm, 128, rfl⟩
abbrev main_call0_call0_c_20 : Ref sig .tc := ⟨.hbm, 129, rfl⟩
abbrev main_call0_call0_v82 : Ref sig .tc := ⟨.hbm, 130, rfl⟩
abbrev main_call0_call0_v83 : Ref sig .tc := ⟨.hbm, 131, rfl⟩
abbrev main_call0_call0_c_21 : Ref sig .tc := ⟨.hbm, 132, rfl⟩
abbrev main_call0_call0_v84 : Ref sig .tc := ⟨.hbm, 133, rfl⟩
abbrev main_call0_call0_v85 : Ref sig .tc := ⟨.hbm, 134, rfl⟩
abbrev main_call0_call0_v86 : Ref sig .tc := ⟨.hbm, 135, rfl⟩
abbrev main_call0_call0_v87 : Ref sig .tc := ⟨.hbm, 136, rfl⟩
abbrev main_call0_call0_v88 : Ref sig .tc := ⟨.hbm, 137, rfl⟩
abbrev main_call0_call0_c_22 : Ref sig .tc := ⟨.hbm, 138, rfl⟩
abbrev main_call0_call0_v89 : Ref sig .tc := ⟨.hbm, 139, rfl⟩
abbrev main_call0_call0_v90 : Ref sig .tc := ⟨.hbm, 140, rfl⟩
abbrev main_call0_call0_c_23 : Ref sig .tc := ⟨.hbm, 141, rfl⟩
abbrev main_call0_call0_v91 : Ref sig .tc := ⟨.hbm, 142, rfl⟩
abbrev main_call0_call0_v92 : Ref sig .tc := ⟨.hbm, 143, rfl⟩
abbrev main_call0_call0_v93 : Ref sig .tc := ⟨.hbm, 144, rfl⟩
abbrev main_call0_call0_v94 : Ref sig .tc := ⟨.hbm, 145, rfl⟩
abbrev main_call0_call0_v95 : Ref sig .tc := ⟨.hbm, 146, rfl⟩
abbrev main_call0_call0_c_24 : Ref sig .tc := ⟨.hbm, 147, rfl⟩
abbrev main_call0_call0_v96 : Ref sig .tc := ⟨.hbm, 148, rfl⟩
abbrev main_call0_call0_v97 : Ref sig .tc := ⟨.hbm, 149, rfl⟩
abbrev main_call0_call0_c_25 : Ref sig .tc := ⟨.hbm, 150, rfl⟩
abbrev main_call0_call0_v98 : Ref sig .tc := ⟨.hbm, 151, rfl⟩
abbrev main_call0_call0_v99 : Ref sig .tc := ⟨.hbm, 152, rfl⟩
abbrev main_call0_call0_v100 : Ref sig .tc := ⟨.hbm, 153, rfl⟩
abbrev main_call0_call0_v101 : Ref sig .tc := ⟨.hbm, 154, rfl⟩
abbrev main_call0_call0_v102 : Ref sig .tc := ⟨.hbm, 155, rfl⟩
abbrev main_call0_call0_v103 : Ref sig .tc := ⟨.hbm, 156, rfl⟩
abbrev main_call0_call0_v104 : Ref sig .tc := ⟨.hbm, 157, rfl⟩
abbrev main_call0_call0_v105 : Ref sig .tc := ⟨.hbm, 158, rfl⟩
abbrev main_call0_call0_c_26 : Ref sig .tc := ⟨.hbm, 159, rfl⟩
abbrev main_call0_call0_v106 : Ref sig .tc := ⟨.hbm, 160, rfl⟩
abbrev main_call0_call0_v107 : Ref sig .tc := ⟨.hbm, 161, rfl⟩
abbrev main_call0_call0_v108 : Ref sig .tc := ⟨.hbm, 162, rfl⟩
abbrev main_call0_call0_c_27 : Ref sig .tc := ⟨.hbm, 163, rfl⟩
abbrev main_call0_call0_v109 : Ref sig .tc := ⟨.hbm, 164, rfl⟩
abbrev main_call0_call0_v110 : Ref sig .tc := ⟨.hbm, 165, rfl⟩
abbrev main_call0_call0_c_28 : Ref sig .tc := ⟨.hbm, 166, rfl⟩
abbrev main_call0_call0_v111 : Ref sig .tc := ⟨.hbm, 167, rfl⟩
abbrev main_call0_call0_v112 : Ref sig .tc := ⟨.hbm, 168, rfl⟩
abbrev main_call0_call0_v113 : Ref sig .tc := ⟨.hbm, 169, rfl⟩
abbrev main_call0_call0_v114 : Ref sig .tc := ⟨.hbm, 170, rfl⟩
abbrev main_call0_call0_v115 : Ref sig .tc := ⟨.hbm, 171, rfl⟩
abbrev main_call0_call0_c_29 : Ref sig .tc := ⟨.hbm, 172, rfl⟩
abbrev main_call0_call0_v116 : Ref sig .tc := ⟨.hbm, 173, rfl⟩
abbrev main_call0_call0_v117 : Ref sig .tc := ⟨.hbm, 174, rfl⟩
abbrev main_call0_call0_c_30 : Ref sig .tc := ⟨.hbm, 175, rfl⟩
abbrev main_call0_call0_v118 : Ref sig .tc := ⟨.hbm, 176, rfl⟩
abbrev main_call0_call0_v119 : Ref sig .tc := ⟨.hbm, 177, rfl⟩
abbrev main_call0_call0_v120 : Ref sig .tc := ⟨.hbm, 178, rfl⟩
abbrev main_call0_call0_v121 : Ref sig .tc := ⟨.hbm, 179, rfl⟩
abbrev main_call0_call0_v122 : Ref sig .tc := ⟨.hbm, 180, rfl⟩
abbrev main_call0_call0_c_31 : Ref sig .tc := ⟨.hbm, 181, rfl⟩
abbrev main_call0_call0_v123 : Ref sig .tc := ⟨.hbm, 182, rfl⟩
abbrev main_call0_call0_v124 : Ref sig .tc := ⟨.hbm, 183, rfl⟩
abbrev main_call0_call0_c_32 : Ref sig .tc := ⟨.hbm, 184, rfl⟩
abbrev main_call0_call0_v125 : Ref sig .tc := ⟨.hbm, 185, rfl⟩
abbrev main_call0_call0_v126 : Ref sig .tc := ⟨.hbm, 186, rfl⟩
abbrev main_call0_call0_v127 : Ref sig .tc := ⟨.hbm, 187, rfl⟩
abbrev main_call0_call0_v128 : Ref sig .tc := ⟨.hbm, 188, rfl⟩
abbrev main_call0_call0_v129 : Ref sig .tc := ⟨.hbm, 189, rfl⟩
abbrev main_call0_call0_c_33 : Ref sig .tc := ⟨.hbm, 190, rfl⟩
abbrev main_call0_call0_v130 : Ref sig .tc := ⟨.hbm, 191, rfl⟩
abbrev main_call0_call0_v131 : Ref sig .tc := ⟨.hbm, 192, rfl⟩
abbrev main_call0_call0_c_34 : Ref sig .tc := ⟨.hbm, 193, rfl⟩
abbrev main_call0_call0_v132 : Ref sig .tc := ⟨.hbm, 194, rfl⟩
abbrev main_call0_call0_v133 : Ref sig .tc := ⟨.hbm, 195, rfl⟩
abbrev main_call0_call0_v134 : Ref sig .tc := ⟨.hbm, 196, rfl⟩
abbrev main_call0_call0_v135 : Ref sig .tc := ⟨.hbm, 197, rfl⟩
abbrev main_call0_call0_v136 : Ref sig .tc := ⟨.hbm, 198, rfl⟩
abbrev main_call0_call0_v137 : Ref sig .tc := ⟨.hbm, 199, rfl⟩
abbrev main_call0_call0_v138 : Ref sig .tc := ⟨.hbm, 200, rfl⟩
abbrev main_call0_call0_v139 : Ref sig .tc := ⟨.hbm, 201, rfl⟩
abbrev main_call0_call0_c_35 : Ref sig .tc := ⟨.hbm, 202, rfl⟩
abbrev main_call0_call0_v140 : Ref sig .tc := ⟨.hbm, 203, rfl⟩
abbrev main_call0_call0_v141 : Ref sig .tc := ⟨.hbm, 204, rfl⟩
abbrev main_call0_call0_v142 : Ref sig .tc := ⟨.hbm, 205, rfl⟩
abbrev main_call0_call0_c_36 : Ref sig .tc := ⟨.hbm, 206, rfl⟩
abbrev main_call0_call0_v143 : Ref sig .tc := ⟨.hbm, 207, rfl⟩
abbrev main_call0_call0_v144 : Ref sig .tc := ⟨.hbm, 208, rfl⟩
abbrev main_call0_call0_c_37 : Ref sig .tc := ⟨.hbm, 209, rfl⟩
abbrev main_call0_call0_v145 : Ref sig .tc := ⟨.hbm, 210, rfl⟩
abbrev main_call0_call0_v146 : Ref sig .tc := ⟨.hbm, 211, rfl⟩
abbrev main_call0_call0_v147 : Ref sig .tc := ⟨.hbm, 212, rfl⟩
abbrev main_call0_call0_v148 : Ref sig .tc := ⟨.hbm, 213, rfl⟩
abbrev main_call0_call0_v149 : Ref sig .tc := ⟨.hbm, 214, rfl⟩
abbrev main_call0_call0_c_38 : Ref sig .tc := ⟨.hbm, 215, rfl⟩
abbrev main_call0_call0_v150 : Ref sig .tc := ⟨.hbm, 216, rfl⟩
abbrev main_call0_call0_v151 : Ref sig .tc := ⟨.hbm, 217, rfl⟩
abbrev main_call0_call0_c_39 : Ref sig .tc := ⟨.hbm, 218, rfl⟩
abbrev main_call0_call0_v152 : Ref sig .tc := ⟨.hbm, 219, rfl⟩
abbrev main_call0_call0_v153 : Ref sig .tc := ⟨.hbm, 220, rfl⟩
abbrev main_call0_call0_v154 : Ref sig .tc := ⟨.hbm, 221, rfl⟩
abbrev main_call0_call0_v155 : Ref sig .tc := ⟨.hbm, 222, rfl⟩
abbrev main_call0_call0_v156 : Ref sig .tc := ⟨.hbm, 223, rfl⟩
abbrev main_call0_call0_c_40 : Ref sig .tc := ⟨.hbm, 224, rfl⟩
abbrev main_call0_call0_v157 : Ref sig .tc := ⟨.hbm, 225, rfl⟩
abbrev main_call0_call0_v158 : Ref sig .tc := ⟨.hbm, 226, rfl⟩
abbrev main_call0_call0_c_41 : Ref sig .tc := ⟨.hbm, 227, rfl⟩
abbrev main_call0_call0_v159 : Ref sig .tc := ⟨.hbm, 228, rfl⟩
abbrev main_call0_call0_v160 : Ref sig .tc := ⟨.hbm, 229, rfl⟩
abbrev main_call0_call0_v161 : Ref sig .tc := ⟨.hbm, 230, rfl⟩
abbrev main_call0_call0_v162 : Ref sig .tc := ⟨.hbm, 231, rfl⟩
abbrev main_call0_call0_v163 : Ref sig .tc := ⟨.hbm, 232, rfl⟩
abbrev main_call0_call0_c_42 : Ref sig .tc := ⟨.hbm, 233, rfl⟩
abbrev main_call0_call0_v164 : Ref sig .tc := ⟨.hbm, 234, rfl⟩
abbrev main_call0_call0_v165 : Ref sig .tc := ⟨.hbm, 235, rfl⟩
abbrev main_call0_call0_c_43 : Ref sig .tc := ⟨.hbm, 236, rfl⟩
abbrev main_call0_call0_v166 : Ref sig .tc := ⟨.hbm, 237, rfl⟩
abbrev main_call0_call0_v167 : Ref sig .tc := ⟨.hbm, 238, rfl⟩
abbrev main_call0_call0_v168 : Ref sig .tc := ⟨.hbm, 239, rfl⟩
abbrev main_call0_call0_v169 : Ref sig .tc := ⟨.hbm, 240, rfl⟩
abbrev main_call0_call0_v170 : Ref sig .tc := ⟨.hbm, 241, rfl⟩
abbrev main_call0_v11_0 : Ref sig .tc := ⟨.hbm, 242, rfl⟩
abbrev main_call0_call0_v172 : Ref sig .tc := ⟨.hbm, 243, rfl⟩
abbrev main_call0_call0_v173 : Ref sig .tc := ⟨.hbm, 244, rfl⟩
abbrev main_call0_call0_c_44 : Ref sig .tc := ⟨.hbm, 245, rfl⟩
abbrev main_call0_call0_v174 : Ref sig .tc := ⟨.hbm, 246, rfl⟩
abbrev main_call0_v11_1 : Ref sig .tc := ⟨.hbm, 247, rfl⟩
abbrev main_call0_v12 : Ref sig .tc := ⟨.hbm, 248, rfl⟩
abbrev main_call0_v13 : Ref sig .tc := ⟨.hbm, 249, rfl⟩
abbrev main_v7 : Ref sig .tc := ⟨.hbm, 250, rfl⟩
abbrev main_v8 : Ref sig .tc := ⟨.hbm, 251, rfl⟩
abbrev main_v9 : Ref sig .tc := ⟨.hbm, 252, rfl⟩
abbrev main_v10 : Ref sig .tc := ⟨.hbm, 253, rfl⟩
abbrev main_v11 : Ref sig .tc := ⟨.hbm, 254, rfl⟩
abbrev main_v12 : Ref sig .tc := ⟨.hbm, 255, rfl⟩
abbrev main_v13 : Ref sig .tc := ⟨.hbm, 256, rfl⟩
abbrev main_v14 : Ref sig .tc := ⟨.hbm, 257, rfl⟩
abbrev main_v15 : Ref sig .tc := ⟨.hbm, 258, rfl⟩
abbrev main_cst : Ref sig .tc := ⟨.hbm, 259, rfl⟩
abbrev main_cst_2 : Ref sig .tc := ⟨.hbm, 260, rfl⟩
abbrev main_call1_v0 : Ref sig .tc := ⟨.hbm, 261, rfl⟩
abbrev main_call1_v1 : Ref sig .tc := ⟨.hbm, 262, rfl⟩
abbrev main_call1_v2 : Ref sig .tc := ⟨.hbm, 263, rfl⟩
abbrev main_call1_v3 : Ref sig .tc := ⟨.hbm, 264, rfl⟩
abbrev main_call1_v4 : Ref sig .tc := ⟨.hbm, 265, rfl⟩
abbrev main_call1_v5 : Ref sig .tc := ⟨.hbm, 266, rfl⟩
abbrev main_call1_c : Ref sig .tc := ⟨.hbm, 267, rfl⟩
abbrev main_call1_c_0 : Ref sig .tc := ⟨.hbm, 268, rfl⟩
abbrev main_call1_call0_v0 : Ref sig .tc := ⟨.hbm, 269, rfl⟩
abbrev main_call1_call0_c : Ref sig .tc := ⟨.hbm, 270, rfl⟩
abbrev main_call1_call0_v1 : Ref sig .tc := ⟨.hbm, 271, rfl⟩
abbrev main_call1_call0_v2 : Ref sig .tc := ⟨.hbm, 272, rfl⟩
abbrev main_call1_call0_v3 : Ref sig .tc := ⟨.hbm, 273, rfl⟩
abbrev main_call1_call0_v4 : Ref sig .tc := ⟨.hbm, 274, rfl⟩
abbrev main_call1_call0_c_0 : Ref sig .tc := ⟨.hbm, 275, rfl⟩
abbrev main_call1_call0_v5 : Ref sig .tc := ⟨.hbm, 276, rfl⟩
abbrev main_call1_call0_c_1 : Ref sig .tc := ⟨.hbm, 277, rfl⟩
abbrev main_call1_call0_v6 : Ref sig .tc := ⟨.hbm, 278, rfl⟩
abbrev main_call1_call0_v7 : Ref sig .tc := ⟨.hbm, 279, rfl⟩
abbrev main_call1_call0_v8 : Ref sig .tc := ⟨.hbm, 280, rfl⟩
abbrev main_call1_call0_v9 : Ref sig .tc := ⟨.hbm, 281, rfl⟩
abbrev main_call1_call0_c_2 : Ref sig .tc := ⟨.hbm, 282, rfl⟩
abbrev main_call1_call0_v10 : Ref sig .tc := ⟨.hbm, 283, rfl⟩
abbrev main_call1_call0_c_3 : Ref sig .tc := ⟨.hbm, 284, rfl⟩
abbrev main_call1_call0_v11 : Ref sig .tc := ⟨.hbm, 285, rfl⟩
abbrev main_call1_call0_v12 : Ref sig .tc := ⟨.hbm, 286, rfl⟩
abbrev main_call1_call0_v13 : Ref sig .tc := ⟨.hbm, 287, rfl⟩
abbrev main_call1_call0_v14 : Ref sig .tc := ⟨.hbm, 288, rfl⟩
abbrev main_call1_call0_c_4 : Ref sig .tc := ⟨.hbm, 289, rfl⟩
abbrev main_call1_call0_v15 : Ref sig .tc := ⟨.hbm, 290, rfl⟩
abbrev main_call1_call0_c_5 : Ref sig .tc := ⟨.hbm, 291, rfl⟩
abbrev main_call1_call0_v16 : Ref sig .tc := ⟨.hbm, 292, rfl⟩
abbrev main_call1_call0_v17 : Ref sig .tc := ⟨.hbm, 293, rfl⟩
abbrev main_call1_call0_v18 : Ref sig .tc := ⟨.hbm, 294, rfl⟩
abbrev main_call1_call0_v19 : Ref sig .tc := ⟨.hbm, 295, rfl⟩
abbrev main_call1_call0_c_6 : Ref sig .tc := ⟨.hbm, 296, rfl⟩
abbrev main_call1_call0_v20 : Ref sig .tc := ⟨.hbm, 297, rfl⟩
abbrev main_call1_call0_c_7 : Ref sig .tc := ⟨.hbm, 298, rfl⟩
abbrev main_call1_call0_v21 : Ref sig .tc := ⟨.hbm, 299, rfl⟩
abbrev main_call1_call0_v22 : Ref sig .tc := ⟨.hbm, 300, rfl⟩
abbrev main_call1_call0_v23 : Ref sig .tc := ⟨.hbm, 301, rfl⟩
abbrev main_call1_call0_v24 : Ref sig .tc := ⟨.hbm, 302, rfl⟩
abbrev main_call1_call0_v25 : Ref sig .tc := ⟨.hbm, 303, rfl⟩
abbrev main_call1_call0_c_8 : Ref sig .tc := ⟨.hbm, 304, rfl⟩
abbrev main_call1_call0_v26 : Ref sig .tc := ⟨.hbm, 305, rfl⟩
abbrev main_call1_call0_v27 : Ref sig .tc := ⟨.hbm, 306, rfl⟩
abbrev main_call1_call0_c_9 : Ref sig .tc := ⟨.hbm, 307, rfl⟩
abbrev main_call1_call0_v28 : Ref sig .tc := ⟨.hbm, 308, rfl⟩
abbrev main_call1_call0_c_10 : Ref sig .tc := ⟨.hbm, 309, rfl⟩
abbrev main_call1_call0_v29 : Ref sig .tc := ⟨.hbm, 310, rfl⟩
abbrev main_call1_call0_v30 : Ref sig .tc := ⟨.hbm, 311, rfl⟩
abbrev main_call1_call0_v31 : Ref sig .tc := ⟨.hbm, 312, rfl⟩
abbrev main_call1_call0_v32 : Ref sig .tc := ⟨.hbm, 313, rfl⟩
abbrev main_call1_call0_c_11 : Ref sig .tc := ⟨.hbm, 314, rfl⟩
abbrev main_call1_call0_v33 : Ref sig .tc := ⟨.hbm, 315, rfl⟩
abbrev main_call1_call0_c_12 : Ref sig .tc := ⟨.hbm, 316, rfl⟩
abbrev main_call1_call0_v34 : Ref sig .tc := ⟨.hbm, 317, rfl⟩
abbrev main_call1_call0_v35 : Ref sig .tc := ⟨.hbm, 318, rfl⟩
abbrev main_call1_call0_v36 : Ref sig .tc := ⟨.hbm, 319, rfl⟩
abbrev main_call1_call0_v37 : Ref sig .tc := ⟨.hbm, 320, rfl⟩
abbrev main_call1_call0_c_13 : Ref sig .tc := ⟨.hbm, 321, rfl⟩
abbrev main_call1_call0_v38 : Ref sig .tc := ⟨.hbm, 322, rfl⟩
abbrev main_call1_call0_c_14 : Ref sig .tc := ⟨.hbm, 323, rfl⟩
abbrev main_call1_call0_v39 : Ref sig .tc := ⟨.hbm, 324, rfl⟩
abbrev main_call1_call0_v40 : Ref sig .tc := ⟨.hbm, 325, rfl⟩
abbrev main_call1_call0_v41 : Ref sig .tc := ⟨.hbm, 326, rfl⟩
abbrev main_call1_call0_v42 : Ref sig .tc := ⟨.hbm, 327, rfl⟩
abbrev main_call1_call0_c_15 : Ref sig .tc := ⟨.hbm, 328, rfl⟩
abbrev main_call1_call0_v43 : Ref sig .tc := ⟨.hbm, 329, rfl⟩
abbrev main_call1_call0_c_16 : Ref sig .tc := ⟨.hbm, 330, rfl⟩
abbrev main_call1_call0_v44 : Ref sig .tc := ⟨.hbm, 331, rfl⟩
abbrev main_call1_call0_v45 : Ref sig .tc := ⟨.hbm, 332, rfl⟩
abbrev main_call1_call0_v46 : Ref sig .tc := ⟨.hbm, 333, rfl⟩
abbrev main_call1_call0_v47 : Ref sig .tc := ⟨.hbm, 334, rfl⟩
abbrev main_call1_call0_v48 : Ref sig .tc := ⟨.hbm, 335, rfl⟩
abbrev main_call1_call0_c_17 : Ref sig .tc := ⟨.hbm, 336, rfl⟩
abbrev main_call1_call0_v49 : Ref sig .tc := ⟨.hbm, 337, rfl⟩
abbrev main_call1_call0_v50 : Ref sig .tc := ⟨.hbm, 338, rfl⟩
abbrev main_call1_call0_c_18 : Ref sig .tc := ⟨.hbm, 339, rfl⟩
abbrev main_call1_call0_v51 : Ref sig .tc := ⟨.hbm, 340, rfl⟩
abbrev main_call1_call0_c_19 : Ref sig .tc := ⟨.hbm, 341, rfl⟩
abbrev main_call1_call0_v52 : Ref sig .tc := ⟨.hbm, 342, rfl⟩
abbrev main_call1_call0_v53 : Ref sig .tc := ⟨.hbm, 343, rfl⟩
abbrev main_call1_call0_v54 : Ref sig .tc := ⟨.hbm, 344, rfl⟩
abbrev main_call1_call0_v55 : Ref sig .tc := ⟨.hbm, 345, rfl⟩
abbrev main_call1_call0_c_20 : Ref sig .tc := ⟨.hbm, 346, rfl⟩
abbrev main_call1_call0_v56 : Ref sig .tc := ⟨.hbm, 347, rfl⟩
abbrev main_call1_call0_c_21 : Ref sig .tc := ⟨.hbm, 348, rfl⟩
abbrev main_call1_call0_v57 : Ref sig .tc := ⟨.hbm, 349, rfl⟩
abbrev main_call1_call0_v58 : Ref sig .tc := ⟨.hbm, 350, rfl⟩
abbrev main_call1_call0_v59 : Ref sig .tc := ⟨.hbm, 351, rfl⟩
abbrev main_call1_call0_v60 : Ref sig .tc := ⟨.hbm, 352, rfl⟩
abbrev main_call1_call0_c_22 : Ref sig .tc := ⟨.hbm, 353, rfl⟩
abbrev main_call1_call0_v61 : Ref sig .tc := ⟨.hbm, 354, rfl⟩
abbrev main_call1_call0_c_23 : Ref sig .tc := ⟨.hbm, 355, rfl⟩
abbrev main_call1_call0_v62 : Ref sig .tc := ⟨.hbm, 356, rfl⟩
abbrev main_call1_call0_v63 : Ref sig .tc := ⟨.hbm, 357, rfl⟩
abbrev main_call1_call0_v64 : Ref sig .tc := ⟨.hbm, 358, rfl⟩
abbrev main_call1_call0_v65 : Ref sig .tc := ⟨.hbm, 359, rfl⟩
abbrev main_call1_call0_c_24 : Ref sig .tc := ⟨.hbm, 360, rfl⟩
abbrev main_call1_call0_v66 : Ref sig .tc := ⟨.hbm, 361, rfl⟩
abbrev main_call1_call0_c_25 : Ref sig .tc := ⟨.hbm, 362, rfl⟩
abbrev main_call1_call0_v67 : Ref sig .tc := ⟨.hbm, 363, rfl⟩
abbrev main_call1_call0_v68 : Ref sig .tc := ⟨.hbm, 364, rfl⟩
abbrev main_call1_call0_v69 : Ref sig .tc := ⟨.hbm, 365, rfl⟩
abbrev main_call1_call0_v70 : Ref sig .tc := ⟨.hbm, 366, rfl⟩
abbrev main_call1_call0_v71 : Ref sig .tc := ⟨.hbm, 367, rfl⟩
abbrev main_call1_call0_c_26 : Ref sig .tc := ⟨.hbm, 368, rfl⟩
abbrev main_call1_call0_v72 : Ref sig .tc := ⟨.hbm, 369, rfl⟩
abbrev main_call1_call0_v73 : Ref sig .tc := ⟨.hbm, 370, rfl⟩
abbrev main_call1_call0_c_27 : Ref sig .tc := ⟨.hbm, 371, rfl⟩
abbrev main_call1_call0_v74 : Ref sig .tc := ⟨.hbm, 372, rfl⟩
abbrev main_call1_call0_c_28 : Ref sig .tc := ⟨.hbm, 373, rfl⟩
abbrev main_call1_call0_v75 : Ref sig .tc := ⟨.hbm, 374, rfl⟩
abbrev main_call1_call0_v76 : Ref sig .tc := ⟨.hbm, 375, rfl⟩
abbrev main_call1_call0_v77 : Ref sig .tc := ⟨.hbm, 376, rfl⟩
abbrev main_call1_call0_v78 : Ref sig .tc := ⟨.hbm, 377, rfl⟩
abbrev main_call1_call0_c_29 : Ref sig .tc := ⟨.hbm, 378, rfl⟩
abbrev main_call1_call0_v79 : Ref sig .tc := ⟨.hbm, 379, rfl⟩
abbrev main_call1_call0_c_30 : Ref sig .tc := ⟨.hbm, 380, rfl⟩
abbrev main_call1_call0_v80 : Ref sig .tc := ⟨.hbm, 381, rfl⟩
abbrev main_call1_call0_v81 : Ref sig .tc := ⟨.hbm, 382, rfl⟩
abbrev main_call1_call0_v82 : Ref sig .tc := ⟨.hbm, 383, rfl⟩
abbrev main_call1_call0_v83 : Ref sig .tc := ⟨.hbm, 384, rfl⟩
abbrev main_call1_call0_c_31 : Ref sig .tc := ⟨.hbm, 385, rfl⟩
abbrev main_call1_call0_v84 : Ref sig .tc := ⟨.hbm, 386, rfl⟩
abbrev main_call1_call0_c_32 : Ref sig .tc := ⟨.hbm, 387, rfl⟩
abbrev main_call1_call0_v85 : Ref sig .tc := ⟨.hbm, 388, rfl⟩
abbrev main_call1_call0_v86 : Ref sig .tc := ⟨.hbm, 389, rfl⟩
abbrev main_call1_call0_v87 : Ref sig .tc := ⟨.hbm, 390, rfl⟩
abbrev main_call1_call0_v88 : Ref sig .tc := ⟨.hbm, 391, rfl⟩
abbrev main_call1_call0_c_33 : Ref sig .tc := ⟨.hbm, 392, rfl⟩
abbrev main_call1_call0_v89 : Ref sig .tc := ⟨.hbm, 393, rfl⟩
abbrev main_call1_call0_c_34 : Ref sig .tc := ⟨.hbm, 394, rfl⟩
abbrev main_call1_call0_v90 : Ref sig .tc := ⟨.hbm, 395, rfl⟩
abbrev main_call1_call0_v91 : Ref sig .tc := ⟨.hbm, 396, rfl⟩
abbrev main_call1_call0_v92 : Ref sig .tc := ⟨.hbm, 397, rfl⟩
abbrev main_call1_call0_v93 : Ref sig .tc := ⟨.hbm, 398, rfl⟩
abbrev main_call1_call0_v94 : Ref sig .tc := ⟨.hbm, 399, rfl⟩
abbrev main_call1_call0_c_35 : Ref sig .tc := ⟨.hbm, 400, rfl⟩
abbrev main_call1_call0_v95 : Ref sig .tc := ⟨.hbm, 401, rfl⟩
abbrev main_call1_call0_v96 : Ref sig .tc := ⟨.hbm, 402, rfl⟩
abbrev main_call1_call0_c_36 : Ref sig .tc := ⟨.hbm, 403, rfl⟩
abbrev main_call1_call0_v97 : Ref sig .tc := ⟨.hbm, 404, rfl⟩
abbrev main_call1_call0_c_37 : Ref sig .tc := ⟨.hbm, 405, rfl⟩
abbrev main_call1_call0_v98 : Ref sig .tc := ⟨.hbm, 406, rfl⟩
abbrev main_call1_call0_v99 : Ref sig .tc := ⟨.hbm, 407, rfl⟩
abbrev main_call1_call0_v100 : Ref sig .tc := ⟨.hbm, 408, rfl⟩
abbrev main_call1_call0_v101 : Ref sig .tc := ⟨.hbm, 409, rfl⟩
abbrev main_call1_call0_c_38 : Ref sig .tc := ⟨.hbm, 410, rfl⟩
abbrev main_call1_call0_v102 : Ref sig .tc := ⟨.hbm, 411, rfl⟩
abbrev main_call1_call0_c_39 : Ref sig .tc := ⟨.hbm, 412, rfl⟩
abbrev main_call1_call0_v103 : Ref sig .tc := ⟨.hbm, 413, rfl⟩
abbrev main_call1_call0_v104 : Ref sig .tc := ⟨.hbm, 414, rfl⟩
abbrev main_call1_call0_v105 : Ref sig .tc := ⟨.hbm, 415, rfl⟩
abbrev main_call1_call0_v106 : Ref sig .tc := ⟨.hbm, 416, rfl⟩
abbrev main_call1_call0_c_40 : Ref sig .tc := ⟨.hbm, 417, rfl⟩
abbrev main_call1_call0_v107 : Ref sig .tc := ⟨.hbm, 418, rfl⟩
abbrev main_call1_call0_c_41 : Ref sig .tc := ⟨.hbm, 419, rfl⟩
abbrev main_call1_call0_v108 : Ref sig .tc := ⟨.hbm, 420, rfl⟩
abbrev main_call1_call0_v109 : Ref sig .tc := ⟨.hbm, 421, rfl⟩
abbrev main_call1_call0_v110 : Ref sig .tc := ⟨.hbm, 422, rfl⟩
abbrev main_call1_call0_v111 : Ref sig .tc := ⟨.hbm, 423, rfl⟩
abbrev main_call1_call0_c_42 : Ref sig .tc := ⟨.hbm, 424, rfl⟩
abbrev main_call1_call0_v112 : Ref sig .tc := ⟨.hbm, 425, rfl⟩
abbrev main_call1_call0_c_43 : Ref sig .tc := ⟨.hbm, 426, rfl⟩
abbrev main_call1_call0_v113 : Ref sig .tc := ⟨.hbm, 427, rfl⟩
abbrev main_call1_call0_v114 : Ref sig .tc := ⟨.hbm, 428, rfl⟩
abbrev main_call1_call0_v115 : Ref sig .tc := ⟨.hbm, 429, rfl⟩
abbrev main_call1_v6_0 : Ref sig .tc := ⟨.hbm, 430, rfl⟩
abbrev main_call1_call0_v117 : Ref sig .tc := ⟨.hbm, 431, rfl⟩
abbrev main_call1_call0_c_44 : Ref sig .tc := ⟨.hbm, 432, rfl⟩
abbrev main_call1_v6_1 : Ref sig .tc := ⟨.hbm, 433, rfl⟩
abbrev main_call1_v7 : Ref sig .tc := ⟨.hbm, 434, rfl⟩
abbrev main_call1_c_1 : Ref sig .tc := ⟨.hbm, 435, rfl⟩
abbrev main_call1_v8 : Ref sig .tc := ⟨.hbm, 436, rfl⟩
abbrev main_call1_c_2 : Ref sig .tc := ⟨.hbm, 437, rfl⟩
abbrev main_call1_v9 : Ref sig .tc := ⟨.hbm, 438, rfl⟩
abbrev main_call1_v10 : Ref sig .tc := ⟨.hbm, 439, rfl⟩
abbrev main_call1_cst : Ref sig .tc := ⟨.hbm, 440, rfl⟩
abbrev main_call1_v11 : Ref sig .tc := ⟨.hbm, 441, rfl⟩
abbrev main_call1_v12 : Ref sig .tc := ⟨.hbm, 442, rfl⟩
abbrev main_call1_v13 : Ref sig .tc := ⟨.hbm, 443, rfl⟩
abbrev main_call1_v14 : Ref sig .tc := ⟨.hbm, 444, rfl⟩
abbrev main_call1_v15 : Ref sig .tc := ⟨.hbm, 445, rfl⟩
abbrev main_v16 : Ref sig .tc := ⟨.hbm, 446, rfl⟩
abbrev main_c_3 : Ref sig .tc := ⟨.hbm, 447, rfl⟩
abbrev main_c_4 : Ref sig .tc := ⟨.hbm, 448, rfl⟩
abbrev main_call2_c : Ref sig .tc := ⟨.hbm, 449, rfl⟩
abbrev main_call2_c_0 : Ref sig .tc := ⟨.hbm, 450, rfl⟩
abbrev main_call2_c_1 : Ref sig .tc := ⟨.hbm, 451, rfl⟩
abbrev main_call2_call0_v0 : Ref sig .tc := ⟨.hbm, 452, rfl⟩
abbrev main_call2_v0 : Ref sig .tc := ⟨.hbm, 453, rfl⟩
abbrev main_call2_v1 : Ref sig .tc := ⟨.hbm, 454, rfl⟩
abbrev main_call2_c_2 : Ref sig .tc := ⟨.hbm, 455, rfl⟩
abbrev main_call2_c_3 : Ref sig .tc := ⟨.hbm, 456, rfl⟩
abbrev main_call2_call1_v0 : Ref sig .tc := ⟨.hbm, 457, rfl⟩
abbrev main_call2_v2 : Ref sig .tc := ⟨.hbm, 458, rfl⟩
abbrev main_call2_v3 : Ref sig .tc := ⟨.hbm, 459, rfl⟩
abbrev main_call2_c_4 : Ref sig .tc := ⟨.hbm, 460, rfl⟩
abbrev main_call2_c_5 : Ref sig .tc := ⟨.hbm, 461, rfl⟩
abbrev main_call2_call2_v0 : Ref sig .tc := ⟨.hbm, 462, rfl⟩
abbrev main_call2_v4 : Ref sig .tc := ⟨.hbm, 463, rfl⟩
abbrev main_call2_v5 : Ref sig .tc := ⟨.hbm, 464, rfl⟩
abbrev main_call2_v6 : Ref sig .tc := ⟨.hbm, 465, rfl⟩
abbrev main_call2_v7 : Ref sig .tc := ⟨.hbm, 466, rfl⟩
abbrev main_call2_call3_v0 : Ref sig .tc := ⟨.hbm, 467, rfl⟩
abbrev main_call2_call3_v1 : Ref sig .tc := ⟨.hbm, 468, rfl⟩
abbrev main_call2_call3_v2 : Ref sig .tc := ⟨.hbm, 469, rfl⟩
abbrev main_call2_call3_v3 : Ref sig .tc := ⟨.hbm, 470, rfl⟩
abbrev main_call2_call3_v4 : Ref sig .tc := ⟨.hbm, 471, rfl⟩
abbrev main_call2_call3_c : Ref sig .tc := ⟨.hbm, 472, rfl⟩
abbrev main_call2_call3_v5 : Ref sig .tc := ⟨.hbm, 473, rfl⟩
abbrev main_call2_call3_v6 : Ref sig .tc := ⟨.hbm, 474, rfl⟩
abbrev main_call2_call3_c_0 : Ref sig .tc := ⟨.hbm, 475, rfl⟩
abbrev main_call2_call3_v7 : Ref sig .tc := ⟨.hbm, 476, rfl⟩
abbrev main_call2_call3_v8 : Ref sig .tc := ⟨.hbm, 477, rfl⟩
abbrev main_call2_call3_v9 : Ref sig .tc := ⟨.hbm, 478, rfl⟩
abbrev main_call2_call3_v10 : Ref sig .tc := ⟨.hbm, 479, rfl⟩
abbrev main_call2_call3_call0_v0 : Ref sig .tc := ⟨.hbm, 480, rfl⟩
abbrev main_call2_call3_call0_c : Ref sig .tc := ⟨.hbm, 481, rfl⟩
abbrev main_call2_call3_call0_v1 : Ref sig .tc := ⟨.hbm, 482, rfl⟩
abbrev main_call2_call3_call0_v2 : Ref sig .tc := ⟨.hbm, 483, rfl⟩
abbrev main_call2_call3_call0_v3 : Ref sig .tc := ⟨.hbm, 484, rfl⟩
abbrev main_call2_call3_call0_v4 : Ref sig .tc := ⟨.hbm, 485, rfl⟩
abbrev main_call2_call3_call0_v5 : Ref sig .tc := ⟨.hbm, 486, rfl⟩
abbrev main_call2_call3_call0_v6 : Ref sig .tc := ⟨.hbm, 487, rfl⟩
abbrev main_call2_call3_call0_c_0 : Ref sig .tc := ⟨.hbm, 488, rfl⟩
abbrev main_call2_call3_call0_v7 : Ref sig .tc := ⟨.hbm, 489, rfl⟩
abbrev main_call2_call3_call0_v8 : Ref sig .tc := ⟨.hbm, 490, rfl⟩
abbrev main_call2_call3_call0_c_1 : Ref sig .tc := ⟨.hbm, 491, rfl⟩
abbrev main_call2_call3_call0_v9 : Ref sig .tc := ⟨.hbm, 492, rfl⟩
abbrev main_call2_call3_call0_v10 : Ref sig .tc := ⟨.hbm, 493, rfl⟩
abbrev main_call2_call3_call0_v11 : Ref sig .tc := ⟨.hbm, 494, rfl⟩
abbrev main_call2_call3_call0_v12 : Ref sig .tc := ⟨.hbm, 495, rfl⟩
abbrev main_call2_call3_call0_v13 : Ref sig .tc := ⟨.hbm, 496, rfl⟩
abbrev main_call2_call3_call0_c_2 : Ref sig .tc := ⟨.hbm, 497, rfl⟩
abbrev main_call2_call3_call0_v14 : Ref sig .tc := ⟨.hbm, 498, rfl⟩
abbrev main_call2_call3_call0_v15 : Ref sig .tc := ⟨.hbm, 499, rfl⟩
abbrev main_call2_call3_call0_c_3 : Ref sig .tc := ⟨.hbm, 500, rfl⟩
abbrev main_call2_call3_call0_v16 : Ref sig .tc := ⟨.hbm, 501, rfl⟩
abbrev main_call2_call3_call0_v17 : Ref sig .tc := ⟨.hbm, 502, rfl⟩
abbrev main_call2_call3_call0_v18 : Ref sig .tc := ⟨.hbm, 503, rfl⟩
abbrev main_call2_call3_call0_v19 : Ref sig .tc := ⟨.hbm, 504, rfl⟩
abbrev main_call2_call3_call0_v20 : Ref sig .tc := ⟨.hbm, 505, rfl⟩
abbrev main_call2_call3_call0_c_4 : Ref sig .tc := ⟨.hbm, 506, rfl⟩
abbrev main_call2_call3_call0_v21 : Ref sig .tc := ⟨.hbm, 507, rfl⟩
abbrev main_call2_call3_call0_v22 : Ref sig .tc := ⟨.hbm, 508, rfl⟩
abbrev main_call2_call3_call0_c_5 : Ref sig .tc := ⟨.hbm, 509, rfl⟩
abbrev main_call2_call3_call0_v23 : Ref sig .tc := ⟨.hbm, 510, rfl⟩
abbrev main_call2_call3_call0_v24 : Ref sig .tc := ⟨.hbm, 511, rfl⟩
abbrev main_call2_call3_call0_v25 : Ref sig .tc := ⟨.hbm, 512, rfl⟩
abbrev main_call2_call3_call0_v26 : Ref sig .tc := ⟨.hbm, 513, rfl⟩
abbrev main_call2_call3_call0_v27 : Ref sig .tc := ⟨.hbm, 514, rfl⟩
abbrev main_call2_call3_call0_c_6 : Ref sig .tc := ⟨.hbm, 515, rfl⟩
abbrev main_call2_call3_call0_v28 : Ref sig .tc := ⟨.hbm, 516, rfl⟩
abbrev main_call2_call3_call0_v29 : Ref sig .tc := ⟨.hbm, 517, rfl⟩
abbrev main_call2_call3_call0_c_7 : Ref sig .tc := ⟨.hbm, 518, rfl⟩
abbrev main_call2_call3_call0_v30 : Ref sig .tc := ⟨.hbm, 519, rfl⟩
abbrev main_call2_call3_call0_v31 : Ref sig .tc := ⟨.hbm, 520, rfl⟩
abbrev main_call2_call3_call0_v32 : Ref sig .tc := ⟨.hbm, 521, rfl⟩
abbrev main_call2_call3_call0_v33 : Ref sig .tc := ⟨.hbm, 522, rfl⟩
abbrev main_call2_call3_call0_v34 : Ref sig .tc := ⟨.hbm, 523, rfl⟩
abbrev main_call2_call3_call0_v35 : Ref sig .tc := ⟨.hbm, 524, rfl⟩
abbrev main_call2_call3_call0_v36 : Ref sig .tc := ⟨.hbm, 525, rfl⟩
abbrev main_call2_call3_call0_v37 : Ref sig .tc := ⟨.hbm, 526, rfl⟩
abbrev main_call2_call3_call0_c_8 : Ref sig .tc := ⟨.hbm, 527, rfl⟩
abbrev main_call2_call3_call0_v38 : Ref sig .tc := ⟨.hbm, 528, rfl⟩
abbrev main_call2_call3_call0_v39 : Ref sig .tc := ⟨.hbm, 529, rfl⟩
abbrev main_call2_call3_call0_v40 : Ref sig .tc := ⟨.hbm, 530, rfl⟩
abbrev main_call2_call3_call0_c_9 : Ref sig .tc := ⟨.hbm, 531, rfl⟩
abbrev main_call2_call3_call0_v41 : Ref sig .tc := ⟨.hbm, 532, rfl⟩
abbrev main_call2_call3_call0_v42 : Ref sig .tc := ⟨.hbm, 533, rfl⟩
abbrev main_call2_call3_call0_c_10 : Ref sig .tc := ⟨.hbm, 534, rfl⟩
abbrev main_call2_call3_call0_v43 : Ref sig .tc := ⟨.hbm, 535, rfl⟩
abbrev main_call2_call3_call0_v44 : Ref sig .tc := ⟨.hbm, 536, rfl⟩
abbrev main_call2_call3_call0_v45 : Ref sig .tc := ⟨.hbm, 537, rfl⟩
abbrev main_call2_call3_call0_v46 : Ref sig .tc := ⟨.hbm, 538, rfl⟩
abbrev main_call2_call3_call0_v47 : Ref sig .tc := ⟨.hbm, 539, rfl⟩
abbrev main_call2_call3_call0_c_11 : Ref sig .tc := ⟨.hbm, 540, rfl⟩
abbrev main_call2_call3_call0_v48 : Ref sig .tc := ⟨.hbm, 541, rfl⟩
abbrev main_call2_call3_call0_v49 : Ref sig .tc := ⟨.hbm, 542, rfl⟩
abbrev main_call2_call3_call0_c_12 : Ref sig .tc := ⟨.hbm, 543, rfl⟩
abbrev main_call2_call3_call0_v50 : Ref sig .tc := ⟨.hbm, 544, rfl⟩
abbrev main_call2_call3_call0_v51 : Ref sig .tc := ⟨.hbm, 545, rfl⟩
abbrev main_call2_call3_call0_v52 : Ref sig .tc := ⟨.hbm, 546, rfl⟩
abbrev main_call2_call3_call0_v53 : Ref sig .tc := ⟨.hbm, 547, rfl⟩
abbrev main_call2_call3_call0_v54 : Ref sig .tc := ⟨.hbm, 548, rfl⟩
abbrev main_call2_call3_call0_c_13 : Ref sig .tc := ⟨.hbm, 549, rfl⟩
abbrev main_call2_call3_call0_v55 : Ref sig .tc := ⟨.hbm, 550, rfl⟩
abbrev main_call2_call3_call0_v56 : Ref sig .tc := ⟨.hbm, 551, rfl⟩
abbrev main_call2_call3_call0_c_14 : Ref sig .tc := ⟨.hbm, 552, rfl⟩
abbrev main_call2_call3_call0_v57 : Ref sig .tc := ⟨.hbm, 553, rfl⟩
abbrev main_call2_call3_call0_v58 : Ref sig .tc := ⟨.hbm, 554, rfl⟩
abbrev main_call2_call3_call0_v59 : Ref sig .tc := ⟨.hbm, 555, rfl⟩
abbrev main_call2_call3_call0_v60 : Ref sig .tc := ⟨.hbm, 556, rfl⟩
abbrev main_call2_call3_call0_v61 : Ref sig .tc := ⟨.hbm, 557, rfl⟩
abbrev main_call2_call3_call0_c_15 : Ref sig .tc := ⟨.hbm, 558, rfl⟩
abbrev main_call2_call3_call0_v62 : Ref sig .tc := ⟨.hbm, 559, rfl⟩
abbrev main_call2_call3_call0_v63 : Ref sig .tc := ⟨.hbm, 560, rfl⟩
abbrev main_call2_call3_call0_c_16 : Ref sig .tc := ⟨.hbm, 561, rfl⟩
abbrev main_call2_call3_call0_v64 : Ref sig .tc := ⟨.hbm, 562, rfl⟩
abbrev main_call2_call3_call0_v65 : Ref sig .tc := ⟨.hbm, 563, rfl⟩
abbrev main_call2_call3_call0_v66 : Ref sig .tc := ⟨.hbm, 564, rfl⟩
abbrev main_call2_call3_call0_v67 : Ref sig .tc := ⟨.hbm, 565, rfl⟩
abbrev main_call2_call3_call0_v68 : Ref sig .tc := ⟨.hbm, 566, rfl⟩
abbrev main_call2_call3_call0_v69 : Ref sig .tc := ⟨.hbm, 567, rfl⟩
abbrev main_call2_call3_call0_v70 : Ref sig .tc := ⟨.hbm, 568, rfl⟩
abbrev main_call2_call3_call0_v71 : Ref sig .tc := ⟨.hbm, 569, rfl⟩
abbrev main_call2_call3_call0_c_17 : Ref sig .tc := ⟨.hbm, 570, rfl⟩
abbrev main_call2_call3_call0_v72 : Ref sig .tc := ⟨.hbm, 571, rfl⟩
abbrev main_call2_call3_call0_v73 : Ref sig .tc := ⟨.hbm, 572, rfl⟩
abbrev main_call2_call3_call0_v74 : Ref sig .tc := ⟨.hbm, 573, rfl⟩
abbrev main_call2_call3_call0_c_18 : Ref sig .tc := ⟨.hbm, 574, rfl⟩
abbrev main_call2_call3_call0_v75 : Ref sig .tc := ⟨.hbm, 575, rfl⟩
abbrev main_call2_call3_call0_v76 : Ref sig .tc := ⟨.hbm, 576, rfl⟩
abbrev main_call2_call3_call0_c_19 : Ref sig .tc := ⟨.hbm, 577, rfl⟩
abbrev main_call2_call3_call0_v77 : Ref sig .tc := ⟨.hbm, 578, rfl⟩
abbrev main_call2_call3_call0_v78 : Ref sig .tc := ⟨.hbm, 579, rfl⟩
abbrev main_call2_call3_call0_v79 : Ref sig .tc := ⟨.hbm, 580, rfl⟩
abbrev main_call2_call3_call0_v80 : Ref sig .tc := ⟨.hbm, 581, rfl⟩
abbrev main_call2_call3_call0_v81 : Ref sig .tc := ⟨.hbm, 582, rfl⟩
abbrev main_call2_call3_call0_c_20 : Ref sig .tc := ⟨.hbm, 583, rfl⟩
abbrev main_call2_call3_call0_v82 : Ref sig .tc := ⟨.hbm, 584, rfl⟩
abbrev main_call2_call3_call0_v83 : Ref sig .tc := ⟨.hbm, 585, rfl⟩
abbrev main_call2_call3_call0_c_21 : Ref sig .tc := ⟨.hbm, 586, rfl⟩
abbrev main_call2_call3_call0_v84 : Ref sig .tc := ⟨.hbm, 587, rfl⟩
abbrev main_call2_call3_call0_v85 : Ref sig .tc := ⟨.hbm, 588, rfl⟩
abbrev main_call2_call3_call0_v86 : Ref sig .tc := ⟨.hbm, 589, rfl⟩
abbrev main_call2_call3_call0_v87 : Ref sig .tc := ⟨.hbm, 590, rfl⟩
abbrev main_call2_call3_call0_v88 : Ref sig .tc := ⟨.hbm, 591, rfl⟩
abbrev main_call2_call3_call0_c_22 : Ref sig .tc := ⟨.hbm, 592, rfl⟩
abbrev main_call2_call3_call0_v89 : Ref sig .tc := ⟨.hbm, 593, rfl⟩
abbrev main_call2_call3_call0_v90 : Ref sig .tc := ⟨.hbm, 594, rfl⟩
abbrev main_call2_call3_call0_c_23 : Ref sig .tc := ⟨.hbm, 595, rfl⟩
abbrev main_call2_call3_call0_v91 : Ref sig .tc := ⟨.hbm, 596, rfl⟩
abbrev main_call2_call3_call0_v92 : Ref sig .tc := ⟨.hbm, 597, rfl⟩
abbrev main_call2_call3_call0_v93 : Ref sig .tc := ⟨.hbm, 598, rfl⟩
abbrev main_call2_call3_call0_v94 : Ref sig .tc := ⟨.hbm, 599, rfl⟩
abbrev main_call2_call3_call0_v95 : Ref sig .tc := ⟨.hbm, 600, rfl⟩
abbrev main_call2_call3_call0_c_24 : Ref sig .tc := ⟨.hbm, 601, rfl⟩
abbrev main_call2_call3_call0_v96 : Ref sig .tc := ⟨.hbm, 602, rfl⟩
abbrev main_call2_call3_call0_v97 : Ref sig .tc := ⟨.hbm, 603, rfl⟩
abbrev main_call2_call3_call0_c_25 : Ref sig .tc := ⟨.hbm, 604, rfl⟩
abbrev main_call2_call3_call0_v98 : Ref sig .tc := ⟨.hbm, 605, rfl⟩
abbrev main_call2_call3_call0_v99 : Ref sig .tc := ⟨.hbm, 606, rfl⟩
abbrev main_call2_call3_call0_v100 : Ref sig .tc := ⟨.hbm, 607, rfl⟩
abbrev main_call2_call3_call0_v101 : Ref sig .tc := ⟨.hbm, 608, rfl⟩
abbrev main_call2_call3_call0_v102 : Ref sig .tc := ⟨.hbm, 609, rfl⟩
abbrev main_call2_call3_call0_v103 : Ref sig .tc := ⟨.hbm, 610, rfl⟩
abbrev main_call2_call3_call0_v104 : Ref sig .tc := ⟨.hbm, 611, rfl⟩
abbrev main_call2_call3_call0_v105 : Ref sig .tc := ⟨.hbm, 612, rfl⟩
abbrev main_call2_call3_call0_c_26 : Ref sig .tc := ⟨.hbm, 613, rfl⟩
abbrev main_call2_call3_call0_v106 : Ref sig .tc := ⟨.hbm, 614, rfl⟩
abbrev main_call2_call3_call0_v107 : Ref sig .tc := ⟨.hbm, 615, rfl⟩
abbrev main_call2_call3_call0_v108 : Ref sig .tc := ⟨.hbm, 616, rfl⟩
abbrev main_call2_call3_call0_c_27 : Ref sig .tc := ⟨.hbm, 617, rfl⟩
abbrev main_call2_call3_call0_v109 : Ref sig .tc := ⟨.hbm, 618, rfl⟩
abbrev main_call2_call3_call0_v110 : Ref sig .tc := ⟨.hbm, 619, rfl⟩
abbrev main_call2_call3_call0_c_28 : Ref sig .tc := ⟨.hbm, 620, rfl⟩
abbrev main_call2_call3_call0_v111 : Ref sig .tc := ⟨.hbm, 621, rfl⟩
abbrev main_call2_call3_call0_v112 : Ref sig .tc := ⟨.hbm, 622, rfl⟩
abbrev main_call2_call3_call0_v113 : Ref sig .tc := ⟨.hbm, 623, rfl⟩
abbrev main_call2_call3_call0_v114 : Ref sig .tc := ⟨.hbm, 624, rfl⟩
abbrev main_call2_call3_call0_v115 : Ref sig .tc := ⟨.hbm, 625, rfl⟩
abbrev main_call2_call3_call0_c_29 : Ref sig .tc := ⟨.hbm, 626, rfl⟩
abbrev main_call2_call3_call0_v116 : Ref sig .tc := ⟨.hbm, 627, rfl⟩
abbrev main_call2_call3_call0_v117 : Ref sig .tc := ⟨.hbm, 628, rfl⟩
abbrev main_call2_call3_call0_c_30 : Ref sig .tc := ⟨.hbm, 629, rfl⟩
abbrev main_call2_call3_call0_v118 : Ref sig .tc := ⟨.hbm, 630, rfl⟩
abbrev main_call2_call3_call0_v119 : Ref sig .tc := ⟨.hbm, 631, rfl⟩
abbrev main_call2_call3_call0_v120 : Ref sig .tc := ⟨.hbm, 632, rfl⟩
abbrev main_call2_call3_call0_v121 : Ref sig .tc := ⟨.hbm, 633, rfl⟩
abbrev main_call2_call3_call0_v122 : Ref sig .tc := ⟨.hbm, 634, rfl⟩
abbrev main_call2_call3_call0_c_31 : Ref sig .tc := ⟨.hbm, 635, rfl⟩
abbrev main_call2_call3_call0_v123 : Ref sig .tc := ⟨.hbm, 636, rfl⟩
abbrev main_call2_call3_call0_v124 : Ref sig .tc := ⟨.hbm, 637, rfl⟩
abbrev main_call2_call3_call0_c_32 : Ref sig .tc := ⟨.hbm, 638, rfl⟩
abbrev main_call2_call3_call0_v125 : Ref sig .tc := ⟨.hbm, 639, rfl⟩
abbrev main_call2_call3_call0_v126 : Ref sig .tc := ⟨.hbm, 640, rfl⟩
abbrev main_call2_call3_call0_v127 : Ref sig .tc := ⟨.hbm, 641, rfl⟩
abbrev main_call2_call3_call0_v128 : Ref sig .tc := ⟨.hbm, 642, rfl⟩
abbrev main_call2_call3_call0_v129 : Ref sig .tc := ⟨.hbm, 643, rfl⟩
abbrev main_call2_call3_call0_c_33 : Ref sig .tc := ⟨.hbm, 644, rfl⟩
abbrev main_call2_call3_call0_v130 : Ref sig .tc := ⟨.hbm, 645, rfl⟩
abbrev main_call2_call3_call0_v131 : Ref sig .tc := ⟨.hbm, 646, rfl⟩
abbrev main_call2_call3_call0_c_34 : Ref sig .tc := ⟨.hbm, 647, rfl⟩
abbrev main_call2_call3_call0_v132 : Ref sig .tc := ⟨.hbm, 648, rfl⟩
abbrev main_call2_call3_call0_v133 : Ref sig .tc := ⟨.hbm, 649, rfl⟩
abbrev main_call2_call3_call0_v134 : Ref sig .tc := ⟨.hbm, 650, rfl⟩
abbrev main_call2_call3_call0_v135 : Ref sig .tc := ⟨.hbm, 651, rfl⟩
abbrev main_call2_call3_call0_v136 : Ref sig .tc := ⟨.hbm, 652, rfl⟩
abbrev main_call2_call3_call0_v137 : Ref sig .tc := ⟨.hbm, 653, rfl⟩
abbrev main_call2_call3_call0_v138 : Ref sig .tc := ⟨.hbm, 654, rfl⟩
abbrev main_call2_call3_call0_v139 : Ref sig .tc := ⟨.hbm, 655, rfl⟩
abbrev main_call2_call3_call0_c_35 : Ref sig .tc := ⟨.hbm, 656, rfl⟩
abbrev main_call2_call3_call0_v140 : Ref sig .tc := ⟨.hbm, 657, rfl⟩
abbrev main_call2_call3_call0_v141 : Ref sig .tc := ⟨.hbm, 658, rfl⟩
abbrev main_call2_call3_call0_v142 : Ref sig .tc := ⟨.hbm, 659, rfl⟩
abbrev main_call2_call3_call0_c_36 : Ref sig .tc := ⟨.hbm, 660, rfl⟩
abbrev main_call2_call3_call0_v143 : Ref sig .tc := ⟨.hbm, 661, rfl⟩
abbrev main_call2_call3_call0_v144 : Ref sig .tc := ⟨.hbm, 662, rfl⟩
abbrev main_call2_call3_call0_c_37 : Ref sig .tc := ⟨.hbm, 663, rfl⟩
abbrev main_call2_call3_call0_v145 : Ref sig .tc := ⟨.hbm, 664, rfl⟩
abbrev main_call2_call3_call0_v146 : Ref sig .tc := ⟨.hbm, 665, rfl⟩
abbrev main_call2_call3_call0_v147 : Ref sig .tc := ⟨.hbm, 666, rfl⟩
abbrev main_call2_call3_call0_v148 : Ref sig .tc := ⟨.hbm, 667, rfl⟩
abbrev main_call2_call3_call0_v149 : Ref sig .tc := ⟨.hbm, 668, rfl⟩
abbrev main_call2_call3_call0_c_38 : Ref sig .tc := ⟨.hbm, 669, rfl⟩
abbrev main_call2_call3_call0_v150 : Ref sig .tc := ⟨.hbm, 670, rfl⟩
abbrev main_call2_call3_call0_v151 : Ref sig .tc := ⟨.hbm, 671, rfl⟩
abbrev main_call2_call3_call0_c_39 : Ref sig .tc := ⟨.hbm, 672, rfl⟩
abbrev main_call2_call3_call0_v152 : Ref sig .tc := ⟨.hbm, 673, rfl⟩
abbrev main_call2_call3_call0_v153 : Ref sig .tc := ⟨.hbm, 674, rfl⟩
abbrev main_call2_call3_call0_v154 : Ref sig .tc := ⟨.hbm, 675, rfl⟩
abbrev main_call2_call3_call0_v155 : Ref sig .tc := ⟨.hbm, 676, rfl⟩
abbrev main_call2_call3_call0_v156 : Ref sig .tc := ⟨.hbm, 677, rfl⟩
abbrev main_call2_call3_call0_c_40 : Ref sig .tc := ⟨.hbm, 678, rfl⟩
abbrev main_call2_call3_call0_v157 : Ref sig .tc := ⟨.hbm, 679, rfl⟩
abbrev main_call2_call3_call0_v158 : Ref sig .tc := ⟨.hbm, 680, rfl⟩
abbrev main_call2_call3_call0_c_41 : Ref sig .tc := ⟨.hbm, 681, rfl⟩
abbrev main_call2_call3_call0_v159 : Ref sig .tc := ⟨.hbm, 682, rfl⟩
abbrev main_call2_call3_call0_v160 : Ref sig .tc := ⟨.hbm, 683, rfl⟩
abbrev main_call2_call3_call0_v161 : Ref sig .tc := ⟨.hbm, 684, rfl⟩
abbrev main_call2_call3_call0_v162 : Ref sig .tc := ⟨.hbm, 685, rfl⟩
abbrev main_call2_call3_call0_v163 : Ref sig .tc := ⟨.hbm, 686, rfl⟩
abbrev main_call2_call3_call0_c_42 : Ref sig .tc := ⟨.hbm, 687, rfl⟩
abbrev main_call2_call3_call0_v164 : Ref sig .tc := ⟨.hbm, 688, rfl⟩
abbrev main_call2_call3_call0_v165 : Ref sig .tc := ⟨.hbm, 689, rfl⟩
abbrev main_call2_call3_call0_c_43 : Ref sig .tc := ⟨.hbm, 690, rfl⟩
abbrev main_call2_call3_call0_v166 : Ref sig .tc := ⟨.hbm, 691, rfl⟩
abbrev main_call2_call3_call0_v167 : Ref sig .tc := ⟨.hbm, 692, rfl⟩
abbrev main_call2_call3_call0_v168 : Ref sig .tc := ⟨.hbm, 693, rfl⟩
abbrev main_call2_call3_call0_v169 : Ref sig .tc := ⟨.hbm, 694, rfl⟩
abbrev main_call2_call3_call0_v170 : Ref sig .tc := ⟨.hbm, 695, rfl⟩
abbrev main_call2_call3_v11_0 : Ref sig .tc := ⟨.hbm, 696, rfl⟩
abbrev main_call2_call3_call0_v172 : Ref sig .tc := ⟨.hbm, 697, rfl⟩
abbrev main_call2_call3_call0_v173 : Ref sig .tc := ⟨.hbm, 698, rfl⟩
abbrev main_call2_call3_call0_c_44 : Ref sig .tc := ⟨.hbm, 699, rfl⟩
abbrev main_call2_call3_call0_v174 : Ref sig .tc := ⟨.hbm, 700, rfl⟩
abbrev main_call2_call3_v11_1 : Ref sig .tc := ⟨.hbm, 701, rfl⟩
abbrev main_call2_call3_v12 : Ref sig .tc := ⟨.hbm, 702, rfl⟩
abbrev main_call2_call3_v13 : Ref sig .tc := ⟨.hbm, 703, rfl⟩
abbrev main_call2_v8 : Ref sig .tc := ⟨.hbm, 704, rfl⟩
abbrev main_call2_v9 : Ref sig .tc := ⟨.hbm, 705, rfl⟩
abbrev main_call2_v10 : Ref sig .tc := ⟨.hbm, 706, rfl⟩
abbrev main_call2_v11 : Ref sig .tc := ⟨.hbm, 707, rfl⟩
abbrev main_call2_v12 : Ref sig .tc := ⟨.hbm, 708, rfl⟩
abbrev main_call2_v13 : Ref sig .tc := ⟨.hbm, 709, rfl⟩
abbrev main_call2_v14 : Ref sig .tc := ⟨.hbm, 710, rfl⟩
abbrev main_call2_v15 : Ref sig .tc := ⟨.hbm, 711, rfl⟩
abbrev main_call2_v16 : Ref sig .tc := ⟨.hbm, 712, rfl⟩
abbrev main_call2_v17 : Ref sig .tc := ⟨.hbm, 713, rfl⟩
abbrev main_call2_v18 : Ref sig .tc := ⟨.hbm, 714, rfl⟩
abbrev main_call2_c_6 : Ref sig .tc := ⟨.hbm, 715, rfl⟩
abbrev main_call2_v19 : Ref sig .tc := ⟨.hbm, 716, rfl⟩
abbrev main_call2_v20 : Ref sig .tc := ⟨.hbm, 717, rfl⟩
abbrev main_call2_c_7 : Ref sig .tc := ⟨.hbm, 718, rfl⟩
abbrev main_call2_v21 : Ref sig .tc := ⟨.hbm, 719, rfl⟩
abbrev main_call2_v22 : Ref sig .tc := ⟨.hbm, 720, rfl⟩
abbrev main_call2_v23 : Ref sig .tc := ⟨.hbm, 721, rfl⟩
abbrev main_call2_c_8 : Ref sig .tc := ⟨.hbm, 722, rfl⟩
abbrev main_call2_v24 : Ref sig .tc := ⟨.hbm, 723, rfl⟩
abbrev main_call2_v25 : Ref sig .tc := ⟨.hbm, 724, rfl⟩
abbrev main_call2_v26 : Ref sig .tc := ⟨.hbm, 725, rfl⟩
abbrev main_call2_v27 : Ref sig .tc := ⟨.hbm, 726, rfl⟩
abbrev main_call2_call4_v0 : Ref sig .tc := ⟨.hbm, 727, rfl⟩
abbrev main_call2_call4_c : Ref sig .tc := ⟨.hbm, 728, rfl⟩
abbrev main_call2_call4_v1 : Ref sig .tc := ⟨.hbm, 729, rfl⟩
abbrev main_call2_call4_v2 : Ref sig .tc := ⟨.hbm, 730, rfl⟩
abbrev main_call2_call4_v3 : Ref sig .tc := ⟨.hbm, 731, rfl⟩
abbrev main_call2_call4_v4 : Ref sig .tc := ⟨.hbm, 732, rfl⟩
abbrev main_call2_call4_v5 : Ref sig .tc := ⟨.hbm, 733, rfl⟩
abbrev main_call2_call4_v6 : Ref sig .tc := ⟨.hbm, 734, rfl⟩
abbrev main_call2_call4_c_0 : Ref sig .tc := ⟨.hbm, 735, rfl⟩
abbrev main_call2_call4_v7 : Ref sig .tc := ⟨.hbm, 736, rfl⟩
abbrev main_call2_call4_v8 : Ref sig .tc := ⟨.hbm, 737, rfl⟩
abbrev main_call2_call4_c_1 : Ref sig .tc := ⟨.hbm, 738, rfl⟩
abbrev main_call2_call4_v9 : Ref sig .tc := ⟨.hbm, 739, rfl⟩
abbrev main_call2_call4_v10 : Ref sig .tc := ⟨.hbm, 740, rfl⟩
abbrev main_call2_call4_v11 : Ref sig .tc := ⟨.hbm, 741, rfl⟩
abbrev main_call2_call4_v12 : Ref sig .tc := ⟨.hbm, 742, rfl⟩
abbrev main_call2_call4_v13 : Ref sig .tc := ⟨.hbm, 743, rfl⟩
abbrev main_call2_call4_c_2 : Ref sig .tc := ⟨.hbm, 744, rfl⟩
abbrev main_call2_call4_v14 : Ref sig .tc := ⟨.hbm, 745, rfl⟩
abbrev main_call2_call4_v15 : Ref sig .tc := ⟨.hbm, 746, rfl⟩
abbrev main_call2_call4_c_3 : Ref sig .tc := ⟨.hbm, 747, rfl⟩
abbrev main_call2_call4_v16 : Ref sig .tc := ⟨.hbm, 748, rfl⟩
abbrev main_call2_call4_v17 : Ref sig .tc := ⟨.hbm, 749, rfl⟩
abbrev main_call2_call4_v18 : Ref sig .tc := ⟨.hbm, 750, rfl⟩
abbrev main_call2_call4_v19 : Ref sig .tc := ⟨.hbm, 751, rfl⟩
abbrev main_call2_call4_v20 : Ref sig .tc := ⟨.hbm, 752, rfl⟩
abbrev main_call2_call4_c_4 : Ref sig .tc := ⟨.hbm, 753, rfl⟩
abbrev main_call2_call4_v21 : Ref sig .tc := ⟨.hbm, 754, rfl⟩
abbrev main_call2_call4_v22 : Ref sig .tc := ⟨.hbm, 755, rfl⟩
abbrev main_call2_call4_c_5 : Ref sig .tc := ⟨.hbm, 756, rfl⟩
abbrev main_call2_call4_v23 : Ref sig .tc := ⟨.hbm, 757, rfl⟩
abbrev main_call2_call4_v24 : Ref sig .tc := ⟨.hbm, 758, rfl⟩
abbrev main_call2_call4_v25 : Ref sig .tc := ⟨.hbm, 759, rfl⟩
abbrev main_call2_call4_v26 : Ref sig .tc := ⟨.hbm, 760, rfl⟩
abbrev main_call2_call4_v27 : Ref sig .tc := ⟨.hbm, 761, rfl⟩
abbrev main_call2_call4_c_6 : Ref sig .tc := ⟨.hbm, 762, rfl⟩
abbrev main_call2_call4_v28 : Ref sig .tc := ⟨.hbm, 763, rfl⟩
abbrev main_call2_call4_v29 : Ref sig .tc := ⟨.hbm, 764, rfl⟩
abbrev main_call2_call4_c_7 : Ref sig .tc := ⟨.hbm, 765, rfl⟩
abbrev main_call2_call4_v30 : Ref sig .tc := ⟨.hbm, 766, rfl⟩
abbrev main_call2_call4_v31 : Ref sig .tc := ⟨.hbm, 767, rfl⟩
abbrev main_call2_call4_v32 : Ref sig .tc := ⟨.hbm, 768, rfl⟩
abbrev main_call2_call4_v33 : Ref sig .tc := ⟨.hbm, 769, rfl⟩
abbrev main_call2_call4_v34 : Ref sig .tc := ⟨.hbm, 770, rfl⟩
abbrev main_call2_call4_v35 : Ref sig .tc := ⟨.hbm, 771, rfl⟩
abbrev main_call2_call4_v36 : Ref sig .tc := ⟨.hbm, 772, rfl⟩
abbrev main_call2_call4_v37 : Ref sig .tc := ⟨.hbm, 773, rfl⟩
abbrev main_call2_call4_c_8 : Ref sig .tc := ⟨.hbm, 774, rfl⟩
abbrev main_call2_call4_v38 : Ref sig .tc := ⟨.hbm, 775, rfl⟩
abbrev main_call2_call4_v39 : Ref sig .tc := ⟨.hbm, 776, rfl⟩
abbrev main_call2_call4_v40 : Ref sig .tc := ⟨.hbm, 777, rfl⟩
abbrev main_call2_call4_c_9 : Ref sig .tc := ⟨.hbm, 778, rfl⟩
abbrev main_call2_call4_v41 : Ref sig .tc := ⟨.hbm, 779, rfl⟩
abbrev main_call2_call4_v42 : Ref sig .tc := ⟨.hbm, 780, rfl⟩
abbrev main_call2_call4_c_10 : Ref sig .tc := ⟨.hbm, 781, rfl⟩
abbrev main_call2_call4_v43 : Ref sig .tc := ⟨.hbm, 782, rfl⟩
abbrev main_call2_call4_v44 : Ref sig .tc := ⟨.hbm, 783, rfl⟩
abbrev main_call2_call4_v45 : Ref sig .tc := ⟨.hbm, 784, rfl⟩
abbrev main_call2_call4_v46 : Ref sig .tc := ⟨.hbm, 785, rfl⟩
abbrev main_call2_call4_v47 : Ref sig .tc := ⟨.hbm, 786, rfl⟩
abbrev main_call2_call4_c_11 : Ref sig .tc := ⟨.hbm, 787, rfl⟩
abbrev main_call2_call4_v48 : Ref sig .tc := ⟨.hbm, 788, rfl⟩
abbrev main_call2_call4_v49 : Ref sig .tc := ⟨.hbm, 789, rfl⟩
abbrev main_call2_call4_c_12 : Ref sig .tc := ⟨.hbm, 790, rfl⟩
abbrev main_call2_call4_v50 : Ref sig .tc := ⟨.hbm, 791, rfl⟩
abbrev main_call2_call4_v51 : Ref sig .tc := ⟨.hbm, 792, rfl⟩
abbrev main_call2_call4_v52 : Ref sig .tc := ⟨.hbm, 793, rfl⟩
abbrev main_call2_call4_v53 : Ref sig .tc := ⟨.hbm, 794, rfl⟩
abbrev main_call2_call4_v54 : Ref sig .tc := ⟨.hbm, 795, rfl⟩
abbrev main_call2_call4_c_13 : Ref sig .tc := ⟨.hbm, 796, rfl⟩
abbrev main_call2_call4_v55 : Ref sig .tc := ⟨.hbm, 797, rfl⟩
abbrev main_call2_call4_v56 : Ref sig .tc := ⟨.hbm, 798, rfl⟩
abbrev main_call2_call4_c_14 : Ref sig .tc := ⟨.hbm, 799, rfl⟩
abbrev main_call2_call4_v57 : Ref sig .tc := ⟨.hbm, 800, rfl⟩
abbrev main_call2_call4_v58 : Ref sig .tc := ⟨.hbm, 801, rfl⟩
abbrev main_call2_call4_v59 : Ref sig .tc := ⟨.hbm, 802, rfl⟩
abbrev main_call2_call4_v60 : Ref sig .tc := ⟨.hbm, 803, rfl⟩
abbrev main_call2_call4_v61 : Ref sig .tc := ⟨.hbm, 804, rfl⟩
abbrev main_call2_call4_c_15 : Ref sig .tc := ⟨.hbm, 805, rfl⟩
abbrev main_call2_call4_v62 : Ref sig .tc := ⟨.hbm, 806, rfl⟩
abbrev main_call2_call4_v63 : Ref sig .tc := ⟨.hbm, 807, rfl⟩
abbrev main_call2_call4_c_16 : Ref sig .tc := ⟨.hbm, 808, rfl⟩
abbrev main_call2_call4_v64 : Ref sig .tc := ⟨.hbm, 809, rfl⟩
abbrev main_call2_call4_v65 : Ref sig .tc := ⟨.hbm, 810, rfl⟩
abbrev main_call2_call4_v66 : Ref sig .tc := ⟨.hbm, 811, rfl⟩
abbrev main_call2_call4_v67 : Ref sig .tc := ⟨.hbm, 812, rfl⟩
abbrev main_call2_call4_v68 : Ref sig .tc := ⟨.hbm, 813, rfl⟩
abbrev main_call2_call4_v69 : Ref sig .tc := ⟨.hbm, 814, rfl⟩
abbrev main_call2_call4_v70 : Ref sig .tc := ⟨.hbm, 815, rfl⟩
abbrev main_call2_call4_v71 : Ref sig .tc := ⟨.hbm, 816, rfl⟩
abbrev main_call2_call4_c_17 : Ref sig .tc := ⟨.hbm, 817, rfl⟩
abbrev main_call2_call4_v72 : Ref sig .tc := ⟨.hbm, 818, rfl⟩
abbrev main_call2_call4_v73 : Ref sig .tc := ⟨.hbm, 819, rfl⟩
abbrev main_call2_call4_v74 : Ref sig .tc := ⟨.hbm, 820, rfl⟩
abbrev main_call2_call4_c_18 : Ref sig .tc := ⟨.hbm, 821, rfl⟩
abbrev main_call2_call4_v75 : Ref sig .tc := ⟨.hbm, 822, rfl⟩
abbrev main_call2_call4_v76 : Ref sig .tc := ⟨.hbm, 823, rfl⟩
abbrev main_call2_call4_c_19 : Ref sig .tc := ⟨.hbm, 824, rfl⟩
abbrev main_call2_call4_v77 : Ref sig .tc := ⟨.hbm, 825, rfl⟩
abbrev main_call2_call4_v78 : Ref sig .tc := ⟨.hbm, 826, rfl⟩
abbrev main_call2_call4_v79 : Ref sig .tc := ⟨.hbm, 827, rfl⟩
abbrev main_call2_call4_v80 : Ref sig .tc := ⟨.hbm, 828, rfl⟩
abbrev main_call2_call4_v81 : Ref sig .tc := ⟨.hbm, 829, rfl⟩
abbrev main_call2_call4_c_20 : Ref sig .tc := ⟨.hbm, 830, rfl⟩
abbrev main_call2_call4_v82 : Ref sig .tc := ⟨.hbm, 831, rfl⟩
abbrev main_call2_call4_v83 : Ref sig .tc := ⟨.hbm, 832, rfl⟩
abbrev main_call2_call4_c_21 : Ref sig .tc := ⟨.hbm, 833, rfl⟩
abbrev main_call2_call4_v84 : Ref sig .tc := ⟨.hbm, 834, rfl⟩
abbrev main_call2_call4_v85 : Ref sig .tc := ⟨.hbm, 835, rfl⟩
abbrev main_call2_call4_v86 : Ref sig .tc := ⟨.hbm, 836, rfl⟩
abbrev main_call2_call4_v87 : Ref sig .tc := ⟨.hbm, 837, rfl⟩
abbrev main_call2_call4_v88 : Ref sig .tc := ⟨.hbm, 838, rfl⟩
abbrev main_call2_call4_c_22 : Ref sig .tc := ⟨.hbm, 839, rfl⟩
abbrev main_call2_call4_v89 : Ref sig .tc := ⟨.hbm, 840, rfl⟩
abbrev main_call2_call4_v90 : Ref sig .tc := ⟨.hbm, 841, rfl⟩
abbrev main_call2_call4_c_23 : Ref sig .tc := ⟨.hbm, 842, rfl⟩
abbrev main_call2_call4_v91 : Ref sig .tc := ⟨.hbm, 843, rfl⟩
abbrev main_call2_call4_v92 : Ref sig .tc := ⟨.hbm, 844, rfl⟩
abbrev main_call2_call4_v93 : Ref sig .tc := ⟨.hbm, 845, rfl⟩
abbrev main_call2_call4_v94 : Ref sig .tc := ⟨.hbm, 846, rfl⟩
abbrev main_call2_call4_v95 : Ref sig .tc := ⟨.hbm, 847, rfl⟩
abbrev main_call2_call4_c_24 : Ref sig .tc := ⟨.hbm, 848, rfl⟩
abbrev main_call2_call4_v96 : Ref sig .tc := ⟨.hbm, 849, rfl⟩
abbrev main_call2_call4_v97 : Ref sig .tc := ⟨.hbm, 850, rfl⟩
abbrev main_call2_call4_c_25 : Ref sig .tc := ⟨.hbm, 851, rfl⟩
abbrev main_call2_call4_v98 : Ref sig .tc := ⟨.hbm, 852, rfl⟩
abbrev main_call2_call4_v99 : Ref sig .tc := ⟨.hbm, 853, rfl⟩
abbrev main_call2_call4_v100 : Ref sig .tc := ⟨.hbm, 854, rfl⟩
abbrev main_call2_call4_v101 : Ref sig .tc := ⟨.hbm, 855, rfl⟩
abbrev main_call2_call4_v102 : Ref sig .tc := ⟨.hbm, 856, rfl⟩
abbrev main_call2_call4_v103 : Ref sig .tc := ⟨.hbm, 857, rfl⟩
abbrev main_call2_call4_v104 : Ref sig .tc := ⟨.hbm, 858, rfl⟩
abbrev main_call2_call4_v105 : Ref sig .tc := ⟨.hbm, 859, rfl⟩
abbrev main_call2_call4_c_26 : Ref sig .tc := ⟨.hbm, 860, rfl⟩
abbrev main_call2_call4_v106 : Ref sig .tc := ⟨.hbm, 861, rfl⟩
abbrev main_call2_call4_v107 : Ref sig .tc := ⟨.hbm, 862, rfl⟩
abbrev main_call2_call4_v108 : Ref sig .tc := ⟨.hbm, 863, rfl⟩
abbrev main_call2_call4_c_27 : Ref sig .tc := ⟨.hbm, 864, rfl⟩
abbrev main_call2_call4_v109 : Ref sig .tc := ⟨.hbm, 865, rfl⟩
abbrev main_call2_call4_v110 : Ref sig .tc := ⟨.hbm, 866, rfl⟩
abbrev main_call2_call4_c_28 : Ref sig .tc := ⟨.hbm, 867, rfl⟩
abbrev main_call2_call4_v111 : Ref sig .tc := ⟨.hbm, 868, rfl⟩
abbrev main_call2_call4_v112 : Ref sig .tc := ⟨.hbm, 869, rfl⟩
abbrev main_call2_call4_v113 : Ref sig .tc := ⟨.hbm, 870, rfl⟩
abbrev main_call2_call4_v114 : Ref sig .tc := ⟨.hbm, 871, rfl⟩
abbrev main_call2_call4_v115 : Ref sig .tc := ⟨.hbm, 872, rfl⟩
abbrev main_call2_call4_c_29 : Ref sig .tc := ⟨.hbm, 873, rfl⟩
abbrev main_call2_call4_v116 : Ref sig .tc := ⟨.hbm, 874, rfl⟩
abbrev main_call2_call4_v117 : Ref sig .tc := ⟨.hbm, 875, rfl⟩
abbrev main_call2_call4_c_30 : Ref sig .tc := ⟨.hbm, 876, rfl⟩
abbrev main_call2_call4_v118 : Ref sig .tc := ⟨.hbm, 877, rfl⟩
abbrev main_call2_call4_v119 : Ref sig .tc := ⟨.hbm, 878, rfl⟩
abbrev main_call2_call4_v120 : Ref sig .tc := ⟨.hbm, 879, rfl⟩
abbrev main_call2_call4_v121 : Ref sig .tc := ⟨.hbm, 880, rfl⟩
abbrev main_call2_call4_v122 : Ref sig .tc := ⟨.hbm, 881, rfl⟩
abbrev main_call2_call4_c_31 : Ref sig .tc := ⟨.hbm, 882, rfl⟩
abbrev main_call2_call4_v123 : Ref sig .tc := ⟨.hbm, 883, rfl⟩
abbrev main_call2_call4_v124 : Ref sig .tc := ⟨.hbm, 884, rfl⟩
abbrev main_call2_call4_c_32 : Ref sig .tc := ⟨.hbm, 885, rfl⟩
abbrev main_call2_call4_v125 : Ref sig .tc := ⟨.hbm, 886, rfl⟩
abbrev main_call2_call4_v126 : Ref sig .tc := ⟨.hbm, 887, rfl⟩
abbrev main_call2_call4_v127 : Ref sig .tc := ⟨.hbm, 888, rfl⟩
abbrev main_call2_call4_v128 : Ref sig .tc := ⟨.hbm, 889, rfl⟩
abbrev main_call2_call4_v129 : Ref sig .tc := ⟨.hbm, 890, rfl⟩
abbrev main_call2_call4_c_33 : Ref sig .tc := ⟨.hbm, 891, rfl⟩
abbrev main_call2_call4_v130 : Ref sig .tc := ⟨.hbm, 892, rfl⟩
abbrev main_call2_call4_v131 : Ref sig .tc := ⟨.hbm, 893, rfl⟩
abbrev main_call2_call4_c_34 : Ref sig .tc := ⟨.hbm, 894, rfl⟩
abbrev main_call2_call4_v132 : Ref sig .tc := ⟨.hbm, 895, rfl⟩
abbrev main_call2_call4_v133 : Ref sig .tc := ⟨.hbm, 896, rfl⟩
abbrev main_call2_call4_v134 : Ref sig .tc := ⟨.hbm, 897, rfl⟩
abbrev main_call2_call4_v135 : Ref sig .tc := ⟨.hbm, 898, rfl⟩
abbrev main_call2_call4_v136 : Ref sig .tc := ⟨.hbm, 899, rfl⟩
abbrev main_call2_call4_v137 : Ref sig .tc := ⟨.hbm, 900, rfl⟩
abbrev main_call2_call4_v138 : Ref sig .tc := ⟨.hbm, 901, rfl⟩
abbrev main_call2_call4_v139 : Ref sig .tc := ⟨.hbm, 902, rfl⟩
abbrev main_call2_call4_c_35 : Ref sig .tc := ⟨.hbm, 903, rfl⟩
abbrev main_call2_call4_v140 : Ref sig .tc := ⟨.hbm, 904, rfl⟩
abbrev main_call2_call4_v141 : Ref sig .tc := ⟨.hbm, 905, rfl⟩
abbrev main_call2_call4_v142 : Ref sig .tc := ⟨.hbm, 906, rfl⟩
abbrev main_call2_call4_c_36 : Ref sig .tc := ⟨.hbm, 907, rfl⟩
abbrev main_call2_call4_v143 : Ref sig .tc := ⟨.hbm, 908, rfl⟩
abbrev main_call2_call4_v144 : Ref sig .tc := ⟨.hbm, 909, rfl⟩
abbrev main_call2_call4_c_37 : Ref sig .tc := ⟨.hbm, 910, rfl⟩
abbrev main_call2_call4_v145 : Ref sig .tc := ⟨.hbm, 911, rfl⟩
abbrev main_call2_call4_v146 : Ref sig .tc := ⟨.hbm, 912, rfl⟩
abbrev main_call2_call4_v147 : Ref sig .tc := ⟨.hbm, 913, rfl⟩
abbrev main_call2_call4_v148 : Ref sig .tc := ⟨.hbm, 914, rfl⟩
abbrev main_call2_call4_v149 : Ref sig .tc := ⟨.hbm, 915, rfl⟩
abbrev main_call2_call4_c_38 : Ref sig .tc := ⟨.hbm, 916, rfl⟩
abbrev main_call2_call4_v150 : Ref sig .tc := ⟨.hbm, 917, rfl⟩
abbrev main_call2_call4_v151 : Ref sig .tc := ⟨.hbm, 918, rfl⟩
abbrev main_call2_call4_c_39 : Ref sig .tc := ⟨.hbm, 919, rfl⟩
abbrev main_call2_call4_v152 : Ref sig .tc := ⟨.hbm, 920, rfl⟩
abbrev main_call2_call4_v153 : Ref sig .tc := ⟨.hbm, 921, rfl⟩
abbrev main_call2_call4_v154 : Ref sig .tc := ⟨.hbm, 922, rfl⟩
abbrev main_call2_call4_v155 : Ref sig .tc := ⟨.hbm, 923, rfl⟩
abbrev main_call2_call4_v156 : Ref sig .tc := ⟨.hbm, 924, rfl⟩
abbrev main_call2_call4_c_40 : Ref sig .tc := ⟨.hbm, 925, rfl⟩
abbrev main_call2_call4_v157 : Ref sig .tc := ⟨.hbm, 926, rfl⟩
abbrev main_call2_call4_v158 : Ref sig .tc := ⟨.hbm, 927, rfl⟩
abbrev main_call2_call4_c_41 : Ref sig .tc := ⟨.hbm, 928, rfl⟩
abbrev main_call2_call4_v159 : Ref sig .tc := ⟨.hbm, 929, rfl⟩
abbrev main_call2_call4_v160 : Ref sig .tc := ⟨.hbm, 930, rfl⟩
abbrev main_call2_call4_v161 : Ref sig .tc := ⟨.hbm, 931, rfl⟩
abbrev main_call2_call4_v162 : Ref sig .tc := ⟨.hbm, 932, rfl⟩
abbrev main_call2_call4_v163 : Ref sig .tc := ⟨.hbm, 933, rfl⟩
abbrev main_call2_call4_c_42 : Ref sig .tc := ⟨.hbm, 934, rfl⟩
abbrev main_call2_call4_v164 : Ref sig .tc := ⟨.hbm, 935, rfl⟩
abbrev main_call2_call4_v165 : Ref sig .tc := ⟨.hbm, 936, rfl⟩
abbrev main_call2_call4_c_43 : Ref sig .tc := ⟨.hbm, 937, rfl⟩
abbrev main_call2_call4_v166 : Ref sig .tc := ⟨.hbm, 938, rfl⟩
abbrev main_call2_call4_v167 : Ref sig .tc := ⟨.hbm, 939, rfl⟩
abbrev main_call2_call4_v168 : Ref sig .tc := ⟨.hbm, 940, rfl⟩
abbrev main_call2_call4_v169 : Ref sig .tc := ⟨.hbm, 941, rfl⟩
abbrev main_call2_call4_v170 : Ref sig .tc := ⟨.hbm, 942, rfl⟩
abbrev main_call2_v28_0 : Ref sig .tc := ⟨.hbm, 943, rfl⟩
abbrev main_call2_call4_v172 : Ref sig .tc := ⟨.hbm, 944, rfl⟩
abbrev main_call2_call4_v173 : Ref sig .tc := ⟨.hbm, 945, rfl⟩
abbrev main_call2_call4_c_44 : Ref sig .tc := ⟨.hbm, 946, rfl⟩
abbrev main_call2_call4_v174 : Ref sig .tc := ⟨.hbm, 947, rfl⟩
abbrev main_call2_v28_1 : Ref sig .tc := ⟨.hbm, 948, rfl⟩
abbrev main_call2_v29 : Ref sig .tc := ⟨.hbm, 949, rfl⟩
abbrev main_call2_v30 : Ref sig .tc := ⟨.hbm, 950, rfl⟩
abbrev main_call2_v31 : Ref sig .tc := ⟨.hbm, 951, rfl⟩
abbrev main_call2_v32 : Ref sig .tc := ⟨.hbm, 952, rfl⟩
abbrev main_call2_v33 : Ref sig .tc := ⟨.hbm, 953, rfl⟩
abbrev main_call2_v34 : Ref sig .tc := ⟨.hbm, 954, rfl⟩
abbrev main_call2_v35 : Ref sig .tc := ⟨.hbm, 955, rfl⟩
abbrev main_call2_c_9 : Ref sig .tc := ⟨.hbm, 956, rfl⟩
abbrev main_call2_v36 : Ref sig .tc := ⟨.hbm, 957, rfl⟩
abbrev main_call2_v37 : Ref sig .tc := ⟨.hbm, 958, rfl⟩
abbrev main_call2_c_10 : Ref sig .tc := ⟨.hbm, 959, rfl⟩
abbrev main_call2_v38 : Ref sig .tc := ⟨.hbm, 960, rfl⟩
abbrev main_call2_v39 : Ref sig .tc := ⟨.hbm, 961, rfl⟩
abbrev main_call2_v40 : Ref sig .tc := ⟨.hbm, 962, rfl⟩
abbrev main_call2_c_11 : Ref sig .tc := ⟨.hbm, 963, rfl⟩
abbrev main_call2_v41 : Ref sig .tc := ⟨.hbm, 964, rfl⟩
abbrev main_call2_v42 : Ref sig .tc := ⟨.hbm, 965, rfl⟩
abbrev main_call2_v43 : Ref sig .tc := ⟨.hbm, 966, rfl⟩
abbrev main_call2_v44 : Ref sig .tc := ⟨.hbm, 967, rfl⟩
abbrev main_call2_call5_v0 : Ref sig .tc := ⟨.hbm, 968, rfl⟩
abbrev main_call2_call5_c : Ref sig .tc := ⟨.hbm, 969, rfl⟩
abbrev main_call2_call5_v1 : Ref sig .tc := ⟨.hbm, 970, rfl⟩
abbrev main_call2_call5_v2 : Ref sig .tc := ⟨.hbm, 971, rfl⟩
abbrev main_call2_call5_v3 : Ref sig .tc := ⟨.hbm, 972, rfl⟩
abbrev main_call2_call5_v4 : Ref sig .tc := ⟨.hbm, 973, rfl⟩
abbrev main_call2_call5_v5 : Ref sig .tc := ⟨.hbm, 974, rfl⟩
abbrev main_call2_call5_v6 : Ref sig .tc := ⟨.hbm, 975, rfl⟩
abbrev main_call2_call5_c_0 : Ref sig .tc := ⟨.hbm, 976, rfl⟩
abbrev main_call2_call5_v7 : Ref sig .tc := ⟨.hbm, 977, rfl⟩
abbrev main_call2_call5_v8 : Ref sig .tc := ⟨.hbm, 978, rfl⟩
abbrev main_call2_call5_c_1 : Ref sig .tc := ⟨.hbm, 979, rfl⟩
abbrev main_call2_call5_v9 : Ref sig .tc := ⟨.hbm, 980, rfl⟩
abbrev main_call2_call5_v10 : Ref sig .tc := ⟨.hbm, 981, rfl⟩
abbrev main_call2_call5_v11 : Ref sig .tc := ⟨.hbm, 982, rfl⟩
abbrev main_call2_call5_v12 : Ref sig .tc := ⟨.hbm, 983, rfl⟩
abbrev main_call2_call5_v13 : Ref sig .tc := ⟨.hbm, 984, rfl⟩
abbrev main_call2_call5_c_2 : Ref sig .tc := ⟨.hbm, 985, rfl⟩
abbrev main_call2_call5_v14 : Ref sig .tc := ⟨.hbm, 986, rfl⟩
abbrev main_call2_call5_v15 : Ref sig .tc := ⟨.hbm, 987, rfl⟩
abbrev main_call2_call5_c_3 : Ref sig .tc := ⟨.hbm, 988, rfl⟩
abbrev main_call2_call5_v16 : Ref sig .tc := ⟨.hbm, 989, rfl⟩
abbrev main_call2_call5_v17 : Ref sig .tc := ⟨.hbm, 990, rfl⟩
abbrev main_call2_call5_v18 : Ref sig .tc := ⟨.hbm, 991, rfl⟩
abbrev main_call2_call5_v19 : Ref sig .tc := ⟨.hbm, 992, rfl⟩
abbrev main_call2_call5_v20 : Ref sig .tc := ⟨.hbm, 993, rfl⟩
abbrev main_call2_call5_c_4 : Ref sig .tc := ⟨.hbm, 994, rfl⟩
abbrev main_call2_call5_v21 : Ref sig .tc := ⟨.hbm, 995, rfl⟩
abbrev main_call2_call5_v22 : Ref sig .tc := ⟨.hbm, 996, rfl⟩
abbrev main_call2_call5_c_5 : Ref sig .tc := ⟨.hbm, 997, rfl⟩
abbrev main_call2_call5_v23 : Ref sig .tc := ⟨.hbm, 998, rfl⟩
abbrev main_call2_call5_v24 : Ref sig .tc := ⟨.hbm, 999, rfl⟩
abbrev main_call2_call5_v25 : Ref sig .tc := ⟨.hbm, 1000, rfl⟩
abbrev main_call2_call5_v26 : Ref sig .tc := ⟨.hbm, 1001, rfl⟩
abbrev main_call2_call5_v27 : Ref sig .tc := ⟨.hbm, 1002, rfl⟩
abbrev main_call2_call5_c_6 : Ref sig .tc := ⟨.hbm, 1003, rfl⟩
abbrev main_call2_call5_v28 : Ref sig .tc := ⟨.hbm, 1004, rfl⟩
abbrev main_call2_call5_v29 : Ref sig .tc := ⟨.hbm, 1005, rfl⟩
abbrev main_call2_call5_c_7 : Ref sig .tc := ⟨.hbm, 1006, rfl⟩
abbrev main_call2_call5_v30 : Ref sig .tc := ⟨.hbm, 1007, rfl⟩
abbrev main_call2_call5_v31 : Ref sig .tc := ⟨.hbm, 1008, rfl⟩
abbrev main_call2_call5_v32 : Ref sig .tc := ⟨.hbm, 1009, rfl⟩
abbrev main_call2_call5_v33 : Ref sig .tc := ⟨.hbm, 1010, rfl⟩
abbrev main_call2_call5_v34 : Ref sig .tc := ⟨.hbm, 1011, rfl⟩
abbrev main_call2_call5_v35 : Ref sig .tc := ⟨.hbm, 1012, rfl⟩
abbrev main_call2_call5_v36 : Ref sig .tc := ⟨.hbm, 1013, rfl⟩
abbrev main_call2_call5_v37 : Ref sig .tc := ⟨.hbm, 1014, rfl⟩
abbrev main_call2_call5_c_8 : Ref sig .tc := ⟨.hbm, 1015, rfl⟩
abbrev main_call2_call5_v38 : Ref sig .tc := ⟨.hbm, 1016, rfl⟩
abbrev main_call2_call5_v39 : Ref sig .tc := ⟨.hbm, 1017, rfl⟩
abbrev main_call2_call5_v40 : Ref sig .tc := ⟨.hbm, 1018, rfl⟩
abbrev main_call2_call5_c_9 : Ref sig .tc := ⟨.hbm, 1019, rfl⟩
abbrev main_call2_call5_v41 : Ref sig .tc := ⟨.hbm, 1020, rfl⟩
abbrev main_call2_call5_v42 : Ref sig .tc := ⟨.hbm, 1021, rfl⟩
abbrev main_call2_call5_c_10 : Ref sig .tc := ⟨.hbm, 1022, rfl⟩
abbrev main_call2_call5_v43 : Ref sig .tc := ⟨.hbm, 1023, rfl⟩
abbrev main_call2_call5_v44 : Ref sig .tc := ⟨.hbm, 1024, rfl⟩
abbrev main_call2_call5_v45 : Ref sig .tc := ⟨.hbm, 1025, rfl⟩
abbrev main_call2_call5_v46 : Ref sig .tc := ⟨.hbm, 1026, rfl⟩
abbrev main_call2_call5_v47 : Ref sig .tc := ⟨.hbm, 1027, rfl⟩
abbrev main_call2_call5_c_11 : Ref sig .tc := ⟨.hbm, 1028, rfl⟩
abbrev main_call2_call5_v48 : Ref sig .tc := ⟨.hbm, 1029, rfl⟩
abbrev main_call2_call5_v49 : Ref sig .tc := ⟨.hbm, 1030, rfl⟩
abbrev main_call2_call5_c_12 : Ref sig .tc := ⟨.hbm, 1031, rfl⟩
abbrev main_call2_call5_v50 : Ref sig .tc := ⟨.hbm, 1032, rfl⟩
abbrev main_call2_call5_v51 : Ref sig .tc := ⟨.hbm, 1033, rfl⟩
abbrev main_call2_call5_v52 : Ref sig .tc := ⟨.hbm, 1034, rfl⟩
abbrev main_call2_call5_v53 : Ref sig .tc := ⟨.hbm, 1035, rfl⟩
abbrev main_call2_call5_v54 : Ref sig .tc := ⟨.hbm, 1036, rfl⟩
abbrev main_call2_call5_c_13 : Ref sig .tc := ⟨.hbm, 1037, rfl⟩
abbrev main_call2_call5_v55 : Ref sig .tc := ⟨.hbm, 1038, rfl⟩
abbrev main_call2_call5_v56 : Ref sig .tc := ⟨.hbm, 1039, rfl⟩
abbrev main_call2_call5_c_14 : Ref sig .tc := ⟨.hbm, 1040, rfl⟩
abbrev main_call2_call5_v57 : Ref sig .tc := ⟨.hbm, 1041, rfl⟩
abbrev main_call2_call5_v58 : Ref sig .tc := ⟨.hbm, 1042, rfl⟩
abbrev main_call2_call5_v59 : Ref sig .tc := ⟨.hbm, 1043, rfl⟩
abbrev main_call2_call5_v60 : Ref sig .tc := ⟨.hbm, 1044, rfl⟩
abbrev main_call2_call5_v61 : Ref sig .tc := ⟨.hbm, 1045, rfl⟩
abbrev main_call2_call5_c_15 : Ref sig .tc := ⟨.hbm, 1046, rfl⟩
abbrev main_call2_call5_v62 : Ref sig .tc := ⟨.hbm, 1047, rfl⟩
abbrev main_call2_call5_v63 : Ref sig .tc := ⟨.hbm, 1048, rfl⟩
abbrev main_call2_call5_c_16 : Ref sig .tc := ⟨.hbm, 1049, rfl⟩
abbrev main_call2_call5_v64 : Ref sig .tc := ⟨.hbm, 1050, rfl⟩
abbrev main_call2_call5_v65 : Ref sig .tc := ⟨.hbm, 1051, rfl⟩
abbrev main_call2_call5_v66 : Ref sig .tc := ⟨.hbm, 1052, rfl⟩
abbrev main_call2_call5_v67 : Ref sig .tc := ⟨.hbm, 1053, rfl⟩
abbrev main_call2_call5_v68 : Ref sig .tc := ⟨.hbm, 1054, rfl⟩
abbrev main_call2_call5_v69 : Ref sig .tc := ⟨.hbm, 1055, rfl⟩
abbrev main_call2_call5_v70 : Ref sig .tc := ⟨.hbm, 1056, rfl⟩
abbrev main_call2_call5_v71 : Ref sig .tc := ⟨.hbm, 1057, rfl⟩
abbrev main_call2_call5_c_17 : Ref sig .tc := ⟨.hbm, 1058, rfl⟩
abbrev main_call2_call5_v72 : Ref sig .tc := ⟨.hbm, 1059, rfl⟩
abbrev main_call2_call5_v73 : Ref sig .tc := ⟨.hbm, 1060, rfl⟩
abbrev main_call2_call5_v74 : Ref sig .tc := ⟨.hbm, 1061, rfl⟩
abbrev main_call2_call5_c_18 : Ref sig .tc := ⟨.hbm, 1062, rfl⟩
abbrev main_call2_call5_v75 : Ref sig .tc := ⟨.hbm, 1063, rfl⟩
abbrev main_call2_call5_v76 : Ref sig .tc := ⟨.hbm, 1064, rfl⟩
abbrev main_call2_call5_c_19 : Ref sig .tc := ⟨.hbm, 1065, rfl⟩
abbrev main_call2_call5_v77 : Ref sig .tc := ⟨.hbm, 1066, rfl⟩
abbrev main_call2_call5_v78 : Ref sig .tc := ⟨.hbm, 1067, rfl⟩
abbrev main_call2_call5_v79 : Ref sig .tc := ⟨.hbm, 1068, rfl⟩
abbrev main_call2_call5_v80 : Ref sig .tc := ⟨.hbm, 1069, rfl⟩
abbrev main_call2_call5_v81 : Ref sig .tc := ⟨.hbm, 1070, rfl⟩
abbrev main_call2_call5_c_20 : Ref sig .tc := ⟨.hbm, 1071, rfl⟩
abbrev main_call2_call5_v82 : Ref sig .tc := ⟨.hbm, 1072, rfl⟩
abbrev main_call2_call5_v83 : Ref sig .tc := ⟨.hbm, 1073, rfl⟩
abbrev main_call2_call5_c_21 : Ref sig .tc := ⟨.hbm, 1074, rfl⟩
abbrev main_call2_call5_v84 : Ref sig .tc := ⟨.hbm, 1075, rfl⟩
abbrev main_call2_call5_v85 : Ref sig .tc := ⟨.hbm, 1076, rfl⟩
abbrev main_call2_call5_v86 : Ref sig .tc := ⟨.hbm, 1077, rfl⟩
abbrev main_call2_call5_v87 : Ref sig .tc := ⟨.hbm, 1078, rfl⟩
abbrev main_call2_call5_v88 : Ref sig .tc := ⟨.hbm, 1079, rfl⟩
abbrev main_call2_call5_c_22 : Ref sig .tc := ⟨.hbm, 1080, rfl⟩
abbrev main_call2_call5_v89 : Ref sig .tc := ⟨.hbm, 1081, rfl⟩
abbrev main_call2_call5_v90 : Ref sig .tc := ⟨.hbm, 1082, rfl⟩
abbrev main_call2_call5_c_23 : Ref sig .tc := ⟨.hbm, 1083, rfl⟩
abbrev main_call2_call5_v91 : Ref sig .tc := ⟨.hbm, 1084, rfl⟩
abbrev main_call2_call5_v92 : Ref sig .tc := ⟨.hbm, 1085, rfl⟩
abbrev main_call2_call5_v93 : Ref sig .tc := ⟨.hbm, 1086, rfl⟩
abbrev main_call2_call5_v94 : Ref sig .tc := ⟨.hbm, 1087, rfl⟩
abbrev main_call2_call5_v95 : Ref sig .tc := ⟨.hbm, 1088, rfl⟩
abbrev main_call2_call5_c_24 : Ref sig .tc := ⟨.hbm, 1089, rfl⟩
abbrev main_call2_call5_v96 : Ref sig .tc := ⟨.hbm, 1090, rfl⟩
abbrev main_call2_call5_v97 : Ref sig .tc := ⟨.hbm, 1091, rfl⟩
abbrev main_call2_call5_c_25 : Ref sig .tc := ⟨.hbm, 1092, rfl⟩
abbrev main_call2_call5_v98 : Ref sig .tc := ⟨.hbm, 1093, rfl⟩
abbrev main_call2_call5_v99 : Ref sig .tc := ⟨.hbm, 1094, rfl⟩
abbrev main_call2_call5_v100 : Ref sig .tc := ⟨.hbm, 1095, rfl⟩
abbrev main_call2_call5_v101 : Ref sig .tc := ⟨.hbm, 1096, rfl⟩
abbrev main_call2_call5_v102 : Ref sig .tc := ⟨.hbm, 1097, rfl⟩
abbrev main_call2_call5_v103 : Ref sig .tc := ⟨.hbm, 1098, rfl⟩
abbrev main_call2_call5_v104 : Ref sig .tc := ⟨.hbm, 1099, rfl⟩
abbrev main_call2_call5_v105 : Ref sig .tc := ⟨.hbm, 1100, rfl⟩
abbrev main_call2_call5_c_26 : Ref sig .tc := ⟨.hbm, 1101, rfl⟩
abbrev main_call2_call5_v106 : Ref sig .tc := ⟨.hbm, 1102, rfl⟩
abbrev main_call2_call5_v107 : Ref sig .tc := ⟨.hbm, 1103, rfl⟩
abbrev main_call2_call5_v108 : Ref sig .tc := ⟨.hbm, 1104, rfl⟩
abbrev main_call2_call5_c_27 : Ref sig .tc := ⟨.hbm, 1105, rfl⟩
abbrev main_call2_call5_v109 : Ref sig .tc := ⟨.hbm, 1106, rfl⟩
abbrev main_call2_call5_v110 : Ref sig .tc := ⟨.hbm, 1107, rfl⟩
abbrev main_call2_call5_c_28 : Ref sig .tc := ⟨.hbm, 1108, rfl⟩
abbrev main_call2_call5_v111 : Ref sig .tc := ⟨.hbm, 1109, rfl⟩
abbrev main_call2_call5_v112 : Ref sig .tc := ⟨.hbm, 1110, rfl⟩
abbrev main_call2_call5_v113 : Ref sig .tc := ⟨.hbm, 1111, rfl⟩
abbrev main_call2_call5_v114 : Ref sig .tc := ⟨.hbm, 1112, rfl⟩
abbrev main_call2_call5_v115 : Ref sig .tc := ⟨.hbm, 1113, rfl⟩
abbrev main_call2_call5_c_29 : Ref sig .tc := ⟨.hbm, 1114, rfl⟩
abbrev main_call2_call5_v116 : Ref sig .tc := ⟨.hbm, 1115, rfl⟩
abbrev main_call2_call5_v117 : Ref sig .tc := ⟨.hbm, 1116, rfl⟩
abbrev main_call2_call5_c_30 : Ref sig .tc := ⟨.hbm, 1117, rfl⟩
abbrev main_call2_call5_v118 : Ref sig .tc := ⟨.hbm, 1118, rfl⟩
abbrev main_call2_call5_v119 : Ref sig .tc := ⟨.hbm, 1119, rfl⟩
abbrev main_call2_call5_v120 : Ref sig .tc := ⟨.hbm, 1120, rfl⟩
abbrev main_call2_call5_v121 : Ref sig .tc := ⟨.hbm, 1121, rfl⟩
abbrev main_call2_call5_v122 : Ref sig .tc := ⟨.hbm, 1122, rfl⟩
abbrev main_call2_call5_c_31 : Ref sig .tc := ⟨.hbm, 1123, rfl⟩
abbrev main_call2_call5_v123 : Ref sig .tc := ⟨.hbm, 1124, rfl⟩
abbrev main_call2_call5_v124 : Ref sig .tc := ⟨.hbm, 1125, rfl⟩
abbrev main_call2_call5_c_32 : Ref sig .tc := ⟨.hbm, 1126, rfl⟩
abbrev main_call2_call5_v125 : Ref sig .tc := ⟨.hbm, 1127, rfl⟩
abbrev main_call2_call5_v126 : Ref sig .tc := ⟨.hbm, 1128, rfl⟩
abbrev main_call2_call5_v127 : Ref sig .tc := ⟨.hbm, 1129, rfl⟩
abbrev main_call2_call5_v128 : Ref sig .tc := ⟨.hbm, 1130, rfl⟩
abbrev main_call2_call5_v129 : Ref sig .tc := ⟨.hbm, 1131, rfl⟩
abbrev main_call2_call5_c_33 : Ref sig .tc := ⟨.hbm, 1132, rfl⟩
abbrev main_call2_call5_v130 : Ref sig .tc := ⟨.hbm, 1133, rfl⟩
abbrev main_call2_call5_v131 : Ref sig .tc := ⟨.hbm, 1134, rfl⟩
abbrev main_call2_call5_c_34 : Ref sig .tc := ⟨.hbm, 1135, rfl⟩
abbrev main_call2_call5_v132 : Ref sig .tc := ⟨.hbm, 1136, rfl⟩
abbrev main_call2_call5_v133 : Ref sig .tc := ⟨.hbm, 1137, rfl⟩
abbrev main_call2_call5_v134 : Ref sig .tc := ⟨.hbm, 1138, rfl⟩
abbrev main_call2_call5_v135 : Ref sig .tc := ⟨.hbm, 1139, rfl⟩
abbrev main_call2_call5_v136 : Ref sig .tc := ⟨.hbm, 1140, rfl⟩
abbrev main_call2_call5_v137 : Ref sig .tc := ⟨.hbm, 1141, rfl⟩
abbrev main_call2_call5_v138 : Ref sig .tc := ⟨.hbm, 1142, rfl⟩
abbrev main_call2_call5_v139 : Ref sig .tc := ⟨.hbm, 1143, rfl⟩
abbrev main_call2_call5_c_35 : Ref sig .tc := ⟨.hbm, 1144, rfl⟩
abbrev main_call2_call5_v140 : Ref sig .tc := ⟨.hbm, 1145, rfl⟩
abbrev main_call2_call5_v141 : Ref sig .tc := ⟨.hbm, 1146, rfl⟩
abbrev main_call2_call5_v142 : Ref sig .tc := ⟨.hbm, 1147, rfl⟩
abbrev main_call2_call5_c_36 : Ref sig .tc := ⟨.hbm, 1148, rfl⟩
abbrev main_call2_call5_v143 : Ref sig .tc := ⟨.hbm, 1149, rfl⟩
abbrev main_call2_call5_v144 : Ref sig .tc := ⟨.hbm, 1150, rfl⟩
abbrev main_call2_call5_c_37 : Ref sig .tc := ⟨.hbm, 1151, rfl⟩
abbrev main_call2_call5_v145 : Ref sig .tc := ⟨.hbm, 1152, rfl⟩
abbrev main_call2_call5_v146 : Ref sig .tc := ⟨.hbm, 1153, rfl⟩
abbrev main_call2_call5_v147 : Ref sig .tc := ⟨.hbm, 1154, rfl⟩
abbrev main_call2_call5_v148 : Ref sig .tc := ⟨.hbm, 1155, rfl⟩
abbrev main_call2_call5_v149 : Ref sig .tc := ⟨.hbm, 1156, rfl⟩
abbrev main_call2_call5_c_38 : Ref sig .tc := ⟨.hbm, 1157, rfl⟩
abbrev main_call2_call5_v150 : Ref sig .tc := ⟨.hbm, 1158, rfl⟩
abbrev main_call2_call5_v151 : Ref sig .tc := ⟨.hbm, 1159, rfl⟩
abbrev main_call2_call5_c_39 : Ref sig .tc := ⟨.hbm, 1160, rfl⟩
abbrev main_call2_call5_v152 : Ref sig .tc := ⟨.hbm, 1161, rfl⟩
abbrev main_call2_call5_v153 : Ref sig .tc := ⟨.hbm, 1162, rfl⟩
abbrev main_call2_call5_v154 : Ref sig .tc := ⟨.hbm, 1163, rfl⟩
abbrev main_call2_call5_v155 : Ref sig .tc := ⟨.hbm, 1164, rfl⟩
abbrev main_call2_call5_v156 : Ref sig .tc := ⟨.hbm, 1165, rfl⟩
abbrev main_call2_call5_c_40 : Ref sig .tc := ⟨.hbm, 1166, rfl⟩
abbrev main_call2_call5_v157 : Ref sig .tc := ⟨.hbm, 1167, rfl⟩
abbrev main_call2_call5_v158 : Ref sig .tc := ⟨.hbm, 1168, rfl⟩
abbrev main_call2_call5_c_41 : Ref sig .tc := ⟨.hbm, 1169, rfl⟩
abbrev main_call2_call5_v159 : Ref sig .tc := ⟨.hbm, 1170, rfl⟩
abbrev main_call2_call5_v160 : Ref sig .tc := ⟨.hbm, 1171, rfl⟩
abbrev main_call2_call5_v161 : Ref sig .tc := ⟨.hbm, 1172, rfl⟩
abbrev main_call2_call5_v162 : Ref sig .tc := ⟨.hbm, 1173, rfl⟩
abbrev main_call2_call5_v163 : Ref sig .tc := ⟨.hbm, 1174, rfl⟩
abbrev main_call2_call5_c_42 : Ref sig .tc := ⟨.hbm, 1175, rfl⟩
abbrev main_call2_call5_v164 : Ref sig .tc := ⟨.hbm, 1176, rfl⟩
abbrev main_call2_call5_v165 : Ref sig .tc := ⟨.hbm, 1177, rfl⟩
abbrev main_call2_call5_c_43 : Ref sig .tc := ⟨.hbm, 1178, rfl⟩
abbrev main_call2_call5_v166 : Ref sig .tc := ⟨.hbm, 1179, rfl⟩
abbrev main_call2_call5_v167 : Ref sig .tc := ⟨.hbm, 1180, rfl⟩
abbrev main_call2_call5_v168 : Ref sig .tc := ⟨.hbm, 1181, rfl⟩
abbrev main_call2_call5_v169 : Ref sig .tc := ⟨.hbm, 1182, rfl⟩
abbrev main_call2_call5_v170 : Ref sig .tc := ⟨.hbm, 1183, rfl⟩
abbrev main_call2_v45_0 : Ref sig .tc := ⟨.hbm, 1184, rfl⟩
abbrev main_call2_call5_v172 : Ref sig .tc := ⟨.hbm, 1185, rfl⟩
abbrev main_call2_call5_v173 : Ref sig .tc := ⟨.hbm, 1186, rfl⟩
abbrev main_call2_call5_c_44 : Ref sig .tc := ⟨.hbm, 1187, rfl⟩
abbrev main_call2_call5_v174 : Ref sig .tc := ⟨.hbm, 1188, rfl⟩
abbrev main_call2_v45_1 : Ref sig .tc := ⟨.hbm, 1189, rfl⟩
abbrev main_call2_v46 : Ref sig .tc := ⟨.hbm, 1190, rfl⟩
abbrev main_call2_v47 : Ref sig .tc := ⟨.hbm, 1191, rfl⟩
abbrev main_call2_v48 : Ref sig .tc := ⟨.hbm, 1192, rfl⟩
abbrev main_call2_v49 : Ref sig .tc := ⟨.hbm, 1193, rfl⟩
abbrev main_call2_c_12 : Ref sig .tc := ⟨.hbm, 1194, rfl⟩
abbrev main_call2_v50 : Ref sig .tc := ⟨.hbm, 1195, rfl⟩
abbrev main_call2_v51 : Ref sig .tc := ⟨.hbm, 1196, rfl⟩
abbrev main_call2_v52 : Ref sig .tc := ⟨.hbm, 1197, rfl⟩
abbrev main_call2_v53 : Ref sig .tc := ⟨.hbm, 1198, rfl⟩
abbrev main_call2_v54 : Ref sig .tc := ⟨.hbm, 1199, rfl⟩
abbrev main_call2_c_13 : Ref sig .tc := ⟨.hbm, 1200, rfl⟩
abbrev main_call2_v55 : Ref sig .tc := ⟨.hbm, 1201, rfl⟩
abbrev main_call2_v56 : Ref sig .tc := ⟨.hbm, 1202, rfl⟩
abbrev main_call2_v57 : Ref sig .tc := ⟨.hbm, 1203, rfl⟩
abbrev main_call2_c_14 : Ref sig .tc := ⟨.hbm, 1204, rfl⟩
abbrev main_call2_v58 : Ref sig .tc := ⟨.hbm, 1205, rfl⟩
abbrev main_call2_v59 : Ref sig .tc := ⟨.hbm, 1206, rfl⟩
abbrev main_call2_v60 : Ref sig .tc := ⟨.hbm, 1207, rfl⟩
abbrev main_call2_v61 : Ref sig .tc := ⟨.hbm, 1208, rfl⟩
abbrev main_call2_v62 : Ref sig .tc := ⟨.hbm, 1209, rfl⟩
abbrev main_call2_v63 : Ref sig .tc := ⟨.hbm, 1210, rfl⟩
abbrev main_call2_v64 : Ref sig .tc := ⟨.hbm, 1211, rfl⟩
abbrev main_call2_v65 : Ref sig .tc := ⟨.hbm, 1212, rfl⟩
abbrev main_call2_v66 : Ref sig .tc := ⟨.hbm, 1213, rfl⟩
abbrev main_call2_v67 : Ref sig .tc := ⟨.hbm, 1214, rfl⟩
abbrev main_call2_v68 : Ref sig .tc := ⟨.hbm, 1215, rfl⟩
abbrev main_call2_v69 : Ref sig .tc := ⟨.hbm, 1216, rfl⟩
abbrev main_call2_v70 : Ref sig .tc := ⟨.hbm, 1217, rfl⟩
abbrev main_call2_v71 : Ref sig .tc := ⟨.hbm, 1218, rfl⟩
abbrev main_call2_v72 : Ref sig .tc := ⟨.hbm, 1219, rfl⟩
abbrev main_v17 : Ref sig .tc := ⟨.hbm, 1220, rfl⟩
abbrev main_v18 : Ref sig .tc := ⟨.hbm, 1221, rfl⟩
abbrev main_v19 : Ref sig .tc := ⟨.hbm, 1222, rfl⟩
abbrev main_c_5 : Ref sig .tc := ⟨.hbm, 1223, rfl⟩
abbrev main_v20 : Ref sig .tc := ⟨.hbm, 1224, rfl⟩
abbrev main_v21 : Ref sig .tc := ⟨.hbm, 1225, rfl⟩
abbrev main_c_6 : Ref sig .tc := ⟨.hbm, 1226, rfl⟩
abbrev main_v22 : Ref sig .tc := ⟨.hbm, 1227, rfl⟩
abbrev main_v23 : Ref sig .tc := ⟨.hbm, 1228, rfl⟩
abbrev main_v24 : Ref sig .tc := ⟨.hbm, 1229, rfl⟩
abbrev main_v25 : Ref sig .tc := ⟨.hbm, 1230, rfl⟩
abbrev main_v26 : Ref sig .tc := ⟨.hbm, 1231, rfl⟩
abbrev main_v27 : Ref sig .tc := ⟨.hbm, 1232, rfl⟩
abbrev main_v28 : Ref sig .tc := ⟨.hbm, 1233, rfl⟩
abbrev main_c_7 : Ref sig .tc := ⟨.hbm, 1234, rfl⟩
abbrev main_v29 : Ref sig .tc := ⟨.hbm, 1235, rfl⟩
abbrev main_v30 : Ref sig .tc := ⟨.hbm, 1236, rfl⟩
abbrev main_c_8 : Ref sig .tc := ⟨.hbm, 1237, rfl⟩
abbrev main_v31 : Ref sig .tc := ⟨.hbm, 1238, rfl⟩
abbrev main_v32 : Ref sig .tc := ⟨.hbm, 1239, rfl⟩
abbrev main_v33 : Ref sig .tc := ⟨.hbm, 1240, rfl⟩
abbrev main_v34 : Ref sig .tc := ⟨.hbm, 1241, rfl⟩
abbrev main_v35 : Ref sig .tc := ⟨.hbm, 1242, rfl⟩
abbrev main_v36 : Ref sig .tc := ⟨.hbm, 1243, rfl⟩
abbrev main_v37 : Ref sig .tc := ⟨.hbm, 1244, rfl⟩
abbrev main_c_9 : Ref sig .tc := ⟨.hbm, 1245, rfl⟩
abbrev main_v38 : Ref sig .tc := ⟨.hbm, 1246, rfl⟩
abbrev main_v39 : Ref sig .tc := ⟨.hbm, 1247, rfl⟩
abbrev main_c_10 : Ref sig .tc := ⟨.hbm, 1248, rfl⟩
abbrev main_v40 : Ref sig .tc := ⟨.hbm, 1249, rfl⟩
abbrev main_v41 : Ref sig .tc := ⟨.hbm, 1250, rfl⟩
abbrev main_v42 : Ref sig .tc := ⟨.hbm, 1251, rfl⟩
abbrev main_v43 : Ref sig .tc := ⟨.hbm, 1252, rfl⟩
abbrev main_v44 : Ref sig .tc := ⟨.hbm, 1253, rfl⟩
abbrev main_v45 : Ref sig .tc := ⟨.hbm, 1254, rfl⟩
abbrev main_v46 : Ref sig .tc := ⟨.hbm, 1255, rfl⟩
abbrev main_c_11 : Ref sig .tc := ⟨.hbm, 1256, rfl⟩
abbrev main_v47 : Ref sig .tc := ⟨.hbm, 1257, rfl⟩
abbrev main_v48 : Ref sig .tc := ⟨.hbm, 1258, rfl⟩
abbrev main_c_12 : Ref sig .tc := ⟨.hbm, 1259, rfl⟩
abbrev main_v49 : Ref sig .tc := ⟨.hbm, 1260, rfl⟩
abbrev main_v50 : Ref sig .tc := ⟨.hbm, 1261, rfl⟩
abbrev main_v51 : Ref sig .tc := ⟨.hbm, 1262, rfl⟩
abbrev main_v52 : Ref sig .tc := ⟨.hbm, 1263, rfl⟩
abbrev main_v53 : Ref sig .tc := ⟨.hbm, 1264, rfl⟩
abbrev main_cst_13 : Ref sig .tc := ⟨.hbm, 1265, rfl⟩
abbrev main_v54 : Ref sig .tc := ⟨.hbm, 1266, rfl⟩
abbrev main_v55 : Ref sig .tc := ⟨.hbm, 1267, rfl⟩
abbrev main_cst_14 : Ref sig .tc := ⟨.hbm, 1268, rfl⟩
abbrev main_cst_15 : Ref sig .tc := ⟨.hbm, 1269, rfl⟩
abbrev main_call4_v0 : Ref sig .tc := ⟨.hbm, 1270, rfl⟩
abbrev main_call4_v1 : Ref sig .tc := ⟨.hbm, 1271, rfl⟩
abbrev main_call4_v2 : Ref sig .tc := ⟨.hbm, 1272, rfl⟩
abbrev main_call4_v3 : Ref sig .tc := ⟨.hbm, 1273, rfl⟩
abbrev main_call4_v4 : Ref sig .tc := ⟨.hbm, 1274, rfl⟩
abbrev main_call4_v5 : Ref sig .tc := ⟨.hbm, 1275, rfl⟩
abbrev main_call4_c : Ref sig .tc := ⟨.hbm, 1276, rfl⟩
abbrev main_call4_c_0 : Ref sig .tc := ⟨.hbm, 1277, rfl⟩
abbrev main_call4_call0_v0 : Ref sig .tc := ⟨.hbm, 1278, rfl⟩
abbrev main_call4_call0_c : Ref sig .tc := ⟨.hbm, 1279, rfl⟩
abbrev main_call4_call0_v1 : Ref sig .tc := ⟨.hbm, 1280, rfl⟩
abbrev main_call4_call0_v2 : Ref sig .tc := ⟨.hbm, 1281, rfl⟩
abbrev main_call4_call0_v3 : Ref sig .tc := ⟨.hbm, 1282, rfl⟩
abbrev main_call4_call0_v4 : Ref sig .tc := ⟨.hbm, 1283, rfl⟩
abbrev main_call4_call0_c_0 : Ref sig .tc := ⟨.hbm, 1284, rfl⟩
abbrev main_call4_call0_v5 : Ref sig .tc := ⟨.hbm, 1285, rfl⟩
abbrev main_call4_call0_c_1 : Ref sig .tc := ⟨.hbm, 1286, rfl⟩
abbrev main_call4_call0_v6 : Ref sig .tc := ⟨.hbm, 1287, rfl⟩
abbrev main_call4_call0_v7 : Ref sig .tc := ⟨.hbm, 1288, rfl⟩
abbrev main_call4_call0_v8 : Ref sig .tc := ⟨.hbm, 1289, rfl⟩
abbrev main_call4_call0_v9 : Ref sig .tc := ⟨.hbm, 1290, rfl⟩
abbrev main_call4_call0_c_2 : Ref sig .tc := ⟨.hbm, 1291, rfl⟩
abbrev main_call4_call0_v10 : Ref sig .tc := ⟨.hbm, 1292, rfl⟩
abbrev main_call4_call0_c_3 : Ref sig .tc := ⟨.hbm, 1293, rfl⟩
abbrev main_call4_call0_v11 : Ref sig .tc := ⟨.hbm, 1294, rfl⟩
abbrev main_call4_call0_v12 : Ref sig .tc := ⟨.hbm, 1295, rfl⟩
abbrev main_call4_call0_v13 : Ref sig .tc := ⟨.hbm, 1296, rfl⟩
abbrev main_call4_call0_v14 : Ref sig .tc := ⟨.hbm, 1297, rfl⟩
abbrev main_call4_call0_c_4 : Ref sig .tc := ⟨.hbm, 1298, rfl⟩
abbrev main_call4_call0_v15 : Ref sig .tc := ⟨.hbm, 1299, rfl⟩
abbrev main_call4_call0_c_5 : Ref sig .tc := ⟨.hbm, 1300, rfl⟩
abbrev main_call4_call0_v16 : Ref sig .tc := ⟨.hbm, 1301, rfl⟩
abbrev main_call4_call0_v17 : Ref sig .tc := ⟨.hbm, 1302, rfl⟩
abbrev main_call4_call0_v18 : Ref sig .tc := ⟨.hbm, 1303, rfl⟩
abbrev main_call4_call0_v19 : Ref sig .tc := ⟨.hbm, 1304, rfl⟩
abbrev main_call4_call0_c_6 : Ref sig .tc := ⟨.hbm, 1305, rfl⟩
abbrev main_call4_call0_v20 : Ref sig .tc := ⟨.hbm, 1306, rfl⟩
abbrev main_call4_call0_c_7 : Ref sig .tc := ⟨.hbm, 1307, rfl⟩
abbrev main_call4_call0_v21 : Ref sig .tc := ⟨.hbm, 1308, rfl⟩
abbrev main_call4_call0_v22 : Ref sig .tc := ⟨.hbm, 1309, rfl⟩
abbrev main_call4_call0_v23 : Ref sig .tc := ⟨.hbm, 1310, rfl⟩
abbrev main_call4_call0_v24 : Ref sig .tc := ⟨.hbm, 1311, rfl⟩
abbrev main_call4_call0_v25 : Ref sig .tc := ⟨.hbm, 1312, rfl⟩
abbrev main_call4_call0_c_8 : Ref sig .tc := ⟨.hbm, 1313, rfl⟩
abbrev main_call4_call0_v26 : Ref sig .tc := ⟨.hbm, 1314, rfl⟩
abbrev main_call4_call0_v27 : Ref sig .tc := ⟨.hbm, 1315, rfl⟩
abbrev main_call4_call0_c_9 : Ref sig .tc := ⟨.hbm, 1316, rfl⟩
abbrev main_call4_call0_v28 : Ref sig .tc := ⟨.hbm, 1317, rfl⟩
abbrev main_call4_call0_c_10 : Ref sig .tc := ⟨.hbm, 1318, rfl⟩
abbrev main_call4_call0_v29 : Ref sig .tc := ⟨.hbm, 1319, rfl⟩
abbrev main_call4_call0_v30 : Ref sig .tc := ⟨.hbm, 1320, rfl⟩
abbrev main_call4_call0_v31 : Ref sig .tc := ⟨.hbm, 1321, rfl⟩
abbrev main_call4_call0_v32 : Ref sig .tc := ⟨.hbm, 1322, rfl⟩
abbrev main_call4_call0_c_11 : Ref sig .tc := ⟨.hbm, 1323, rfl⟩
abbrev main_call4_call0_v33 : Ref sig .tc := ⟨.hbm, 1324, rfl⟩
abbrev main_call4_call0_c_12 : Ref sig .tc := ⟨.hbm, 1325, rfl⟩
abbrev main_call4_call0_v34 : Ref sig .tc := ⟨.hbm, 1326, rfl⟩
abbrev main_call4_call0_v35 : Ref sig .tc := ⟨.hbm, 1327, rfl⟩
abbrev main_call4_call0_v36 : Ref sig .tc := ⟨.hbm, 1328, rfl⟩
abbrev main_call4_call0_v37 : Ref sig .tc := ⟨.hbm, 1329, rfl⟩
abbrev main_call4_call0_c_13 : Ref sig .tc := ⟨.hbm, 1330, rfl⟩
abbrev main_call4_call0_v38 : Ref sig .tc := ⟨.hbm, 1331, rfl⟩
abbrev main_call4_call0_c_14 : Ref sig .tc := ⟨.hbm, 1332, rfl⟩
abbrev main_call4_call0_v39 : Ref sig .tc := ⟨.hbm, 1333, rfl⟩
abbrev main_call4_call0_v40 : Ref sig .tc := ⟨.hbm, 1334, rfl⟩
abbrev main_call4_call0_v41 : Ref sig .tc := ⟨.hbm, 1335, rfl⟩
abbrev main_call4_call0_v42 : Ref sig .tc := ⟨.hbm, 1336, rfl⟩
abbrev main_call4_call0_c_15 : Ref sig .tc := ⟨.hbm, 1337, rfl⟩
abbrev main_call4_call0_v43 : Ref sig .tc := ⟨.hbm, 1338, rfl⟩
abbrev main_call4_call0_c_16 : Ref sig .tc := ⟨.hbm, 1339, rfl⟩
abbrev main_call4_call0_v44 : Ref sig .tc := ⟨.hbm, 1340, rfl⟩
abbrev main_call4_call0_v45 : Ref sig .tc := ⟨.hbm, 1341, rfl⟩
abbrev main_call4_call0_v46 : Ref sig .tc := ⟨.hbm, 1342, rfl⟩
abbrev main_call4_call0_v47 : Ref sig .tc := ⟨.hbm, 1343, rfl⟩
abbrev main_call4_call0_v48 : Ref sig .tc := ⟨.hbm, 1344, rfl⟩
abbrev main_call4_call0_c_17 : Ref sig .tc := ⟨.hbm, 1345, rfl⟩
abbrev main_call4_call0_v49 : Ref sig .tc := ⟨.hbm, 1346, rfl⟩
abbrev main_call4_call0_v50 : Ref sig .tc := ⟨.hbm, 1347, rfl⟩
abbrev main_call4_call0_c_18 : Ref sig .tc := ⟨.hbm, 1348, rfl⟩
abbrev main_call4_call0_v51 : Ref sig .tc := ⟨.hbm, 1349, rfl⟩
abbrev main_call4_call0_c_19 : Ref sig .tc := ⟨.hbm, 1350, rfl⟩
abbrev main_call4_call0_v52 : Ref sig .tc := ⟨.hbm, 1351, rfl⟩
abbrev main_call4_call0_v53 : Ref sig .tc := ⟨.hbm, 1352, rfl⟩
abbrev main_call4_call0_v54 : Ref sig .tc := ⟨.hbm, 1353, rfl⟩
abbrev main_call4_call0_v55 : Ref sig .tc := ⟨.hbm, 1354, rfl⟩
abbrev main_call4_call0_c_20 : Ref sig .tc := ⟨.hbm, 1355, rfl⟩
abbrev main_call4_call0_v56 : Ref sig .tc := ⟨.hbm, 1356, rfl⟩
abbrev main_call4_call0_c_21 : Ref sig .tc := ⟨.hbm, 1357, rfl⟩
abbrev main_call4_call0_v57 : Ref sig .tc := ⟨.hbm, 1358, rfl⟩
abbrev main_call4_call0_v58 : Ref sig .tc := ⟨.hbm, 1359, rfl⟩
abbrev main_call4_call0_v59 : Ref sig .tc := ⟨.hbm, 1360, rfl⟩
abbrev main_call4_call0_v60 : Ref sig .tc := ⟨.hbm, 1361, rfl⟩
abbrev main_call4_call0_c_22 : Ref sig .tc := ⟨.hbm, 1362, rfl⟩
abbrev main_call4_call0_v61 : Ref sig .tc := ⟨.hbm, 1363, rfl⟩
abbrev main_call4_call0_c_23 : Ref sig .tc := ⟨.hbm, 1364, rfl⟩
abbrev main_call4_call0_v62 : Ref sig .tc := ⟨.hbm, 1365, rfl⟩
abbrev main_call4_call0_v63 : Ref sig .tc := ⟨.hbm, 1366, rfl⟩
abbrev main_call4_call0_v64 : Ref sig .tc := ⟨.hbm, 1367, rfl⟩
abbrev main_call4_call0_v65 : Ref sig .tc := ⟨.hbm, 1368, rfl⟩
abbrev main_call4_call0_c_24 : Ref sig .tc := ⟨.hbm, 1369, rfl⟩
abbrev main_call4_call0_v66 : Ref sig .tc := ⟨.hbm, 1370, rfl⟩
abbrev main_call4_call0_c_25 : Ref sig .tc := ⟨.hbm, 1371, rfl⟩
abbrev main_call4_call0_v67 : Ref sig .tc := ⟨.hbm, 1372, rfl⟩
abbrev main_call4_call0_v68 : Ref sig .tc := ⟨.hbm, 1373, rfl⟩
abbrev main_call4_call0_v69 : Ref sig .tc := ⟨.hbm, 1374, rfl⟩
abbrev main_call4_call0_v70 : Ref sig .tc := ⟨.hbm, 1375, rfl⟩
abbrev main_call4_call0_v71 : Ref sig .tc := ⟨.hbm, 1376, rfl⟩
abbrev main_call4_call0_c_26 : Ref sig .tc := ⟨.hbm, 1377, rfl⟩
abbrev main_call4_call0_v72 : Ref sig .tc := ⟨.hbm, 1378, rfl⟩
abbrev main_call4_call0_v73 : Ref sig .tc := ⟨.hbm, 1379, rfl⟩
abbrev main_call4_call0_c_27 : Ref sig .tc := ⟨.hbm, 1380, rfl⟩
abbrev main_call4_call0_v74 : Ref sig .tc := ⟨.hbm, 1381, rfl⟩
abbrev main_call4_call0_c_28 : Ref sig .tc := ⟨.hbm, 1382, rfl⟩
abbrev main_call4_call0_v75 : Ref sig .tc := ⟨.hbm, 1383, rfl⟩
abbrev main_call4_call0_v76 : Ref sig .tc := ⟨.hbm, 1384, rfl⟩
abbrev main_call4_call0_v77 : Ref sig .tc := ⟨.hbm, 1385, rfl⟩
abbrev main_call4_call0_v78 : Ref sig .tc := ⟨.hbm, 1386, rfl⟩
abbrev main_call4_call0_c_29 : Ref sig .tc := ⟨.hbm, 1387, rfl⟩
abbrev main_call4_call0_v79 : Ref sig .tc := ⟨.hbm, 1388, rfl⟩
abbrev main_call4_call0_c_30 : Ref sig .tc := ⟨.hbm, 1389, rfl⟩
abbrev main_call4_call0_v80 : Ref sig .tc := ⟨.hbm, 1390, rfl⟩
abbrev main_call4_call0_v81 : Ref sig .tc := ⟨.hbm, 1391, rfl⟩
abbrev main_call4_call0_v82 : Ref sig .tc := ⟨.hbm, 1392, rfl⟩
abbrev main_call4_call0_v83 : Ref sig .tc := ⟨.hbm, 1393, rfl⟩
abbrev main_call4_call0_c_31 : Ref sig .tc := ⟨.hbm, 1394, rfl⟩
abbrev main_call4_call0_v84 : Ref sig .tc := ⟨.hbm, 1395, rfl⟩
abbrev main_call4_call0_c_32 : Ref sig .tc := ⟨.hbm, 1396, rfl⟩
abbrev main_call4_call0_v85 : Ref sig .tc := ⟨.hbm, 1397, rfl⟩
abbrev main_call4_call0_v86 : Ref sig .tc := ⟨.hbm, 1398, rfl⟩
abbrev main_call4_call0_v87 : Ref sig .tc := ⟨.hbm, 1399, rfl⟩
abbrev main_call4_call0_v88 : Ref sig .tc := ⟨.hbm, 1400, rfl⟩
abbrev main_call4_call0_c_33 : Ref sig .tc := ⟨.hbm, 1401, rfl⟩
abbrev main_call4_call0_v89 : Ref sig .tc := ⟨.hbm, 1402, rfl⟩
abbrev main_call4_call0_c_34 : Ref sig .tc := ⟨.hbm, 1403, rfl⟩
abbrev main_call4_call0_v90 : Ref sig .tc := ⟨.hbm, 1404, rfl⟩
abbrev main_call4_call0_v91 : Ref sig .tc := ⟨.hbm, 1405, rfl⟩
abbrev main_call4_call0_v92 : Ref sig .tc := ⟨.hbm, 1406, rfl⟩
abbrev main_call4_call0_v93 : Ref sig .tc := ⟨.hbm, 1407, rfl⟩
abbrev main_call4_call0_v94 : Ref sig .tc := ⟨.hbm, 1408, rfl⟩
abbrev main_call4_call0_c_35 : Ref sig .tc := ⟨.hbm, 1409, rfl⟩
abbrev main_call4_call0_v95 : Ref sig .tc := ⟨.hbm, 1410, rfl⟩
abbrev main_call4_call0_v96 : Ref sig .tc := ⟨.hbm, 1411, rfl⟩
abbrev main_call4_call0_c_36 : Ref sig .tc := ⟨.hbm, 1412, rfl⟩
abbrev main_call4_call0_v97 : Ref sig .tc := ⟨.hbm, 1413, rfl⟩
abbrev main_call4_call0_c_37 : Ref sig .tc := ⟨.hbm, 1414, rfl⟩
abbrev main_call4_call0_v98 : Ref sig .tc := ⟨.hbm, 1415, rfl⟩
abbrev main_call4_call0_v99 : Ref sig .tc := ⟨.hbm, 1416, rfl⟩
abbrev main_call4_call0_v100 : Ref sig .tc := ⟨.hbm, 1417, rfl⟩
abbrev main_call4_call0_v101 : Ref sig .tc := ⟨.hbm, 1418, rfl⟩
abbrev main_call4_call0_c_38 : Ref sig .tc := ⟨.hbm, 1419, rfl⟩
abbrev main_call4_call0_v102 : Ref sig .tc := ⟨.hbm, 1420, rfl⟩
abbrev main_call4_call0_c_39 : Ref sig .tc := ⟨.hbm, 1421, rfl⟩
abbrev main_call4_call0_v103 : Ref sig .tc := ⟨.hbm, 1422, rfl⟩
abbrev main_call4_call0_v104 : Ref sig .tc := ⟨.hbm, 1423, rfl⟩
abbrev main_call4_call0_v105 : Ref sig .tc := ⟨.hbm, 1424, rfl⟩
abbrev main_call4_call0_v106 : Ref sig .tc := ⟨.hbm, 1425, rfl⟩
abbrev main_call4_call0_c_40 : Ref sig .tc := ⟨.hbm, 1426, rfl⟩
abbrev main_call4_call0_v107 : Ref sig .tc := ⟨.hbm, 1427, rfl⟩
abbrev main_call4_call0_c_41 : Ref sig .tc := ⟨.hbm, 1428, rfl⟩
abbrev main_call4_call0_v108 : Ref sig .tc := ⟨.hbm, 1429, rfl⟩
abbrev main_call4_call0_v109 : Ref sig .tc := ⟨.hbm, 1430, rfl⟩
abbrev main_call4_call0_v110 : Ref sig .tc := ⟨.hbm, 1431, rfl⟩
abbrev main_call4_call0_v111 : Ref sig .tc := ⟨.hbm, 1432, rfl⟩
abbrev main_call4_call0_c_42 : Ref sig .tc := ⟨.hbm, 1433, rfl⟩
abbrev main_call4_call0_v112 : Ref sig .tc := ⟨.hbm, 1434, rfl⟩
abbrev main_call4_call0_c_43 : Ref sig .tc := ⟨.hbm, 1435, rfl⟩
abbrev main_call4_call0_v113 : Ref sig .tc := ⟨.hbm, 1436, rfl⟩
abbrev main_call4_call0_v114 : Ref sig .tc := ⟨.hbm, 1437, rfl⟩
abbrev main_call4_call0_v115 : Ref sig .tc := ⟨.hbm, 1438, rfl⟩
abbrev main_call4_v6_0 : Ref sig .tc := ⟨.hbm, 1439, rfl⟩
abbrev main_call4_call0_v117 : Ref sig .tc := ⟨.hbm, 1440, rfl⟩
abbrev main_call4_call0_c_44 : Ref sig .tc := ⟨.hbm, 1441, rfl⟩
abbrev main_call4_v6_1 : Ref sig .tc := ⟨.hbm, 1442, rfl⟩
abbrev main_call4_v7 : Ref sig .tc := ⟨.hbm, 1443, rfl⟩
abbrev main_call4_c_1 : Ref sig .tc := ⟨.hbm, 1444, rfl⟩
abbrev main_call4_v8 : Ref sig .tc := ⟨.hbm, 1445, rfl⟩
abbrev main_call4_c_2 : Ref sig .tc := ⟨.hbm, 1446, rfl⟩
abbrev main_call4_v9 : Ref sig .tc := ⟨.hbm, 1447, rfl⟩
abbrev main_call4_v10 : Ref sig .tc := ⟨.hbm, 1448, rfl⟩
abbrev main_call4_cst : Ref sig .tc := ⟨.hbm, 1449, rfl⟩
abbrev main_call4_v11 : Ref sig .tc := ⟨.hbm, 1450, rfl⟩
abbrev main_call4_v12 : Ref sig .tc := ⟨.hbm, 1451, rfl⟩
abbrev main_call4_v13 : Ref sig .tc := ⟨.hbm, 1452, rfl⟩
abbrev main_call4_v14 : Ref sig .tc := ⟨.hbm, 1453, rfl⟩
abbrev main_call4_v15 : Ref sig .tc := ⟨.hbm, 1454, rfl⟩
abbrev main_v56 : Ref sig .tc := ⟨.hbm, 1455, rfl⟩
abbrev main_c_16 : Ref sig .tc := ⟨.hbm, 1456, rfl⟩
abbrev main_c_17 : Ref sig .tc := ⟨.hbm, 1457, rfl⟩
abbrev main_call5_c : Ref sig .tc := ⟨.hbm, 1458, rfl⟩
abbrev main_call5_c_0 : Ref sig .tc := ⟨.hbm, 1459, rfl⟩
abbrev main_call5_c_1 : Ref sig .tc := ⟨.hbm, 1460, rfl⟩
abbrev main_call5_call0_v0 : Ref sig .tc := ⟨.hbm, 1461, rfl⟩
abbrev main_call5_v0 : Ref sig .tc := ⟨.hbm, 1462, rfl⟩
abbrev main_call5_v1 : Ref sig .tc := ⟨.hbm, 1463, rfl⟩
abbrev main_call5_c_2 : Ref sig .tc := ⟨.hbm, 1464, rfl⟩
abbrev main_call5_c_3 : Ref sig .tc := ⟨.hbm, 1465, rfl⟩
abbrev main_call5_call1_v0 : Ref sig .tc := ⟨.hbm, 1466, rfl⟩
abbrev main_call5_v2 : Ref sig .tc := ⟨.hbm, 1467, rfl⟩
abbrev main_call5_v3 : Ref sig .tc := ⟨.hbm, 1468, rfl⟩
abbrev main_call5_c_4 : Ref sig .tc := ⟨.hbm, 1469, rfl⟩
abbrev main_call5_c_5 : Ref sig .tc := ⟨.hbm, 1470, rfl⟩
abbrev main_call5_call2_v0 : Ref sig .tc := ⟨.hbm, 1471, rfl⟩
abbrev main_call5_v4 : Ref sig .tc := ⟨.hbm, 1472, rfl⟩
abbrev main_call5_v5 : Ref sig .tc := ⟨.hbm, 1473, rfl⟩
abbrev main_call5_v6 : Ref sig .tc := ⟨.hbm, 1474, rfl⟩
abbrev main_call5_v7 : Ref sig .tc := ⟨.hbm, 1475, rfl⟩
abbrev main_call5_call3_v0 : Ref sig .tc := ⟨.hbm, 1476, rfl⟩
abbrev main_call5_call3_v1 : Ref sig .tc := ⟨.hbm, 1477, rfl⟩
abbrev main_call5_call3_v2 : Ref sig .tc := ⟨.hbm, 1478, rfl⟩
abbrev main_call5_call3_v3 : Ref sig .tc := ⟨.hbm, 1479, rfl⟩
abbrev main_call5_call3_v4 : Ref sig .tc := ⟨.hbm, 1480, rfl⟩
abbrev main_call5_call3_c : Ref sig .tc := ⟨.hbm, 1481, rfl⟩
abbrev main_call5_call3_v5 : Ref sig .tc := ⟨.hbm, 1482, rfl⟩
abbrev main_call5_call3_v6 : Ref sig .tc := ⟨.hbm, 1483, rfl⟩
abbrev main_call5_call3_c_0 : Ref sig .tc := ⟨.hbm, 1484, rfl⟩
abbrev main_call5_call3_v7 : Ref sig .tc := ⟨.hbm, 1485, rfl⟩
abbrev main_call5_call3_v8 : Ref sig .tc := ⟨.hbm, 1486, rfl⟩
abbrev main_call5_call3_v9 : Ref sig .tc := ⟨.hbm, 1487, rfl⟩
abbrev main_call5_call3_v10 : Ref sig .tc := ⟨.hbm, 1488, rfl⟩
abbrev main_call5_call3_call0_v0 : Ref sig .tc := ⟨.hbm, 1489, rfl⟩
abbrev main_call5_call3_call0_c : Ref sig .tc := ⟨.hbm, 1490, rfl⟩
abbrev main_call5_call3_call0_v1 : Ref sig .tc := ⟨.hbm, 1491, rfl⟩
abbrev main_call5_call3_call0_v2 : Ref sig .tc := ⟨.hbm, 1492, rfl⟩
abbrev main_call5_call3_call0_v3 : Ref sig .tc := ⟨.hbm, 1493, rfl⟩
abbrev main_call5_call3_call0_v4 : Ref sig .tc := ⟨.hbm, 1494, rfl⟩
abbrev main_call5_call3_call0_v5 : Ref sig .tc := ⟨.hbm, 1495, rfl⟩
abbrev main_call5_call3_call0_v6 : Ref sig .tc := ⟨.hbm, 1496, rfl⟩
abbrev main_call5_call3_call0_c_0 : Ref sig .tc := ⟨.hbm, 1497, rfl⟩
abbrev main_call5_call3_call0_v7 : Ref sig .tc := ⟨.hbm, 1498, rfl⟩
abbrev main_call5_call3_call0_v8 : Ref sig .tc := ⟨.hbm, 1499, rfl⟩
abbrev main_call5_call3_call0_c_1 : Ref sig .tc := ⟨.hbm, 1500, rfl⟩
abbrev main_call5_call3_call0_v9 : Ref sig .tc := ⟨.hbm, 1501, rfl⟩
abbrev main_call5_call3_call0_v10 : Ref sig .tc := ⟨.hbm, 1502, rfl⟩
abbrev main_call5_call3_call0_v11 : Ref sig .tc := ⟨.hbm, 1503, rfl⟩
abbrev main_call5_call3_call0_v12 : Ref sig .tc := ⟨.hbm, 1504, rfl⟩
abbrev main_call5_call3_call0_v13 : Ref sig .tc := ⟨.hbm, 1505, rfl⟩
abbrev main_call5_call3_call0_c_2 : Ref sig .tc := ⟨.hbm, 1506, rfl⟩
abbrev main_call5_call3_call0_v14 : Ref sig .tc := ⟨.hbm, 1507, rfl⟩
abbrev main_call5_call3_call0_v15 : Ref sig .tc := ⟨.hbm, 1508, rfl⟩
abbrev main_call5_call3_call0_c_3 : Ref sig .tc := ⟨.hbm, 1509, rfl⟩
abbrev main_call5_call3_call0_v16 : Ref sig .tc := ⟨.hbm, 1510, rfl⟩
abbrev main_call5_call3_call0_v17 : Ref sig .tc := ⟨.hbm, 1511, rfl⟩
abbrev main_call5_call3_call0_v18 : Ref sig .tc := ⟨.hbm, 1512, rfl⟩
abbrev main_call5_call3_call0_v19 : Ref sig .tc := ⟨.hbm, 1513, rfl⟩
abbrev main_call5_call3_call0_v20 : Ref sig .tc := ⟨.hbm, 1514, rfl⟩
abbrev main_call5_call3_call0_c_4 : Ref sig .tc := ⟨.hbm, 1515, rfl⟩
abbrev main_call5_call3_call0_v21 : Ref sig .tc := ⟨.hbm, 1516, rfl⟩
abbrev main_call5_call3_call0_v22 : Ref sig .tc := ⟨.hbm, 1517, rfl⟩
abbrev main_call5_call3_call0_c_5 : Ref sig .tc := ⟨.hbm, 1518, rfl⟩
abbrev main_call5_call3_call0_v23 : Ref sig .tc := ⟨.hbm, 1519, rfl⟩
abbrev main_call5_call3_call0_v24 : Ref sig .tc := ⟨.hbm, 1520, rfl⟩
abbrev main_call5_call3_call0_v25 : Ref sig .tc := ⟨.hbm, 1521, rfl⟩
abbrev main_call5_call3_call0_v26 : Ref sig .tc := ⟨.hbm, 1522, rfl⟩
abbrev main_call5_call3_call0_v27 : Ref sig .tc := ⟨.hbm, 1523, rfl⟩
abbrev main_call5_call3_call0_c_6 : Ref sig .tc := ⟨.hbm, 1524, rfl⟩
abbrev main_call5_call3_call0_v28 : Ref sig .tc := ⟨.hbm, 1525, rfl⟩
abbrev main_call5_call3_call0_v29 : Ref sig .tc := ⟨.hbm, 1526, rfl⟩
abbrev main_call5_call3_call0_c_7 : Ref sig .tc := ⟨.hbm, 1527, rfl⟩
abbrev main_call5_call3_call0_v30 : Ref sig .tc := ⟨.hbm, 1528, rfl⟩
abbrev main_call5_call3_call0_v31 : Ref sig .tc := ⟨.hbm, 1529, rfl⟩
abbrev main_call5_call3_call0_v32 : Ref sig .tc := ⟨.hbm, 1530, rfl⟩
abbrev main_call5_call3_call0_v33 : Ref sig .tc := ⟨.hbm, 1531, rfl⟩
abbrev main_call5_call3_call0_v34 : Ref sig .tc := ⟨.hbm, 1532, rfl⟩
abbrev main_call5_call3_call0_v35 : Ref sig .tc := ⟨.hbm, 1533, rfl⟩
abbrev main_call5_call3_call0_v36 : Ref sig .tc := ⟨.hbm, 1534, rfl⟩
abbrev main_call5_call3_call0_v37 : Ref sig .tc := ⟨.hbm, 1535, rfl⟩
abbrev main_call5_call3_call0_c_8 : Ref sig .tc := ⟨.hbm, 1536, rfl⟩
abbrev main_call5_call3_call0_v38 : Ref sig .tc := ⟨.hbm, 1537, rfl⟩
abbrev main_call5_call3_call0_v39 : Ref sig .tc := ⟨.hbm, 1538, rfl⟩
abbrev main_call5_call3_call0_v40 : Ref sig .tc := ⟨.hbm, 1539, rfl⟩
abbrev main_call5_call3_call0_c_9 : Ref sig .tc := ⟨.hbm, 1540, rfl⟩
abbrev main_call5_call3_call0_v41 : Ref sig .tc := ⟨.hbm, 1541, rfl⟩
abbrev main_call5_call3_call0_v42 : Ref sig .tc := ⟨.hbm, 1542, rfl⟩
abbrev main_call5_call3_call0_c_10 : Ref sig .tc := ⟨.hbm, 1543, rfl⟩
abbrev main_call5_call3_call0_v43 : Ref sig .tc := ⟨.hbm, 1544, rfl⟩
abbrev main_call5_call3_call0_v44 : Ref sig .tc := ⟨.hbm, 1545, rfl⟩
abbrev main_call5_call3_call0_v45 : Ref sig .tc := ⟨.hbm, 1546, rfl⟩
abbrev main_call5_call3_call0_v46 : Ref sig .tc := ⟨.hbm, 1547, rfl⟩
abbrev main_call5_call3_call0_v47 : Ref sig .tc := ⟨.hbm, 1548, rfl⟩
abbrev main_call5_call3_call0_c_11 : Ref sig .tc := ⟨.hbm, 1549, rfl⟩
abbrev main_call5_call3_call0_v48 : Ref sig .tc := ⟨.hbm, 1550, rfl⟩
abbrev main_call5_call3_call0_v49 : Ref sig .tc := ⟨.hbm, 1551, rfl⟩
abbrev main_call5_call3_call0_c_12 : Ref sig .tc := ⟨.hbm, 1552, rfl⟩
abbrev main_call5_call3_call0_v50 : Ref sig .tc := ⟨.hbm, 1553, rfl⟩
abbrev main_call5_call3_call0_v51 : Ref sig .tc := ⟨.hbm, 1554, rfl⟩
abbrev main_call5_call3_call0_v52 : Ref sig .tc := ⟨.hbm, 1555, rfl⟩
abbrev main_call5_call3_call0_v53 : Ref sig .tc := ⟨.hbm, 1556, rfl⟩
abbrev main_call5_call3_call0_v54 : Ref sig .tc := ⟨.hbm, 1557, rfl⟩
abbrev main_call5_call3_call0_c_13 : Ref sig .tc := ⟨.hbm, 1558, rfl⟩
abbrev main_call5_call3_call0_v55 : Ref sig .tc := ⟨.hbm, 1559, rfl⟩
abbrev main_call5_call3_call0_v56 : Ref sig .tc := ⟨.hbm, 1560, rfl⟩
abbrev main_call5_call3_call0_c_14 : Ref sig .tc := ⟨.hbm, 1561, rfl⟩
abbrev main_call5_call3_call0_v57 : Ref sig .tc := ⟨.hbm, 1562, rfl⟩
abbrev main_call5_call3_call0_v58 : Ref sig .tc := ⟨.hbm, 1563, rfl⟩
abbrev main_call5_call3_call0_v59 : Ref sig .tc := ⟨.hbm, 1564, rfl⟩
abbrev main_call5_call3_call0_v60 : Ref sig .tc := ⟨.hbm, 1565, rfl⟩
abbrev main_call5_call3_call0_v61 : Ref sig .tc := ⟨.hbm, 1566, rfl⟩
abbrev main_call5_call3_call0_c_15 : Ref sig .tc := ⟨.hbm, 1567, rfl⟩
abbrev main_call5_call3_call0_v62 : Ref sig .tc := ⟨.hbm, 1568, rfl⟩
abbrev main_call5_call3_call0_v63 : Ref sig .tc := ⟨.hbm, 1569, rfl⟩
abbrev main_call5_call3_call0_c_16 : Ref sig .tc := ⟨.hbm, 1570, rfl⟩
abbrev main_call5_call3_call0_v64 : Ref sig .tc := ⟨.hbm, 1571, rfl⟩
abbrev main_call5_call3_call0_v65 : Ref sig .tc := ⟨.hbm, 1572, rfl⟩
abbrev main_call5_call3_call0_v66 : Ref sig .tc := ⟨.hbm, 1573, rfl⟩
abbrev main_call5_call3_call0_v67 : Ref sig .tc := ⟨.hbm, 1574, rfl⟩
abbrev main_call5_call3_call0_v68 : Ref sig .tc := ⟨.hbm, 1575, rfl⟩
abbrev main_call5_call3_call0_v69 : Ref sig .tc := ⟨.hbm, 1576, rfl⟩
abbrev main_call5_call3_call0_v70 : Ref sig .tc := ⟨.hbm, 1577, rfl⟩
abbrev main_call5_call3_call0_v71 : Ref sig .tc := ⟨.hbm, 1578, rfl⟩
abbrev main_call5_call3_call0_c_17 : Ref sig .tc := ⟨.hbm, 1579, rfl⟩
abbrev main_call5_call3_call0_v72 : Ref sig .tc := ⟨.hbm, 1580, rfl⟩
abbrev main_call5_call3_call0_v73 : Ref sig .tc := ⟨.hbm, 1581, rfl⟩
abbrev main_call5_call3_call0_v74 : Ref sig .tc := ⟨.hbm, 1582, rfl⟩
abbrev main_call5_call3_call0_c_18 : Ref sig .tc := ⟨.hbm, 1583, rfl⟩
abbrev main_call5_call3_call0_v75 : Ref sig .tc := ⟨.hbm, 1584, rfl⟩
abbrev main_call5_call3_call0_v76 : Ref sig .tc := ⟨.hbm, 1585, rfl⟩
abbrev main_call5_call3_call0_c_19 : Ref sig .tc := ⟨.hbm, 1586, rfl⟩
abbrev main_call5_call3_call0_v77 : Ref sig .tc := ⟨.hbm, 1587, rfl⟩
abbrev main_call5_call3_call0_v78 : Ref sig .tc := ⟨.hbm, 1588, rfl⟩
abbrev main_call5_call3_call0_v79 : Ref sig .tc := ⟨.hbm, 1589, rfl⟩
abbrev main_call5_call3_call0_v80 : Ref sig .tc := ⟨.hbm, 1590, rfl⟩
abbrev main_call5_call3_call0_v81 : Ref sig .tc := ⟨.hbm, 1591, rfl⟩
abbrev main_call5_call3_call0_c_20 : Ref sig .tc := ⟨.hbm, 1592, rfl⟩
abbrev main_call5_call3_call0_v82 : Ref sig .tc := ⟨.hbm, 1593, rfl⟩
abbrev main_call5_call3_call0_v83 : Ref sig .tc := ⟨.hbm, 1594, rfl⟩
abbrev main_call5_call3_call0_c_21 : Ref sig .tc := ⟨.hbm, 1595, rfl⟩
abbrev main_call5_call3_call0_v84 : Ref sig .tc := ⟨.hbm, 1596, rfl⟩
abbrev main_call5_call3_call0_v85 : Ref sig .tc := ⟨.hbm, 1597, rfl⟩
abbrev main_call5_call3_call0_v86 : Ref sig .tc := ⟨.hbm, 1598, rfl⟩
abbrev main_call5_call3_call0_v87 : Ref sig .tc := ⟨.hbm, 1599, rfl⟩
abbrev main_call5_call3_call0_v88 : Ref sig .tc := ⟨.hbm, 1600, rfl⟩
abbrev main_call5_call3_call0_c_22 : Ref sig .tc := ⟨.hbm, 1601, rfl⟩
abbrev main_call5_call3_call0_v89 : Ref sig .tc := ⟨.hbm, 1602, rfl⟩
abbrev main_call5_call3_call0_v90 : Ref sig .tc := ⟨.hbm, 1603, rfl⟩
abbrev main_call5_call3_call0_c_23 : Ref sig .tc := ⟨.hbm, 1604, rfl⟩
abbrev main_call5_call3_call0_v91 : Ref sig .tc := ⟨.hbm, 1605, rfl⟩
abbrev main_call5_call3_call0_v92 : Ref sig .tc := ⟨.hbm, 1606, rfl⟩
abbrev main_call5_call3_call0_v93 : Ref sig .tc := ⟨.hbm, 1607, rfl⟩
abbrev main_call5_call3_call0_v94 : Ref sig .tc := ⟨.hbm, 1608, rfl⟩
abbrev main_call5_call3_call0_v95 : Ref sig .tc := ⟨.hbm, 1609, rfl⟩
abbrev main_call5_call3_call0_c_24 : Ref sig .tc := ⟨.hbm, 1610, rfl⟩
abbrev main_call5_call3_call0_v96 : Ref sig .tc := ⟨.hbm, 1611, rfl⟩
abbrev main_call5_call3_call0_v97 : Ref sig .tc := ⟨.hbm, 1612, rfl⟩
abbrev main_call5_call3_call0_c_25 : Ref sig .tc := ⟨.hbm, 1613, rfl⟩
abbrev main_call5_call3_call0_v98 : Ref sig .tc := ⟨.hbm, 1614, rfl⟩
abbrev main_call5_call3_call0_v99 : Ref sig .tc := ⟨.hbm, 1615, rfl⟩
abbrev main_call5_call3_call0_v100 : Ref sig .tc := ⟨.hbm, 1616, rfl⟩
abbrev main_call5_call3_call0_v101 : Ref sig .tc := ⟨.hbm, 1617, rfl⟩
abbrev main_call5_call3_call0_v102 : Ref sig .tc := ⟨.hbm, 1618, rfl⟩
abbrev main_call5_call3_call0_v103 : Ref sig .tc := ⟨.hbm, 1619, rfl⟩
abbrev main_call5_call3_call0_v104 : Ref sig .tc := ⟨.hbm, 1620, rfl⟩
abbrev main_call5_call3_call0_v105 : Ref sig .tc := ⟨.hbm, 1621, rfl⟩
abbrev main_call5_call3_call0_c_26 : Ref sig .tc := ⟨.hbm, 1622, rfl⟩
abbrev main_call5_call3_call0_v106 : Ref sig .tc := ⟨.hbm, 1623, rfl⟩
abbrev main_call5_call3_call0_v107 : Ref sig .tc := ⟨.hbm, 1624, rfl⟩
abbrev main_call5_call3_call0_v108 : Ref sig .tc := ⟨.hbm, 1625, rfl⟩
abbrev main_call5_call3_call0_c_27 : Ref sig .tc := ⟨.hbm, 1626, rfl⟩
abbrev main_call5_call3_call0_v109 : Ref sig .tc := ⟨.hbm, 1627, rfl⟩
abbrev main_call5_call3_call0_v110 : Ref sig .tc := ⟨.hbm, 1628, rfl⟩
abbrev main_call5_call3_call0_c_28 : Ref sig .tc := ⟨.hbm, 1629, rfl⟩
abbrev main_call5_call3_call0_v111 : Ref sig .tc := ⟨.hbm, 1630, rfl⟩
abbrev main_call5_call3_call0_v112 : Ref sig .tc := ⟨.hbm, 1631, rfl⟩
abbrev main_call5_call3_call0_v113 : Ref sig .tc := ⟨.hbm, 1632, rfl⟩
abbrev main_call5_call3_call0_v114 : Ref sig .tc := ⟨.hbm, 1633, rfl⟩
abbrev main_call5_call3_call0_v115 : Ref sig .tc := ⟨.hbm, 1634, rfl⟩
abbrev main_call5_call3_call0_c_29 : Ref sig .tc := ⟨.hbm, 1635, rfl⟩
abbrev main_call5_call3_call0_v116 : Ref sig .tc := ⟨.hbm, 1636, rfl⟩
abbrev main_call5_call3_call0_v117 : Ref sig .tc := ⟨.hbm, 1637, rfl⟩
abbrev main_call5_call3_call0_c_30 : Ref sig .tc := ⟨.hbm, 1638, rfl⟩
abbrev main_call5_call3_call0_v118 : Ref sig .tc := ⟨.hbm, 1639, rfl⟩
abbrev main_call5_call3_call0_v119 : Ref sig .tc := ⟨.hbm, 1640, rfl⟩
abbrev main_call5_call3_call0_v120 : Ref sig .tc := ⟨.hbm, 1641, rfl⟩
abbrev main_call5_call3_call0_v121 : Ref sig .tc := ⟨.hbm, 1642, rfl⟩
abbrev main_call5_call3_call0_v122 : Ref sig .tc := ⟨.hbm, 1643, rfl⟩
abbrev main_call5_call3_call0_c_31 : Ref sig .tc := ⟨.hbm, 1644, rfl⟩
abbrev main_call5_call3_call0_v123 : Ref sig .tc := ⟨.hbm, 1645, rfl⟩
abbrev main_call5_call3_call0_v124 : Ref sig .tc := ⟨.hbm, 1646, rfl⟩
abbrev main_call5_call3_call0_c_32 : Ref sig .tc := ⟨.hbm, 1647, rfl⟩
abbrev main_call5_call3_call0_v125 : Ref sig .tc := ⟨.hbm, 1648, rfl⟩
abbrev main_call5_call3_call0_v126 : Ref sig .tc := ⟨.hbm, 1649, rfl⟩
abbrev main_call5_call3_call0_v127 : Ref sig .tc := ⟨.hbm, 1650, rfl⟩
abbrev main_call5_call3_call0_v128 : Ref sig .tc := ⟨.hbm, 1651, rfl⟩
abbrev main_call5_call3_call0_v129 : Ref sig .tc := ⟨.hbm, 1652, rfl⟩
abbrev main_call5_call3_call0_c_33 : Ref sig .tc := ⟨.hbm, 1653, rfl⟩
abbrev main_call5_call3_call0_v130 : Ref sig .tc := ⟨.hbm, 1654, rfl⟩
abbrev main_call5_call3_call0_v131 : Ref sig .tc := ⟨.hbm, 1655, rfl⟩
abbrev main_call5_call3_call0_c_34 : Ref sig .tc := ⟨.hbm, 1656, rfl⟩
abbrev main_call5_call3_call0_v132 : Ref sig .tc := ⟨.hbm, 1657, rfl⟩
abbrev main_call5_call3_call0_v133 : Ref sig .tc := ⟨.hbm, 1658, rfl⟩
abbrev main_call5_call3_call0_v134 : Ref sig .tc := ⟨.hbm, 1659, rfl⟩
abbrev main_call5_call3_call0_v135 : Ref sig .tc := ⟨.hbm, 1660, rfl⟩
abbrev main_call5_call3_call0_v136 : Ref sig .tc := ⟨.hbm, 1661, rfl⟩
abbrev main_call5_call3_call0_v137 : Ref sig .tc := ⟨.hbm, 1662, rfl⟩
abbrev main_call5_call3_call0_v138 : Ref sig .tc := ⟨.hbm, 1663, rfl⟩
abbrev main_call5_call3_call0_v139 : Ref sig .tc := ⟨.hbm, 1664, rfl⟩
abbrev main_call5_call3_call0_c_35 : Ref sig .tc := ⟨.hbm, 1665, rfl⟩
abbrev main_call5_call3_call0_v140 : Ref sig .tc := ⟨.hbm, 1666, rfl⟩
abbrev main_call5_call3_call0_v141 : Ref sig .tc := ⟨.hbm, 1667, rfl⟩
abbrev main_call5_call3_call0_v142 : Ref sig .tc := ⟨.hbm, 1668, rfl⟩
abbrev main_call5_call3_call0_c_36 : Ref sig .tc := ⟨.hbm, 1669, rfl⟩
abbrev main_call5_call3_call0_v143 : Ref sig .tc := ⟨.hbm, 1670, rfl⟩
abbrev main_call5_call3_call0_v144 : Ref sig .tc := ⟨.hbm, 1671, rfl⟩
abbrev main_call5_call3_call0_c_37 : Ref sig .tc := ⟨.hbm, 1672, rfl⟩
abbrev main_call5_call3_call0_v145 : Ref sig .tc := ⟨.hbm, 1673, rfl⟩
abbrev main_call5_call3_call0_v146 : Ref sig .tc := ⟨.hbm, 1674, rfl⟩
abbrev main_call5_call3_call0_v147 : Ref sig .tc := ⟨.hbm, 1675, rfl⟩
abbrev main_call5_call3_call0_v148 : Ref sig .tc := ⟨.hbm, 1676, rfl⟩
abbrev main_call5_call3_call0_v149 : Ref sig .tc := ⟨.hbm, 1677, rfl⟩
abbrev main_call5_call3_call0_c_38 : Ref sig .tc := ⟨.hbm, 1678, rfl⟩
abbrev main_call5_call3_call0_v150 : Ref sig .tc := ⟨.hbm, 1679, rfl⟩
abbrev main_call5_call3_call0_v151 : Ref sig .tc := ⟨.hbm, 1680, rfl⟩
abbrev main_call5_call3_call0_c_39 : Ref sig .tc := ⟨.hbm, 1681, rfl⟩
abbrev main_call5_call3_call0_v152 : Ref sig .tc := ⟨.hbm, 1682, rfl⟩
abbrev main_call5_call3_call0_v153 : Ref sig .tc := ⟨.hbm, 1683, rfl⟩
abbrev main_call5_call3_call0_v154 : Ref sig .tc := ⟨.hbm, 1684, rfl⟩
abbrev main_call5_call3_call0_v155 : Ref sig .tc := ⟨.hbm, 1685, rfl⟩
abbrev main_call5_call3_call0_v156 : Ref sig .tc := ⟨.hbm, 1686, rfl⟩
abbrev main_call5_call3_call0_c_40 : Ref sig .tc := ⟨.hbm, 1687, rfl⟩
abbrev main_call5_call3_call0_v157 : Ref sig .tc := ⟨.hbm, 1688, rfl⟩
abbrev main_call5_call3_call0_v158 : Ref sig .tc := ⟨.hbm, 1689, rfl⟩
abbrev main_call5_call3_call0_c_41 : Ref sig .tc := ⟨.hbm, 1690, rfl⟩
abbrev main_call5_call3_call0_v159 : Ref sig .tc := ⟨.hbm, 1691, rfl⟩
abbrev main_call5_call3_call0_v160 : Ref sig .tc := ⟨.hbm, 1692, rfl⟩
abbrev main_call5_call3_call0_v161 : Ref sig .tc := ⟨.hbm, 1693, rfl⟩
abbrev main_call5_call3_call0_v162 : Ref sig .tc := ⟨.hbm, 1694, rfl⟩
abbrev main_call5_call3_call0_v163 : Ref sig .tc := ⟨.hbm, 1695, rfl⟩
abbrev main_call5_call3_call0_c_42 : Ref sig .tc := ⟨.hbm, 1696, rfl⟩
abbrev main_call5_call3_call0_v164 : Ref sig .tc := ⟨.hbm, 1697, rfl⟩
abbrev main_call5_call3_call0_v165 : Ref sig .tc := ⟨.hbm, 1698, rfl⟩
abbrev main_call5_call3_call0_c_43 : Ref sig .tc := ⟨.hbm, 1699, rfl⟩
abbrev main_call5_call3_call0_v166 : Ref sig .tc := ⟨.hbm, 1700, rfl⟩
abbrev main_call5_call3_call0_v167 : Ref sig .tc := ⟨.hbm, 1701, rfl⟩
abbrev main_call5_call3_call0_v168 : Ref sig .tc := ⟨.hbm, 1702, rfl⟩
abbrev main_call5_call3_call0_v169 : Ref sig .tc := ⟨.hbm, 1703, rfl⟩
abbrev main_call5_call3_call0_v170 : Ref sig .tc := ⟨.hbm, 1704, rfl⟩
abbrev main_call5_call3_v11_0 : Ref sig .tc := ⟨.hbm, 1705, rfl⟩
abbrev main_call5_call3_call0_v172 : Ref sig .tc := ⟨.hbm, 1706, rfl⟩
abbrev main_call5_call3_call0_v173 : Ref sig .tc := ⟨.hbm, 1707, rfl⟩
abbrev main_call5_call3_call0_c_44 : Ref sig .tc := ⟨.hbm, 1708, rfl⟩
abbrev main_call5_call3_call0_v174 : Ref sig .tc := ⟨.hbm, 1709, rfl⟩
abbrev main_call5_call3_v11_1 : Ref sig .tc := ⟨.hbm, 1710, rfl⟩
abbrev main_call5_call3_v12 : Ref sig .tc := ⟨.hbm, 1711, rfl⟩
abbrev main_call5_call3_v13 : Ref sig .tc := ⟨.hbm, 1712, rfl⟩
abbrev main_call5_v8 : Ref sig .tc := ⟨.hbm, 1713, rfl⟩
abbrev main_call5_v9 : Ref sig .tc := ⟨.hbm, 1714, rfl⟩
abbrev main_call5_v10 : Ref sig .tc := ⟨.hbm, 1715, rfl⟩
abbrev main_call5_v11 : Ref sig .tc := ⟨.hbm, 1716, rfl⟩
abbrev main_call5_v12 : Ref sig .tc := ⟨.hbm, 1717, rfl⟩
abbrev main_call5_v13 : Ref sig .tc := ⟨.hbm, 1718, rfl⟩
abbrev main_call5_v14 : Ref sig .tc := ⟨.hbm, 1719, rfl⟩
abbrev main_call5_v15 : Ref sig .tc := ⟨.hbm, 1720, rfl⟩
abbrev main_call5_v16 : Ref sig .tc := ⟨.hbm, 1721, rfl⟩
abbrev main_call5_v17 : Ref sig .tc := ⟨.hbm, 1722, rfl⟩
abbrev main_call5_v18 : Ref sig .tc := ⟨.hbm, 1723, rfl⟩
abbrev main_call5_c_6 : Ref sig .tc := ⟨.hbm, 1724, rfl⟩
abbrev main_call5_v19 : Ref sig .tc := ⟨.hbm, 1725, rfl⟩
abbrev main_call5_v20 : Ref sig .tc := ⟨.hbm, 1726, rfl⟩
abbrev main_call5_c_7 : Ref sig .tc := ⟨.hbm, 1727, rfl⟩
abbrev main_call5_v21 : Ref sig .tc := ⟨.hbm, 1728, rfl⟩
abbrev main_call5_v22 : Ref sig .tc := ⟨.hbm, 1729, rfl⟩
abbrev main_call5_v23 : Ref sig .tc := ⟨.hbm, 1730, rfl⟩
abbrev main_call5_c_8 : Ref sig .tc := ⟨.hbm, 1731, rfl⟩
abbrev main_call5_v24 : Ref sig .tc := ⟨.hbm, 1732, rfl⟩
abbrev main_call5_v25 : Ref sig .tc := ⟨.hbm, 1733, rfl⟩
abbrev main_call5_v26 : Ref sig .tc := ⟨.hbm, 1734, rfl⟩
abbrev main_call5_v27 : Ref sig .tc := ⟨.hbm, 1735, rfl⟩
abbrev main_call5_call4_v0 : Ref sig .tc := ⟨.hbm, 1736, rfl⟩
abbrev main_call5_call4_c : Ref sig .tc := ⟨.hbm, 1737, rfl⟩
abbrev main_call5_call4_v1 : Ref sig .tc := ⟨.hbm, 1738, rfl⟩
abbrev main_call5_call4_v2 : Ref sig .tc := ⟨.hbm, 1739, rfl⟩
abbrev main_call5_call4_v3 : Ref sig .tc := ⟨.hbm, 1740, rfl⟩
abbrev main_call5_call4_v4 : Ref sig .tc := ⟨.hbm, 1741, rfl⟩
abbrev main_call5_call4_v5 : Ref sig .tc := ⟨.hbm, 1742, rfl⟩
abbrev main_call5_call4_v6 : Ref sig .tc := ⟨.hbm, 1743, rfl⟩
abbrev main_call5_call4_c_0 : Ref sig .tc := ⟨.hbm, 1744, rfl⟩
abbrev main_call5_call4_v7 : Ref sig .tc := ⟨.hbm, 1745, rfl⟩
abbrev main_call5_call4_v8 : Ref sig .tc := ⟨.hbm, 1746, rfl⟩
abbrev main_call5_call4_c_1 : Ref sig .tc := ⟨.hbm, 1747, rfl⟩
abbrev main_call5_call4_v9 : Ref sig .tc := ⟨.hbm, 1748, rfl⟩
abbrev main_call5_call4_v10 : Ref sig .tc := ⟨.hbm, 1749, rfl⟩
abbrev main_call5_call4_v11 : Ref sig .tc := ⟨.hbm, 1750, rfl⟩
abbrev main_call5_call4_v12 : Ref sig .tc := ⟨.hbm, 1751, rfl⟩
abbrev main_call5_call4_v13 : Ref sig .tc := ⟨.hbm, 1752, rfl⟩
abbrev main_call5_call4_c_2 : Ref sig .tc := ⟨.hbm, 1753, rfl⟩
abbrev main_call5_call4_v14 : Ref sig .tc := ⟨.hbm, 1754, rfl⟩
abbrev main_call5_call4_v15 : Ref sig .tc := ⟨.hbm, 1755, rfl⟩
abbrev main_call5_call4_c_3 : Ref sig .tc := ⟨.hbm, 1756, rfl⟩
abbrev main_call5_call4_v16 : Ref sig .tc := ⟨.hbm, 1757, rfl⟩
abbrev main_call5_call4_v17 : Ref sig .tc := ⟨.hbm, 1758, rfl⟩
abbrev main_call5_call4_v18 : Ref sig .tc := ⟨.hbm, 1759, rfl⟩
abbrev main_call5_call4_v19 : Ref sig .tc := ⟨.hbm, 1760, rfl⟩
abbrev main_call5_call4_v20 : Ref sig .tc := ⟨.hbm, 1761, rfl⟩
abbrev main_call5_call4_c_4 : Ref sig .tc := ⟨.hbm, 1762, rfl⟩
abbrev main_call5_call4_v21 : Ref sig .tc := ⟨.hbm, 1763, rfl⟩
abbrev main_call5_call4_v22 : Ref sig .tc := ⟨.hbm, 1764, rfl⟩
abbrev main_call5_call4_c_5 : Ref sig .tc := ⟨.hbm, 1765, rfl⟩
abbrev main_call5_call4_v23 : Ref sig .tc := ⟨.hbm, 1766, rfl⟩
abbrev main_call5_call4_v24 : Ref sig .tc := ⟨.hbm, 1767, rfl⟩
abbrev main_call5_call4_v25 : Ref sig .tc := ⟨.hbm, 1768, rfl⟩
abbrev main_call5_call4_v26 : Ref sig .tc := ⟨.hbm, 1769, rfl⟩
abbrev main_call5_call4_v27 : Ref sig .tc := ⟨.hbm, 1770, rfl⟩
abbrev main_call5_call4_c_6 : Ref sig .tc := ⟨.hbm, 1771, rfl⟩
abbrev main_call5_call4_v28 : Ref sig .tc := ⟨.hbm, 1772, rfl⟩
abbrev main_call5_call4_v29 : Ref sig .tc := ⟨.hbm, 1773, rfl⟩
abbrev main_call5_call4_c_7 : Ref sig .tc := ⟨.hbm, 1774, rfl⟩
abbrev main_call5_call4_v30 : Ref sig .tc := ⟨.hbm, 1775, rfl⟩
abbrev main_call5_call4_v31 : Ref sig .tc := ⟨.hbm, 1776, rfl⟩
abbrev main_call5_call4_v32 : Ref sig .tc := ⟨.hbm, 1777, rfl⟩
abbrev main_call5_call4_v33 : Ref sig .tc := ⟨.hbm, 1778, rfl⟩
abbrev main_call5_call4_v34 : Ref sig .tc := ⟨.hbm, 1779, rfl⟩
abbrev main_call5_call4_v35 : Ref sig .tc := ⟨.hbm, 1780, rfl⟩
abbrev main_call5_call4_v36 : Ref sig .tc := ⟨.hbm, 1781, rfl⟩
abbrev main_call5_call4_v37 : Ref sig .tc := ⟨.hbm, 1782, rfl⟩
abbrev main_call5_call4_c_8 : Ref sig .tc := ⟨.hbm, 1783, rfl⟩
abbrev main_call5_call4_v38 : Ref sig .tc := ⟨.hbm, 1784, rfl⟩
abbrev main_call5_call4_v39 : Ref sig .tc := ⟨.hbm, 1785, rfl⟩
abbrev main_call5_call4_v40 : Ref sig .tc := ⟨.hbm, 1786, rfl⟩
abbrev main_call5_call4_c_9 : Ref sig .tc := ⟨.hbm, 1787, rfl⟩
abbrev main_call5_call4_v41 : Ref sig .tc := ⟨.hbm, 1788, rfl⟩
abbrev main_call5_call4_v42 : Ref sig .tc := ⟨.hbm, 1789, rfl⟩
abbrev main_call5_call4_c_10 : Ref sig .tc := ⟨.hbm, 1790, rfl⟩
abbrev main_call5_call4_v43 : Ref sig .tc := ⟨.hbm, 1791, rfl⟩
abbrev main_call5_call4_v44 : Ref sig .tc := ⟨.hbm, 1792, rfl⟩
abbrev main_call5_call4_v45 : Ref sig .tc := ⟨.hbm, 1793, rfl⟩
abbrev main_call5_call4_v46 : Ref sig .tc := ⟨.hbm, 1794, rfl⟩
abbrev main_call5_call4_v47 : Ref sig .tc := ⟨.hbm, 1795, rfl⟩
abbrev main_call5_call4_c_11 : Ref sig .tc := ⟨.hbm, 1796, rfl⟩
abbrev main_call5_call4_v48 : Ref sig .tc := ⟨.hbm, 1797, rfl⟩
abbrev main_call5_call4_v49 : Ref sig .tc := ⟨.hbm, 1798, rfl⟩
abbrev main_call5_call4_c_12 : Ref sig .tc := ⟨.hbm, 1799, rfl⟩
abbrev main_call5_call4_v50 : Ref sig .tc := ⟨.hbm, 1800, rfl⟩
abbrev main_call5_call4_v51 : Ref sig .tc := ⟨.hbm, 1801, rfl⟩
abbrev main_call5_call4_v52 : Ref sig .tc := ⟨.hbm, 1802, rfl⟩
abbrev main_call5_call4_v53 : Ref sig .tc := ⟨.hbm, 1803, rfl⟩
abbrev main_call5_call4_v54 : Ref sig .tc := ⟨.hbm, 1804, rfl⟩
abbrev main_call5_call4_c_13 : Ref sig .tc := ⟨.hbm, 1805, rfl⟩
abbrev main_call5_call4_v55 : Ref sig .tc := ⟨.hbm, 1806, rfl⟩
abbrev main_call5_call4_v56 : Ref sig .tc := ⟨.hbm, 1807, rfl⟩
abbrev main_call5_call4_c_14 : Ref sig .tc := ⟨.hbm, 1808, rfl⟩
abbrev main_call5_call4_v57 : Ref sig .tc := ⟨.hbm, 1809, rfl⟩
abbrev main_call5_call4_v58 : Ref sig .tc := ⟨.hbm, 1810, rfl⟩
abbrev main_call5_call4_v59 : Ref sig .tc := ⟨.hbm, 1811, rfl⟩
abbrev main_call5_call4_v60 : Ref sig .tc := ⟨.hbm, 1812, rfl⟩
abbrev main_call5_call4_v61 : Ref sig .tc := ⟨.hbm, 1813, rfl⟩
abbrev main_call5_call4_c_15 : Ref sig .tc := ⟨.hbm, 1814, rfl⟩
abbrev main_call5_call4_v62 : Ref sig .tc := ⟨.hbm, 1815, rfl⟩
abbrev main_call5_call4_v63 : Ref sig .tc := ⟨.hbm, 1816, rfl⟩
abbrev main_call5_call4_c_16 : Ref sig .tc := ⟨.hbm, 1817, rfl⟩
abbrev main_call5_call4_v64 : Ref sig .tc := ⟨.hbm, 1818, rfl⟩
abbrev main_call5_call4_v65 : Ref sig .tc := ⟨.hbm, 1819, rfl⟩
abbrev main_call5_call4_v66 : Ref sig .tc := ⟨.hbm, 1820, rfl⟩
abbrev main_call5_call4_v67 : Ref sig .tc := ⟨.hbm, 1821, rfl⟩
abbrev main_call5_call4_v68 : Ref sig .tc := ⟨.hbm, 1822, rfl⟩
abbrev main_call5_call4_v69 : Ref sig .tc := ⟨.hbm, 1823, rfl⟩
abbrev main_call5_call4_v70 : Ref sig .tc := ⟨.hbm, 1824, rfl⟩
abbrev main_call5_call4_v71 : Ref sig .tc := ⟨.hbm, 1825, rfl⟩
abbrev main_call5_call4_c_17 : Ref sig .tc := ⟨.hbm, 1826, rfl⟩
abbrev main_call5_call4_v72 : Ref sig .tc := ⟨.hbm, 1827, rfl⟩
abbrev main_call5_call4_v73 : Ref sig .tc := ⟨.hbm, 1828, rfl⟩
abbrev main_call5_call4_v74 : Ref sig .tc := ⟨.hbm, 1829, rfl⟩
abbrev main_call5_call4_c_18 : Ref sig .tc := ⟨.hbm, 1830, rfl⟩
abbrev main_call5_call4_v75 : Ref sig .tc := ⟨.hbm, 1831, rfl⟩
abbrev main_call5_call4_v76 : Ref sig .tc := ⟨.hbm, 1832, rfl⟩
abbrev main_call5_call4_c_19 : Ref sig .tc := ⟨.hbm, 1833, rfl⟩
abbrev main_call5_call4_v77 : Ref sig .tc := ⟨.hbm, 1834, rfl⟩
abbrev main_call5_call4_v78 : Ref sig .tc := ⟨.hbm, 1835, rfl⟩
abbrev main_call5_call4_v79 : Ref sig .tc := ⟨.hbm, 1836, rfl⟩
abbrev main_call5_call4_v80 : Ref sig .tc := ⟨.hbm, 1837, rfl⟩
abbrev main_call5_call4_v81 : Ref sig .tc := ⟨.hbm, 1838, rfl⟩
abbrev main_call5_call4_c_20 : Ref sig .tc := ⟨.hbm, 1839, rfl⟩
abbrev main_call5_call4_v82 : Ref sig .tc := ⟨.hbm, 1840, rfl⟩
abbrev main_call5_call4_v83 : Ref sig .tc := ⟨.hbm, 1841, rfl⟩
abbrev main_call5_call4_c_21 : Ref sig .tc := ⟨.hbm, 1842, rfl⟩
abbrev main_call5_call4_v84 : Ref sig .tc := ⟨.hbm, 1843, rfl⟩
abbrev main_call5_call4_v85 : Ref sig .tc := ⟨.hbm, 1844, rfl⟩
abbrev main_call5_call4_v86 : Ref sig .tc := ⟨.hbm, 1845, rfl⟩
abbrev main_call5_call4_v87 : Ref sig .tc := ⟨.hbm, 1846, rfl⟩
abbrev main_call5_call4_v88 : Ref sig .tc := ⟨.hbm, 1847, rfl⟩
abbrev main_call5_call4_c_22 : Ref sig .tc := ⟨.hbm, 1848, rfl⟩
abbrev main_call5_call4_v89 : Ref sig .tc := ⟨.hbm, 1849, rfl⟩
abbrev main_call5_call4_v90 : Ref sig .tc := ⟨.hbm, 1850, rfl⟩
abbrev main_call5_call4_c_23 : Ref sig .tc := ⟨.hbm, 1851, rfl⟩
abbrev main_call5_call4_v91 : Ref sig .tc := ⟨.hbm, 1852, rfl⟩
abbrev main_call5_call4_v92 : Ref sig .tc := ⟨.hbm, 1853, rfl⟩
abbrev main_call5_call4_v93 : Ref sig .tc := ⟨.hbm, 1854, rfl⟩
abbrev main_call5_call4_v94 : Ref sig .tc := ⟨.hbm, 1855, rfl⟩
abbrev main_call5_call4_v95 : Ref sig .tc := ⟨.hbm, 1856, rfl⟩
abbrev main_call5_call4_c_24 : Ref sig .tc := ⟨.hbm, 1857, rfl⟩
abbrev main_call5_call4_v96 : Ref sig .tc := ⟨.hbm, 1858, rfl⟩
abbrev main_call5_call4_v97 : Ref sig .tc := ⟨.hbm, 1859, rfl⟩
abbrev main_call5_call4_c_25 : Ref sig .tc := ⟨.hbm, 1860, rfl⟩
abbrev main_call5_call4_v98 : Ref sig .tc := ⟨.hbm, 1861, rfl⟩
abbrev main_call5_call4_v99 : Ref sig .tc := ⟨.hbm, 1862, rfl⟩
abbrev main_call5_call4_v100 : Ref sig .tc := ⟨.hbm, 1863, rfl⟩
abbrev main_call5_call4_v101 : Ref sig .tc := ⟨.hbm, 1864, rfl⟩
abbrev main_call5_call4_v102 : Ref sig .tc := ⟨.hbm, 1865, rfl⟩
abbrev main_call5_call4_v103 : Ref sig .tc := ⟨.hbm, 1866, rfl⟩
abbrev main_call5_call4_v104 : Ref sig .tc := ⟨.hbm, 1867, rfl⟩
abbrev main_call5_call4_v105 : Ref sig .tc := ⟨.hbm, 1868, rfl⟩
abbrev main_call5_call4_c_26 : Ref sig .tc := ⟨.hbm, 1869, rfl⟩
abbrev main_call5_call4_v106 : Ref sig .tc := ⟨.hbm, 1870, rfl⟩
abbrev main_call5_call4_v107 : Ref sig .tc := ⟨.hbm, 1871, rfl⟩
abbrev main_call5_call4_v108 : Ref sig .tc := ⟨.hbm, 1872, rfl⟩
abbrev main_call5_call4_c_27 : Ref sig .tc := ⟨.hbm, 1873, rfl⟩
abbrev main_call5_call4_v109 : Ref sig .tc := ⟨.hbm, 1874, rfl⟩
abbrev main_call5_call4_v110 : Ref sig .tc := ⟨.hbm, 1875, rfl⟩
abbrev main_call5_call4_c_28 : Ref sig .tc := ⟨.hbm, 1876, rfl⟩
abbrev main_call5_call4_v111 : Ref sig .tc := ⟨.hbm, 1877, rfl⟩
abbrev main_call5_call4_v112 : Ref sig .tc := ⟨.hbm, 1878, rfl⟩
abbrev main_call5_call4_v113 : Ref sig .tc := ⟨.hbm, 1879, rfl⟩
abbrev main_call5_call4_v114 : Ref sig .tc := ⟨.hbm, 1880, rfl⟩
abbrev main_call5_call4_v115 : Ref sig .tc := ⟨.hbm, 1881, rfl⟩
abbrev main_call5_call4_c_29 : Ref sig .tc := ⟨.hbm, 1882, rfl⟩
abbrev main_call5_call4_v116 : Ref sig .tc := ⟨.hbm, 1883, rfl⟩
abbrev main_call5_call4_v117 : Ref sig .tc := ⟨.hbm, 1884, rfl⟩
abbrev main_call5_call4_c_30 : Ref sig .tc := ⟨.hbm, 1885, rfl⟩
abbrev main_call5_call4_v118 : Ref sig .tc := ⟨.hbm, 1886, rfl⟩
abbrev main_call5_call4_v119 : Ref sig .tc := ⟨.hbm, 1887, rfl⟩
abbrev main_call5_call4_v120 : Ref sig .tc := ⟨.hbm, 1888, rfl⟩
abbrev main_call5_call4_v121 : Ref sig .tc := ⟨.hbm, 1889, rfl⟩
abbrev main_call5_call4_v122 : Ref sig .tc := ⟨.hbm, 1890, rfl⟩
abbrev main_call5_call4_c_31 : Ref sig .tc := ⟨.hbm, 1891, rfl⟩
abbrev main_call5_call4_v123 : Ref sig .tc := ⟨.hbm, 1892, rfl⟩
abbrev main_call5_call4_v124 : Ref sig .tc := ⟨.hbm, 1893, rfl⟩
abbrev main_call5_call4_c_32 : Ref sig .tc := ⟨.hbm, 1894, rfl⟩
abbrev main_call5_call4_v125 : Ref sig .tc := ⟨.hbm, 1895, rfl⟩
abbrev main_call5_call4_v126 : Ref sig .tc := ⟨.hbm, 1896, rfl⟩
abbrev main_call5_call4_v127 : Ref sig .tc := ⟨.hbm, 1897, rfl⟩
abbrev main_call5_call4_v128 : Ref sig .tc := ⟨.hbm, 1898, rfl⟩
abbrev main_call5_call4_v129 : Ref sig .tc := ⟨.hbm, 1899, rfl⟩
abbrev main_call5_call4_c_33 : Ref sig .tc := ⟨.hbm, 1900, rfl⟩
abbrev main_call5_call4_v130 : Ref sig .tc := ⟨.hbm, 1901, rfl⟩
abbrev main_call5_call4_v131 : Ref sig .tc := ⟨.hbm, 1902, rfl⟩
abbrev main_call5_call4_c_34 : Ref sig .tc := ⟨.hbm, 1903, rfl⟩
abbrev main_call5_call4_v132 : Ref sig .tc := ⟨.hbm, 1904, rfl⟩
abbrev main_call5_call4_v133 : Ref sig .tc := ⟨.hbm, 1905, rfl⟩
abbrev main_call5_call4_v134 : Ref sig .tc := ⟨.hbm, 1906, rfl⟩
abbrev main_call5_call4_v135 : Ref sig .tc := ⟨.hbm, 1907, rfl⟩
abbrev main_call5_call4_v136 : Ref sig .tc := ⟨.hbm, 1908, rfl⟩
abbrev main_call5_call4_v137 : Ref sig .tc := ⟨.hbm, 1909, rfl⟩
abbrev main_call5_call4_v138 : Ref sig .tc := ⟨.hbm, 1910, rfl⟩
abbrev main_call5_call4_v139 : Ref sig .tc := ⟨.hbm, 1911, rfl⟩
abbrev main_call5_call4_c_35 : Ref sig .tc := ⟨.hbm, 1912, rfl⟩
abbrev main_call5_call4_v140 : Ref sig .tc := ⟨.hbm, 1913, rfl⟩
abbrev main_call5_call4_v141 : Ref sig .tc := ⟨.hbm, 1914, rfl⟩
abbrev main_call5_call4_v142 : Ref sig .tc := ⟨.hbm, 1915, rfl⟩
abbrev main_call5_call4_c_36 : Ref sig .tc := ⟨.hbm, 1916, rfl⟩
abbrev main_call5_call4_v143 : Ref sig .tc := ⟨.hbm, 1917, rfl⟩
abbrev main_call5_call4_v144 : Ref sig .tc := ⟨.hbm, 1918, rfl⟩
abbrev main_call5_call4_c_37 : Ref sig .tc := ⟨.hbm, 1919, rfl⟩
abbrev main_call5_call4_v145 : Ref sig .tc := ⟨.hbm, 1920, rfl⟩
abbrev main_call5_call4_v146 : Ref sig .tc := ⟨.hbm, 1921, rfl⟩
abbrev main_call5_call4_v147 : Ref sig .tc := ⟨.hbm, 1922, rfl⟩
abbrev main_call5_call4_v148 : Ref sig .tc := ⟨.hbm, 1923, rfl⟩
abbrev main_call5_call4_v149 : Ref sig .tc := ⟨.hbm, 1924, rfl⟩
abbrev main_call5_call4_c_38 : Ref sig .tc := ⟨.hbm, 1925, rfl⟩
abbrev main_call5_call4_v150 : Ref sig .tc := ⟨.hbm, 1926, rfl⟩
abbrev main_call5_call4_v151 : Ref sig .tc := ⟨.hbm, 1927, rfl⟩
abbrev main_call5_call4_c_39 : Ref sig .tc := ⟨.hbm, 1928, rfl⟩
abbrev main_call5_call4_v152 : Ref sig .tc := ⟨.hbm, 1929, rfl⟩
abbrev main_call5_call4_v153 : Ref sig .tc := ⟨.hbm, 1930, rfl⟩
abbrev main_call5_call4_v154 : Ref sig .tc := ⟨.hbm, 1931, rfl⟩
abbrev main_call5_call4_v155 : Ref sig .tc := ⟨.hbm, 1932, rfl⟩
abbrev main_call5_call4_v156 : Ref sig .tc := ⟨.hbm, 1933, rfl⟩
abbrev main_call5_call4_c_40 : Ref sig .tc := ⟨.hbm, 1934, rfl⟩
abbrev main_call5_call4_v157 : Ref sig .tc := ⟨.hbm, 1935, rfl⟩
abbrev main_call5_call4_v158 : Ref sig .tc := ⟨.hbm, 1936, rfl⟩
abbrev main_call5_call4_c_41 : Ref sig .tc := ⟨.hbm, 1937, rfl⟩
abbrev main_call5_call4_v159 : Ref sig .tc := ⟨.hbm, 1938, rfl⟩
abbrev main_call5_call4_v160 : Ref sig .tc := ⟨.hbm, 1939, rfl⟩
abbrev main_call5_call4_v161 : Ref sig .tc := ⟨.hbm, 1940, rfl⟩
abbrev main_call5_call4_v162 : Ref sig .tc := ⟨.hbm, 1941, rfl⟩
abbrev main_call5_call4_v163 : Ref sig .tc := ⟨.hbm, 1942, rfl⟩
abbrev main_call5_call4_c_42 : Ref sig .tc := ⟨.hbm, 1943, rfl⟩
abbrev main_call5_call4_v164 : Ref sig .tc := ⟨.hbm, 1944, rfl⟩
abbrev main_call5_call4_v165 : Ref sig .tc := ⟨.hbm, 1945, rfl⟩
abbrev main_call5_call4_c_43 : Ref sig .tc := ⟨.hbm, 1946, rfl⟩
abbrev main_call5_call4_v166 : Ref sig .tc := ⟨.hbm, 1947, rfl⟩
abbrev main_call5_call4_v167 : Ref sig .tc := ⟨.hbm, 1948, rfl⟩
abbrev main_call5_call4_v168 : Ref sig .tc := ⟨.hbm, 1949, rfl⟩
abbrev main_call5_call4_v169 : Ref sig .tc := ⟨.hbm, 1950, rfl⟩
abbrev main_call5_call4_v170 : Ref sig .tc := ⟨.hbm, 1951, rfl⟩
abbrev main_call5_v28_0 : Ref sig .tc := ⟨.hbm, 1952, rfl⟩
abbrev main_call5_call4_v172 : Ref sig .tc := ⟨.hbm, 1953, rfl⟩
abbrev main_call5_call4_v173 : Ref sig .tc := ⟨.hbm, 1954, rfl⟩
abbrev main_call5_call4_c_44 : Ref sig .tc := ⟨.hbm, 1955, rfl⟩
abbrev main_call5_call4_v174 : Ref sig .tc := ⟨.hbm, 1956, rfl⟩
abbrev main_call5_v28_1 : Ref sig .tc := ⟨.hbm, 1957, rfl⟩
abbrev main_call5_v29 : Ref sig .tc := ⟨.hbm, 1958, rfl⟩
abbrev main_call5_v30 : Ref sig .tc := ⟨.hbm, 1959, rfl⟩
abbrev main_call5_v31 : Ref sig .tc := ⟨.hbm, 1960, rfl⟩
abbrev main_call5_v32 : Ref sig .tc := ⟨.hbm, 1961, rfl⟩
abbrev main_call5_v33 : Ref sig .tc := ⟨.hbm, 1962, rfl⟩
abbrev main_call5_v34 : Ref sig .tc := ⟨.hbm, 1963, rfl⟩
abbrev main_call5_v35 : Ref sig .tc := ⟨.hbm, 1964, rfl⟩
abbrev main_call5_c_9 : Ref sig .tc := ⟨.hbm, 1965, rfl⟩
abbrev main_call5_v36 : Ref sig .tc := ⟨.hbm, 1966, rfl⟩
abbrev main_call5_v37 : Ref sig .tc := ⟨.hbm, 1967, rfl⟩
abbrev main_call5_c_10 : Ref sig .tc := ⟨.hbm, 1968, rfl⟩
abbrev main_call5_v38 : Ref sig .tc := ⟨.hbm, 1969, rfl⟩
abbrev main_call5_v39 : Ref sig .tc := ⟨.hbm, 1970, rfl⟩
abbrev main_call5_v40 : Ref sig .tc := ⟨.hbm, 1971, rfl⟩
abbrev main_call5_c_11 : Ref sig .tc := ⟨.hbm, 1972, rfl⟩
abbrev main_call5_v41 : Ref sig .tc := ⟨.hbm, 1973, rfl⟩
abbrev main_call5_v42 : Ref sig .tc := ⟨.hbm, 1974, rfl⟩
abbrev main_call5_v43 : Ref sig .tc := ⟨.hbm, 1975, rfl⟩
abbrev main_call5_v44 : Ref sig .tc := ⟨.hbm, 1976, rfl⟩
abbrev main_call5_call5_v0 : Ref sig .tc := ⟨.hbm, 1977, rfl⟩
abbrev main_call5_call5_c : Ref sig .tc := ⟨.hbm, 1978, rfl⟩
abbrev main_call5_call5_v1 : Ref sig .tc := ⟨.hbm, 1979, rfl⟩
abbrev main_call5_call5_v2 : Ref sig .tc := ⟨.hbm, 1980, rfl⟩
abbrev main_call5_call5_v3 : Ref sig .tc := ⟨.hbm, 1981, rfl⟩
abbrev main_call5_call5_v4 : Ref sig .tc := ⟨.hbm, 1982, rfl⟩
abbrev main_call5_call5_v5 : Ref sig .tc := ⟨.hbm, 1983, rfl⟩
abbrev main_call5_call5_v6 : Ref sig .tc := ⟨.hbm, 1984, rfl⟩
abbrev main_call5_call5_c_0 : Ref sig .tc := ⟨.hbm, 1985, rfl⟩
abbrev main_call5_call5_v7 : Ref sig .tc := ⟨.hbm, 1986, rfl⟩
abbrev main_call5_call5_v8 : Ref sig .tc := ⟨.hbm, 1987, rfl⟩
abbrev main_call5_call5_c_1 : Ref sig .tc := ⟨.hbm, 1988, rfl⟩
abbrev main_call5_call5_v9 : Ref sig .tc := ⟨.hbm, 1989, rfl⟩
abbrev main_call5_call5_v10 : Ref sig .tc := ⟨.hbm, 1990, rfl⟩
abbrev main_call5_call5_v11 : Ref sig .tc := ⟨.hbm, 1991, rfl⟩
abbrev main_call5_call5_v12 : Ref sig .tc := ⟨.hbm, 1992, rfl⟩
abbrev main_call5_call5_v13 : Ref sig .tc := ⟨.hbm, 1993, rfl⟩
abbrev main_call5_call5_c_2 : Ref sig .tc := ⟨.hbm, 1994, rfl⟩
abbrev main_call5_call5_v14 : Ref sig .tc := ⟨.hbm, 1995, rfl⟩
abbrev main_call5_call5_v15 : Ref sig .tc := ⟨.hbm, 1996, rfl⟩
abbrev main_call5_call5_c_3 : Ref sig .tc := ⟨.hbm, 1997, rfl⟩
abbrev main_call5_call5_v16 : Ref sig .tc := ⟨.hbm, 1998, rfl⟩
abbrev main_call5_call5_v17 : Ref sig .tc := ⟨.hbm, 1999, rfl⟩
abbrev main_call5_call5_v18 : Ref sig .tc := ⟨.hbm, 2000, rfl⟩
abbrev main_call5_call5_v19 : Ref sig .tc := ⟨.hbm, 2001, rfl⟩
abbrev main_call5_call5_v20 : Ref sig .tc := ⟨.hbm, 2002, rfl⟩
abbrev main_call5_call5_c_4 : Ref sig .tc := ⟨.hbm, 2003, rfl⟩
abbrev main_call5_call5_v21 : Ref sig .tc := ⟨.hbm, 2004, rfl⟩
abbrev main_call5_call5_v22 : Ref sig .tc := ⟨.hbm, 2005, rfl⟩
abbrev main_call5_call5_c_5 : Ref sig .tc := ⟨.hbm, 2006, rfl⟩
abbrev main_call5_call5_v23 : Ref sig .tc := ⟨.hbm, 2007, rfl⟩
abbrev main_call5_call5_v24 : Ref sig .tc := ⟨.hbm, 2008, rfl⟩
abbrev main_call5_call5_v25 : Ref sig .tc := ⟨.hbm, 2009, rfl⟩
abbrev main_call5_call5_v26 : Ref sig .tc := ⟨.hbm, 2010, rfl⟩
abbrev main_call5_call5_v27 : Ref sig .tc := ⟨.hbm, 2011, rfl⟩
abbrev main_call5_call5_c_6 : Ref sig .tc := ⟨.hbm, 2012, rfl⟩
abbrev main_call5_call5_v28 : Ref sig .tc := ⟨.hbm, 2013, rfl⟩
abbrev main_call5_call5_v29 : Ref sig .tc := ⟨.hbm, 2014, rfl⟩
abbrev main_call5_call5_c_7 : Ref sig .tc := ⟨.hbm, 2015, rfl⟩
abbrev main_call5_call5_v30 : Ref sig .tc := ⟨.hbm, 2016, rfl⟩
abbrev main_call5_call5_v31 : Ref sig .tc := ⟨.hbm, 2017, rfl⟩
abbrev main_call5_call5_v32 : Ref sig .tc := ⟨.hbm, 2018, rfl⟩
abbrev main_call5_call5_v33 : Ref sig .tc := ⟨.hbm, 2019, rfl⟩
abbrev main_call5_call5_v34 : Ref sig .tc := ⟨.hbm, 2020, rfl⟩
abbrev main_call5_call5_v35 : Ref sig .tc := ⟨.hbm, 2021, rfl⟩
abbrev main_call5_call5_v36 : Ref sig .tc := ⟨.hbm, 2022, rfl⟩
abbrev main_call5_call5_v37 : Ref sig .tc := ⟨.hbm, 2023, rfl⟩
abbrev main_call5_call5_c_8 : Ref sig .tc := ⟨.hbm, 2024, rfl⟩
abbrev main_call5_call5_v38 : Ref sig .tc := ⟨.hbm, 2025, rfl⟩
abbrev main_call5_call5_v39 : Ref sig .tc := ⟨.hbm, 2026, rfl⟩
abbrev main_call5_call5_v40 : Ref sig .tc := ⟨.hbm, 2027, rfl⟩
abbrev main_call5_call5_c_9 : Ref sig .tc := ⟨.hbm, 2028, rfl⟩
abbrev main_call5_call5_v41 : Ref sig .tc := ⟨.hbm, 2029, rfl⟩
abbrev main_call5_call5_v42 : Ref sig .tc := ⟨.hbm, 2030, rfl⟩
abbrev main_call5_call5_c_10 : Ref sig .tc := ⟨.hbm, 2031, rfl⟩
abbrev main_call5_call5_v43 : Ref sig .tc := ⟨.hbm, 2032, rfl⟩
abbrev main_call5_call5_v44 : Ref sig .tc := ⟨.hbm, 2033, rfl⟩
abbrev main_call5_call5_v45 : Ref sig .tc := ⟨.hbm, 2034, rfl⟩
abbrev main_call5_call5_v46 : Ref sig .tc := ⟨.hbm, 2035, rfl⟩
abbrev main_call5_call5_v47 : Ref sig .tc := ⟨.hbm, 2036, rfl⟩
abbrev main_call5_call5_c_11 : Ref sig .tc := ⟨.hbm, 2037, rfl⟩
abbrev main_call5_call5_v48 : Ref sig .tc := ⟨.hbm, 2038, rfl⟩
abbrev main_call5_call5_v49 : Ref sig .tc := ⟨.hbm, 2039, rfl⟩
abbrev main_call5_call5_c_12 : Ref sig .tc := ⟨.hbm, 2040, rfl⟩
abbrev main_call5_call5_v50 : Ref sig .tc := ⟨.hbm, 2041, rfl⟩
abbrev main_call5_call5_v51 : Ref sig .tc := ⟨.hbm, 2042, rfl⟩
abbrev main_call5_call5_v52 : Ref sig .tc := ⟨.hbm, 2043, rfl⟩
abbrev main_call5_call5_v53 : Ref sig .tc := ⟨.hbm, 2044, rfl⟩
abbrev main_call5_call5_v54 : Ref sig .tc := ⟨.hbm, 2045, rfl⟩
abbrev main_call5_call5_c_13 : Ref sig .tc := ⟨.hbm, 2046, rfl⟩
abbrev main_call5_call5_v55 : Ref sig .tc := ⟨.hbm, 2047, rfl⟩
abbrev main_call5_call5_v56 : Ref sig .tc := ⟨.hbm, 2048, rfl⟩
abbrev main_call5_call5_c_14 : Ref sig .tc := ⟨.hbm, 2049, rfl⟩
abbrev main_call5_call5_v57 : Ref sig .tc := ⟨.hbm, 2050, rfl⟩
abbrev main_call5_call5_v58 : Ref sig .tc := ⟨.hbm, 2051, rfl⟩
abbrev main_call5_call5_v59 : Ref sig .tc := ⟨.hbm, 2052, rfl⟩
abbrev main_call5_call5_v60 : Ref sig .tc := ⟨.hbm, 2053, rfl⟩
abbrev main_call5_call5_v61 : Ref sig .tc := ⟨.hbm, 2054, rfl⟩
abbrev main_call5_call5_c_15 : Ref sig .tc := ⟨.hbm, 2055, rfl⟩
abbrev main_call5_call5_v62 : Ref sig .tc := ⟨.hbm, 2056, rfl⟩
abbrev main_call5_call5_v63 : Ref sig .tc := ⟨.hbm, 2057, rfl⟩
abbrev main_call5_call5_c_16 : Ref sig .tc := ⟨.hbm, 2058, rfl⟩
abbrev main_call5_call5_v64 : Ref sig .tc := ⟨.hbm, 2059, rfl⟩
abbrev main_call5_call5_v65 : Ref sig .tc := ⟨.hbm, 2060, rfl⟩
abbrev main_call5_call5_v66 : Ref sig .tc := ⟨.hbm, 2061, rfl⟩
abbrev main_call5_call5_v67 : Ref sig .tc := ⟨.hbm, 2062, rfl⟩
abbrev main_call5_call5_v68 : Ref sig .tc := ⟨.hbm, 2063, rfl⟩
abbrev main_call5_call5_v69 : Ref sig .tc := ⟨.hbm, 2064, rfl⟩
abbrev main_call5_call5_v70 : Ref sig .tc := ⟨.hbm, 2065, rfl⟩
abbrev main_call5_call5_v71 : Ref sig .tc := ⟨.hbm, 2066, rfl⟩
abbrev main_call5_call5_c_17 : Ref sig .tc := ⟨.hbm, 2067, rfl⟩
abbrev main_call5_call5_v72 : Ref sig .tc := ⟨.hbm, 2068, rfl⟩
abbrev main_call5_call5_v73 : Ref sig .tc := ⟨.hbm, 2069, rfl⟩
abbrev main_call5_call5_v74 : Ref sig .tc := ⟨.hbm, 2070, rfl⟩
abbrev main_call5_call5_c_18 : Ref sig .tc := ⟨.hbm, 2071, rfl⟩
abbrev main_call5_call5_v75 : Ref sig .tc := ⟨.hbm, 2072, rfl⟩
abbrev main_call5_call5_v76 : Ref sig .tc := ⟨.hbm, 2073, rfl⟩
abbrev main_call5_call5_c_19 : Ref sig .tc := ⟨.hbm, 2074, rfl⟩
abbrev main_call5_call5_v77 : Ref sig .tc := ⟨.hbm, 2075, rfl⟩
abbrev main_call5_call5_v78 : Ref sig .tc := ⟨.hbm, 2076, rfl⟩
abbrev main_call5_call5_v79 : Ref sig .tc := ⟨.hbm, 2077, rfl⟩
abbrev main_call5_call5_v80 : Ref sig .tc := ⟨.hbm, 2078, rfl⟩
abbrev main_call5_call5_v81 : Ref sig .tc := ⟨.hbm, 2079, rfl⟩
abbrev main_call5_call5_c_20 : Ref sig .tc := ⟨.hbm, 2080, rfl⟩
abbrev main_call5_call5_v82 : Ref sig .tc := ⟨.hbm, 2081, rfl⟩
abbrev main_call5_call5_v83 : Ref sig .tc := ⟨.hbm, 2082, rfl⟩
abbrev main_call5_call5_c_21 : Ref sig .tc := ⟨.hbm, 2083, rfl⟩
abbrev main_call5_call5_v84 : Ref sig .tc := ⟨.hbm, 2084, rfl⟩
abbrev main_call5_call5_v85 : Ref sig .tc := ⟨.hbm, 2085, rfl⟩
abbrev main_call5_call5_v86 : Ref sig .tc := ⟨.hbm, 2086, rfl⟩
abbrev main_call5_call5_v87 : Ref sig .tc := ⟨.hbm, 2087, rfl⟩
abbrev main_call5_call5_v88 : Ref sig .tc := ⟨.hbm, 2088, rfl⟩
abbrev main_call5_call5_c_22 : Ref sig .tc := ⟨.hbm, 2089, rfl⟩
abbrev main_call5_call5_v89 : Ref sig .tc := ⟨.hbm, 2090, rfl⟩
abbrev main_call5_call5_v90 : Ref sig .tc := ⟨.hbm, 2091, rfl⟩
abbrev main_call5_call5_c_23 : Ref sig .tc := ⟨.hbm, 2092, rfl⟩
abbrev main_call5_call5_v91 : Ref sig .tc := ⟨.hbm, 2093, rfl⟩
abbrev main_call5_call5_v92 : Ref sig .tc := ⟨.hbm, 2094, rfl⟩
abbrev main_call5_call5_v93 : Ref sig .tc := ⟨.hbm, 2095, rfl⟩
abbrev main_call5_call5_v94 : Ref sig .tc := ⟨.hbm, 2096, rfl⟩
abbrev main_call5_call5_v95 : Ref sig .tc := ⟨.hbm, 2097, rfl⟩
abbrev main_call5_call5_c_24 : Ref sig .tc := ⟨.hbm, 2098, rfl⟩
abbrev main_call5_call5_v96 : Ref sig .tc := ⟨.hbm, 2099, rfl⟩
abbrev main_call5_call5_v97 : Ref sig .tc := ⟨.hbm, 2100, rfl⟩
abbrev main_call5_call5_c_25 : Ref sig .tc := ⟨.hbm, 2101, rfl⟩
abbrev main_call5_call5_v98 : Ref sig .tc := ⟨.hbm, 2102, rfl⟩
abbrev main_call5_call5_v99 : Ref sig .tc := ⟨.hbm, 2103, rfl⟩
abbrev main_call5_call5_v100 : Ref sig .tc := ⟨.hbm, 2104, rfl⟩
abbrev main_call5_call5_v101 : Ref sig .tc := ⟨.hbm, 2105, rfl⟩
abbrev main_call5_call5_v102 : Ref sig .tc := ⟨.hbm, 2106, rfl⟩
abbrev main_call5_call5_v103 : Ref sig .tc := ⟨.hbm, 2107, rfl⟩
abbrev main_call5_call5_v104 : Ref sig .tc := ⟨.hbm, 2108, rfl⟩
abbrev main_call5_call5_v105 : Ref sig .tc := ⟨.hbm, 2109, rfl⟩
abbrev main_call5_call5_c_26 : Ref sig .tc := ⟨.hbm, 2110, rfl⟩
abbrev main_call5_call5_v106 : Ref sig .tc := ⟨.hbm, 2111, rfl⟩
abbrev main_call5_call5_v107 : Ref sig .tc := ⟨.hbm, 2112, rfl⟩
abbrev main_call5_call5_v108 : Ref sig .tc := ⟨.hbm, 2113, rfl⟩
abbrev main_call5_call5_c_27 : Ref sig .tc := ⟨.hbm, 2114, rfl⟩
abbrev main_call5_call5_v109 : Ref sig .tc := ⟨.hbm, 2115, rfl⟩
abbrev main_call5_call5_v110 : Ref sig .tc := ⟨.hbm, 2116, rfl⟩
abbrev main_call5_call5_c_28 : Ref sig .tc := ⟨.hbm, 2117, rfl⟩
abbrev main_call5_call5_v111 : Ref sig .tc := ⟨.hbm, 2118, rfl⟩
abbrev main_call5_call5_v112 : Ref sig .tc := ⟨.hbm, 2119, rfl⟩
abbrev main_call5_call5_v113 : Ref sig .tc := ⟨.hbm, 2120, rfl⟩
abbrev main_call5_call5_v114 : Ref sig .tc := ⟨.hbm, 2121, rfl⟩
abbrev main_call5_call5_v115 : Ref sig .tc := ⟨.hbm, 2122, rfl⟩
abbrev main_call5_call5_c_29 : Ref sig .tc := ⟨.hbm, 2123, rfl⟩
abbrev main_call5_call5_v116 : Ref sig .tc := ⟨.hbm, 2124, rfl⟩
abbrev main_call5_call5_v117 : Ref sig .tc := ⟨.hbm, 2125, rfl⟩
abbrev main_call5_call5_c_30 : Ref sig .tc := ⟨.hbm, 2126, rfl⟩
abbrev main_call5_call5_v118 : Ref sig .tc := ⟨.hbm, 2127, rfl⟩
abbrev main_call5_call5_v119 : Ref sig .tc := ⟨.hbm, 2128, rfl⟩
abbrev main_call5_call5_v120 : Ref sig .tc := ⟨.hbm, 2129, rfl⟩
abbrev main_call5_call5_v121 : Ref sig .tc := ⟨.hbm, 2130, rfl⟩
abbrev main_call5_call5_v122 : Ref sig .tc := ⟨.hbm, 2131, rfl⟩
abbrev main_call5_call5_c_31 : Ref sig .tc := ⟨.hbm, 2132, rfl⟩
abbrev main_call5_call5_v123 : Ref sig .tc := ⟨.hbm, 2133, rfl⟩
abbrev main_call5_call5_v124 : Ref sig .tc := ⟨.hbm, 2134, rfl⟩
abbrev main_call5_call5_c_32 : Ref sig .tc := ⟨.hbm, 2135, rfl⟩
abbrev main_call5_call5_v125 : Ref sig .tc := ⟨.hbm, 2136, rfl⟩
abbrev main_call5_call5_v126 : Ref sig .tc := ⟨.hbm, 2137, rfl⟩
abbrev main_call5_call5_v127 : Ref sig .tc := ⟨.hbm, 2138, rfl⟩
abbrev main_call5_call5_v128 : Ref sig .tc := ⟨.hbm, 2139, rfl⟩
abbrev main_call5_call5_v129 : Ref sig .tc := ⟨.hbm, 2140, rfl⟩
abbrev main_call5_call5_c_33 : Ref sig .tc := ⟨.hbm, 2141, rfl⟩
abbrev main_call5_call5_v130 : Ref sig .tc := ⟨.hbm, 2142, rfl⟩
abbrev main_call5_call5_v131 : Ref sig .tc := ⟨.hbm, 2143, rfl⟩
abbrev main_call5_call5_c_34 : Ref sig .tc := ⟨.hbm, 2144, rfl⟩
abbrev main_call5_call5_v132 : Ref sig .tc := ⟨.hbm, 2145, rfl⟩
abbrev main_call5_call5_v133 : Ref sig .tc := ⟨.hbm, 2146, rfl⟩
abbrev main_call5_call5_v134 : Ref sig .tc := ⟨.hbm, 2147, rfl⟩
abbrev main_call5_call5_v135 : Ref sig .tc := ⟨.hbm, 2148, rfl⟩
abbrev main_call5_call5_v136 : Ref sig .tc := ⟨.hbm, 2149, rfl⟩
abbrev main_call5_call5_v137 : Ref sig .tc := ⟨.hbm, 2150, rfl⟩
abbrev main_call5_call5_v138 : Ref sig .tc := ⟨.hbm, 2151, rfl⟩
abbrev main_call5_call5_v139 : Ref sig .tc := ⟨.hbm, 2152, rfl⟩
abbrev main_call5_call5_c_35 : Ref sig .tc := ⟨.hbm, 2153, rfl⟩
abbrev main_call5_call5_v140 : Ref sig .tc := ⟨.hbm, 2154, rfl⟩
abbrev main_call5_call5_v141 : Ref sig .tc := ⟨.hbm, 2155, rfl⟩
abbrev main_call5_call5_v142 : Ref sig .tc := ⟨.hbm, 2156, rfl⟩
abbrev main_call5_call5_c_36 : Ref sig .tc := ⟨.hbm, 2157, rfl⟩
abbrev main_call5_call5_v143 : Ref sig .tc := ⟨.hbm, 2158, rfl⟩
abbrev main_call5_call5_v144 : Ref sig .tc := ⟨.hbm, 2159, rfl⟩
abbrev main_call5_call5_c_37 : Ref sig .tc := ⟨.hbm, 2160, rfl⟩
abbrev main_call5_call5_v145 : Ref sig .tc := ⟨.hbm, 2161, rfl⟩
abbrev main_call5_call5_v146 : Ref sig .tc := ⟨.hbm, 2162, rfl⟩
abbrev main_call5_call5_v147 : Ref sig .tc := ⟨.hbm, 2163, rfl⟩
abbrev main_call5_call5_v148 : Ref sig .tc := ⟨.hbm, 2164, rfl⟩
abbrev main_call5_call5_v149 : Ref sig .tc := ⟨.hbm, 2165, rfl⟩
abbrev main_call5_call5_c_38 : Ref sig .tc := ⟨.hbm, 2166, rfl⟩
abbrev main_call5_call5_v150 : Ref sig .tc := ⟨.hbm, 2167, rfl⟩
abbrev main_call5_call5_v151 : Ref sig .tc := ⟨.hbm, 2168, rfl⟩
abbrev main_call5_call5_c_39 : Ref sig .tc := ⟨.hbm, 2169, rfl⟩
abbrev main_call5_call5_v152 : Ref sig .tc := ⟨.hbm, 2170, rfl⟩
abbrev main_call5_call5_v153 : Ref sig .tc := ⟨.hbm, 2171, rfl⟩
abbrev main_call5_call5_v154 : Ref sig .tc := ⟨.hbm, 2172, rfl⟩
abbrev main_call5_call5_v155 : Ref sig .tc := ⟨.hbm, 2173, rfl⟩
abbrev main_call5_call5_v156 : Ref sig .tc := ⟨.hbm, 2174, rfl⟩
abbrev main_call5_call5_c_40 : Ref sig .tc := ⟨.hbm, 2175, rfl⟩
abbrev main_call5_call5_v157 : Ref sig .tc := ⟨.hbm, 2176, rfl⟩
abbrev main_call5_call5_v158 : Ref sig .tc := ⟨.hbm, 2177, rfl⟩
abbrev main_call5_call5_c_41 : Ref sig .tc := ⟨.hbm, 2178, rfl⟩
abbrev main_call5_call5_v159 : Ref sig .tc := ⟨.hbm, 2179, rfl⟩
abbrev main_call5_call5_v160 : Ref sig .tc := ⟨.hbm, 2180, rfl⟩
abbrev main_call5_call5_v161 : Ref sig .tc := ⟨.hbm, 2181, rfl⟩
abbrev main_call5_call5_v162 : Ref sig .tc := ⟨.hbm, 2182, rfl⟩
abbrev main_call5_call5_v163 : Ref sig .tc := ⟨.hbm, 2183, rfl⟩
abbrev main_call5_call5_c_42 : Ref sig .tc := ⟨.hbm, 2184, rfl⟩
abbrev main_call5_call5_v164 : Ref sig .tc := ⟨.hbm, 2185, rfl⟩
abbrev main_call5_call5_v165 : Ref sig .tc := ⟨.hbm, 2186, rfl⟩
abbrev main_call5_call5_c_43 : Ref sig .tc := ⟨.hbm, 2187, rfl⟩
abbrev main_call5_call5_v166 : Ref sig .tc := ⟨.hbm, 2188, rfl⟩
abbrev main_call5_call5_v167 : Ref sig .tc := ⟨.hbm, 2189, rfl⟩
abbrev main_call5_call5_v168 : Ref sig .tc := ⟨.hbm, 2190, rfl⟩
abbrev main_call5_call5_v169 : Ref sig .tc := ⟨.hbm, 2191, rfl⟩
abbrev main_call5_call5_v170 : Ref sig .tc := ⟨.hbm, 2192, rfl⟩
abbrev main_call5_v45_0 : Ref sig .tc := ⟨.hbm, 2193, rfl⟩
abbrev main_call5_call5_v172 : Ref sig .tc := ⟨.hbm, 2194, rfl⟩
abbrev main_call5_call5_v173 : Ref sig .tc := ⟨.hbm, 2195, rfl⟩
abbrev main_call5_call5_c_44 : Ref sig .tc := ⟨.hbm, 2196, rfl⟩
abbrev main_call5_call5_v174 : Ref sig .tc := ⟨.hbm, 2197, rfl⟩
abbrev main_call5_v45_1 : Ref sig .tc := ⟨.hbm, 2198, rfl⟩
abbrev main_call5_v46 : Ref sig .tc := ⟨.hbm, 2199, rfl⟩
abbrev main_call5_v47 : Ref sig .tc := ⟨.hbm, 2200, rfl⟩
abbrev main_call5_v48 : Ref sig .tc := ⟨.hbm, 2201, rfl⟩
abbrev main_call5_v49 : Ref sig .tc := ⟨.hbm, 2202, rfl⟩
abbrev main_call5_c_12 : Ref sig .tc := ⟨.hbm, 2203, rfl⟩
abbrev main_call5_v50 : Ref sig .tc := ⟨.hbm, 2204, rfl⟩
abbrev main_call5_v51 : Ref sig .tc := ⟨.hbm, 2205, rfl⟩
abbrev main_call5_v52 : Ref sig .tc := ⟨.hbm, 2206, rfl⟩
abbrev main_call5_v53 : Ref sig .tc := ⟨.hbm, 2207, rfl⟩
abbrev main_call5_v54 : Ref sig .tc := ⟨.hbm, 2208, rfl⟩
abbrev main_call5_c_13 : Ref sig .tc := ⟨.hbm, 2209, rfl⟩
abbrev main_call5_v55 : Ref sig .tc := ⟨.hbm, 2210, rfl⟩
abbrev main_call5_v56 : Ref sig .tc := ⟨.hbm, 2211, rfl⟩
abbrev main_call5_v57 : Ref sig .tc := ⟨.hbm, 2212, rfl⟩
abbrev main_call5_c_14 : Ref sig .tc := ⟨.hbm, 2213, rfl⟩
abbrev main_call5_v58 : Ref sig .tc := ⟨.hbm, 2214, rfl⟩
abbrev main_call5_v59 : Ref sig .tc := ⟨.hbm, 2215, rfl⟩
abbrev main_call5_v60 : Ref sig .tc := ⟨.hbm, 2216, rfl⟩
abbrev main_call5_v61 : Ref sig .tc := ⟨.hbm, 2217, rfl⟩
abbrev main_call5_v62 : Ref sig .tc := ⟨.hbm, 2218, rfl⟩
abbrev main_call5_v63 : Ref sig .tc := ⟨.hbm, 2219, rfl⟩
abbrev main_call5_v64 : Ref sig .tc := ⟨.hbm, 2220, rfl⟩
abbrev main_call5_v65 : Ref sig .tc := ⟨.hbm, 2221, rfl⟩
abbrev main_call5_v66 : Ref sig .tc := ⟨.hbm, 2222, rfl⟩
abbrev main_call5_v67 : Ref sig .tc := ⟨.hbm, 2223, rfl⟩
abbrev main_call5_v68 : Ref sig .tc := ⟨.hbm, 2224, rfl⟩
abbrev main_call5_v69 : Ref sig .tc := ⟨.hbm, 2225, rfl⟩
abbrev main_call5_v70 : Ref sig .tc := ⟨.hbm, 2226, rfl⟩
abbrev main_call5_v71 : Ref sig .tc := ⟨.hbm, 2227, rfl⟩
abbrev main_call5_v72 : Ref sig .tc := ⟨.hbm, 2228, rfl⟩
abbrev main_v57 : Ref sig .tc := ⟨.hbm, 2229, rfl⟩
abbrev main_v58 : Ref sig .tc := ⟨.hbm, 2230, rfl⟩
abbrev main_v59 : Ref sig .tc := ⟨.hbm, 2231, rfl⟩
abbrev main_c_18 : Ref sig .tc := ⟨.hbm, 2232, rfl⟩
abbrev main_v60 : Ref sig .tc := ⟨.hbm, 2233, rfl⟩
abbrev main_v61 : Ref sig .tc := ⟨.hbm, 2234, rfl⟩
abbrev main_c_19 : Ref sig .tc := ⟨.hbm, 2235, rfl⟩
abbrev main_v62 : Ref sig .tc := ⟨.hbm, 2236, rfl⟩
abbrev main_v63 : Ref sig .tc := ⟨.hbm, 2237, rfl⟩
abbrev main_v64 : Ref sig .tc := ⟨.hbm, 2238, rfl⟩
abbrev main_v65 : Ref sig .tc := ⟨.hbm, 2239, rfl⟩
abbrev main_v66 : Ref sig .tc := ⟨.hbm, 2240, rfl⟩
abbrev main_v67 : Ref sig .tc := ⟨.hbm, 2241, rfl⟩
abbrev main_v68 : Ref sig .tc := ⟨.hbm, 2242, rfl⟩
abbrev main_c_20 : Ref sig .tc := ⟨.hbm, 2243, rfl⟩
abbrev main_v69 : Ref sig .tc := ⟨.hbm, 2244, rfl⟩
abbrev main_v70 : Ref sig .tc := ⟨.hbm, 2245, rfl⟩
abbrev main_c_21 : Ref sig .tc := ⟨.hbm, 2246, rfl⟩
abbrev main_v71 : Ref sig .tc := ⟨.hbm, 2247, rfl⟩
abbrev main_v72 : Ref sig .tc := ⟨.hbm, 2248, rfl⟩
abbrev main_v73 : Ref sig .tc := ⟨.hbm, 2249, rfl⟩
abbrev main_v74 : Ref sig .tc := ⟨.hbm, 2250, rfl⟩
abbrev main_v75 : Ref sig .tc := ⟨.hbm, 2251, rfl⟩
abbrev main_v76 : Ref sig .tc := ⟨.hbm, 2252, rfl⟩
abbrev main_v77 : Ref sig .tc := ⟨.hbm, 2253, rfl⟩
abbrev main_c_22 : Ref sig .tc := ⟨.hbm, 2254, rfl⟩
abbrev main_v78 : Ref sig .tc := ⟨.hbm, 2255, rfl⟩
abbrev main_v79 : Ref sig .tc := ⟨.hbm, 2256, rfl⟩
abbrev main_c_23 : Ref sig .tc := ⟨.hbm, 2257, rfl⟩
abbrev main_v80 : Ref sig .tc := ⟨.hbm, 2258, rfl⟩
abbrev main_v81 : Ref sig .tc := ⟨.hbm, 2259, rfl⟩
abbrev main_v82 : Ref sig .tc := ⟨.hbm, 2260, rfl⟩
abbrev main_v83 : Ref sig .tc := ⟨.hbm, 2261, rfl⟩
abbrev main_v84 : Ref sig .tc := ⟨.hbm, 2262, rfl⟩
abbrev main_v85 : Ref sig .tc := ⟨.hbm, 2263, rfl⟩
abbrev main_v86 : Ref sig .tc := ⟨.hbm, 2264, rfl⟩
abbrev main_c_24 : Ref sig .tc := ⟨.hbm, 2265, rfl⟩
abbrev main_v87 : Ref sig .tc := ⟨.hbm, 2266, rfl⟩
abbrev main_v88 : Ref sig .tc := ⟨.hbm, 2267, rfl⟩
abbrev main_c_25 : Ref sig .tc := ⟨.hbm, 2268, rfl⟩
abbrev main_v89 : Ref sig .tc := ⟨.hbm, 2269, rfl⟩
abbrev main_v90 : Ref sig .tc := ⟨.hbm, 2270, rfl⟩
abbrev main_v91 : Ref sig .tc := ⟨.hbm, 2271, rfl⟩
abbrev main_v92 : Ref sig .tc := ⟨.hbm, 2272, rfl⟩
abbrev main_v93 : Ref sig .tc := ⟨.hbm, 2273, rfl⟩
abbrev main_cst_26 : Ref sig .tc := ⟨.hbm, 2274, rfl⟩
abbrev main_v94 : Ref sig .tc := ⟨.hbm, 2275, rfl⟩
abbrev main_v95 : Ref sig .tc := ⟨.hbm, 2276, rfl⟩

abbrev nD : Nat := 1
abbrev τ : Topo := Topo.v7x

variable {F : FTy → Type} [FloatOps F]
-- ==== Proof.Cols.lean ====
/-
  The kernel's column map, and what one indexed store and one row of them leave.

  A chunk's buffer holds 16 rows of 2000 columns. On each row the kernel reads 13 vectors of 16 elements at the source
  columns and then stores each at its destination columns. `step dv sv p` is the effect of one such store on the map that
  says, per column, which column of the row as loaded it now holds; `colOf` is the 13 stores' effect on the identity, at the
  two tables the program states.
-/
module

public import proofs.«01_k».proof.KernelIdeal

@[expose] public section

noncomputable section

namespace Cert.Proof.Cols

open Cert.KernelIdeal
open Idealize.ShloMosaic

variable {F : FTy → Type}

/-- Lane `k` of a 16-vector. -/
abbrev lane (k : Fin 16) : S16.Idx := Shape.ofLane (d := ![16]) k

/-- One store's effect on a column map: the lanes in ascending order, each setting the column its destination names. -/
def step (dv sv : Fin 16 → ℕ) (p : ℕ → ℕ) : ℕ → ℕ :=
  fun c => (List.finRange 16).foldl (fun q k => if dv k = c then sv k else q) (p c)

/-- The buffer's element in row `i`, column `c` (columns outside the row read at column 0). -/
def at2 (f : Vec F S16x2000 .f32) (i : Fin 16) (c : ℕ) : Elt F .f32 :=
  f (fun | 0 => i | 1 => if h : c < 2000 then ⟨c, h⟩ else ⟨0, by decide⟩)

theorem at2_val (f : Vec F S16x2000 .f32) (j : S16x2000.Idx) : at2 f (j 0) (j 1).val = f j := by
  unfold at2
  congr 1
  funext a
  match a with
  | 0 => rfl
  | 1 => exact dif_pos (j 1).isLt

/-- An index-vector load in row `r`: lane `k` is the row's element at the column the lane names. -/
theorem loadIdx_at (f : Vec F S16x2000 .f32) (rv sv : IVec S16 32) (h) (r : Fin 16) (hr : ∀ x, (rv x).toNat = r.val) (x : S16.Idx) :
    loadIdx f ![rv, sv] h x = at2 f r (sv x).toNat := by
  have h1 : (sv x).toNat < 2000 := h 1 x
  unfold loadIdx at2
  congr 1
  funext a
  match a with
  | 0 => exact Fin.ext (hr x)
  | 1 => exact (dif_pos h1).symm

/-- A column fold of values is the values at a fold of columns. -/
theorem foldl_at {α : Type} (g : ℕ → α) (dv sv : Fin 16 → ℕ) (c : ℕ) (v : Fin 16 → α) (hv : ∀ k, v k = g (sv k)) :
    ∀ (l : List (Fin 16)) (q : ℕ), l.foldl (fun y k => if dv k = c then v k else y) (g q)
      = g (l.foldl (fun q k => if dv k = c then sv k else q) q)
  | [], _ => rfl
  | k :: l, q => by
    simp only [List.foldl_cons]
    rw [← foldl_at g dv sv c v hv l]
    split <;> simp [hv]

/-- An index-vector store in row `r`, at an element: of the row, the lanes' fold; elsewhere, the element as it was. -/
theorem storeIdx_at [FloatOps F] (f : Vec F S16x2000 .f32) (rv dv : IVec S16 32) (v : Vec F S16 .f32) (h) (r : Fin 16)
    (hr : ∀ x, (rv x).toNat = r.val) (j : S16x2000.Idx) :
    storeIdx f ![rv, dv] v (fun _ => 1#1) false h j
      = if (j 0).val = r.val then (List.finRange 16).foldl (fun y k => if (dv (lane k)).toNat = (j 1).val then v (lane k) else y) (f j) else f j := by
  have key : ∀ {n : ℕ} (L : Fin n → S16.Idx) (l : List (Fin n)) (g : Vec F S16x2000 .f32),
      (l.foldl (fun (g : Vec F S16x2000 .f32) k =>
        fun j => if (∀ a, (j a).val = (idxAt ![rv, dv] h (L k) a).val) then v (L k) else g j) g) j
      = if (j 0).val = r.val then l.foldl (fun y k => if (dv (L k)).toNat = (j 1).val then v (L k) else y) (g j) else g j := by
    intro n L l
    induction l with
    | nil => intro g; simp
    | cons k l ih =>
      intro g
      rw [List.foldl_cons, ih, List.foldl_cons]
      have e : (∀ a, (j a).val = (idxAt ![rv, dv] h (L k) a).val) ↔ ((j 0).val = r.val ∧ (dv (L k)).toNat = (j 1).val) := by
        constructor
        · intro H
          exact ⟨(H 0).trans (hr _), (H 1).symm⟩
        · rintro ⟨h0, h1⟩ a
          match a with
          | 0 => exact h0.trans (hr _).symm
          | 1 => exact h1.symm
      simp only [e]
      by_cases h0 : (j 0).val = r.val <;> simp [h0]
  have := key lane (List.finRange 16) f
  rw [← this]
  unfold storeIdx
  simp only [if_true, Bool.false_eq_true, if_false]
  rfl

/-- The buffer in the middle of row `r`'s stores: rows below `r` done (columns by `q`), row `r`'s columns by `p`, the rest as
    loaded. -/
def mid (x : Vec F S16x2000 .f32) (q : ℕ → ℕ) (r : ℕ) (p : ℕ → ℕ) : Vec F S16x2000 .f32 := fun j =>
  if (j 0).val < r then at2 x (j 0) (q (j 1).val) else if (j 0).val = r then at2 x (j 0) (p (j 1).val) else x j

theorem mid_at_row (x : Vec F S16x2000 .f32) (q p : ℕ → ℕ) (r : Fin 16) (c : ℕ) (hc : c < 2000) :
    at2 (mid x q r.val p) r c = at2 x r (p c) := by
  unfold mid
  rw [at2]; simp [hc]

/-- What a load of row `r` reads before the row's stores. -/
theorem load_mid (x : Vec F S16x2000 .f32) (q : ℕ → ℕ) (rv sv : IVec S16 32) (h) (r : Fin 16) (hr : ∀ x, (rv x).toNat = r.val)
    (y : S16.Idx) : loadIdx (mid x q r.val id) ![rv, sv] h y = at2 x r (sv y).toNat := by
  rw [loadIdx_at _ _ _ _ r hr]; exact mid_at_row _ _ _ _ _ (h 1 y)

/-- One store of row `r`: the row's column map steps. -/
theorem store_mid [FloatOps F] (x : Vec F S16x2000 .f32) (q p : ℕ → ℕ) (rv dv : IVec S16 32) (sv : Fin 16 → ℕ) (v : Vec F S16 .f32) (h)
    (r : Fin 16) (hr : ∀ x, (rv x).toNat = r.val) (hv : ∀ k, v (lane k) = at2 x r (sv k)) :
    storeIdx (mid x q r.val p) ![rv, dv] v (fun _ => 1#1) false h = mid x q r.val (step (fun k => (dv (lane k)).toNat) sv p) := by
  funext j
  rw [storeIdx_at _ _ _ _ _ r hr]
  by_cases h0 : (j 0).val = r.val
  · rw [if_pos h0]
    unfold mid
    simp only [h0, lt_irrefl, if_false, if_true]
    rw [show j 0 = r from Fin.ext h0]
    exact foldl_at (at2 x r) _ sv _ _ hv _ _
  · rw [if_neg h0]
    unfold mid
    simp only [h0, if_false]

/-- The columns a table's vector `k` names, lane by lane. -/
def part (t : Fin 208 → BitVec 32) (k : Fin 13) (l : Fin 16) : ℕ := (t (Fin.ofNat 208 (16 * k.val + l.val))).toNat

/-- The kernel's column map: the 13 stores' effect on the identity. -/
def colOf : ℕ → ℕ := (List.finRange 13).foldl (fun p k => step (part lit0 k) (part lit1 k) p) id

theorem colOf_eq : colOf = (step (part lit0 12) (part lit1 12) (step (part lit0 11) (part lit1 11) (step (part lit0 10) (part lit1 10) (step (part lit0 9) (part lit1 9) (step (part lit0 8) (part lit1 8) (step (part lit0 7) (part lit1 7) (step (part lit0 6) (part lit1 6) (step (part lit0 5) (part lit1 5) (step (part lit0 4) (part lit1 4) (step (part lit0 3) (part lit1 3) (step (part lit0 2) (part lit1 2) (step (part lit0 1) (part lit1 1) (step (part lit0 0) (part lit1 0) id))))))))))))) := rfl

attribute [irreducible] colOf

/-- The buffer after `r` rows. -/
def rows (x : Vec F S16x2000 .f32) (r : ℕ) : Vec F S16x2000 .f32 := fun j =>
  if (j 0).val < r then at2 x (j 0) (colOf (j 1).val) else x j

theorem rows_zero (x : Vec F S16x2000 .f32) : rows x 0 = x := by funext j; simp [rows]

theorem rows_eq_mid (x : Vec F S16x2000 .f32) (r : ℕ) : rows x r = mid x colOf r id := by
  funext j
  unfold rows mid
  split; · rfl
  split; · exact (at2_val x j).symm
  rfl

theorem mid_eq_rows (x : Vec F S16x2000 .f32) (r : ℕ) : mid x colOf r colOf = rows x (r + 1) := by
  funext j
  unfold rows mid
  by_cases h : (j 0).val < r
  · rw [if_pos h, if_pos (by omega)]
  · rw [if_neg h]
    by_cases h' : (j 0).val = r
    · rw [if_pos h', if_pos (by omega)]
    · rw [if_neg h', if_neg (by omega)]

theorem tables_lt : (∀ k, (lit0 k).toNat < 2000) ∧ (∀ k, (lit1 k).toNat < 2000) := by decide +kernel

/-- The output array: every row's columns by `colOf`. -/
def out (x : Vec F S8192x2000 .f32) : Vec F S8192x2000 .f32 := fun j =>
  x (fun | 0 => j 0 | 1 => if h : colOf (j 1).val < 2000 then ⟨colOf (j 1).val, h⟩ else ⟨0, by decide⟩)

end Cert.Proof.Cols

end
-- ==== Proof.Body.lean ====
/-
  The kernel's body as sixteen chunks.

  The program states its body in windows of sixty operations; a chunk (fetch sixteen rows, permute them in place, write
  them out) straddles them. Here the body is read as the two table fetches, the loads of the twenty-six index vectors, and
  sixteen uses of ONE chunk, each with what follows it as its continuation.
-/
module

public import proofs.«01_k».proof.Defs
public import proofs.«01_k».proof.Proof.Cols
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Kern

open Cert.KernelIdeal Cert.KernelIdeal.Gen
open Idealize.ShloMosaic Idealize.SL.Sem

variable {F : FTy → Type} [FloatOps F]

/-- The arrays and the scratch as a vector subcore addresses them. -/
abbrev xV : Memref sig .scVector .hbm S8192x2000 .f32 := Memref.whole main_arg1_scv
abbrev dV : Memref sig .scVector .hbm S208 .i32 := Memref.whole main_c_scv
abbrev sV : Memref sig .scVector .hbm S208 .i32 := Memref.whole main_c_0_scv
abbrev oV : Memref sig .scVector .hbm S8192x2000 .f32 := Memref.whole main_v0_scv
abbrev bA : Memref sig .scVector .vmem S16x2000 .f32 := Memref.whole cc0_scratch0
abbrev bB : Memref sig .scVector .vmem S16x2000 .f32 := Memref.whole cc0_scratch1
abbrev dT : Memref sig .scVector .vmem S208 .i32 := Memref.whole cc0_scratch2
abbrev sT : Memref sig .scVector .vmem S208 .i32 := Memref.whole cc0_scratch3

/-- A tile's programs. -/
abbrev TProg (L : grid0.Coords) : Type 1 := Prog (TpuEff nD τ sig (Elt F) Λ₀ (.scVector ((L 0).castLE hcore0) ((L 1).castLE hsub0))) PUnit

/-- One trip of the row loop on buffer `B`: the generated region, whose other arguments it does not read. -/
abbrev trip (L : grid0.Coords) (B : Memref sig .scVector .vmem S16x2000 .f32) (hB : B.IsWhole) (v3 v4 v5 v6 v7 v8 v9 v10 v11 v12 v13 v14 v15 v16 v17 v18 v19 v20 v21 v22 v23 v24 v25 v26 v27 v28 : IVec S16 32) :=
  k0_t15_body (F := F) L xV (Memref.isWhole_whole _) dV (Memref.isWhole_whole _) sV (Memref.isWhole_whole _) oV (Memref.isWhole_whole _)
    B hB B hB dT (Memref.isWhole_whole _) sT (Memref.isWhole_whole _) cc0_scratch4 cc0_scratch5 cc0_scoped0 cc0_scoped1 v3 v4 v5 v6 v7 v8 v9 v10 v11 v12 v13 v14 v15 v16 v17 v18 v19 v20 v21 v22 v23 v24 v25 v26 v27 v28

/-- Sixteen rows at an offset, of the input and of the output. -/
abbrev xAt (off : Fin 2 → ℕ) (h : ∀ a, off a + S16x2000.size a ≤ S8192x2000.size a) : Memref sig .scVector .hbm S16x2000 .f32 :=
  xV.slice (Rect.unit (s := S8192x2000) off S16x2000.size h) (fun _ => rfl)
abbrev oAt (off : Fin 2 → ℕ) (h : ∀ a, off a + S16x2000.size a ≤ S8192x2000.size a) : Memref sig .scVector .hbm S16x2000 .f32 :=
  oV.slice (Rect.unit (s := S8192x2000) off S16x2000.size h) (fun _ => rfl)

/-- One chunk through buffer `B`: fetch, the row loop, write out; then `k`. -/
def chunk (L : grid0.Coords) (B : Memref sig .scVector .vmem S16x2000 .f32) (hB : B.IsWhole)
    (offx : Fin 2 → ℕ) (hx : ∀ a, offx a + S16x2000.size a ≤ S8192x2000.size a)
    (offo : Fin 2 → ℕ) (ho : ∀ a, offo a + S16x2000.size a ≤ S8192x2000.size a) (v3 v4 v5 v6 v7 v8 v9 v10 v11 v12 v13 v14 v15 v16 v17 v18 v19 v20 v21 v22 v23 v24 v25 v26 v27 v28 : IVec S16 32) (k : TProg (F := F) L) : TProg (F := F) L := do
  Prog.lift (.enqueueDma (xAt offx hx) (.here B) (.dma cc0_scratch4.sem) (View.wordExact_bits rfl) hB.wordExact ⟨Or.inl rfl, trivial⟩)
  Prog.lift (.waitDma2 cc0_scratch4.sem (xAt offx hx) B (View.wordExact_bits rfl) hB.wordExact)
  Scf.Loop.for k0_t15_loop k0_t15_ok ⟨⟩ (trip L B hB v3 v4 v5 v6 v7 v8 v9 v10 v11 v12 v13 v14 v15 v16 v17 v18 v19 v20 v21 v22 v23 v24 v25 v26 v27 v28)
  Prog.lift (.enqueueDma B (.here (oAt offo ho)) (.dma cc0_scratch5.sem) hB.wordExact (View.wordExact_bits rfl) ⟨Or.inl rfl, trivial⟩)
  Prog.lift (.waitDma2 cc0_scratch5.sem B (oAt offo ho) hB.wordExact (View.wordExact_bits rfl))
  k

/-- The sixteen chunks, the buffers alternating. -/
def chunks (L : grid0.Coords) (v3 v4 v5 v6 v7 v8 v9 v10 v11 v12 v13 v14 v15 v16 v17 v18 v19 v20 v21 v22 v23 v24 v25 v26 v27 v28 : IVec S16 32) : TProg (F := F) L :=
      chunk L bA (Memref.isWhole_whole _) (k0_off1 L) (k0_off1_inb L) (k0_off2 L 0#32) (k0_off2_inb L 0) v3 v4 v5 v6 v7 v8 v9 v10 v11 v12 v13 v14 v15 v16 v17 v18 v19 v20 v21 v22 v23 v24 v25 v26 v27 v28 <|
      chunk L bB (Memref.isWhole_whole _) (k0_off2 L 16#32) (k0_off2_inb L 1) (k0_off2 L 16#32) (k0_off2_inb L 1) v3 v4 v5 v6 v7 v8 v9 v10 v11 v12 v13 v14 v15 v16 v17 v18 v19 v20 v21 v22 v23 v24 v25 v26 v27 v28 <|
      chunk L bA (Memref.isWhole_whole _) (k0_off2 L 32#32) (k0_off2_inb L 2) (k0_off2 L 32#32) (k0_off2_inb L 2) v3 v4 v5 v6 v7 v8 v9 v10 v11 v12 v13 v14 v15 v16 v17 v18 v19 v20 v21 v22 v23 v24 v25 v26 v27 v28 <|
      chunk L bB (Memref.isWhole_whole _) (k0_off2 L 48#32) (k0_off2_inb L 3) (k0_off2 L 48#32) (k0_off2_inb L 3) v3 v4 v5 v6 v7 v8 v9 v10 v11 v12 v13 v14 v15 v16 v17 v18 v19 v20 v21 v22 v23 v24 v25 v26 v27 v28 <|
      chunk L bA (Memref.isWhole_whole _) (k0_off2 L 64#32) (k0_off2_inb L 4) (k0_off2 L 64#32) (k0_off2_inb L 4) v3 v4 v5 v6 v7 v8 v9 v10 v11 v12 v13 v14 v15 v16 v17 v18 v19 v20 v21 v22 v23 v24 v25 v26 v27 v28 <|
      chunk L bB (Memref.isWhole_whole _) (k0_off2 L 80#32) (k0_off2_inb L 5) (k0_off2 L 80#32) (k0_off2_inb L 5) v3 v4 v5 v6 v7 v8 v9 v10 v11 v12 v13 v14 v15 v16 v17 v18 v19 v20 v21 v22 v23 v24 v25 v26 v27 v28 <|
      chunk L bA (Memref.isWhole_whole _) (k0_off2 L 96#32) (k0_off2_inb L 6) (k0_off2 L 96#32) (k0_off2_inb L 6) v3 v4 v5 v6 v7 v8 v9 v10 v11 v12 v13 v14 v15 v16 v17 v18 v19 v20 v21 v22 v23 v24 v25 v26 v27 v28 <|
      chunk L bB (Memref.isWhole_whole _) (k0_off2 L 112#32) (k0_off2_inb L 7) (k0_off2 L 112#32) (k0_off2_inb L 7) v3 v4 v5 v6 v7 v8 v9 v10 v11 v12 v13 v14 v15 v16 v17 v18 v19 v20 v21 v22 v23 v24 v25 v26 v27 v28 <|
      chunk L bA (Memref.isWhole_whole _) (k0_off2 L 128#32) (k0_off2_inb L 8) (k0_off2 L 128#32) (k0_off2_inb L 8) v3 v4 v5 v6 v7 v8 v9 v10 v11 v12 v13 v14 v15 v16 v17 v18 v19 v20 v21 v22 v23 v24 v25 v26 v27 v28 <|
      chunk L bB (Memref.isWhole_whole _) (k0_off2 L 144#32) (k0_off2_inb L 9) (k0_off2 L 144#32) (k0_off2_inb L 9) v3 v4 v5 v6 v7 v8 v9 v10 v11 v12 v13 v14 v15 v16 v17 v18 v19 v20 v21 v22 v23 v24 v25 v26 v27 v28 <|
      chunk L bA (Memref.isWhole_whole _) (k0_off2 L 160#32) (k0_off2_inb L 10) (k0_off2 L 160#32) (k0_off2_inb L 10) v3 v4 v5 v6 v7 v8 v9 v10 v11 v12 v13 v14 v15 v16 v17 v18 v19 v20 v21 v22 v23 v24 v25 v26 v27 v28 <|
      chunk L bB (Memref.isWhole_whole _) (k0_off2 L 176#32) (k0_off2_inb L 11) (k0_off2 L 176#32) (k0_off2_inb L 11) v3 v4 v5 v6 v7 v8 v9 v10 v11 v12 v13 v14 v15 v16 v17 v18 v19 v20 v21 v22 v23 v24 v25 v26 v27 v28 <|
      chunk L bA (Memref.isWhole_whole _) (k0_off2 L 192#32) (k0_off2_inb L 12) (k0_off2 L 192#32) (k0_off2_inb L 12) v3 v4 v5 v6 v7 v8 v9 v10 v11 v12 v13 v14 v15 v16 v17 v18 v19 v20 v21 v22 v23 v24 v25 v26 v27 v28 <|
      chunk L bB (Memref.isWhole_whole _) (k0_off2 L 208#32) (k0_off2_inb L 13) (k0_off2 L 208#32) (k0_off2_inb L 13) v3 v4 v5 v6 v7 v8 v9 v10 v11 v12 v13 v14 v15 v16 v17 v18 v19 v20 v21 v22 v23 v24 v25 v26 v27 v28 <|
      chunk L bA (Memref.isWhole_whole _) (k0_off2 L 224#32) (k0_off2_inb L 14) (k0_off2 L 224#32) (k0_off2_inb L 14) v3 v4 v5 v6 v7 v8 v9 v10 v11 v12 v13 v14 v15 v16 v17 v18 v19 v20 v21 v22 v23 v24 v25 v26 v27 v28 <|
      chunk L bB (Memref.isWhole_whole _) (k0_off2 L 240#32) (k0_off2_inb L 15) (k0_off2 L 240#32) (k0_off2_inb L 15) v3 v4 v5 v6 v7 v8 v9 v10 v11 v12 v13 v14 v15 v16 v17 v18 v19 v20 v21 v22 v23 v24 v25 v26 v27 v28 <|
      pure ⟨⟩

/-- The body: the tables in, the index vectors, the chunks. -/
def body (L : grid0.Coords) : TProg (F := F) L := do
      Prog.lift (.enqueueDma dV (.here dT) (.dma cc0_scoped0.sem) (Memref.isWhole_whole _).wordExact (Memref.isWhole_whole _).wordExact ⟨Or.inl rfl, trivial⟩)
      Prog.lift (.waitDma2 cc0_scoped0.sem dV dT (Memref.isWhole_whole _).wordExact (Memref.isWhole_whole _).wordExact)
      Prog.lift (.enqueueDma sV (.here sT) (.dma cc0_scoped1.sem) (Memref.isWhole_whole _).wordExact (Memref.isWhole_whole _).wordExact ⟨Or.inl rfl, trivial⟩)
      Prog.lift (.waitDma2 cc0_scoped1.sem sV sT (Memref.isWhole_whole _).wordExact (Memref.isWhole_whole _).wordExact)
      let v3 : Vec F S16 .i32 ← Prog.lift (.load dT (Rect.unit (s := S208) ![0] S16.size inb_S208_S16_0).toLoadRect (View.loadsAt_vmem h_S16))
      let v4 : Vec F S16 .i32 ← Prog.lift (.load dT (Rect.unit (s := S208) ![16] S16.size inb_S208_S16_16).toLoadRect (View.loadsAt_vmem h_S16))
      let v5 : Vec F S16 .i32 ← Prog.lift (.load dT (Rect.unit (s := S208) ![32] S16.size inb_S208_S16_32).toLoadRect (View.loadsAt_vmem h_S16))
      let v6 : Vec F S16 .i32 ← Prog.lift (.load dT (Rect.unit (s := S208) ![48] S16.size inb_S208_S16_48).toLoadRect (View.loadsAt_vmem h_S16))
      let v7 : Vec F S16 .i32 ← Prog.lift (.load dT (Rect.unit (s := S208) ![64] S16.size inb_S208_S16_64).toLoadRect (View.loadsAt_vmem h_S16))
      let v8 : Vec F S16 .i32 ← Prog.lift (.load dT (Rect.unit (s := S208) ![80] S16.size inb_S208_S16_80).toLoadRect (View.loadsAt_vmem h_S16))
      let v9 : Vec F S16 .i32 ← Prog.lift (.load dT (Rect.unit (s := S208) ![96] S16.size inb_S208_S16_96).toLoadRect (View.loadsAt_vmem h_S16))
      let v10 : Vec F S16 .i32 ← Prog.lift (.load dT (Rect.unit (s := S208) ![112] S16.size inb_S208_S16_112).toLoadRect (View.loadsAt_vmem h_S16))
      let v11 : Vec F S16 .i32 ← Prog.lift (.load dT (Rect.unit (s := S208) ![128] S16.size inb_S208_S16_128).toLoadRect (View.loadsAt_vmem h_S16))
      let v12 : Vec F S16 .i32 ← Prog.lift (.load dT (Rect.unit (s := S208) ![144] S16.size inb_S208_S16_144).toLoadRect (View.loadsAt_vmem h_S16))
      let v13 : Vec F S16 .i32 ← Prog.lift (.load dT (Rect.unit (s := S208) ![160] S16.size inb_S208_S16_160).toLoadRect (View.loadsAt_vmem h_S16))
      let v14 : Vec F S16 .i32 ← Prog.lift (.load dT (Rect.unit (s := S208) ![176] S16.size inb_S208_S16_176).toLoadRect (View.loadsAt_vmem h_S16))
      let v15 : Vec F S16 .i32 ← Prog.lift (.load dT (Rect.unit (s := S208) ![192] S16.size inb_S208_S16_192).toLoadRect (View.loadsAt_vmem h_S16))
      let v16 : Vec F S16 .i32 ← Prog.lift (.load sT (Rect.unit (s := S208) ![0] S16.size inb_S208_S16_0).toLoadRect (View.loadsAt_vmem h_S16))
      let v17 : Vec F S16 .i32 ← Prog.lift (.load sT (Rect.unit (s := S208) ![16] S16.size inb_S208_S16_16).toLoadRect (View.loadsAt_vmem h_S16))
      let v18 : Vec F S16 .i32 ← Prog.lift (.load sT (Rect.unit (s := S208) ![32] S16.size inb_S208_S16_32).toLoadRect (View.loadsAt_vmem h_S16))
      let v19 : Vec F S16 .i32 ← Prog.lift (.load sT (Rect.unit (s := S208) ![48] S16.size inb_S208_S16_48).toLoadRect (View.loadsAt_vmem h_S16))
      let v20 : Vec F S16 .i32 ← Prog.lift (.load sT (Rect.unit (s := S208) ![64] S16.size inb_S208_S16_64).toLoadRect (View.loadsAt_vmem h_S16))
      let v21 : Vec F S16 .i32 ← Prog.lift (.load sT (Rect.unit (s := S208) ![80] S16.size inb_S208_S16_80).toLoadRect (View.loadsAt_vmem h_S16))
      let v22 : Vec F S16 .i32 ← Prog.lift (.load sT (Rect.unit (s := S208) ![96] S16.size inb_S208_S16_96).toLoadRect (View.loadsAt_vmem h_S16))
      let v23 : Vec F S16 .i32 ← Prog.lift (.load sT (Rect.unit (s := S208) ![112] S16.size inb_S208_S16_112).toLoadRect (View.loadsAt_vmem h_S16))
      let v24 : Vec F S16 .i32 ← Prog.lift (.load sT (Rect.unit (s := S208) ![128] S16.size inb_S208_S16_128).toLoadRect (View.loadsAt_vmem h_S16))
      let v25 : Vec F S16 .i32 ← Prog.lift (.load sT (Rect.unit (s := S208) ![144] S16.size inb_S208_S16_144).toLoadRect (View.loadsAt_vmem h_S16))
      let v26 : Vec F S16 .i32 ← Prog.lift (.load sT (Rect.unit (s := S208) ![160] S16.size inb_S208_S16_160).toLoadRect (View.loadsAt_vmem h_S16))
      let v27 : Vec F S16 .i32 ← Prog.lift (.load sT (Rect.unit (s := S208) ![176] S16.size inb_S208_S16_176).toLoadRect (View.loadsAt_vmem h_S16))
      let v28 : Vec F S16 .i32 ← Prog.lift (.load sT (Rect.unit (s := S208) ![192] S16.size inb_S208_S16_192).toLoadRect (View.loadsAt_vmem h_S16))
      chunks L v3 v4 v5 v6 v7 v8 v9 v10 v11 v12 v13 v14 v15 v16 v17 v18 v19 v20 v21 v22 v23 v24 v25 v26 v27 v28

set_option maxRecDepth 65536 in
set_option maxHeartbeats 40000000 in
theorem body_eq (L : grid0.Coords) :
    cc0_permute (F := F) L xV (Memref.isWhole_whole _) dV (Memref.isWhole_whole _) sV (Memref.isWhole_whole _) oV (Memref.isWhole_whole _)
      bA (Memref.isWhole_whole _) bB (Memref.isWhole_whole _) dT (Memref.isWhole_whole _) sT (Memref.isWhole_whole _) cc0_scratch4 cc0_scratch5 cc0_scoped0 cc0_scoped1
      = body L := by
  rw [cc0_permute_eq_skeleton]
  unfold cc0_permute_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [bind_assoc, pure_bind]
  rfl

end Cert.Proof.Kern

end
-- ==== Proof.Setup.lean ====
/-
  The program as the launch theorem sees it, and one trip of the row loop: 13 vector loads at the source columns and 13
  vector stores at the destination columns take the buffer from `r` permuted rows to `r + 1` of them.
-/
module

public import proofs.«01_k».proof.Proof.Body

@[expose] public section

noncomputable section

namespace Cert.Proof.Kern

open Cert.KernelIdeal Cert.KernelIdeal.Gen Cert.Proof.Cols

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

variable [FloatOps F] (d : Dev nD) (L : grid0.Coords)

/-- The tile's weakest precondition. -/
abbrev wpT (p : TProg (F := F) L) (Q : PUnit → sProp 𝕄) : sProp 𝕄 := wp frame (wpE (defs₀ (F := F)) 𝒱₀ (thr d L) none) Set.univ p Q

/-! ## A row buffer by what it reads -/

/-- Buffer `B` held outright, reading `g`. -/
def held (B : Memref sig .scVector .vmem S16x2000 .f32) (g : Vec F S16x2000 .f32) : sProp 𝕄 :=
  iprop(∃ f, ⌜B.view.read (Elt F) f = g⌝ ∗ (B.view.loc (thr d L) ↦[B.view.set]{fullShare} f))

omit [FloatOps F] in
theorem access_read (B : Memref sig .scVector .vmem S16x2000 .f32) (f : B.view.ty.Contents (Elt F)) :
    (B.access (.whole S16x2000)).read (Elt F) f = B.view.read (Elt F) f := by
  funext x
  rw [View.read_apply, View.read_apply]
  show _root_.cast _ (f (B.view.emb ((Rect.whole S16x2000).emb x))) = _
  rw [Rect.emb_whole_apply]

theorem access_set (B : Memref sig .scVector .vmem S16x2000 .f32) : (B.access (.whole S16x2000)).set = B.view.set := by
  rw [View.set_slice, Rect.set_whole]; rfl

theorem wp_loadIdx {α : Type} {B : Memref sig .scVector .vmem S16x2000 .f32} {idxs : Fin 2 → IVec S16 32} {h} {hl : B.view.Loads}
    {k : Vec F S16 .f32 → Prog (TpuEff nD τ sig (Elt F) Λ₀ (thr d L).2) α} {Q : α → sProp 𝕄} (g : Vec F S16x2000 .f32) :
    held d L B g ⊢ iprop((held d L B g -∗ wp frame (wpE (defs₀ (F := F)) 𝒱₀ (thr d L) none) Set.univ (k (loadIdx g idxs h)) Q)
      -∗ wp frame (wpE (defs₀ (F := F)) 𝒱₀ (thr d L) none) Set.univ (SparseCore.vectorLoadIdx B idxs h hl >>= k) Q) := by
  unfold held
  iintro ⟨%f, %hf, H⟩ Hk
  iapply (SparseCore.wp_vectorLoadIdx 𝒱₀ (thr d L) none Set.univ (base := B) (S := B.view.set) (q := fullShare) (f := f) (View.set_slice_subset _ _)) $$ H
  iintro H
  rw [access_read, hf]
  iapply Hk
  iexists f; isplitr
  · ipureintro; exact hf
  · iexact H

theorem wp_storeIdx {α : Type} {B : Memref sig .scVector .vmem S16x2000 .f32} {idxs : Fin 2 → IVec S16 32} {v : Vec F S16 .f32} {h}
    {hs : (B.access (.whole S16x2000)).Stores Finset.univ} {k : PUnit → Prog (TpuEff nD τ sig (Elt F) Λ₀ (thr d L).2) α} {Q : α → sProp 𝕄}
    (g g' : Vec F S16x2000 .f32) (hg : storeIdx g idxs v (fun _ => 1#1) false h = g') :
    held d L B g ⊢ iprop((held d L B g' -∗ wp frame (wpE (defs₀ (F := F)) 𝒱₀ (thr d L) none) Set.univ (k ⟨⟩) Q)
      -∗ wp frame (wpE (defs₀ (F := F)) 𝒱₀ (thr d L) none) Set.univ (SparseCore.vectorStoreIdx B idxs v (fun _ => 1#1) false h hs >>= k) Q) := by
  unfold held
  iintro ⟨%f, %hf, H⟩ Hk
  rw [← access_set]
  iapply (SparseCore.wp_vectorStoreIdx 𝒱₀ (thr d L) none Set.univ (base := B) (f := f)) $$ H
  iintro H
  iapply Hk
  iexists _; isplitr
  swap; · iexact H
  ipureintro
  rw [← access_read, View.read_write_univ, access_read, hf]
  exact hg

/-! ## The index vectors and one trip -/

/-- The sixteen entries of a table from `o` on; vector `k` of the table is its entries `16 k … 16 k + 15`. -/
def tvAt (t : Fin 208 → BitVec 32) (o : ℕ) : IVec S16 32 := fun x => t (Fin.ofNat 208 (o + (x 0).val))
abbrev tv (t : Fin 208 → BitVec 32) (k : Fin 13) : IVec S16 32 := tvAt t (16 * k.val)

/-- The row's number, broadcast. -/
abbrev rowv (r : Fin k0_t15_loop.trips) : IVec S16 32 := broadcast S16 (Scf.iv 0#32 1#32 r)

theorem trips_eq : k0_t15_loop.trips = 16 := by decide

theorem rowv_toNat (r : Fin k0_t15_loop.trips) (x : S16.Idx) : (rowv r x).toNat = (Fin.cast trips_eq r).val := by
  have h : r.val < 16 := trips_eq ▸ r.isLt
  show (Scf.iv 0#32 1#32 r).toNat = r.val
  simp only [Scf.iv]
  simp
  omega

theorem row_inb (t : Fin 208 → BitVec 32) (ht : ∀ k, (t k).toNat < 2000) (r : Fin k0_t15_loop.trips) (k : Fin 13) :
    ∀ a x, ((![rowv r, tv t k] : Fin 2 → IVec S16 32) a x).toNat < S16x2000.size a := by
  intro a x
  match a with
  | 0 => exact (rowv_toNat r x).trans_lt (Fin.cast trips_eq r).isLt
  | 1 => exact ht _

/-- A check that holds, at the head of a tile's program. -/
theorem wp_check {P : Prop} {dP : Decidable P} {α : Type} {k : PLift P → Prog (TpuEff nD τ sig (Elt F) Λ₀ (thr d L).2) α} {Q : α → sProp 𝕄} (h : P) :
    wp frame (wpE (defs₀ (F := F)) 𝒱₀ (thr d L) none) Set.univ (Prog.lift (.assume P dP) >>= k) Q
      = wp frame (wpE (defs₀ (F := F)) 𝒱₀ (thr d L) none) Set.univ (k ⟨h⟩) Q :=
  wp_assume_of 𝒱₀ (thr d L) none Set.univ h

theorem wp_trip (B : Memref sig .scVector .vmem S16x2000 .f32) (hB : B.IsWhole) (x : Vec F S16x2000 .f32) (r : Fin k0_t15_loop.trips) (Q : Unit → sProp 𝕄) :
    held d L B (rows x r.val) ⊢ iprop((held d L B (rows x (r.val + 1)) -∗ Q ())
      -∗ wp frame (wpE (defs₀ (F := F)) 𝒱₀ (thr d L) none) Set.univ
        (trip L B hB (tv lit0 0) (tv lit0 1) (tv lit0 2) (tv lit0 3) (tv lit0 4) (tv lit0 5) (tv lit0 6) (tv lit0 7) (tv lit0 8) (tv lit0 9) (tv lit0 10)
          (tv lit0 11) (tv lit0 12) (tv lit1 0) (tv lit1 1) (tv lit1 2) (tv lit1 3) (tv lit1 4) (tv lit1 5) (tv lit1 6) (tv lit1 7) (tv lit1 8)
          (tv lit1 9) (tv lit1 10) (tv lit1 11) (tv lit1 12) r ()) Q) := by
  unfold trip k0_t15_body
  rw [rows_eq_mid]
  have hrow := rowv_toNat r
  have h0 := row_inb lit0 tables_lt.1 r
  have h1 := row_inb lit1 tables_lt.2 r
  dsimp only
  rw [wp_check d L ⟨h1 0, h1 1, h1 2, h1 3, h1 4, h1 5, h1 6, h1 7, h1 8, h1 9, h1 10, h1 11, h1 12,
    h0 0, h0 1, h0 2, h0 3, h0 4, h0 5, h0 6, h0 7, h0 8, h0 9, h0 10, h0 11, h0 12⟩]
  iintro H Hk
  ihave H := (show held d L B (mid x colOf r.val id) ⊢ held d L B (mid x colOf (Fin.cast trips_eq r).val id) from .rfl) $$ H
  iterate 13
    iapply (wp_loadIdx d L _) $$ H
    iintro H
  iterate 13
    iapply (wp_storeIdx d L _ _ (store_mid x colOf _ (rowv r) _ _ _ _ (Fin.cast trips_eq r) hrow (fun k => load_mid x colOf (rowv r) _ _ (Fin.cast trips_eq r) hrow (lane k)))) $$ H
    iintro H
  rw [wp_pure]
  imodintro
  iapply Hk
  iapply (Entails.of_eq (congrArg (held d L B) ((congrArg (mid x colOf r.val) colOf_eq).symm.trans (mid_eq_rows x r.val))))
  iexact H

end Cert.Proof.Kern

end
-- ==== Proof.Chunk.lean ====
/-
  One chunk of the body: sixteen rows fetched into a buffer, permuted in place row by row, and written out. Both copies and
  their waits are local; the loop's invariant holds the buffer at `rows x r`.
-/
module

public import proofs.«01_k».proof.Proof.Setup

@[expose] public section

noncomputable section

namespace Cert.Proof.Kern

open Cert.KernelIdeal Cert.KernelIdeal.Gen Cert.Proof.Cols

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

abbrev cInCell : GSem nD τ sig := (thr d L, .dma cc0_scratch4.sem)
abbrev cOutCell : GSem nD τ sig := (thr d L, .dma cc0_scratch5.sem)

abbrev xLoc (d : Dev nD) : Loc nD τ sig := (SparseCore.T d).loc main_arg1
abbrev oLoc (d : Dev nD) : Loc nD τ sig := (SparseCore.T d).loc main_v0

/-- What a tile owes, some waits having been made at no index. -/
def owesUp (O : CellTallies nD τ sig (HIx 1)) (W : Waits sig (HIx 1)) : sProp 𝕄 :=
  iprop(∃ W', ⌜∀ p ∈ W', p ∈ W ∨ p.2 = none⌝ ∗ owes (thr d L) O W')

omit [FloatOps F] in
theorem rect_at (off : Fin 2 → ℕ) (h : ∀ a, off a + S16x2000.size a ≤ S8192x2000.size a) (y : S16x2000.Idx) (a : Fin 2) :
    ((Rect.unit (s := S8192x2000) off S16x2000.size h).emb y a).val = off a + (y a).val := by
  rw [Rect.emb_apply]; show off a + 1 * (y a).val = _; rw [Nat.one_mul]

theorem read_landed {sp : Space} (B : Memref sig .scVector sp S16x2000 .f32) (f : B.view.ty.Contents (Elt F)) (w : Vec F S16x2000 .f32) :
    B.view.read (Elt F) (B.view.writes (Elt F) f [⟨Rect.whole S16x2000, w⟩]) = w := by
  funext y
  have h := View.read_writes_cons_emb (v := B.view) (f := f) (Rect.whole S16x2000) w [] y
  rwa [Rect.emb_whole_apply] at h

theorem col_val (n : ℕ) : (if h : n < 2000 then (⟨n, h⟩ : Fin 2000) else ⟨0, by decide⟩).val = if n < 2000 then n else 0 := by
  split <;> rfl

/-- What the write-out leaves at the chunk's rows is the output array's. -/
theorem out_at (X G : Vec F S8192x2000 .f32) (off : Fin 2 → ℕ) (h0 : off 1 = 0) (h : ∀ a, off a + S16x2000.size a ≤ S8192x2000.size a)
    (g : Vec F S16x2000 .f32) (hg : g = rows ((xAt off h).view.read (Elt F) X) 16) :
    ∀ i ∈ (oAt off h).view.set, (oAt off h).view.writes (Elt F) G [⟨Rect.whole S16x2000, g⟩] i = out X i := by
  intro i hi
  obtain ⟨y, -, rfl⟩ := Finset.mem_map.mp hi
  have h2 := congrFun (read_landed (oAt off h) G g) y
  rw [View.read_apply] at h2
  refine (cast_eq _ _).symm.trans (h2.trans ((congrFun hg y).trans ?_))
  have hy : (y 0).val < 16 := (y 0).isLt
  show rows ((xAt off h).view.read (Elt F) X) 16 y = out X ((Rect.unit (s := S8192x2000) off S16x2000.size h).emb y)
  have e1 : ((Rect.unit (s := S8192x2000) off S16x2000.size h).emb y 1).val = (y 1).val := by rw [rect_at, h0, Nat.zero_add]
  unfold rows out at2
  generalize colOf = c
  rw [if_pos hy]
  show X ((Rect.unit (s := S8192x2000) off S16x2000.size h).emb _) = _
  refine congrArg X (funext fun a => ?_)
  match a with
  | 0 => exact Fin.ext ((rect_at off h _ 0).trans (rect_at off h y 0).symm)
  | 1 =>
    refine Fin.ext ((rect_at off h _ 1).trans ?_)
    rw [h0, Nat.zero_add]
    have e2 : c ((Rect.unit (s := S8192x2000) off S16x2000.size h).emb y 1).val = c (y 1).val := congrArg c e1
    exact (col_val _).trans ((congrArg (fun n => if n < 2000 then n else 0) e2.symm).trans (col_val _).symm)

/-- The loop's invariant. -/
def inv (B : Memref sig .scVector .vmem S16x2000 .f32) (x : Vec F S16x2000 .f32) : ℕ → Unit → sProp 𝕄 := fun r _ => held d L B (rows x r)

set_option maxHeartbeats 4000000 in
theorem wp_chunk (B : Memref sig .scVector .vmem S16x2000 .f32) (hB : B.IsWhole)
    (offx : Fin 2 → ℕ) (hx : ∀ a, offx a + S16x2000.size a ≤ S8192x2000.size a)
    (offo : Fin 2 → ℕ) (ho : ∀ a, offo a + S16x2000.size a ≤ S8192x2000.size a) (hoff : offx = offo) (h0 : offx 1 = 0)
    (O : CellTallies nD τ sig (HIx 1)) (W : Waits sig (HIx 1)) (q : PosShare TreeShare) (X : Buf (Elt F) (xLoc d)) (G : Buf (Elt F) (oLoc d))
    (k : TProg (F := F) L) (Q : PUnit → sProp 𝕄) :
    iprop(Transfers.MayWaits (thr d L) (default : HIx 1) O ∗ (xV.view.loc (thr d L) ↦{q} X) ∗ ((oAt offo ho).view.loc (thr d L) ↦[(oAt offo ho).view.set]{fullShare} G)
        ∗ (∃ f, B.view.loc (thr d L) ↦[B.view.set]{fullShare} f) ∗ semVal (cInCell d L) 0 ∗ semVal (cOutCell d L) 0 ∗ owesUp (F := F) d L O W
        ∗ (iprop(Transfers.MayWaits (thr d L) (default : HIx 1) O ∗ (xV.view.loc (thr d L) ↦{q} X) ∗ ((oAt offo ho).view.loc (thr d L) ↦[(oAt offo ho).view.set]{fullShare} out X)
          ∗ (∃ f, B.view.loc (thr d L) ↦[B.view.set]{fullShare} f) ∗ semVal (cInCell d L) 0 ∗ semVal (cOutCell d L) 0 ∗ owesUp (F := F) d L O W)
          -∗ wpT d L k Q))
      ⊢ wpT d L (chunk L B hB offx hx offo ho (tv lit0 0) (tv lit0 1) (tv lit0 2) (tv lit0 3) (tv lit0 4) (tv lit0 5) (tv lit0 6) (tv lit0 7) (tv lit0 8) (tv lit0 9) (tv lit0 10)
          (tv lit0 11) (tv lit0 12) (tv lit1 0) (tv lit1 1) (tv lit1 2) (tv lit1 3) (tv lit1 4) (tv lit1 5) (tv lit1 6) (tv lit1 7) (tv lit1 8)
          (tv lit1 9) (tv lit1 10) (tv lit1 11) (tv lit1 12) k) Q := by
  subst hoff
  unfold chunk owesUp wpT
  iintro ⟨Hmw, Hx, Ho, ⟨%f, HB⟩, Hs4, Hs5, ⟨%W', %hW', HO⟩, Hk⟩
  sl_exec (disch := exact View.amount_pos _ _ (show 0 < S16x2000.numel by decide))
  sl_for (inv d L B ((xAt offx hx).view.read (Elt F) X)) $$ [HB]
  case region =>
    intro r _
    unfold inv
    iintro H
    iapply (wp_trip d L B hB _ r _) $$ H
    iintro H
    iexact H
  · unfold inv held
    iexists _; isplitr
    swap; · iexact HB
    ipureintro
    rw [rows_zero]
    exact read_landed B _ _
  unfold inv held
  iintro %_ ⟨%f, %hf, HB⟩
  sl_exec (disch := exact View.amount_pos _ _ (show 0 < S16x2000.numel by decide))
  ihave Ho := (Entails.of_eq (pointsTo_congr (ℓ := (oAt offx ho).view.loc (thr d L)) (out_at X G offx h0 ho (wp_chunk.sl.dma0_1 B f) hf))) $$ Ho
  iapply Hk
  isplitl [Hmw]; · iexact Hmw
  isplitl [Hx]; · iexact Hx
  isplitl [Ho]; · iexact Ho
  isplitl [HB]; · iexists f; iexact HB
  isplitl [Hs4]; · iexact Hs4
  isplitl [Hs5]; · iexact Hs5
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.Kern

end
-- ==== Proof.Tile.lean ====
/-
  All that a tile does: the two tables fetched and loaded as 26 index vectors, then sixteen chunks through the two buffers.
-/
module

public import proofs.«01_k».proof.Proof.Chunk

@[expose] public section

noncomputable section

namespace Cert.Proof.Kern

open Cert.KernelIdeal Cert.KernelIdeal.Gen Cert.Proof.Cols

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

abbrev dLoc (d : Dev nD) : Loc nD τ sig := (SparseCore.T d).loc main_c
abbrev sLoc (d : Dev nD) : Loc nD τ sig := (SparseCore.T d).loc main_c_0

/-- The two tables as @main's constants leave them. -/
abbrev dTab : Vec F S208 .i32 := fun i => lit0 (S208.rowMajor i)
abbrev sTab : Vec F S208 .i32 := fun i => lit1 (S208.rowMajor i)

/-! ## The pieces of the output, in the order the chunks write them -/

/-- Chunk `j`'s rows of the output. -/
abbrev oPc (j : Fin 16) : Memref sig .scVector .hbm S16x2000 .f32 := oAt (k0_off2 L (BitVec.ofNat 32 (16 * j.val))) (k0_off2_inb L j)
def piece (g : Buf (Elt F) (oLoc d)) (j : Fin 16) : sProp 𝕄 := (oPc L j).view.loc (thr d L) ↦[(oPc L j).view.set]{fullShare} g

/-- The pieces from `n` on, unwritten; those before `n`, written. -/
def todo (g : Buf (Elt F) (oLoc d)) (n : ℕ) : sProp 𝕄 := bigSep (Finset.univ.filter fun j : Fin 16 => n ≤ j.val) (piece d L g)
def done (g : Buf (Elt F) (oLoc d)) (n : ℕ) : sProp 𝕄 := bigSep (Finset.univ.filter fun j : Fin 16 => j.val < n) (piece d L g)

omit [FloatOps F] in
theorem todo_zero (g : Buf (Elt F) (oLoc d)) : todo d L g 0 = bigSep Finset.univ (piece d L g) := by
  unfold todo; simp
omit [FloatOps F] in
theorem done_zero (g : Buf (Elt F) (oLoc d)) : done d L g 0 = (iprop(emp) : sProp 𝕄) := by
  unfold done; simp; rfl
omit [FloatOps F] in
theorem done_all (g : Buf (Elt F) (oLoc d)) : done d L g 16 = bigSep Finset.univ (piece d L g) := by
  unfold done; rw [Finset.filter_true_of_mem (fun j _ => j.isLt)]
omit [FloatOps F] in
theorem todo_step (g : Buf (Elt F) (oLoc d)) (j : Fin 16) : todo d L g j.val = iprop(piece d L g j ∗ todo d L g (j.val + 1)) := by
  unfold todo
  rw [SparseCore.bigSep_erase' (i := j) (by simp)]
  congr 2
  ext i; simp only [Finset.mem_erase, Finset.mem_filter, Finset.mem_univ, true_and, ne_eq, Fin.ext_iff]; omega
omit [FloatOps F] in
theorem done_step (g : Buf (Elt F) (oLoc d)) (j : Fin 16) : done d L g (j.val + 1) = iprop(piece d L g j ∗ done d L g j.val) := by
  unfold done
  rw [SparseCore.bigSep_erase' (i := j) (by simp)]
  congr 2
  ext i; simp only [Finset.mem_erase, Finset.mem_filter, Finset.mem_univ, true_and, ne_eq, Fin.ext_iff]; omega

/-- What every chunk uses and hands on, but the buffers. -/
def core (O : CellTallies nD τ sig (HIx 1)) (W : Waits sig (HIx 1)) (q : PosShare TreeShare) (X : Buf (Elt F) (xLoc d)) : sProp 𝕄 :=
  iprop(Transfers.MayWaits (thr d L) (default : HIx 1) O ∗ (xV.view.loc (thr d L) ↦{q} X) ∗ semVal (cInCell d L) 0 ∗ semVal (cOutCell d L) 0 ∗ owesUp (F := F) d L O W)

/-- A buffer at whatever it holds. -/
def anyBuf (B : Memref sig .scVector .vmem S16x2000 .f32) : sProp 𝕄 := iprop(∃ f, B.view.loc (thr d L) ↦[B.view.set]{fullShare} f)

theorem chunk_step (j : Fin 16) (B B' : Memref sig .scVector .vmem S16x2000 .f32) (hB : B.IsWhole)
    (offx : Fin 2 → ℕ) (hx : ∀ a, offx a + S16x2000.size a ≤ S8192x2000.size a) (hoff : offx = k0_off2 L (BitVec.ofNat 32 (16 * j.val)))
    (O : CellTallies nD τ sig (HIx 1)) (W : Waits sig (HIx 1)) (q : PosShare TreeShare) (X : Buf (Elt F) (xLoc d)) (G : Buf (Elt F) (oLoc d))
    (k : TProg (F := F) L) (Q : PUnit → sProp 𝕄)
    (hk : iprop(core d L O W q X ∗ anyBuf d L B' ∗ anyBuf d L B ∗ todo d L G (j.val + 1) ∗ done d L (out X) (j.val + 1)) ⊢ wpT d L k Q) :
    iprop(core d L O W q X ∗ anyBuf d L B ∗ anyBuf d L B' ∗ todo d L G j.val ∗ done d L (out X) j.val)
      ⊢ wpT d L (chunk L B hB offx hx (k0_off2 L (BitVec.ofNat 32 (16 * j.val))) (k0_off2_inb L j)
          (tv lit0 0) (tv lit0 1) (tv lit0 2) (tv lit0 3) (tv lit0 4) (tv lit0 5) (tv lit0 6) (tv lit0 7) (tv lit0 8) (tv lit0 9) (tv lit0 10)
          (tv lit0 11) (tv lit0 12) (tv lit1 0) (tv lit1 1) (tv lit1 2) (tv lit1 3) (tv lit1 4) (tv lit1 5) (tv lit1 6) (tv lit1 7) (tv lit1 8)
          (tv lit1 9) (tv lit1 10) (tv lit1 11) (tv lit1 12) k) Q := by
  have h0 : offx 1 = 0 := by rw [hoff, k0_off2_eq]; rfl
  refine BIBase.Entails.trans ?_ (wp_chunk d L B hB offx hx _ _ hoff h0 O W q X G k Q)
  rw [todo_step]
  rw [done_step] at hk
  unfold core anyBuf piece at *
  iintro ⟨⟨Hmw, Hx, Hs4, Hs5, HO⟩, HB, HB', ⟨Hp, Ht⟩, Hd⟩
  isplitl [Hmw]; · iexact Hmw
  isplitl [Hx]; · iexact Hx
  isplitl [Hp]; · iexact Hp
  isplitl [HB]; · iexact HB
  isplitl [Hs4]; · iexact Hs4
  isplitl [Hs5]; · iexact Hs5
  isplitl [HO]; · iexact HO
  iintro ⟨Hmw, Hx, Hp, HB, Hs4, Hs5, HO⟩
  iapply hk
  isplitl [Hmw Hx Hs4 Hs5 HO]
  · isplitl [Hmw]; · iexact Hmw
    isplitl [Hx]; · iexact Hx
    isplitl [Hs4]; · iexact Hs4
    isplitl [Hs5]; · iexact Hs5
    iexact HO
  isplitl [HB']; · iexact HB'
  isplitl [HB]; · iexact HB
  isplitl [Ht]; · iexact Ht
  isplitl [Hp]; · iexact Hp
  iexact Hd

/-! ## The tile's own cells and buffers -/

abbrev cR0Cell : GSem nD τ sig := (thr d L, .dma cc0_scoped0.sem)
abbrev cR1Cell : GSem nD τ sig := (thr d L, .dma cc0_scoped1.sem)

omit [FloatOps F] in
theorem ownSems0_V :
    (ownSems0 (thr d L) : sProp 𝕄)
      = iprop(semVal (cInCell d L) 0 ∗ semVal (cOutCell d L) 0 ∗ semVal (cR0Cell d L) 0 ∗ semVal (cR1Cell d L) 0
          ∗ bigSep (((((ownCells (thr d L)).erase (cInCell d L)).erase (cOutCell d L)).erase (cR0Cell d L)).erase (cR1Cell d L)) fun g => semVal g 0) := by
  unfold SparseCore.Cfg.ownSems0
  have hm : ∀ x : DmaSem sig, (SemLoc.dma x : SemLoc sig).isScoped .scVector = true → ((thr d L, SemLoc.dma x) : GSem nD τ sig) ∈ ownCells (thr d L) :=
    fun _ h => mem_ownCells.mpr ⟨rfl, h⟩
  have hne : ∀ x y : DmaSem sig, x ≠ y → ((thr d L, SemLoc.dma x) : GSem nD τ sig) ≠ (thr d L, SemLoc.dma y) := fun _ _ h e => h (by simpa using e)
  rw [SparseCore.bigSep_erase' (hm cc0_scratch4.sem (by decide)),
    SparseCore.bigSep_erase' (Finset.mem_erase.mpr ⟨hne cc0_scratch5.sem _ (by decide), hm _ (by decide)⟩),
    SparseCore.bigSep_erase' (Finset.mem_erase.mpr ⟨hne cc0_scoped0.sem _ (by decide), Finset.mem_erase.mpr ⟨hne _ _ (by decide), hm _ (by decide)⟩⟩),
    SparseCore.bigSep_erase' (Finset.mem_erase.mpr ⟨hne cc0_scoped1.sem _ (by decide), Finset.mem_erase.mpr ⟨hne _ _ (by decide),
      Finset.mem_erase.mpr ⟨hne _ _ (by decide), hm _ (by decide)⟩⟩⟩)]

/-- A scratch buffer of the tile at some contents. -/
abbrev someBuf (b : Ref sig .scVector) : sProp 𝕄 := iprop(∃ f, (thr d L).loc b ↦{fullShare} f)

omit [FloatOps F] in
theorem ownBufs_V :
    (ownBufs (thr d L) : sProp 𝕄)
      = iprop(someBuf d L cc0_scratch0 ∗ someBuf d L cc0_scratch1 ∗ someBuf d L cc0_scratch2 ∗ someBuf d L cc0_scratch3
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  have hne : ∀ a b : Ref sig .scVector, a ≠ b → (Proc.scVector (cV L) (jV L)).devRef a ≠ (Proc.scVector (cV L) (jV L)).devRef b :=
    fun _ _ h e => h (Proc.devRef_injective _ e)
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne cc0_scratch1 _ (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne cc0_scratch2 _ (by decide), Finset.mem_erase.mpr ⟨hne _ _ (by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨hne cc0_scratch3 _ (by decide), Finset.mem_erase.mpr ⟨hne _ _ (by decide), Finset.mem_erase.mpr ⟨hne _ _ (by decide),
      SparseCore.Cfg.mem_ownRefs_of_owner (p := Proc.scVector (cV L) (jV L)) (b := (Proc.scVector (cV L) (jV L)).devRef cc0_scratch3) rfl⟩⟩⟩)]

omit [FloatOps F] in
theorem off1_eq_off2 : k0_off1 L = k0_off2 L (BitVec.ofNat 32 (16 * (0 : Fin 16).val)) := by
  rw [k0_off1_eq, k0_off2_eq]; rfl

/-- All sixteen chunks: every piece goes from unwritten to written. -/
theorem wp_chunks (O : CellTallies nD τ sig (HIx 1)) (W : Waits sig (HIx 1)) (q : PosShare TreeShare) (X : Buf (Elt F) (xLoc d)) (G : Buf (Elt F) (oLoc d))
    (Q : PUnit → sProp 𝕄) (hQ : iprop(core d L O W q X ∗ anyBuf d L bA ∗ anyBuf d L bB ∗ done d L (out X) 16) ⊢ Q ⟨⟩) :
    iprop(core d L O W q X ∗ anyBuf d L bA ∗ anyBuf d L bB ∗ todo d L G 0 ∗ done d L (out X) 0)
      ⊢ wpT d L (chunks L (tv lit0 0) (tv lit0 1) (tv lit0 2) (tv lit0 3) (tv lit0 4) (tv lit0 5) (tv lit0 6) (tv lit0 7) (tv lit0 8) (tv lit0 9) (tv lit0 10) (tv lit0 11) (tv lit0 12)
          (tv lit1 0) (tv lit1 1) (tv lit1 2) (tv lit1 3) (tv lit1 4) (tv lit1 5) (tv lit1 6) (tv lit1 7) (tv lit1 8) (tv lit1 9) (tv lit1 10) (tv lit1 11) (tv lit1 12)) Q := by
  unfold chunks
  refine chunk_step d L 0 bA bB (Memref.isWhole_whole _) (k0_off1 L) (k0_off1_inb L) (off1_eq_off2 L) O W q X G _ Q ?_
  refine chunk_step d L 1 bB bA (Memref.isWhole_whole _) _ (k0_off2_inb L 1) rfl O W q X G _ Q ?_
  refine chunk_step d L 2 bA bB (Memref.isWhole_whole _) _ (k0_off2_inb L 2) rfl O W q X G _ Q ?_
  refine chunk_step d L 3 bB bA (Memref.isWhole_whole _) _ (k0_off2_inb L 3) rfl O W q X G _ Q ?_
  refine chunk_step d L 4 bA bB (Memref.isWhole_whole _) _ (k0_off2_inb L 4) rfl O W q X G _ Q ?_
  refine chunk_step d L 5 bB bA (Memref.isWhole_whole _) _ (k0_off2_inb L 5) rfl O W q X G _ Q ?_
  refine chunk_step d L 6 bA bB (Memref.isWhole_whole _) _ (k0_off2_inb L 6) rfl O W q X G _ Q ?_
  refine chunk_step d L 7 bB bA (Memref.isWhole_whole _) _ (k0_off2_inb L 7) rfl O W q X G _ Q ?_
  refine chunk_step d L 8 bA bB (Memref.isWhole_whole _) _ (k0_off2_inb L 8) rfl O W q X G _ Q ?_
  refine chunk_step d L 9 bB bA (Memref.isWhole_whole _) _ (k0_off2_inb L 9) rfl O W q X G _ Q ?_
  refine chunk_step d L 10 bA bB (Memref.isWhole_whole _) _ (k0_off2_inb L 10) rfl O W q X G _ Q ?_
  refine chunk_step d L 11 bB bA (Memref.isWhole_whole _) _ (k0_off2_inb L 11) rfl O W q X G _ Q ?_
  refine chunk_step d L 12 bA bB (Memref.isWhole_whole _) _ (k0_off2_inb L 12) rfl O W q X G _ Q ?_
  refine chunk_step d L 13 bB bA (Memref.isWhole_whole _) _ (k0_off2_inb L 13) rfl O W q X G _ Q ?_
  refine chunk_step d L 14 bA bB (Memref.isWhole_whole _) _ (k0_off2_inb L 14) rfl O W q X G _ Q ?_
  refine chunk_step d L 15 bB bA (Memref.isWhole_whole _) _ (k0_off2_inb L 15) rfl O W q X G _ Q ?_
  unfold wpT
  rw [wp_pure]
  iintro ⟨H, HA, HB, Ht, Hd⟩
  imodintro
  iapply hQ
  isplitl [H]; · iexact H
  isplitl [HA]; · iexact HA
  isplitl [HB]; · iexact HB
  iexact Hd

omit [FloatOps F] in
/-- A load of sixteen entries of a landed table. -/
theorem load_table (B : Memref sig .scVector .vmem S208 .i32) (t : Fin 208 → BitVec 32) (f : B.view.ty.Contents (Elt F)) (w : Vec F S208 .i32)
    (hw : w = fun i => t (S208.rowMajor i)) (o : ℕ) (inb : ∀ a, ![o] a + S16.size a ≤ S208.size a) :
    B.view.readAt (Elt F) (Rect.unit (s := S208) ![o] S16.size inb).toLoadRect (B.view.write (Elt F) f w Finset.univ) = tvAt t o := by
  funext x
  rw [View.readAt_apply, View.read_write_univ, hw]
  have hx : o + (x 0).val < 208 := (Nat.add_lt_add_left (x 0).isLt _).trans_le (inb 0)
  refine congrArg t (Fin.ext ?_)
  rw [Shape.rowMajor_val_one]
  show o + 1 * (x 0).val = (o + (x 0).val) % 208
  rw [Nat.mod_eq_of_lt hx, Nat.one_mul]

set_option maxHeartbeats 4000000 in
theorem tile_body (hF : (K (F := F)).Facts) (O : CellTallies nD τ sig (HIx 1)) (W : Waits sig (HIx 1)) (hO : ∀ g, O g none = 0)
    (q qd qs : PosShare TreeShare) (X : Buf (Elt F) (xLoc d)) (G : Buf (Elt F) (oLoc d))
    (dt st : Vec F S208 .i32) (hdt : dt = fun i => lit0 (S208.rowMajor i)) (hst : st = fun i => lit1 (S208.rowMajor i)) :
    iprop(levAts (K (F := F)).L (K (F := F)).lev ∗ emp
        ∗ ((xLoc d ↦{q} X) ∗ (dLoc d ↦{qd} dt) ∗ (sLoc d ↦{qs} st) ∗ bigSep Finset.univ (piece d L G))
        ∗ scopedBufs (thr d L) ∗ scopedSems0 (thr d L) ∗ owes (thr d L) O W)
      ⊢ wpT d L (cc0_permute (F := F) L xV (Memref.isWhole_whole _) dV (Memref.isWhole_whole _) sV (Memref.isWhole_whole _) oV (Memref.isWhole_whole _)
            bA (Memref.isWhole_whole _) bB (Memref.isWhole_whole _) dT (Memref.isWhole_whole _) sT (Memref.isWhole_whole _) cc0_scratch4 cc0_scratch5 cc0_scoped0 cc0_scoped1)
          fun _ => iprop(((xLoc d ↦{q} X) ∗ (dLoc d ↦{qd} dt) ∗ (sLoc d ↦{qs} st) ∗ bigSep Finset.univ (piece d L (out X)))
            ∗ scopedBufs (thr d L) ∗ scopedSems0 (thr d L)
            ∗ ∃ W', ⌜∀ p ∈ W', p ∈ W ∨ p.2 = none⌝ ∗ owes (thr d L) O W') := by
  rw [body_eq]; unfold body wpT
  rw [(K (F := F)).scopedBufs_V hF d (cV L) (jV L), SparseCore.Cfg.scopedSems0_V (Val := Elt F) d (cV L) (jV L), ownSems0_V, ownBufs_V]
  iintro ⟨#Hlv, -, ⟨Hx, Hd, Hs, Ho⟩, ⟨⟨%fa, HA⟩, ⟨%fb, HB⟩, ⟨%fd, HdT⟩, ⟨%fs, HsT⟩, Hbufs⟩, ⟨Hs4, Hs5, Hr0, Hr1, Hsems⟩, HO⟩
  ihave Hmw := (show levAts (K (F := F)).L (K (F := F)).lev ⊢ Transfers.MayWaits (thr d L) (default : HIx 1) O from
    (K (F := F)).mayWaits_none (thr := thr d L) hO) $$ Hlv
  ihave Hd := (show (dLoc d ↦{qd} dt : sProp 𝕄) ⊢ dV.view.loc (thr d L) ↦{qd} dt from .rfl) $$ Hd
  ihave Hs := (show (sLoc d ↦{qs} st : sProp 𝕄) ⊢ sV.view.loc (thr d L) ↦{qs} st from .rfl) $$ Hs
  ihave HdT := (show ((thr d L).loc cc0_scratch2 ↦{fullShare} fd : sProp 𝕄) ⊢ dT.view.loc (thr d L) ↦{fullShare} fd from .rfl) $$ HdT
  ihave HsT := (show ((thr d L).loc cc0_scratch3 ↦{fullShare} fs : sProp 𝕄) ⊢ sT.view.loc (thr d L) ↦{fullShare} fs from .rfl) $$ HsT
  obtain ⟨ch, hch⟩ : ∃ ch, ch = chunks (F := F) L := ⟨_, rfl⟩
  rw [← hch]
  sl_exec
  rw [load_table dT lit0 fd _ ?_ 0, load_table dT lit0 fd _ ?_ 16, load_table dT lit0 fd _ ?_ 32, load_table dT lit0 fd _ ?_ 48, load_table dT lit0 fd _ ?_ 64, load_table dT lit0 fd _ ?_ 80, load_table dT lit0 fd _ ?_ 96, load_table dT lit0 fd _ ?_ 112, load_table dT lit0 fd _ ?_ 128, load_table dT lit0 fd _ ?_ 144, load_table dT lit0 fd _ ?_ 160, load_table dT lit0 fd _ ?_ 176, load_table dT lit0 fd _ ?_ 192,
    load_table sT lit1 fs _ ?_ 0, load_table sT lit1 fs _ ?_ 16, load_table sT lit1 fs _ ?_ 32, load_table sT lit1 fs _ ?_ 48, load_table sT lit1 fs _ ?_ 64, load_table sT lit1 fs _ ?_ 80, load_table sT lit1 fs _ ?_ 96, load_table sT lit1 fs _ ?_ 112, load_table sT lit1 fs _ ?_ 128, load_table sT lit1 fs _ ?_ 144, load_table sT lit1 fs _ ?_ 160, load_table sT lit1 fs _ ?_ 176, load_table sT lit1 fs _ ?_ 192, hch]
  ihave Hd := (show (dV.view.loc (thr d L) ↦{qd} dt : sProp 𝕄) ⊢ dLoc d ↦{qd} dt from .rfl) $$ Hd
  ihave Hs := (show (sV.view.loc (thr d L) ↦{qs} st : sProp 𝕄) ⊢ sLoc d ↦{qs} st from .rfl) $$ Hs
  ihave Hch := (show iprop(core d L O W q X ∗ anyBuf d L bA ∗ anyBuf d L bB ∗ todo d L G 0 ∗ done d L (out X) 0) ⊢ _ from
      wp_chunks d L O W q X G (fun _ => iprop(core d L O W q X ∗ anyBuf d L bA ∗ anyBuf d L bB ∗ done d L (out X) 16)) .rfl) $$ [Hmw Hx Ho HA HB Hs4 Hs5 HO]
  · rw [todo_zero, done_zero]
    unfold core anyBuf owesUp
    isplitl [Hmw Hx Hs4 Hs5 HO]
    · isplitl [Hmw]; · iexact Hmw
      isplitl [Hx]; · iexact Hx
      isplitl [Hs4]; · iexact Hs4
      isplitl [Hs5]; · iexact Hs5
      iexists _; isplitr
      swap; · iexact HO
      ipureintro; intro p hp
      rcases Finset.mem_insert.mp hp with hp | hp; · exact .inr (hp ▸ rfl)
      rcases Finset.mem_insert.mp hp with hp | hp; · exact .inr (hp ▸ rfl)
      exact .inl hp
    rw [View.set_whole, View.set_whole]
    isplitl [HA]; · iexists fa; iexact HA
    isplitl [HB]; · iexists fb; iexact HB
    isplitl [Ho]; · iexact Ho
    iempintro
  iapply wp_wand $$ Hch
  iintro %_ ⟨Hc, HA, HB, Ho⟩
  ihave Ho := (Entails.of_eq (done_all d L (out X))) $$ Ho
  ihave HA := (show anyBuf (F := F) d L bA ⊢ someBuf (F := F) d L cc0_scratch0 from Entails.of_eq (by unfold anyBuf; rw [View.set_whole])) $$ HA
  ihave HB := (show anyBuf (F := F) d L bB ⊢ someBuf (F := F) d L cc0_scratch1 from Entails.of_eq (by unfold anyBuf; rw [View.set_whole])) $$ HB
  ihave Hc := (Entails.of_eq (by unfold core owesUp; rfl)) $$ Hc
  icases Hc with ⟨-, Hx, Hs4, Hs5, HO⟩
  isplitl [Hx Hd Hs Ho]
  · isplitl [Hx]; · iexact Hx
    isplitl [Hd]; · iexact Hd
    isplitl [Hs]; · iexact Hs
    iexact Ho
  isplitl [HA HB HdT HsT Hbufs]
  · isplitl [HA]; · iexact HA
    isplitl [HB]; · iexact HB
    isplitl [HdT]; · iexists _; iexact HdT
    isplitl [HsT]; · iexists _; iexact HsT
    iexact Hbufs
  isplitl [Hs4 Hs5 Hr0 Hr1 Hsems]
  · isplitl [Hs4]; · iexact Hs4
    isplitl [Hs5]; · iexact Hs5
    isplitl [Hr0]; · iexact Hr0
    isplitl [Hr1]; · iexact Hr1
    iexact Hsems
  iexact HO
  all_goals first | exact hdt | exact hst

end Cert.Proof.Kern

end
-- ==== Proof.Launch.lean ====
/-
  The launch: 32 tiles, each with a read share of the input and of both tables and its own sixteen pieces of the output;
  then the whole run, with the values of its results.
-/
module

public import proofs.«01_k».proof.Proof.Tile

@[expose] public section

noncomputable section

namespace Cert.Proof.Kern

open Cert.KernelIdeal Cert.KernelIdeal.Gen Cert.Proof.Cols

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tiles, and what each is handed -/

abbrev Tile : Type := Fin 2 × Fin 16
def coordsV (c : Fin (grid0.bound 0)) (s : Fin (grid0.bound 1)) : grid0.Coords :=
  fun | 0 => c | 1 => s | ⟨_ + 2, h⟩ => absurd h (Nat.not_lt.2 (Nat.le_add_left _ _))
abbrev LT (t : Tile) : grid0.Coords := coordsV t.1 t.2

/-- A tile's read share of an array all tiles read. -/
abbrev tq (t : Tile) : PosShare TreeShare := Transfers.shareTok fullShare 32 (finProdFinEquiv t)

theorem shares_split {ℓ : Loc nD τ sig} (f : Buf (Elt F) ℓ) :
    (ℓ ↦{fullShare} f : sProp 𝕄) ⊢ iprop((ℓ ↦{Transfers.shareDrop fullShare 32} f) ∗ bigSep Finset.univ fun t : Tile => ℓ ↦{tq t} f) := by
  refine BIBase.Entails.trans (Transfers.pointsTo_toks (ℓ := ℓ) (S := Finset.univ) (f := f) fullShare 32).1 ?_
  rw [bigSep_univ_equiv (finProdFinEquiv : Tile ≃ Fin 32)]
theorem shares_join {ℓ : Loc nD τ sig} (f : Buf (Elt F) ℓ) :
    iprop((ℓ ↦{Transfers.shareDrop fullShare 32} f) ∗ bigSep Finset.univ fun t : Tile => ℓ ↦{tq t} f) ⊢ (ℓ ↦{fullShare} f : sProp 𝕄) := by
  refine BIBase.Entails.trans ?_ (Transfers.pointsTo_toks (ℓ := ℓ) (S := Finset.univ) (f := f) fullShare 32).2
  rw [bigSep_univ_equiv (finProdFinEquiv : Tile ≃ Fin 32)]

/-! ## The output's pieces are all of it -/

theorem odiv : 512 ∣ S8192x2000.size 0 := ⟨16, rfl⟩
/-- Which sixteen rows a tile's chunk writes. -/
def slot (u : Tile × Fin 16) : Fin 512 := ⟨32 * u.1.2.val + 16 * u.1.1.val + u.2.val, by have := u.1.2.isLt; have := u.1.1.isLt; have := u.2.isLt; omega⟩
theorem slot_inj : Function.Injective slot := by
  rintro ⟨⟨c, s⟩, j⟩ ⟨⟨c', s'⟩, j'⟩ h
  have h := congrArg Fin.val h
  simp only [slot] at h
  have := c.isLt; have := c'.isLt; have := j.isLt; have := j'.isLt
  have h1 : s = s' := Fin.ext (by omega)
  have h2 : c = c' := Fin.ext (by omega)
  have h3 : j = j' := Fin.ext (by omega)
  rw [h1, h2, h3]
def slotEquiv : Tile × Fin 16 ≃ Fin 512 := Equiv.ofBijective slot ((Fintype.bijective_iff_injective_and_card _).2 ⟨slot_inj, rfl⟩)

theorem piece_rect (u : Tile × Fin 16) :
    Rect.unit (s := S8192x2000) (k0_off2 (LT u.1) (BitVec.ofNat 32 (16 * u.2.val))) S16x2000.size (k0_off2_inb (LT u.1) u.2)
      = Rect.part (s := S8192x2000) (a₀ := 0) odiv (slot u) := by
  unfold Rect.part Rect.block
  congr 1 <;> funext a
  · rw [k0_off2_eq]
    match a with
    | 0 => simp [Shape.partIx, Shape.partSize, slot, LT, coordsV]; omega
    | 1 => simp [Shape.partIx, Shape.partSize]
  · match a with
    | 0 => simp [Shape.partSize]
    | 1 => simp [Shape.partSize]

theorem piece_set (u : Tile × Fin 16) : (oPc (LT u.1) u.2).view.set = (Rect.part (s := S8192x2000) (a₀ := 0) odiv (slot u)).set := by
  show ((View.whole (main_v0_scv : Ref sig .scVector)).slice _).set = _
  rw [View.set_slice, piece_rect]; exact Finset.map_refl

theorem pieces_all (d : Dev nD) (g : Buf (Elt F) (oLoc d)) :
    (oLoc d ↦{fullShare} g : sProp 𝕄) = bigSep Finset.univ fun t : Tile => bigSep Finset.univ (piece d (LT t) g) := by
  have hp : ∀ u : Tile × Fin 16, piece (F := F) d (LT u.1) g u.2 = (oLoc d ↦[(Rect.part (s := S8192x2000) (a₀ := 0) odiv (slotEquiv u)).set]{fullShare} g : sProp 𝕄) := by
    intro u
    unfold piece
    rw [piece_set]; rfl
  rw [← bigSep_univ_prod (fun u : Tile × Fin 16 => piece (F := F) d (LT u.1) g u.2), bigSep_congr (fun u _ => hp u),
    ← bigSep_univ_equiv slotEquiv (fun k => (oLoc d ↦[(Rect.part (s := S8192x2000) (a₀ := 0) odiv k).set]{fullShare} g : sProp 𝕄)),
    ← pointsTo_biUnion Finset.univ (ℓ := oLoc d) (fun k => (Rect.part (s := S8192x2000) (a₀ := 0) odiv k).set)
      (fun i _ j _ h => Rect.part_disjoint odiv h)]
  rw [Rect.biUnion_part odiv]

/-! ## The launch's payloads -/

variable [FloatOps F] (m : (ℓ : Loc nD τ sig) → Buf (Elt F) ℓ) (ρ : Dev nD → PrngReg)

/-- What a tile is handed, the output's pieces at `g`. -/
abbrev give (d : Dev nD) (t : Tile) (g : Buf (Elt F) (oLoc d)) : sProp 𝕄 :=
  iprop((xLoc d ↦{tq t} m (xLoc d)) ∗ (dLoc d ↦{tq t} (dTab (F := F))) ∗ (sLoc d ↦{tq t} (sTab (F := F))) ∗ bigSep Finset.univ (piece d (LT t) g))

abbrev before (d : Dev nD) (t : Tile) : sProp 𝕄 := give m d t (m (oLoc d))
abbrev after (d : Dev nD) (t : Tile) : sProp 𝕄 := give m d t (out (m (xLoc d)))

/-- The payloads, from what each tile is handed and hands back. -/
def payOf (b a : Dev nD → Tile → sProp 𝕄) : (K (F := F)).Pay (nD := nD) (Val := Elt F) (Name := ℕ) (U := UU) where
  st := fun q d c => match q with | 0 => bigSep Finset.univ fun i : Fin 16 => b d (Fin.cast nCore_zero c, i)
  dn := fun q d c => match q with | 0 => bigSep Finset.univ fun i : Fin 16 => a d (Fin.cast nCore_zero c, i)
  go := fun q d c i => match q with | 0 => b d (Fin.cast nCore_zero c, Fin.cast nSub_zero i)
  td := fun q d c i => match q with | 0 => a d (Fin.cast nCore_zero c, Fin.cast nSub_zero i)
  x := fun _ _ => iprop(emp)

abbrev P : (K (F := F)).Pay (nD := nD) (Val := Elt F) (Name := ℕ) (U := UU) := payOf (before m) (after m)

instance piece_storable (d : Dev nD) (L : grid0.Coords) (g : Buf (Elt F) (oLoc d)) (j : Fin 16) : BI.Storable (upEmb : UEmb _ 𝕄) (piece d L g j) := by
  unfold piece; infer_instance

instance P_storable : (P (F := F) m).IsStorable where
  st q d c := match q with
    | 0 => (inferInstance : BI.Storable (upEmb : UEmb _ 𝕄) (bigSep Finset.univ fun i : Fin 16 => before m d (Fin.cast nCore_zero c, i)))
  dn q d c := match q with
    | 0 => (inferInstance : BI.Storable (upEmb : UEmb _ 𝕄) (bigSep Finset.univ fun i : Fin 16 => after m d (Fin.cast nCore_zero c, i)))
  go q d c i := match q with
    | 0 => (inferInstance : BI.Storable (upEmb : UEmb _ 𝕄) (before m d (Fin.cast nCore_zero c, Fin.cast nSub_zero i)))
  td q d c i := match q with
    | 0 => (inferInstance : BI.Storable (upEmb : UEmb _ 𝕄) (after m d (Fin.cast nCore_zero c, Fin.cast nSub_zero i)))

/-! ## A tile's obligation -/

theorem defs₀_vector (c : Fin τ.nSC) (s : Fin τ.nSub) :
    defs₀ (F := F) (.scVector c s) 0 ()
      = SparseCore.onTile hcore0 hsub0 (fun c s => cc0_permute (F := F) (coordsV c s)
          xV (Memref.isWhole_whole _) dV (Memref.isWhole_whole _) sV (Memref.isWhole_whole _) oV (Memref.isWhole_whole _)
          bA (Memref.isWhole_whole _) bB (Memref.isWhole_whole _) dT (Memref.isWhole_whole _) sT (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF O W hO (tq (Fin.cast nCore_zero c, Fin.cast nSub_zero i)) (tq (Fin.cast nCore_zero c, Fin.cast nSub_zero i))
    (tq (Fin.cast nCore_zero c, Fin.cast nSub_zero i)) (m (xLoc d)) (m (oLoc d)) (dTab (F := F)) (sTab (F := F)) rfl rfl).trans (wp_mono frame _ _ fun _ => obl_post)

omit [FloatOps F] in
theorem split_plain (Φ Ψ : Fin 16 → sProp 𝕄) :
    bigSep Finset.univ Φ ⊢ |={Set.univ}=> iprop((bigSep Finset.univ fun i : Fin ((K (F := F)).nSub 0) => Φ (Fin.cast nSub_zero i))
      ∗ ((bigSep Finset.univ fun i : Fin ((K (F := F)).nSub 0) => Ψ (Fin.cast nSub_zero i)) -∗ bigSep Finset.univ Ψ)) := by
  have h : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  rw [h, h]
  iintro H; imodintro
  isplitl [H]; · iexact H
  iintro H; iexact H

theorem vecSplit (b a : Dev nD → Tile → sProp 𝕄) : (K (F := F)).VecSplit' (payOf b a) 0 := fun d c =>
  split_plain (fun i => b d (Fin.cast nCore_zero c, i)) (fun i => a d (Fin.cast nCore_zero c, i))

/-! ## The launch's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev c' : DevRef τ sig := Proc.devRef .tc (main_c : Ref sig .tc)
abbrev c0' : DevRef τ sig := Proc.devRef .tc (main_c_0 : Ref sig .tc)
abbrev v0' : DevRef τ sig := Proc.devRef .tc (main_v0 : Ref sig .tc)
abbrev opD : HloOp τ sig (Elt F) := StableHlo.nullary main_c (fun i => lit0 (S208.rowMajor i))
abbrev opS : HloOp τ sig (Elt F) := StableHlo.nullary main_c_0 (fun i => lit1 (S208.rowMajor i))

/-- The TensorCore's arrays. -/
abbrev S6 : Finset (DevRef τ sig) := {a0', a1', a2', c', c0', v0'}
abbrev tcLoc (d : Dev nD) (b : Ref sig .tc) : Loc nD τ sig := (SparseCore.T d).loc b

omit [FloatOps F] in
theorem held_S6 (d : Dev nD) (W : Valuation τ sig (Elt F)) :
    (StableHlo.held (T d) S6 W : sProp 𝕄) = iprop((tcLoc d main_arg0 ↦{fullShare} W a0') ∗ (xLoc d ↦{fullShare} W a1') ∗ (tcLoc d main_arg2 ↦{fullShare} W a2')
      ∗ (dLoc d ↦{fullShare} W c') ∗ (sLoc d ↦{fullShare} W c0') ∗ oLoc d ↦{fullShare} W v0') := by
  unfold StableHlo.held S6
  rw [SparseCore.bigSep_insert' (by decide), SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((tcLoc d main_arg0 ↦{fullShare} W main_arg0) ∗ (xLoc d ↦{fullShare} W main_arg1) ∗ (tcLoc d main_arg2 ↦{fullShare} W main_arg2)
      ∗ (dLoc d ↦{fullShare} W main_c) ∗ (sLoc d ↦{fullShare} W main_c_0) ∗ oLoc d ↦{fullShare} W main_v0) := by
  unfold unscopedBufs
  rw [show (Finset.univ.filter fun b : Ref sig .tc => ¬ b.isScoped) = {main_arg0, main_arg1, main_arg2, main_c, main_c_0, main_v0} by decide,
    SparseCore.bigSep_insert' (by decide), SparseCore.bigSep_insert' (by decide), SparseCore.bigSep_insert' (by decide), SparseCore.bigSep_insert' (by decide),
    SparseCore.bigSep_insert' (by decide), bigSep_singleton]

/-- The launch valuation, and the valuation after the two constants. -/
def V0 (d : Dev nD) : Valuation τ sig (Elt F) := fun b => m (d, b)
def V2 (d : Dev nD) : Valuation τ sig (Elt F) := (opS (F := F)).result ((opD (F := F)).result (V0 m d))

theorem unscoped_held (d : Dev nD) : (unscopedBufs d (fun b => m ((SparseCore.T d).loc b)) : sProp 𝕄) = StableHlo.held (T d) S6 (V0 m d) := by
  rw [unscopedBufs_eq, held_S6]; rfl

theorem V2_of_ne (d : Dev nD) (b : DevRef τ sig) (h1 : b ≠ c') (h2 : b ≠ c0') : V2 m d b = m (d, b) := by
  unfold V2
  rw [HloOp.result_of_not_mem _ _ (show b ∉ ({c0'} : Finset (DevRef τ sig)) by simpa using h2),
    HloOp.result_of_not_mem _ _ (show b ∉ ({c'} : Finset (DevRef τ sig)) by simpa using h1)]
  rfl

theorem held_V2 (d : Dev nD) :
    (StableHlo.held (T d) S6 (V2 m d) : sProp 𝕄) = iprop((tcLoc d main_arg0 ↦{fullShare} m (tcLoc d main_arg0)) ∗ (xLoc d ↦{fullShare} m (xLoc d))
      ∗ (tcLoc d main_arg2 ↦{fullShare} m (tcLoc d main_arg2)) ∗ (dLoc d ↦{fullShare} (dTab (F := F))) ∗ (sLoc d ↦{fullShare} (sTab (F := F))) ∗ oLoc d ↦{fullShare} m (oLoc d)) := by
  have hc : V2 m d c' = dTab (F := F) := by
    unfold V2
    rw [HloOp.result_of_not_mem _ _ (show c' ∉ ({c0'} : Finset (DevRef τ sig)) by decide)]
    exact StableHlo.nullary_result _ _ _ _
  have hc0 : V2 m d c0' = sTab (F := F) := by
    unfold V2
    exact StableHlo.nullary_result _ _ _ _
  rw [held_S6, V2_of_ne m d a0' (by decide) (by decide), V2_of_ne m d a1' (by decide) (by decide), V2_of_ne m d a2' (by decide) (by decide),
    V2_of_ne m d v0' (by decide) (by decide), hc, hc0]

/-- What the call takes, over all tiles, and what it hands back. -/
theorem st0_eq (d : Dev nD) : (bigSep Finset.univ fun c : Fin ((K (F := F)).nCore 0) => (P m).st 0 d c) = bigSep Finset.univ fun t : Tile => before m d t := by
  rw [bigSep_univ_prod]; rfl
theorem dn0_eq (d : Dev nD) : (bigSep Finset.univ fun c : Fin ((K (F := F)).nCore 0) => (P m).dn 0 d c) = bigSep Finset.univ fun t : Tile => after m d t := by
  rw [bigSep_univ_prod]; rfl

theorem gives_eq (d : Dev nD) (g : Buf (Elt F) (oLoc d)) :
    (bigSep Finset.univ fun t : Tile => give m d t g)
      = iprop((bigSep Finset.univ fun t : Tile => xLoc d ↦{tq t} m (xLoc d)) ∗ (bigSep Finset.univ fun t : Tile => dLoc d ↦{tq t} (dTab (F := F)))
          ∗ (bigSep Finset.univ fun t : Tile => sLoc d ↦{tq t} (sTab (F := F))) ∗ oLoc d ↦{fullShare} g) := by
  rw [bigSep_sep', bigSep_sep', bigSep_sep', pieces_all]

/-- What @main leaves. -/
abbrev FIN (d : Dev nD) : sProp 𝕄 :=
  iprop((tcLoc d main_arg0 ↦{fullShare} m (tcLoc d main_arg0)) ∗ (xLoc d ↦{fullShare} m (xLoc d)) ∗ (tcLoc d main_arg2 ↦{fullShare} m (tcLoc d main_arg2))
    ∗ oLoc d ↦{fullShare} out (m (xLoc d)))

theorem hD : (opD (F := F)).bufs ⊆ S6 := show ({c'} : Finset (DevRef τ sig)) ⊆ S6 by decide
theorem hS : (opS (F := F)).bufs ⊆ S6 := show ({c0'} : Finset (DevRef τ sig)) ⊆ S6 by decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (StableHlo.wp_hlo_within 𝒱 (SparseCore.T d) none Set.univ (op := opD) (S := S6) hD (V := V0 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opS) (S := S6) hS (V := (opD (F := F)).result (V0 m d))) $$ [Hb Hheld]
  · isplitl [Hb]; · iexact Hb
    iexact Hheld
  iintro ⟨Hb, Hheld⟩
  rw [wp_ret]; imodintro
  ihave Hheld := (show (StableHlo.held (T d) S6 ((opS (F := F)).result ((opD (F := F)).result (V0 m d))) : sProp 𝕄) ⊢ StableHlo.held (T d) S6 (V2 m d) from .rfl) $$ Hheld
  ihave Hh := (Entails.of_eq (held_V2 (F := F) m d)) $$ Hheld
  icases Hh with ⟨H0, Hx, H2, Hd, Hs, Ho⟩
  ihave Hx := (shares_split (F := F) (m (xLoc d))) $$ Hx
  icases Hx with ⟨Hxr, Hx⟩
  ihave Hd := (shares_split (F := F) (ℓ := dLoc d) (dTab (F := F))) $$ Hd
  icases Hd with ⟨Hdr, Hd⟩
  ihave Hs := (shares_split (F := F) (ℓ := sLoc d) (sTab (F := F))) $$ Hs
  icases Hs with ⟨Hsr, Hs⟩
  iapply ((K (F := F)).wp_run (D (F := F)) 𝒱 (EH := EH) (P := P m) κ d 0) $$ [Hst H0 Hx Hxr H2 Hd Hdr Hs Hsr Ho Hb Hts]
  isplitr; · iexact Hctx
  isplitl [Hst]; · iexact Hst
  isplitl [Hx Hd Hs Ho]
  · rw [st0_eq, gives_eq]
    isplitl [Hx]; · iexact Hx
    isplitl [Hd]; · iexact Hd
    isplitl [Hs]; · iexact Hs
    iexact Ho
  iintro ⟨Hst, Hdn⟩
  ihave Hdn := (Entails.of_eq ((dn0_eq m d).trans (gives_eq m d _))) $$ Hdn
  icases Hdn with ⟨Hx, -, -, Ho⟩
  ihave Hx := (shares_join (F := F) (m (xLoc d))) $$ [Hxr Hx]
  · isplitl [Hxr] <;> iassumption
  imodintro
  isplitl [Hst]; · iexact Hst
  isplitr [Hb Hts]
  · isplitl [H0]; · iexact H0
    isplitl [Hx]; · iexact Hx
    isplitl [H2]; · iexact H2
    iexact Ho
  isplitl [Hb] <;> iassumption

/-- What the run leaves in memory on a device. -/
def fq (d : Dev nD) (s' : Phys nD τ sig (Elt F)) : Prop :=
  s'.mem.mem (tcLoc d main_arg0) = m (tcLoc d main_arg0) ∧ s'.mem.mem (xLoc d) = m (xLoc d) ∧ s'.mem.mem (tcLoc d main_arg2) = m (tcLoc d main_arg2)
    ∧ s'.mem.mem (oLoc d) = out (m (xLoc d))

theorem agree_at {s' : Phys nD τ sig (Elt F)} (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (agree_at (tcLoc d main_arg0) _) $$ [H0 HSI]
  · isplitl [H0] <;> iassumption
  icases H with ⟨%h0, HSI⟩
  ihave H := (agree_at (xLoc d) _) $$ [H1 HSI]
  · isplitl [H1] <;> iassumption
  icases H with ⟨%h1, HSI⟩
  ihave H := (agree_at (tcLoc d main_arg2) _) $$ [H2 HSI]
  · isplitl [H2] <;> iassumption
  icases H with ⟨%h2, HSI⟩
  ihave H := (agree_at (oLoc d) _) $$ [H3 HSI]
  · isplitl [H3] <;> iassumption
  icases H with ⟨%h3, -⟩
  ipureintro; exact ⟨h0, h1, h2, h3⟩

/-! ## The run -/

def QC : PUnit × MemSt nD τ sig (Elt F) → Prop := fun r =>
  (∀ d : Dev nD, r.2.mem (tcLoc d main_arg0) = m (tcLoc d main_arg0) ∧ r.2.mem (xLoc d) = m (xLoc d) ∧ r.2.mem (tcLoc d main_arg2) = m (tcLoc d main_arg2)
    ∧ r.2.mem (oLoc d) = out (m (xLoc d))) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit (before m) (after m)))
    m ρ main (fun _ => iprop(emp)) (FIN m) (u₀ (F := F)) (sep_elim_left.trans (hu₀ m)) (hmain m ρ) (fq m) (hfin m) (QC m) (fun _ h hz => ⟨h, hz⟩)

end Cert.Proof.Kern

end
-- ==== Proof.Solve.lean ====
/-
  A host program that writes each of its buffers once, and reads a buffer only after it is written, ends with every one
  of its statements holding as an equation between final contents. `Line p` is a straight program taken apart into its
  statements; `Sat E l` says that the contents `E` satisfy each statement of it; `Line.sound` gives `Sat` at the end of
  the run from one check over the buffers' numbers.
-/
module

public import Idealize.ShloMosaic.Lib.StableHlo.Run
public import Idealize.ShloMosaic.Lib.Decide

@[expose] public section

noncomputable section

namespace Cert.Proof.Solve

open Idealize.ShloMosaic Idealize.ShloMosaic.StableHlo
open Idealize.SL.Sem

variable {nD : Nat} {τ : Topo} {sig : RefSig} {Val : EltTy → Type} {Λ : Labels}

/-- The value a typed reference names, among a device's contents. -/
def rd (E : Valuation τ sig Val) {T : BufTy} (x : TRef sig T) : T.Contents Val := x.ofBuf (E (Proc.devRef .tc x.ref))

/-- What a statement asks of a buffer: it is on the device and not scoped. -/
abbrev Dv (τ : Topo) (x : Ref sig .tc) : Prop := x.space ≠ .host ∧ (Proc.devRef (τ := τ) .tc x).isScoped = false

/-- One statement: the buffers it reads, the one it writes, and the equation it leaves between them. -/
structure Step (τ : Topo) (sig : RefSig) (Val : EltTy → Type) where
  op : HloOp τ sig Val
  reads : List (Ref sig .tc)
  out : Ref sig .tc
  eqn : Valuation τ sig Val → Prop
  writes_eq : op.writes = {Proc.devRef .tc out}
  bufs_sub : op.bufs ⊆ tcRefs τ sig
  fresh_eq : op.fresh = ∅
  holds : ∀ V E : Valuation τ sig Val, (∀ r ∈ reads, E (Proc.devRef .tc r) = V (Proc.devRef .tc r)) →
    E (Proc.devRef .tc out) = op.result V (Proc.devRef .tc out) → eqn E

/-! ## The statements there are -/

section Steps

variable {Tx Ta Tb Tc Ty : BufTy}

def step0 (y : Ref sig .tc) (v : y.ty.Contents Val) (hy : Dv τ y) : Step τ sig Val where
  op := nullary y v hy
  reads := []
  out := y
  eqn E := E (Proc.devRef .tc y) = v
  writes_eq := rfl
  bufs_sub := nullary_bufs_sub _ _ _
  fresh_eq := rfl
  holds V E _ h := h.trans (nullary_result _ _ _ _)

def step1 (x y : Ref sig .tc) (f : x.ty.Contents Val → y.ty.Contents Val) (hx : Dv τ x) (hy : Dv τ y) : Step τ sig Val where
  op := unary x y f hx hy
  reads := [x]
  out := y
  eqn E := E (Proc.devRef .tc y) = f (E (Proc.devRef .tc x))
  writes_eq := rfl
  bufs_sub := unary_bufs_sub _ _ _ _ _
  fresh_eq := rfl
  holds V E hr h := by rw [hr x (by simp)]; exact h.trans (unary_result _ _ _ _ _ _)

def step2 (a b y : Ref sig .tc) (f : a.ty.Contents Val → b.ty.Contents Val → y.ty.Contents Val) (ha : Dv τ a) (hb : Dv τ b) (hy : Dv τ y) :
    Step τ sig Val where
  op := binary a b y f ha hb hy
  reads := [a, b]
  out := y
  eqn E := E (Proc.devRef .tc y) = f (E (Proc.devRef .tc a)) (E (Proc.devRef .tc b))
  writes_eq := rfl
  bufs_sub := binary_bufs_sub _ _ _ _ _ _ _
  fresh_eq := rfl
  holds V E hr h := by rw [hr a (by simp), hr b (by simp)]; exact h.trans (binary_result _ _ _ _ _ _ _ _)

def step3 (c a b y : Ref sig .tc)
    (f : c.ty.Contents Val → a.ty.Contents Val → b.ty.Contents Val → y.ty.Contents Val) (hc : Dv τ c) (ha : Dv τ a) (hb : Dv τ b) (hy : Dv τ y) :
    Step τ sig Val where
  op := ternary c a b y f hc ha hb hy
  reads := [c, a, b]
  out := y
  eqn E := E (Proc.devRef .tc y) = f (E (Proc.devRef .tc c)) (E (Proc.devRef .tc a)) (E (Proc.devRef .tc b))
  writes_eq := rfl
  bufs_sub := ternary_bufs_sub _ _ _ _ _ _ _ _ _
  fresh_eq := rfl
  holds V E hr h := by
    rw [hr c (by simp), hr a (by simp), hr b (by simp)]; exact h.trans (ternary_result _ _ _ _ _ _ _ _ _ _)

def stepR (x y : Ref sig .tc) (he : x.ty.elt = y.ty.elt) (hn : x.ty.shape.ShapeCasts y.ty.shape) (hx : Dv τ x) (hy : Dv τ y) :
    Step τ sig Val where
  op := reshape x y he hn hx hy
  reads := [x]
  out := y
  eqn E := E (Proc.devRef .tc y) = fun i => he ▸ shapeCast y.ty.shape (E (Proc.devRef .tc x)) hn i
  writes_eq := rfl
  bufs_sub := reshape_bufs_sub _ _ _ _ _ _
  fresh_eq := rfl
  holds V E hr h := by rw [hr x (by simp)]; exact h.trans (reshape_result _ _ _ _ _ _ _)

/-- The same statements over typed references, the equation between the values they name. -/
def typed0 (y : TRef sig Ty) (v : Ty.Contents Val) : Step τ sig Val where
  op := TRef.nullary y v
  reads := []
  out := y.ref
  eqn E := rd E y = v
  writes_eq := rfl
  bufs_sub := nullary_bufs_sub _ _ _
  fresh_eq := rfl
  holds V E _ h := by
    obtain ⟨y, rfl, _, _⟩ := y
    exact h.trans (nullary_result _ _ _ _)

def typed1 (x : TRef sig Tx) (y : TRef sig Ty) (f : Tx.Contents Val → Ty.Contents Val) : Step τ sig Val where
  op := TRef.unary x y f
  reads := [x.ref]
  out := y.ref
  eqn E := rd E y = f (rd E x)
  writes_eq := rfl
  bufs_sub := unary_bufs_sub _ _ _ _ _
  fresh_eq := rfl
  holds V E hr h := by
    obtain ⟨x, rfl, _, _⟩ := x; obtain ⟨y, rfl, _, _⟩ := y
    simp only [rd]
    rw [hr x (by simp)]; exact h.trans (unary_result _ _ _ _ _ _)

def typed2 (a : TRef sig Ta) (b : TRef sig Tb) (y : TRef sig Ty)
    (f : Ta.Contents Val → Tb.Contents Val → Ty.Contents Val) : Step τ sig Val where
  op := TRef.binary a b y f
  reads := [a.ref, b.ref]
  out := y.ref
  eqn E := rd E y = f (rd E a) (rd E b)
  writes_eq := rfl
  bufs_sub := binary_bufs_sub _ _ _ _ _ _ _
  fresh_eq := rfl
  holds V E hr h := by
    obtain ⟨a, rfl, _, _⟩ := a; obtain ⟨b, rfl, _, _⟩ := b; obtain ⟨y, rfl, _, _⟩ := y
    simp only [rd]
    rw [hr a (by simp), hr b (by simp)]; exact h.trans (binary_result _ _ _ _ _ _ _ _)

def typed3 (c : TRef sig Tc) (a : TRef sig Ta) (b : TRef sig Tb) (y : TRef sig Ty)
    (f : Tc.Contents Val → Ta.Contents Val → Tb.Contents Val → Ty.Contents Val) : Step τ sig Val where
  op := TRef.ternary c a b y f
  reads := [c.ref, a.ref, b.ref]
  out := y.ref
  eqn E := rd E y = f (rd E c) (rd E a) (rd E b)
  writes_eq := rfl
  bufs_sub := ternary_bufs_sub _ _ _ _ _ _ _ _ _
  fresh_eq := rfl
  holds V E hr h := by
    obtain ⟨c, rfl, _, _⟩ := c; obtain ⟨a, rfl, _, _⟩ := a; obtain ⟨b, rfl, _, _⟩ := b; obtain ⟨y, rfl, _, _⟩ := y
    simp only [rd]
    rw [hr c (by simp), hr a (by simp), hr b (by simp)]; exact h.trans (ternary_result _ _ _ _ _ _ _ _ _ _)

def typedR (x : TRef sig Tx) (y : TRef sig Ty) (he : Tx.elt = Ty.elt) (hn : Tx.shape.ShapeCasts Ty.shape) :
    Step τ sig Val where
  op := TRef.reshape x y he hn
  reads := [x.ref]
  out := y.ref
  eqn E := rd E y = fun i => he ▸ shapeCast Ty.shape (rd E x) hn i
  writes_eq := rfl
  bufs_sub := reshape_bufs_sub _ _ _ _ _ _
  fresh_eq := rfl
  holds V E hr h := by
    obtain ⟨x, rfl, _, _⟩ := x; obtain ⟨y, rfl, _, _⟩ := y
    simp only [rd]
    rw [hr x (by simp)]; exact h.trans (reshape_result _ _ _ _ _ _ _)

end Steps

/-! ## A program as its statements -/

/-- One statement as a program. -/
abbrev one (op : HloOp τ sig Val) : Prog (TpuEff nD τ sig Val Λ .tc) PUnit := hlo rfl op fun _ => .ret ⟨⟩

/-- A straight program taken apart. -/
inductive Line : Prog (TpuEff nD τ sig Val Λ .tc) PUnit → Type _ where
  | nil : Line (pure ⟨⟩)
  | op (s : Step τ sig Val) : Line (one s.op)
  | bind {p q} : Line p → Line q → Line (p >>= fun _ => q)

namespace Line

variable {p : Prog (TpuEff nD τ sig Val Λ .tc) PUnit}

section

variable {Tx Ta Tb Tc Ty : BufTy}

/-- One statement of each kind, as the program text spells it. -/
def t0 (y : TRef sig Ty) (v : Ty.Contents Val) :
    Line (nD := nD) (τ := τ) (Λ := Λ) (hlo rfl (TRef.nullary y v) fun _ => .ret ⟨⟩) := op (typed0 y v)
def t1 (x : TRef sig Tx) (y : TRef sig Ty) (f : Tx.Contents Val → Ty.Contents Val) :
    Line (nD := nD) (τ := τ) (Λ := Λ) (hlo rfl (TRef.unary x y f) fun _ => .ret ⟨⟩) := op (typed1 x y f)
def t2 (a : TRef sig Ta) (b : TRef sig Tb) (y : TRef sig Ty) (f : Ta.Contents Val → Tb.Contents Val → Ty.Contents Val) :
    Line (nD := nD) (τ := τ) (Λ := Λ) (hlo rfl (TRef.binary a b y f) fun _ => .ret ⟨⟩) := op (typed2 a b y f)
def t3 (c : TRef sig Tc) (a : TRef sig Ta) (b : TRef sig Tb) (y : TRef sig Ty)
    (f : Tc.Contents Val → Ta.Contents Val → Tb.Contents Val → Ty.Contents Val) :
    Line (nD := nD) (τ := τ) (Λ := Λ) (hlo rfl (TRef.ternary c a b y f) fun _ => .ret ⟨⟩) := op (typed3 c a b y f)
def tR (x : TRef sig Tx) (y : TRef sig Ty) (he : Tx.elt = Ty.elt) (hn : Tx.shape.ShapeCasts Ty.shape) :
    Line (nD := nD) (τ := τ) (Val := Val) (Λ := Λ) (hlo rfl (TRef.reshape x y he hn) fun _ => .ret ⟨⟩) :=
  op (typedR x y he hn)
def p0 (y : Ref sig .tc) (v : y.ty.Contents Val) (hy : Dv τ y) :
    Line (nD := nD) (τ := τ) (Λ := Λ) (hlo rfl (nullary y v hy) fun _ => .ret ⟨⟩) := op (step0 y v hy)
def p1 (x y : Ref sig .tc) (f : x.ty.Contents Val → y.ty.Contents Val) (hx : Dv τ x) (hy : Dv τ y) :
    Line (nD := nD) (τ := τ) (Λ := Λ) (hlo rfl (unary x y f hx hy) fun _ => .ret ⟨⟩) := op (step1 x y f hx hy)
def p2 (a b y : Ref sig .tc) (f : a.ty.Contents Val → b.ty.Contents Val → y.ty.Contents Val)
    (ha : Dv τ a) (hb : Dv τ b) (hy : Dv τ y) :
    Line (nD := nD) (τ := τ) (Λ := Λ) (hlo rfl (binary a b y f ha hb hy) fun _ => .ret ⟨⟩) := op (step2 a b y f ha hb hy)
def p3 (c a b y : Ref sig .tc) (f : c.ty.Contents Val → a.ty.Contents Val → b.ty.Contents Val → y.ty.Contents Val)
    (hc : Dv τ c) (ha : Dv τ a) (hb : Dv τ b) (hy : Dv τ y) :
    Line (nD := nD) (τ := τ) (Λ := Λ) (hlo rfl (ternary c a b y f hc ha hb hy) fun _ => .ret ⟨⟩) :=
  op (step3 c a b y f hc ha hb hy)
def pR (x y : Ref sig .tc) (he : x.ty.elt = y.ty.elt) (hn : x.ty.shape.ShapeCasts y.ty.shape)
    (hx : Dv τ x) (hy : Dv τ y) :
    Line (nD := nD) (τ := τ) (Val := Val) (Λ := Λ) (hlo rfl (reshape x y he hn hx hy) fun _ => .ret ⟨⟩) :=
  op (stepR x y he hn hx hy)

end

/-- Its statements in order. -/
def steps {p : Prog (TpuEff nD τ sig Val Λ .tc) PUnit} : Line p → List (Step τ sig Val)
  | nil => []
  | op s => [s]
  | bind l k => l.steps ++ k.steps

/-- The contents `E` satisfy every statement. -/
def Sat (E : Valuation τ sig Val) {p : Prog (TpuEff nD τ sig Val Λ .tc) PUnit} : Line p → Prop
  | nil => True
  | op s => s.eqn E
  | bind l k => l.Sat E ∧ k.Sat E

theorem eq_seq (l : Line p) : p = seq (l.steps.map Step.op) := by
  induction l with
  | nil => rfl
  | op s => rfl
  | bind l k hl hk => rw [steps, List.map_append, seq_append, ← hl, ← hk]

theorem sat_of_steps (E : Valuation τ sig Val) (l : Line p) (h : ∀ s ∈ l.steps, s.eqn E) : l.Sat E := by
  induction l with
  | nil => trivial
  | op s => exact h s (by simp [steps])
  | bind l k hl hk =>
    exact ⟨hl fun s hs => h s (List.mem_append_left _ hs), hk fun s hs => h s (List.mem_append_right _ hs)⟩

end Line

/-! ## The check over the buffers' numbers -/

/-- A buffer's number among those of its memory space: equal buffers have equal numbers. -/
def num (r : Ref sig .tc) : ℕ := r.idx.val

/-- `n` with bit `k` set. -/
def mark (n k : ℕ) : ℕ := n ||| 1 <<< k

/-- `seen` with the bits of the buffers `rs` set. -/
def markAll (seen : ℕ) : List (Ref sig .tc) → ℕ
  | [] => seen
  | r :: rs => markAll (mark seen (num r)) rs

/-- No statement writes a buffer that is read or written before it, or that it reads itself; `seen` has the bits of the
    buffers met so far. -/
def once : ℕ → List (Step τ sig Val) → Bool
  | _, [] => true
  | seen, s :: l =>
    !(markAll seen s.reads).testBit (num s.out) && once (mark (markAll seen s.reads) (num s.out)) l

theorem testBit_mark (n k i : ℕ) : (mark n k).testBit i = (n.testBit i || decide (k = i)) := by
  unfold mark
  rw [Nat.testBit_or, Nat.shiftLeft_eq, Nat.one_mul, Nat.testBit_two_pow]

theorem testBit_markAll (rs : List (Ref sig .tc)) (n i : ℕ) :
    (markAll n rs).testBit i = true ↔ n.testBit i = true ∨ ∃ r ∈ rs, num r = i := by
  induction rs generalizing n with
  | nil => simp [markAll]
  | cons r rs ih => simp [markAll, ih, testBit_mark, or_assoc]

theorem Step.result_ne (s : Step τ sig Val) (V : Valuation τ sig Val) {r : Ref sig .tc} (h : num r ≠ num s.out) :
    s.op.result V (Proc.devRef .tc r) = V (Proc.devRef .tc r) :=
  result_of_writes_ne _ _ _ _ s.writes_eq fun e => h (by rw [e])

/-- What is met before the statements keeps its contents, and the statements' equations hold at the end. -/
theorem once_after (l : List (Step τ sig Val)) (seen : ℕ) (h : once seen l = true) (V : Valuation τ sig Val) :
    (∀ r : Ref sig .tc, seen.testBit (num r) = true →
        after (l.map Step.op) V (Proc.devRef .tc r) = V (Proc.devRef .tc r)) ∧
      ∀ s ∈ l, s.eqn (after (l.map Step.op) V) := by
  induction l generalizing seen V with
  | nil => exact ⟨fun _ _ => rfl, by simp⟩
  | cons s l ih =>
    rw [once, Bool.and_eq_true, Bool.not_eq_true'] at h
    obtain ⟨hk, he⟩ := ih _ h.2 (s.op.result V)
    have hs : ∀ r : Ref sig .tc, (markAll seen s.reads).testBit (num r) = true →
        after ((s :: l).map Step.op) V (Proc.devRef .tc r) = V (Proc.devRef .tc r) := fun r hr => by
      rw [List.map_cons, after_cons, hk r (by rw [testBit_mark, hr]; rfl)]
      exact s.result_ne V fun e => by rw [e, h.1] at hr; cases hr
    refine ⟨fun r hr => hs r ((testBit_markAll _ _ _).mpr (.inl hr)), fun t ht => ?_⟩
    rcases List.mem_cons.mp ht with rfl | ht
    · refine t.holds V _ (fun r hr => hs r ((testBit_markAll _ _ _).mpr (.inr ⟨r, hr, rfl⟩))) ?_
      rw [List.map_cons, after_cons, hk t.out (by rw [testBit_mark]; simp)]
    · exact he t ht

/-- A straight program whose statements pass the check ends with all of them satisfied, what was met before it
    unchanged, and the counters at zero. -/
theorem Line.run (hR : (Finset.univ.filter fun b : Ref sig .tc => b.isScoped) = ∅)
    (hC : (Finset.univ.filter fun sm : SemLoc sig => sm.isScoped .tc) = ∅)
    (defs : Defs nD τ sig Val Λ) (main : Dev nD → Prog (TpuEff nD τ sig Val Λ .tc) PUnit)
    (l : ∀ d, Line (main d)) (seen : ℕ) (h : ∀ d, once seen (l d).steps = true)
    (m : (ℓ : Loc nD τ sig) → Buf Val ℓ) (ρ : Dev nD → PrngReg) :
    θ_run defs (onTc (τ := τ) main) ⟨m, fun _ => 0, ρ⟩ fun r => ∀ d : Dev nD, ∃ E : Valuation τ sig Val,
      (∀ b : Ref sig .tc, r.2.mem ((d.tc : Thread nD τ).loc b) = E (Proc.devRef .tc b)) ∧ (l d).Sat E ∧
      ∀ b : Ref sig .tc, seen.testBit (num b) = true → E (Proc.devRef .tc b) = m ((d.tc : Thread nD τ).loc b) := by
  refine (θ_run defs _ _).mono (fun r hr d => ?_) (run_seq hR hC defs main (fun d => (l d).steps.map Step.op)
    (fun d => (l d).eq_seq) (fun d => ?_) m ρ fun d op hop => ?_)
  · obtain ⟨hk, he⟩ := once_after _ _ (h d) (launchContents m d)
    exact ⟨_, hr d, (l d).sat_of_steps _ he, fun b hb => hk b hb⟩
  · refine List.forall_iff_forall_mem.mpr fun op hop => ?_
    obtain ⟨s, _, rfl⟩ := List.mem_map.mp hop
    exact s.bufs_sub
  · obtain ⟨s, _, rfl⟩ := List.mem_map.mp hop
    exact s.fresh_eq

end Cert.Proof.Solve

end
-- ==== Proof.LinesHash.lean ====
/-
  The counter-based hash of the random draws, at its four shapes, taken apart into its statements.
-/
module

public import proofs.«01_k».proof.Proof.Solve
public import proofs.«01_k».proof.Proof.Gen.ReferenceIdeal

@[expose] public section

noncomputable section

namespace Cert.Proof.Host

open Cert.ReferenceIdeal Cert.ReferenceIdeal.Gen Cert.Proof.Solve
open Idealize.ShloMosaic Idealize.ShloMosaic.StableHlo
open Idealize.SL.Sem

variable {F : FTy → Type} [FloatOps F]

def threefry4Part0 (a b c d) (φ : fn_threefry2x32.Bufs) : Line (fn_threefry2x32.body_part0 (F := F) a b c d φ) := by
  unfold fn_threefry2x32.body_part0
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefry4Part1 (a b c d) (φ : fn_threefry2x32.Bufs) : Line (fn_threefry2x32.body_part1 (F := F) a b c d φ) := by
  unfold fn_threefry2x32.body_part1
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefry4Part2 (a b c d) (φ : fn_threefry2x32.Bufs) : Line (fn_threefry2x32.body_part2 (F := F) a b c d φ) := by
  unfold fn_threefry2x32.body_part2
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefry4Part3 (a b c d) (φ : fn_threefry2x32.Bufs) : Line (fn_threefry2x32.body_part3 (F := F) a b c d φ) := by
  unfold fn_threefry2x32.body_part3
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefry4 (a b c d) (φ : fn_threefry2x32.Bufs) : Line (fn_threefry2x32.body (F := F) a b c d φ) :=
  .bind (threefry4Part0 a b c d φ) <| .bind (threefry4Part1 a b c d φ) <| .bind (threefry4Part2 a b c d φ) <| threefry4Part3 a b c d φ

def threefrySPart0 (a b c d) (φ : fn_threefry2x32_0.Bufs) : Line (fn_threefry2x32_0.body_part0 (F := F) a b c d φ) := by
  unfold fn_threefry2x32_0.body_part0
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefrySPart1 (a b c d) (φ : fn_threefry2x32_0.Bufs) : Line (fn_threefry2x32_0.body_part1 (F := F) a b c d φ) := by
  unfold fn_threefry2x32_0.body_part1
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefrySPart2 (a b c d) (φ : fn_threefry2x32_0.Bufs) : Line (fn_threefry2x32_0.body_part2 (F := F) a b c d φ) := by
  unfold fn_threefry2x32_0.body_part2
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefryS (a b c d) (φ : fn_threefry2x32_0.Bufs) : Line (fn_threefry2x32_0.body (F := F) a b c d φ) :=
  .bind (threefrySPart0 a b c d φ) <| .bind (threefrySPart1 a b c d φ) <| threefrySPart2 a b c d φ

def threefry2Part0 (a b c d) (φ : fn_threefry2x32_3.Bufs) : Line (fn_threefry2x32_3.body_part0 (F := F) a b c d φ) := by
  unfold fn_threefry2x32_3.body_part0
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefry2Part1 (a b c d) (φ : fn_threefry2x32_3.Bufs) : Line (fn_threefry2x32_3.body_part1 (F := F) a b c d φ) := by
  unfold fn_threefry2x32_3.body_part1
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefry2Part2 (a b c d) (φ : fn_threefry2x32_3.Bufs) : Line (fn_threefry2x32_3.body_part2 (F := F) a b c d φ) := by
  unfold fn_threefry2x32_3.body_part2
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefry2Part3 (a b c d) (φ : fn_threefry2x32_3.Bufs) : Line (fn_threefry2x32_3.body_part3 (F := F) a b c d φ) := by
  unfold fn_threefry2x32_3.body_part3
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefry2 (a b c d) (φ : fn_threefry2x32_3.Bufs) : Line (fn_threefry2x32_3.body (F := F) a b c d φ) :=
  .bind (threefry2Part0 a b c d φ) <| .bind (threefry2Part1 a b c d φ) <| .bind (threefry2Part2 a b c d φ) <| threefry2Part3 a b c d φ

def threefry200Part0 (a b c d) (φ : fn_threefry2x32_4.Bufs) : Line (fn_threefry2x32_4.body_part0 (F := F) a b c d φ) := by
  unfold fn_threefry2x32_4.body_part0
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefry200Part1 (a b c d) (φ : fn_threefry2x32_4.Bufs) : Line (fn_threefry2x32_4.body_part1 (F := F) a b c d φ) := by
  unfold fn_threefry2x32_4.body_part1
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefry200Part2 (a b c d) (φ : fn_threefry2x32_4.Bufs) : Line (fn_threefry2x32_4.body_part2 (F := F) a b c d φ) := by
  unfold fn_threefry2x32_4.body_part2
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefry200Part3 (a b c d) (φ : fn_threefry2x32_4.Bufs) : Line (fn_threefry2x32_4.body_part3 (F := F) a b c d φ) := by
  unfold fn_threefry2x32_4.body_part3
  with_reducible repeat' first
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def threefry200 (a b c d) (φ : fn_threefry2x32_4.Bufs) : Line (fn_threefry2x32_4.body (F := F) a b c d φ) :=
  .bind (threefry200Part0 a b c d φ) <| .bind (threefry200Part1 a b c d φ) <| .bind (threefry200Part2 a b c d φ) <| threefry200Part3 a b c d φ

end Cert.Proof.Host

end
-- ==== Proof.Lines.lean ====
/-
  The reference program taken apart into its statements.
-/
module

public import proofs.«01_k».proof.Proof.LinesHash

@[expose] public section

noncomputable section

namespace Cert.Proof.Host

open Cert.ReferenceIdeal Cert.ReferenceIdeal.Gen Cert.Proof.Solve
open Idealize.ShloMosaic Idealize.ShloMosaic.StableHlo
open Idealize.SL.Sem

variable {F : FTy → Type} [FloatOps F]

def split4 (a) (φ : fn_threefry_split.Bufs) : Line (fn_threefry_split.body (F := F) a φ) := by
  unfold fn_threefry_split.body
  with_reducible repeat' first
    | refine .bind (threefry4 _ _ _ _ _) ?_
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def uniform (a b c) (φ : fn_uniform.Bufs) : Line (fn_uniform.body (F := F) a b c φ) := by
  unfold fn_uniform.body
  with_reducible repeat' first
    | refine .bind (threefryS _ _ _ _ _) ?_
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def clipA (a b c) (φ : fn_clip.Bufs) : Line (fn_clip.body (F := F) a b c φ) :=
  .bind (.t2 _ _ _ _) <| .bind (.t2 _ _ _ _) .nil

def clipB (a b c) (φ : fn_clip_1.Bufs) : Line (fn_clip_1.body (F := F) a b c φ) :=
  .bind (.t2 _ _ _ _) <| .bind (.t2 _ _ _ _) .nil

def split2 (a) (φ : fn_threefry_split_2.Bufs) : Line (fn_threefry_split_2.body (F := F) a φ) := by
  unfold fn_threefry_split_2.body
  with_reducible repeat' first
    | refine .bind (threefry2 _ _ _ _ _) ?_
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def randintPart0 (a b c) (φ : fn_randint.Bufs) : Line (fn_randint.body_part0 (F := F) a b c φ) := by
  unfold fn_randint.body_part0
  with_reducible repeat' first
    | refine .bind (clipA _ _ _ _) ?_
    | refine .bind (clipB _ _ _ _) ?_
    | refine .bind (split2 _ _) ?_
    | refine .bind (threefry200 _ _ _ _ _) ?_
    | refine .bind (.t2 _ _ _ _) ?_ | refine .bind (.t1 _ _ _) ?_ | refine .bind (.t0 _ _) ?_
    | refine .bind (.tR _ _ _ _) ?_ | exact .nil | exact .t2 _ _ _ _ | exact .t1 _ _ _ | exact .t0 _ _ | exact .tR _ _ _ _

def randintPart1 (a b c) (φ : fn_randint.Bufs) : Line (fn_randint.body_part1 (F := F) a b c φ) := by
  unfold fn_randint.body_part1
  with_reducible repeat' first
    | refine .bind (.t2 _ _ _ _) ?_ | refine .bind (.t1 _ _ _) ?_ | refine .bind (.t0 _ _) ?_
    | refine .bind (.t3 _ _ _ _ _) ?_
    | refine .bind (.tR _ _ _ _) ?_ | exact .nil | exact .t2 _ _ _ _ | exact .t1 _ _ _ | exact .t0 _ _ | exact .tR _ _ _ _

def randint (a b c) (φ : fn_randint.Bufs) : Line (fn_randint.body (F := F) a b c φ) :=
  .bind (randintPart0 a b c φ) <| randintPart1 a b c φ

def whereAll (a b c) (φ : fn_where.Bufs) : Line (fn_where.body (F := F) a b c φ) :=
  .bind (.t3 _ _ _ _ _) .nil

def part0 (d : Dev nD) : Line (main_part0 (F := F) d) := by
  unfold main_part0
  with_reducible repeat' first
    | refine .bind (split4 _ _) ?_ | refine .bind (uniform _ _ _ _) ?_ | refine .bind (randint _ _ _ _) ?_
    | refine .bind (.p2 _ _ _ _ _ _ _) ?_ | refine .bind (.p1 _ _ _ _ _) ?_ | refine .bind (.p0 _ _ _) ?_
    | refine .bind (.pR _ _ _ _ _ _) ?_ | refine .bind (.p3 _ _ _ _ _ _ _ _ _) ?_ | exact .nil
    | exact .pR _ _ _ _ _ _ | exact .p3 _ _ _ _ _ _ _ _ _

def part1 (d : Dev nD) : Line (main_part1 (F := F) d) := by
  unfold main_part1
  with_reducible repeat' first
    | refine .bind (whereAll _ _ _ _) ?_ | refine .bind (uniform _ _ _ _) ?_ | refine .bind (randint _ _ _ _) ?_
    | refine .bind (.p2 _ _ _ _ _ _ _) ?_ | refine .bind (.p1 _ _ _ _ _) ?_ | refine .bind (.p0 _ _ _) ?_
    | refine .bind (.pR _ _ _ _ _ _) ?_ | refine .bind (.p3 _ _ _ _ _ _ _ _ _) ?_ | exact .nil
    | exact .pR _ _ _ _ _ _ | exact .p3 _ _ _ _ _ _ _ _ _

def part2 (d : Dev nD) : Line (main_part2 (F := F) d) := by
  unfold main_part2
  with_reducible repeat' first
    | refine .bind (whereAll _ _ _ _) ?_
    | refine .bind (.p2 _ _ _ _ _ _ _) ?_ | refine .bind (.p1 _ _ _ _ _) ?_ | refine .bind (.p0 _ _ _) ?_
    | refine .bind (.pR _ _ _ _ _ _) ?_ | refine .bind (.p3 _ _ _ _ _ _ _ _ _) ?_ | exact .nil
    | exact .pR _ _ _ _ _ _ | exact .p3 _ _ _ _ _ _ _ _ _

/-- The whole reference. -/
def program (d : Dev nD) : Line (main (F := F) d) := .bind (part0 d) <| .bind (part1 d) <| part2 d

end Cert.Proof.Host

end
-- ==== Proof.HostRun.lean ====
/-
  The reference's run: it terminates, its arguments are unchanged, and every statement of it holds of the final contents.
-/
module

public import proofs.«01_k».proof.Proof.Lines
public import Idealize.ShloMosaic.Lib.Quiescent
public import Idealize.ShloMosaic.PureOps.Ideal.Laws

@[expose] public section

noncomputable section

namespace Cert.Proof.Host

open Cert.ReferenceIdeal Cert.ReferenceIdeal.Gen Cert.Proof.Solve
open Idealize.ShloMosaic Idealize.ShloMosaic.StableHlo
open Idealize.SL.Sem

/-- The three arguments' bits. -/
def args : ℕ := 0b111

/-- No buffer is written twice, nor after it is read. -/
theorem program_once : ∀ d : Dev nD, once args (program (F := Ideal) d).steps = true := by
  decide +kernel

variable (m : (ℓ : Loc nD τ sig) → Buf (Elt Ideal) ℓ) (ρ : Dev nD → PrngReg)

/-- The reference ends with its arguments unchanged and every statement of it satisfied. -/
theorem run : θ_run (defs (F := Ideal)) (onTc (τ := τ) (main (F := Ideal))) ⟨m, fun _ => 0, ρ⟩ fun r => ∀ d : Dev nD,
    ∃ E : Valuation τ sig (Elt Ideal),
      (∀ b : Ref sig .tc, r.2.mem ((d.tc : Thread nD τ).loc b) = E (Proc.devRef .tc b)) ∧ (program d).Sat E ∧
      E (Proc.devRef .tc main_arg0) = m ((d.tc : Thread nD τ).loc main_arg0) ∧
      E (Proc.devRef .tc main_arg1) = m ((d.tc : Thread nD τ).loc main_arg1) ∧
      E (Proc.devRef .tc main_arg2) = m ((d.tc : Thread nD τ).loc main_arg2) :=
  (θ_run _ _ _).mono (fun _ h d => by
      obtain ⟨E, hE, hs, ha⟩ := h d
      exact ⟨E, hE, hs, ha _ rfl, ha _ rfl, ha _ rfl⟩)
    (Line.run (by decide +kernel) (by decide +kernel) defs main program args program_once m ρ)

end Cert.Proof.Host

end
-- ==== Proof.Hash.lean ====
/-
  The counter-based hash behind the reference's random draws, as a function of words, and its four spellings in the
  reference (at four shapes) shown to compute it element by element.
-/
module

public import proofs.«01_k».proof.Proof.HostRun

@[expose] public section

noncomputable section

namespace Cert.Proof.Host

open Cert.ReferenceIdeal Cert.ReferenceIdeal.Gen Cert.Proof.Solve
open Idealize.ShloMosaic Idealize.ShloMosaic.StableHlo
open Idealize.SL.Sem

/-! ## On words -/

/-- A word turned left by `k` bits. -/
def turnLeft (k : ℕ) (x : BitVec 32) : BitVec 32 := (x <<< k) ||| (x >>> (32 - k))

/-- One round: the words' sum, and the second word turned and mixed with it. -/
def turn (k : ℕ) (p : BitVec 32 × BitVec 32) : BitVec 32 × BitVec 32 :=
  (p.1 + p.2, (p.1 + p.2) ^^^ turnLeft k p.2)

/-- Two key words and a count added in. -/
def key (a b n : BitVec 32) (p : BitVec 32 × BitVec 32) : BitVec 32 × BitVec 32 := (p.1 + a, p.2 + b + n)

/-- The third key word. -/
def third (a b : BitVec 32) : BitVec 32 := (a ^^^ b) ^^^ 466688986#32

/-- The hash of two words under two key words. -/
def hash (a b : BitVec 32) (p : BitVec 32 × BitVec 32) : BitVec 32 × BitVec 32 :=
  key (third a b) a 5#32 <| turn 6 <| turn 26 <| turn 15 <| turn 13 <|
  key b (third a b) 4#32 <| turn 24 <| turn 16 <| turn 29 <| turn 17 <|
  key a b 3#32 <| turn 6 <| turn 26 <| turn 15 <| turn 13 <|
  key (third a b) a 2#32 <| turn 24 <| turn 16 <| turn 29 <| turn 17 <|
  key b (third a b) 1#32 <| turn 6 <| turn 26 <| turn 15 <| turn 13 (p.1 + a, p.2 + b)

/-! ## On arrays -/

/-- A single number's one index. -/
abbrev pt : S_.Idx := fun a => a.elim0

theorem idS (x : S_.Idx → BitVec 32) (i : S_.Idx) : id x i = x pt := congrArg x (funext fun a => a.elim0)

section

variable {s : Shape} {bc : (S_.Idx → BitVec 32) → s.Idx → BitVec 32} (hbc : ∀ x i, bc x i = x pt)
include hbc

theorem turn_of {x0 x1 y0 y1 t1 t2 t3 t4 t5 : s.Idx → BitVec 32} {c c' : S_.Idx → BitVec 32} (k : ℕ)
    (ha : y0 = addi x0 x1) (hc : c = constantI S_ 32 (BitVec.ofNat 32 k)) (h1 : t1 = bc c) (h2 : t2 = Host.shli x1 t1)
    (hc' : c' = constantI S_ 32 (BitVec.ofNat 32 (32 - k))) (h3 : t3 = bc c') (h4 : t4 = Host.shrui x1 t3)
    (h5 : t5 = ori t2 t4) (h6 : y1 = xori y0 t5) (i : s.Idx) (hk : 0 < k ∧ k < 32 := by decide) :
    turn k (x0 i, x1 i) = (y0 i, y1 i) := by
  subst ha hc h1 h2 hc' h3 h4 h5 h6
  have e1 : (BitVec.ofNat 32 k).toNat = k := Nat.mod_eq_of_lt (by omega)
  have e2 : (BitVec.ofNat 32 (32 - k)).toNat = 32 - k := Nat.mod_eq_of_lt (by omega)
  simp only [turn, turnLeft, addi, xori, ori, Host.shli, Host.shrui, IntOp.addi, IntOp.xori, IntOp.ori, IntOp.shli,
    IntOp.shrui, hbc, constantI, e1, e2, hk.2, BitVec.shiftLeft_eq', BitVec.ushiftRight_eq', if_true,
    if_pos (show 32 - k < 32 by omega)]

theorem key_of {x0 x1 t1 t2 t3 y0 u y1 : s.Idx → BitVec 32} {a b c : S_.Idx → BitVec 32} {n : BitVec 32}
    (h1 : t1 = bc a) (h2 : t2 = bc b) (hc : c = constantI S_ 32 n) (h3 : t3 = bc c)
    (h4 : y0 = addi x0 t1) (h5 : u = addi x1 t2) (h6 : y1 = addi u t3) (i : s.Idx) :
    key (a pt) (b pt) n (x0 i, x1 i) = (y0 i, y1 i) := by
  subst h1 h2 hc h3 h4 h5 h6
  simp only [key, addi, IntOp.addi, hbc, constantI]

theorem start_of {x0 x1 t1 t2 y0 y1 : s.Idx → BitVec 32} {a b : S_.Idx → BitVec 32}
    (h1 : t1 = bc a) (h2 : t2 = bc b) (h3 : y0 = addi x0 t1) (h4 : y1 = addi x1 t2) (i : s.Idx) :
    ((x0 i, x1 i).1 + a pt, (x0 i, x1 i).2 + b pt) = (y0 i, y1 i) := by
  subst h1 h2 h3 h4
  simp only [addi, IntOp.addi, hbc]

end

theorem third_of {a b v c w : S_.Idx → BitVec 32} (h1 : v = xori a b) (h2 : c = constantI S_ 32 466688986#32)
    (h3 : w = xori v c) : third (a pt) (b pt) = w pt := by
  subst h1 h2 h3; rfl

/-- The hash as the reference spells it over an array of counters. -/
theorem hash_of {s : Shape} (bc : (S_.Idx → BitVec 32) → s.Idx → BitVec 32) (hbc : ∀ x i, bc x i = x pt)
    {a0 a1
      v0 c v1 c_0 c_1 c_2 c_3 c_4 c_5 c_6 c_7 c_8 c_9 c_10 c_11 c_12 c_13 c_14 c_15 c_16 c_17 c_18 c_19 c_20 c_21
      c_22 c_23 c_24 c_25 c_26 c_27 c_28 c_29 c_30 c_31 c_32 c_33 c_34 c_35 c_36 c_37 c_38 c_39 c_40 c_41 c_42 c_43
      c_44 : S_.Idx → BitVec 32}
    {a2 a3
      v2 v3 v4 v5 v6 v7 v8 v9 v10 v11 v12 v13 v14 v15 v16 v17 v18 v19 v20 v21 v22 v23 v24 v25 v26 v27 v28 v29 v30 v31
      v32 v33 v34 v35 v36 v37 v38 v39 v40 v41 v42 v43 v44 v45 v46 v47 v48 v49 v50 v51 v52 v53 v54 v55 v56 v57 v58 v59
      v60 v61 v62 v63 v64 v65 v66 v67 v68 v69 v70 v71 v72 v73 v74 v75 v76 v77 v78 v79 v80 v81 v82 v83 v84 v85 v86 v87
      v88 v89 v90 v91 v92 v93 v94 v95 v96 v97 v98 v99 v100 v101 v102 v103 v104 v105 v106 v107 v108 v109 v110 v111
      v112 v113 v114 v115 v116 v117 v118 v119 v120 v121 v122 v123 v124 v125 v126 v127 v128 v129 v130 v131 v132 v133
      v134 v135 v136 v137 v138 v139 v140 v141 v142 v143 v144 v145 v146 v147 v148 v149 v150 v151 v152 v153 v154 v155
      v156 v157 v158 v159 v160 v161 v162 v163 v164 v165 v166 v167 v168 v169 v170 v171 v172 v173 v174 v175 : s.Idx → BitVec 32}
    (h0 :
      v0 = xori a0 a1 ∧ c = constantI S_ 32 466688986#32 ∧ v1 = xori v0 c ∧ v2 = bc a0 ∧ v3 = addi a2 v2 ∧
      v4 = bc a1 ∧ v5 = addi a3 v4 ∧ v6 = addi v3 v5 ∧ c_0 = constantI S_ 32 13#32 ∧ v7 = bc c_0 ∧
      v8 = Host.shli v5 v7 ∧ c_1 = constantI S_ 32 19#32 ∧ v9 = bc c_1 ∧ v10 = Host.shrui v5 v9 ∧ v11 = ori v8 v10 ∧
      v12 = xori v6 v11 ∧ v13 = addi v6 v12 ∧ c_2 = constantI S_ 32 15#32 ∧ v14 = bc c_2 ∧ v15 = Host.shli v12 v14 ∧
      c_3 = constantI S_ 32 17#32 ∧ v16 = bc c_3 ∧ v17 = Host.shrui v12 v16 ∧ v18 = ori v15 v17 ∧
      v19 = xori v13 v18 ∧ v20 = addi v13 v19 ∧ c_4 = constantI S_ 32 26#32 ∧ v21 = bc c_4 ∧
      v22 = Host.shli v19 v21 ∧ c_5 = constantI S_ 32 6#32 ∧ v23 = bc c_5 ∧ v24 = Host.shrui v19 v23 ∧
      v25 = ori v22 v24 ∧ v26 = xori v20 v25 ∧ v27 = addi v20 v26 ∧ c_6 = constantI S_ 32 6#32 ∧ v28 = bc c_6 ∧
      v29 = Host.shli v26 v28 ∧ c_7 = constantI S_ 32 26#32 ∧ v30 = bc c_7 ∧ v31 = Host.shrui v26 v30 ∧
      v32 = ori v29 v31 ∧ v33 = xori v27 v32 ∧ v34 = bc a1 ∧ v35 = addi v27 v34 ∧ v36 = bc v1 ∧ v37 = addi v33 v36 ∧
      c_8 = constantI S_ 32 1#32 ∧ v38 = bc c_8 ∧ v39 = addi v37 v38 ∧ v40 = addi v35 v39 ∧
      c_9 = constantI S_ 32 17#32 ∧ v41 = bc c_9 ∧ v42 = Host.shli v39 v41 ∧ c_10 = constantI S_ 32 15#32 ∧
      v43 = bc c_10 ∧ v44 = Host.shrui v39 v43 ∧ v45 = ori v42 v44 ∧ v46 = xori v40 v45 ∧ v47 = addi v40 v46)
    (h1 :
      c_11 = constantI S_ 32 29#32 ∧ v48 = bc c_11 ∧ v49 = Host.shli v46 v48 ∧ c_12 = constantI S_ 32 3#32 ∧
      v50 = bc c_12 ∧ v51 = Host.shrui v46 v50 ∧ v52 = ori v49 v51 ∧ v53 = xori v47 v52 ∧ v54 = addi v47 v53 ∧
      c_13 = constantI S_ 32 16#32 ∧ v55 = bc c_13 ∧ v56 = Host.shli v53 v55 ∧ c_14 = constantI S_ 32 16#32 ∧
      v57 = bc c_14 ∧ v58 = Host.shrui v53 v57 ∧ v59 = ori v56 v58 ∧ v60 = xori v54 v59 ∧ v61 = addi v54 v60 ∧
      c_15 = constantI S_ 32 24#32 ∧ v62 = bc c_15 ∧ v63 = Host.shli v60 v62 ∧ c_16 = constantI S_ 32 8#32 ∧
      v64 = bc c_16 ∧ v65 = Host.shrui v60 v64 ∧ v66 = ori v63 v65 ∧ v67 = xori v61 v66 ∧ v68 = bc v1 ∧
      v69 = addi v61 v68 ∧ v70 = bc a0 ∧ v71 = addi v67 v70 ∧ c_17 = constantI S_ 32 2#32 ∧ v72 = bc c_17 ∧
      v73 = addi v71 v72 ∧ v74 = addi v69 v73 ∧ c_18 = constantI S_ 32 13#32 ∧ v75 = bc c_18 ∧
      v76 = Host.shli v73 v75 ∧ c_19 = constantI S_ 32 19#32 ∧ v77 = bc c_19 ∧ v78 = Host.shrui v73 v77 ∧
      v79 = ori v76 v78 ∧ v80 = xori v74 v79 ∧ v81 = addi v74 v80 ∧ c_20 = constantI S_ 32 15#32 ∧ v82 = bc c_20 ∧
      v83 = Host.shli v80 v82 ∧ c_21 = constantI S_ 32 17#32 ∧ v84 = bc c_21 ∧ v85 = Host.shrui v80 v84 ∧
      v86 = ori v83 v85 ∧ v87 = xori v81 v86 ∧ v88 = addi v81 v87 ∧ c_22 = constantI S_ 32 26#32 ∧ v89 = bc c_22 ∧
      v90 = Host.shli v87 v89 ∧ c_23 = constantI S_ 32 6#32 ∧ v91 = bc c_23 ∧ v92 = Host.shrui v87 v91 ∧
      v93 = ori v90 v92 ∧ v94 = xori v88 v93)
    (h2 :
      v95 = addi v88 v94 ∧ c_24 = constantI S_ 32 6#32 ∧ v96 = bc c_24 ∧ v97 = Host.shli v94 v96 ∧
      c_25 = constantI S_ 32 26#32 ∧ v98 = bc c_25 ∧ v99 = Host.shrui v94 v98 ∧ v100 = ori v97 v99 ∧
      v101 = xori v95 v100 ∧ v102 = bc a0 ∧ v103 = addi v95 v102 ∧ v104 = bc a1 ∧ v105 = addi v101 v104 ∧
      c_26 = constantI S_ 32 3#32 ∧ v106 = bc c_26 ∧ v107 = addi v105 v106 ∧ v108 = addi v103 v107 ∧
      c_27 = constantI S_ 32 17#32 ∧ v109 = bc c_27 ∧ v110 = Host.shli v107 v109 ∧ c_28 = constantI S_ 32 15#32 ∧
      v111 = bc c_28 ∧ v112 = Host.shrui v107 v111 ∧ v113 = ori v110 v112 ∧ v114 = xori v108 v113 ∧
      v115 = addi v108 v114 ∧ c_29 = constantI S_ 32 29#32 ∧ v116 = bc c_29 ∧ v117 = Host.shli v114 v116 ∧
      c_30 = constantI S_ 32 3#32 ∧ v118 = bc c_30 ∧ v119 = Host.shrui v114 v118 ∧ v120 = ori v117 v119 ∧
      v121 = xori v115 v120 ∧ v122 = addi v115 v121 ∧ c_31 = constantI S_ 32 16#32 ∧ v123 = bc c_31 ∧
      v124 = Host.shli v121 v123 ∧ c_32 = constantI S_ 32 16#32 ∧ v125 = bc c_32 ∧ v126 = Host.shrui v121 v125 ∧
      v127 = ori v124 v126 ∧ v128 = xori v122 v127 ∧ v129 = addi v122 v128 ∧ c_33 = constantI S_ 32 24#32 ∧
      v130 = bc c_33 ∧ v131 = Host.shli v128 v130 ∧ c_34 = constantI S_ 32 8#32 ∧ v132 = bc c_34 ∧
      v133 = Host.shrui v128 v132 ∧ v134 = ori v131 v133 ∧ v135 = xori v129 v134 ∧ v136 = bc a1 ∧
      v137 = addi v129 v136 ∧ v138 = bc v1 ∧ v139 = addi v135 v138 ∧ c_35 = constantI S_ 32 4#32 ∧ v140 = bc c_35 ∧
      v141 = addi v139 v140 ∧ v142 = addi v137 v141)
    (h3 :
      c_36 = constantI S_ 32 13#32 ∧ v143 = bc c_36 ∧ v144 = Host.shli v141 v143 ∧ c_37 = constantI S_ 32 19#32 ∧
      v145 = bc c_37 ∧ v146 = Host.shrui v141 v145 ∧ v147 = ori v144 v146 ∧ v148 = xori v142 v147 ∧
      v149 = addi v142 v148 ∧ c_38 = constantI S_ 32 15#32 ∧ v150 = bc c_38 ∧ v151 = Host.shli v148 v150 ∧
      c_39 = constantI S_ 32 17#32 ∧ v152 = bc c_39 ∧ v153 = Host.shrui v148 v152 ∧ v154 = ori v151 v153 ∧
      v155 = xori v149 v154 ∧ v156 = addi v149 v155 ∧ c_40 = constantI S_ 32 26#32 ∧ v157 = bc c_40 ∧
      v158 = Host.shli v155 v157 ∧ c_41 = constantI S_ 32 6#32 ∧ v159 = bc c_41 ∧ v160 = Host.shrui v155 v159 ∧
      v161 = ori v158 v160 ∧ v162 = xori v156 v161 ∧ v163 = addi v156 v162 ∧ c_42 = constantI S_ 32 6#32 ∧
      v164 = bc c_42 ∧ v165 = Host.shli v162 v164 ∧ c_43 = constantI S_ 32 26#32 ∧ v166 = bc c_43 ∧
      v167 = Host.shrui v162 v166 ∧ v168 = ori v165 v167 ∧ v169 = xori v163 v168 ∧ v170 = bc v1 ∧
      v171 = addi v163 v170 ∧ v172 = bc a0 ∧ v173 = addi v169 v172 ∧ c_44 = constantI S_ 32 5#32 ∧ v174 = bc c_44 ∧
      v175 = addi v173 v174 ∧ True)
    (i : s.Idx) : hash (a0 pt) (a1 pt) (a2 i, a3 i) = (v171 i, v175 i) := by
  obtain
    ⟨hv0, hc, hv1, hv2, hv3, hv4, hv5, hv6, hc_0, hv7, hv8, hc_1, hv9, hv10, hv11, hv12, hv13, hc_2, hv14, hv15,
      hc_3, hv16, hv17, hv18, hv19, hv20, hc_4, hv21, hv22, hc_5, hv23, hv24, hv25, hv26, hv27, hc_6, hv28, hv29,
      hc_7, hv30, hv31, hv32, hv33, hv34, hv35, hv36, hv37, hc_8, hv38, hv39, hv40, hc_9, hv41, hv42, hc_10, hv43,
      hv44, hv45, hv46, hv47⟩ := h0
  obtain
    ⟨hc_11, hv48, hv49, hc_12, hv50, hv51, hv52, hv53, hv54, hc_13, hv55, hv56, hc_14, hv57, hv58, hv59, hv60, hv61,
      hc_15, hv62, hv63, hc_16, hv64, hv65, hv66, hv67, hv68, hv69, hv70, hv71, hc_17, hv72, hv73, hv74, hc_18, hv75,
      hv76, hc_19, hv77, hv78, hv79, hv80, hv81, hc_20, hv82, hv83, hc_21, hv84, hv85, hv86, hv87, hv88, hc_22, hv89,
      hv90, hc_23, hv91, hv92, hv93, hv94⟩ := h1
  obtain
    ⟨hv95, hc_24, hv96, hv97, hc_25, hv98, hv99, hv100, hv101, hv102, hv103, hv104, hv105, hc_26, hv106, hv107,
      hv108, hc_27, hv109, hv110, hc_28, hv111, hv112, hv113, hv114, hv115, hc_29, hv116, hv117, hc_30, hv118, hv119,
      hv120, hv121, hv122, hc_31, hv123, hv124, hc_32, hv125, hv126, hv127, hv128, hv129, hc_33, hv130, hv131, hc_34,
      hv132, hv133, hv134, hv135, hv136, hv137, hv138, hv139, hc_35, hv140, hv141, hv142⟩ := h2
  obtain
    ⟨hc_36, hv143, hv144, hc_37, hv145, hv146, hv147, hv148, hv149, hc_38, hv150, hv151, hc_39, hv152, hv153, hv154,
      hv155, hv156, hc_40, hv157, hv158, hc_41, hv159, hv160, hv161, hv162, hv163, hc_42, hv164, hv165, hc_43, hv166,
      hv167, hv168, hv169, hv170, hv171, hv172, hv173, hc_44, hv174, hv175, -⟩ := h3
  have i0 := start_of hbc hv2 hv4 hv3 hv5 i
  have r0 := turn_of hbc 13 hv6 hc_0 hv7 hv8 hc_1 hv9 hv10 hv11 hv12 i
  have r1 := turn_of hbc 15 hv13 hc_2 hv14 hv15 hc_3 hv16 hv17 hv18 hv19 i
  have r2 := turn_of hbc 26 hv20 hc_4 hv21 hv22 hc_5 hv23 hv24 hv25 hv26 i
  have r3 := turn_of hbc 6 hv27 hc_6 hv28 hv29 hc_7 hv30 hv31 hv32 hv33 i
  have i1 := key_of hbc hv34 hv36 hc_8 hv38 hv35 hv37 hv39 i
  have r4 := turn_of hbc 17 hv40 hc_9 hv41 hv42 hc_10 hv43 hv44 hv45 hv46 i
  have r5 := turn_of hbc 29 hv47 hc_11 hv48 hv49 hc_12 hv50 hv51 hv52 hv53 i
  have r6 := turn_of hbc 16 hv54 hc_13 hv55 hv56 hc_14 hv57 hv58 hv59 hv60 i
  have r7 := turn_of hbc 24 hv61 hc_15 hv62 hv63 hc_16 hv64 hv65 hv66 hv67 i
  have i2 := key_of hbc hv68 hv70 hc_17 hv72 hv69 hv71 hv73 i
  have r8 := turn_of hbc 13 hv74 hc_18 hv75 hv76 hc_19 hv77 hv78 hv79 hv80 i
  have r9 := turn_of hbc 15 hv81 hc_20 hv82 hv83 hc_21 hv84 hv85 hv86 hv87 i
  have r10 := turn_of hbc 26 hv88 hc_22 hv89 hv90 hc_23 hv91 hv92 hv93 hv94 i
  have r11 := turn_of hbc 6 hv95 hc_24 hv96 hv97 hc_25 hv98 hv99 hv100 hv101 i
  have i3 := key_of hbc hv102 hv104 hc_26 hv106 hv103 hv105 hv107 i
  have r12 := turn_of hbc 17 hv108 hc_27 hv109 hv110 hc_28 hv111 hv112 hv113 hv114 i
  have r13 := turn_of hbc 29 hv115 hc_29 hv116 hv117 hc_30 hv118 hv119 hv120 hv121 i
  have r14 := turn_of hbc 16 hv122 hc_31 hv123 hv124 hc_32 hv125 hv126 hv127 hv128 i
  have r15 := turn_of hbc 24 hv129 hc_33 hv130 hv131 hc_34 hv132 hv133 hv134 hv135 i
  have i4 := key_of hbc hv136 hv138 hc_35 hv140 hv137 hv139 hv141 i
  have r16 := turn_of hbc 13 hv142 hc_36 hv143 hv144 hc_37 hv145 hv146 hv147 hv148 i
  have r17 := turn_of hbc 15 hv149 hc_38 hv150 hv151 hc_39 hv152 hv153 hv154 hv155 i
  have r18 := turn_of hbc 26 hv156 hc_40 hv157 hv158 hc_41 hv159 hv160 hv161 hv162 i
  have r19 := turn_of hbc 6 hv163 hc_42 hv164 hv165 hc_43 hv166 hv167 hv168 hv169 i
  have i5 := key_of hbc hv170 hv172 hc_44 hv174 hv171 hv173 hv175 i
  have k2 := third_of hv0 hc hv1
  unfold hash
  rw [k2]
  rw [i0, r0, r1, r2, r3, i1, r4, r5, r6, r7, i2, r8, r9, r10, r11, i3, r12, r13, r14, r15, i4, r16, r17, r18, r19, i5]

/-- The hash as the reference spells it on single numbers. -/
theorem hash_of_one {a0 a1 a2 a3
      v0 c v1 v2 v3 v4 c_0 v5 c_1 v6 v7 v8 v9 c_2 v10 c_3 v11 v12 v13 v14 c_4 v15 c_5 v16 v17 v18 v19 c_6 v20 c_7 v21
      v22 v23 v24 v25 c_8 v26 v27 c_9 v28 c_10 v29 v30 v31 v32 c_11 v33 c_12 v34 v35 v36 v37 c_13 v38 c_14 v39 v40
      v41 v42 c_15 v43 c_16 v44 v45 v46 v47 v48 c_17 v49 v50 c_18 v51 c_19 v52 v53 v54 v55 c_20 v56 c_21 v57 v58 v59
      v60 c_22 v61 c_23 v62 v63 v64 v65 c_24 v66 c_25 v67 v68 v69 v70 v71 c_26 v72 v73 c_27 v74 c_28 v75 v76 v77 v78
      c_29 v79 c_30 v80 v81 v82 v83 c_31 v84 c_32 v85 v86 v87 v88 c_33 v89 c_34 v90 v91 v92 v93 v94 c_35 v95 v96 c_36
      v97 c_37 v98 v99 v100 v101 c_38 v102 c_39 v103 v104 v105 v106 c_40 v107 c_41 v108 v109 v110 v111 c_42 v112 c_43
      v113 v114 v115 v116 v117 c_44 v118 : S_.Idx → BitVec 32}
    (h0 :
      v0 = xori a0 a1 ∧ c = constantI S_ 32 466688986#32 ∧ v1 = xori v0 c ∧ v2 = addi a2 a0 ∧ v3 = addi a3 a1 ∧
      v4 = addi v2 v3 ∧ c_0 = constantI S_ 32 13#32 ∧ v5 = Host.shli v3 c_0 ∧ c_1 = constantI S_ 32 19#32 ∧
      v6 = Host.shrui v3 c_1 ∧ v7 = ori v5 v6 ∧ v8 = xori v4 v7 ∧ v9 = addi v4 v8 ∧ c_2 = constantI S_ 32 15#32 ∧
      v10 = Host.shli v8 c_2 ∧ c_3 = constantI S_ 32 17#32 ∧ v11 = Host.shrui v8 c_3 ∧ v12 = ori v10 v11 ∧
      v13 = xori v9 v12 ∧ v14 = addi v9 v13 ∧ c_4 = constantI S_ 32 26#32 ∧ v15 = Host.shli v13 c_4 ∧
      c_5 = constantI S_ 32 6#32 ∧ v16 = Host.shrui v13 c_5 ∧ v17 = ori v15 v16 ∧ v18 = xori v14 v17 ∧
      v19 = addi v14 v18 ∧ c_6 = constantI S_ 32 6#32 ∧ v20 = Host.shli v18 c_6 ∧ c_7 = constantI S_ 32 26#32 ∧
      v21 = Host.shrui v18 c_7 ∧ v22 = ori v20 v21 ∧ v23 = xori v19 v22 ∧ v24 = addi v19 a1 ∧ v25 = addi v23 v1 ∧
      c_8 = constantI S_ 32 1#32 ∧ v26 = addi v25 c_8 ∧ v27 = addi v24 v26 ∧ c_9 = constantI S_ 32 17#32 ∧
      v28 = Host.shli v26 c_9 ∧ c_10 = constantI S_ 32 15#32 ∧ v29 = Host.shrui v26 c_10 ∧ v30 = ori v28 v29 ∧
      v31 = xori v27 v30 ∧ v32 = addi v27 v31 ∧ c_11 = constantI S_ 32 29#32 ∧ v33 = Host.shli v31 c_11 ∧
      c_12 = constantI S_ 32 3#32 ∧ v34 = Host.shrui v31 c_12 ∧ v35 = ori v33 v34 ∧ v36 = xori v32 v35 ∧
      v37 = addi v32 v36 ∧ c_13 = constantI S_ 32 16#32 ∧ v38 = Host.shli v36 c_13 ∧ c_14 = constantI S_ 32 16#32 ∧
      v39 = Host.shrui v36 c_14 ∧ v40 = ori v38 v39 ∧ v41 = xori v37 v40 ∧ v42 = addi v37 v41 ∧
      c_15 = constantI S_ 32 24#32)
    (h1 :
      v43 = Host.shli v41 c_15 ∧ c_16 = constantI S_ 32 8#32 ∧ v44 = Host.shrui v41 c_16 ∧ v45 = ori v43 v44 ∧
      v46 = xori v42 v45 ∧ v47 = addi v42 v1 ∧ v48 = addi v46 a0 ∧ c_17 = constantI S_ 32 2#32 ∧
      v49 = addi v48 c_17 ∧ v50 = addi v47 v49 ∧ c_18 = constantI S_ 32 13#32 ∧ v51 = Host.shli v49 c_18 ∧
      c_19 = constantI S_ 32 19#32 ∧ v52 = Host.shrui v49 c_19 ∧ v53 = ori v51 v52 ∧ v54 = xori v50 v53 ∧
      v55 = addi v50 v54 ∧ c_20 = constantI S_ 32 15#32 ∧ v56 = Host.shli v54 c_20 ∧ c_21 = constantI S_ 32 17#32 ∧
      v57 = Host.shrui v54 c_21 ∧ v58 = ori v56 v57 ∧ v59 = xori v55 v58 ∧ v60 = addi v55 v59 ∧
      c_22 = constantI S_ 32 26#32 ∧ v61 = Host.shli v59 c_22 ∧ c_23 = constantI S_ 32 6#32 ∧
      v62 = Host.shrui v59 c_23 ∧ v63 = ori v61 v62 ∧ v64 = xori v60 v63 ∧ v65 = addi v60 v64 ∧
      c_24 = constantI S_ 32 6#32 ∧ v66 = Host.shli v64 c_24 ∧ c_25 = constantI S_ 32 26#32 ∧
      v67 = Host.shrui v64 c_25 ∧ v68 = ori v66 v67 ∧ v69 = xori v65 v68 ∧ v70 = addi v65 a0 ∧ v71 = addi v69 a1 ∧
      c_26 = constantI S_ 32 3#32 ∧ v72 = addi v71 c_26 ∧ v73 = addi v70 v72 ∧ c_27 = constantI S_ 32 17#32 ∧
      v74 = Host.shli v72 c_27 ∧ c_28 = constantI S_ 32 15#32 ∧ v75 = Host.shrui v72 c_28 ∧ v76 = ori v74 v75 ∧
      v77 = xori v73 v76 ∧ v78 = addi v73 v77 ∧ c_29 = constantI S_ 32 29#32 ∧ v79 = Host.shli v77 c_29 ∧
      c_30 = constantI S_ 32 3#32 ∧ v80 = Host.shrui v77 c_30 ∧ v81 = ori v79 v80 ∧ v82 = xori v78 v81 ∧
      v83 = addi v78 v82 ∧ c_31 = constantI S_ 32 16#32 ∧ v84 = Host.shli v82 c_31 ∧ c_32 = constantI S_ 32 16#32 ∧
      v85 = Host.shrui v82 c_32)
    (h2 :
      v86 = ori v84 v85 ∧ v87 = xori v83 v86 ∧ v88 = addi v83 v87 ∧ c_33 = constantI S_ 32 24#32 ∧
      v89 = Host.shli v87 c_33 ∧ c_34 = constantI S_ 32 8#32 ∧ v90 = Host.shrui v87 c_34 ∧ v91 = ori v89 v90 ∧
      v92 = xori v88 v91 ∧ v93 = addi v88 a1 ∧ v94 = addi v92 v1 ∧ c_35 = constantI S_ 32 4#32 ∧
      v95 = addi v94 c_35 ∧ v96 = addi v93 v95 ∧ c_36 = constantI S_ 32 13#32 ∧ v97 = Host.shli v95 c_36 ∧
      c_37 = constantI S_ 32 19#32 ∧ v98 = Host.shrui v95 c_37 ∧ v99 = ori v97 v98 ∧ v100 = xori v96 v99 ∧
      v101 = addi v96 v100 ∧ c_38 = constantI S_ 32 15#32 ∧ v102 = Host.shli v100 c_38 ∧
      c_39 = constantI S_ 32 17#32 ∧ v103 = Host.shrui v100 c_39 ∧ v104 = ori v102 v103 ∧ v105 = xori v101 v104 ∧
      v106 = addi v101 v105 ∧ c_40 = constantI S_ 32 26#32 ∧ v107 = Host.shli v105 c_40 ∧
      c_41 = constantI S_ 32 6#32 ∧ v108 = Host.shrui v105 c_41 ∧ v109 = ori v107 v108 ∧ v110 = xori v106 v109 ∧
      v111 = addi v106 v110 ∧ c_42 = constantI S_ 32 6#32 ∧ v112 = Host.shli v110 c_42 ∧
      c_43 = constantI S_ 32 26#32 ∧ v113 = Host.shrui v110 c_43 ∧ v114 = ori v112 v113 ∧ v115 = xori v111 v114 ∧
      v116 = addi v111 v1 ∧ v117 = addi v115 a0 ∧ c_44 = constantI S_ 32 5#32 ∧ v118 = addi v117 c_44 ∧ True)
    : hash (a0 pt) (a1 pt) (a2 pt, a3 pt) = (v116 pt, v118 pt) := by
  obtain
    ⟨hv0, hc, hv1, hv2, hv3, hv4, hc_0, hv5, hc_1, hv6, hv7, hv8, hv9, hc_2, hv10, hc_3, hv11, hv12, hv13, hv14,
      hc_4, hv15, hc_5, hv16, hv17, hv18, hv19, hc_6, hv20, hc_7, hv21, hv22, hv23, hv24, hv25, hc_8, hv26, hv27,
      hc_9, hv28, hc_10, hv29, hv30, hv31, hv32, hc_11, hv33, hc_12, hv34, hv35, hv36, hv37, hc_13, hv38, hc_14, hv39,
      hv40, hv41, hv42, hc_15⟩ := h0
  obtain
    ⟨hv43, hc_16, hv44, hv45, hv46, hv47, hv48, hc_17, hv49, hv50, hc_18, hv51, hc_19, hv52, hv53, hv54, hv55, hc_20,
      hv56, hc_21, hv57, hv58, hv59, hv60, hc_22, hv61, hc_23, hv62, hv63, hv64, hv65, hc_24, hv66, hc_25, hv67, hv68,
      hv69, hv70, hv71, hc_26, hv72, hv73, hc_27, hv74, hc_28, hv75, hv76, hv77, hv78, hc_29, hv79, hc_30, hv80, hv81,
      hv82, hv83, hc_31, hv84, hc_32, hv85⟩ := h1
  obtain
    ⟨hv86, hv87, hv88, hc_33, hv89, hc_34, hv90, hv91, hv92, hv93, hv94, hc_35, hv95, hv96, hc_36, hv97, hc_37, hv98,
      hv99, hv100, hv101, hc_38, hv102, hc_39, hv103, hv104, hv105, hv106, hc_40, hv107, hc_41, hv108, hv109, hv110,
      hv111, hc_42, hv112, hc_43, hv113, hv114, hv115, hv116, hv117, hc_44, hv118, -⟩ := h2
  have i0 := start_of (bc := id) idS rfl rfl hv2 hv3 pt
  have r0 := turn_of (bc := id) idS 13 hv4 hc_0 rfl hv5 hc_1 rfl hv6 hv7 hv8 pt
  have r1 := turn_of (bc := id) idS 15 hv9 hc_2 rfl hv10 hc_3 rfl hv11 hv12 hv13 pt
  have r2 := turn_of (bc := id) idS 26 hv14 hc_4 rfl hv15 hc_5 rfl hv16 hv17 hv18 pt
  have r3 := turn_of (bc := id) idS 6 hv19 hc_6 rfl hv20 hc_7 rfl hv21 hv22 hv23 pt
  have i1 := key_of (bc := id) idS rfl rfl hc_8 rfl hv24 hv25 hv26 pt
  have r4 := turn_of (bc := id) idS 17 hv27 hc_9 rfl hv28 hc_10 rfl hv29 hv30 hv31 pt
  have r5 := turn_of (bc := id) idS 29 hv32 hc_11 rfl hv33 hc_12 rfl hv34 hv35 hv36 pt
  have r6 := turn_of (bc := id) idS 16 hv37 hc_13 rfl hv38 hc_14 rfl hv39 hv40 hv41 pt
  have r7 := turn_of (bc := id) idS 24 hv42 hc_15 rfl hv43 hc_16 rfl hv44 hv45 hv46 pt
  have i2 := key_of (bc := id) idS rfl rfl hc_17 rfl hv47 hv48 hv49 pt
  have r8 := turn_of (bc := id) idS 13 hv50 hc_18 rfl hv51 hc_19 rfl hv52 hv53 hv54 pt
  have r9 := turn_of (bc := id) idS 15 hv55 hc_20 rfl hv56 hc_21 rfl hv57 hv58 hv59 pt
  have r10 := turn_of (bc := id) idS 26 hv60 hc_22 rfl hv61 hc_23 rfl hv62 hv63 hv64 pt
  have r11 := turn_of (bc := id) idS 6 hv65 hc_24 rfl hv66 hc_25 rfl hv67 hv68 hv69 pt
  have i3 := key_of (bc := id) idS rfl rfl hc_26 rfl hv70 hv71 hv72 pt
  have r12 := turn_of (bc := id) idS 17 hv73 hc_27 rfl hv74 hc_28 rfl hv75 hv76 hv77 pt
  have r13 := turn_of (bc := id) idS 29 hv78 hc_29 rfl hv79 hc_30 rfl hv80 hv81 hv82 pt
  have r14 := turn_of (bc := id) idS 16 hv83 hc_31 rfl hv84 hc_32 rfl hv85 hv86 hv87 pt
  have r15 := turn_of (bc := id) idS 24 hv88 hc_33 rfl hv89 hc_34 rfl hv90 hv91 hv92 pt
  have i4 := key_of (bc := id) idS rfl rfl hc_35 rfl hv93 hv94 hv95 pt
  have r16 := turn_of (bc := id) idS 13 hv96 hc_36 rfl hv97 hc_37 rfl hv98 hv99 hv100 pt
  have r17 := turn_of (bc := id) idS 15 hv101 hc_38 rfl hv102 hc_39 rfl hv103 hv104 hv105 pt
  have r18 := turn_of (bc := id) idS 26 hv106 hc_40 rfl hv107 hc_41 rfl hv108 hv109 hv110 pt
  have r19 := turn_of (bc := id) idS 6 hv111 hc_42 rfl hv112 hc_43 rfl hv113 hv114 hv115 pt
  have i5 := key_of (bc := id) idS rfl rfl hc_44 rfl hv116 hv117 hv118 pt
  have k2 := third_of hv0 hc hv1
  unfold hash
  rw [k2]
  rw [i0, r0, r1, r2, r3, i1, r4, r5, r6, r7, i2, r8, r9, r10, r11, i3, r12, r13, r14, r15, i4, r16, r17, r18, r19, i5]

/-! ## The four spellings -/

theorem bcast_pt {s : Shape} (h : S_.BroadcastsInDim s ![]) (x : S_.Idx → BitVec 32) (i : s.Idx) :
    broadcastInDim s ![] h x i = x pt := congrArg x (funext fun a => a.elim0)

variable {E : Valuation τ sig (Elt Ideal)}

section

variable {k0 k1 : TRef sig ⟨S_, .i32⟩}

theorem sat_threefry4 {x0 x1 : TRef sig ⟨S4, .i32⟩} {φ : fn_threefry2x32.Bufs}
    (h : (threefry4 (F := Ideal) k0 k1 x0 x1 φ).Sat E) (i : S4.Idx) :
    hash (rd E k0 pt) (rd E k1 pt) (rd E x0 i, rd E x1 i) = (rd E φ.v171 i, rd E φ.v175 i) :=
  hash_of _ (bcast_pt bcast_S_S4) h.1 h.2.1 h.2.2.1 h.2.2.2 i

theorem sat_threefry2 {x0 x1 : TRef sig ⟨S2, .i32⟩} {φ : fn_threefry2x32_3.Bufs}
    (h : (threefry2 (F := Ideal) k0 k1 x0 x1 φ).Sat E) (i : S2.Idx) :
    hash (rd E k0 pt) (rd E k1 pt) (rd E x0 i, rd E x1 i) = (rd E φ.v171 i, rd E φ.v175 i) :=
  hash_of _ (bcast_pt bcast_S_S2) h.1 h.2.1 h.2.2.1 h.2.2.2 i

theorem sat_threefry200 {x0 x1 : TRef sig ⟨S100x2, .i32⟩} {φ : fn_threefry2x32_4.Bufs}
    (h : (threefry200 (F := Ideal) k0 k1 x0 x1 φ).Sat E) (i : S100x2.Idx) :
    hash (rd E k0 pt) (rd E k1 pt) (rd E x0 i, rd E x1 i) = (rd E φ.v171 i, rd E φ.v175 i) :=
  hash_of _ (bcast_pt bcast_S_S100x2) h.1 h.2.1 h.2.2.1 h.2.2.2 i

theorem sat_threefryS {x0 x1 : TRef sig ⟨S_, .i32⟩} {φ : fn_threefry2x32_0.Bufs}
    (h : (threefryS (F := Ideal) k0 k1 x0 x1 φ).Sat E) :
    hash (rd E k0 pt) (rd E k1 pt) (rd E x0 pt, rd E x1 pt) = (rd E φ.v116 pt, rd E φ.v118 pt) :=
  hash_of_one h.1 h.2.1 h.2.2

end

end Cert.Proof.Host

end
-- ==== Proof.Draws.lean ====
/-
  The reference's random draws: keys split, one uniform number drawn, and a table of random columns drawn, each as
  words computed by the hash.
-/
module

public import proofs.«01_k».proof.Proof.Hash
public import Idealize.ShloMosaic.Lib.PointwiseCore

@[expose] public section

noncomputable section

namespace Cert.Proof.Host

open Cert.ReferenceIdeal Cert.ReferenceIdeal.Gen Cert.Proof.Solve
open Idealize.ShloMosaic Idealize.ShloMosaic.StableHlo

/-- A 32-bit word. -/
abbrev Word := BitVec 32

/-! ## Layout -/

/-- The first word of a key, sliced off and made a single number. -/
theorem word0 {x : S2.Idx → Word} {y : S1.Idx → Word} {z : S_.Idx → Word}
    (hy : y = extractStridedSlice S1 ![0] x slices_S2_S1_0) (hz : z = shapeCast S_ y shapeCasts_S1_S_) :
    z pt = x (ix1 0) := by
  subst hy hz
  simp only [pointwise]

/-- The second word likewise. -/
theorem word1 {x : S2.Idx → Word} {y : S1.Idx → Word} {z : S_.Idx → Word}
    (hy : y = extractStridedSlice S1 ![1] x slices_S2_S1_1) (hz : z = shapeCast S_ y shapeCasts_S1_S_) :
    z pt = x (ix1 1) := by
  subst hy hz
  simp only [pointwise]

/-- One key of four. -/
theorem key4 {x : S4x2.Idx → Word} {y : S1x2.Idx → Word} {z : S2.Idx → Word} (k : Fin 4)
    (hs : S4x2.Slices ![k.val, 0] S1x2) (hy : y = extractStridedSlice S1x2 ![k.val, 0] x hs)
    (hz : z = shapeCast S2 y shapeCasts_S1x2_S2) (j : Fin 2) : z (ix1 j) = x (ix2 k j) := by
  subst hy hz
  simp only [pointwise]
  exact congrArg x (congrArg (ix2 k) (Fin.ext (Nat.zero_add _)))

/-- One key of two. -/
theorem key2 {x : S2x2.Idx → Word} {y : S1x2.Idx → Word} {z : S2.Idx → Word} (k : Fin 2)
    (hs : S2x2.Slices ![k.val, 0] S1x2) (hy : y = extractStridedSlice S1x2 ![k.val, 0] x hs)
    (hz : z = shapeCast S2 y shapeCasts_S1x2_S2) (j : Fin 2) : z (ix1 j) = x (ix2 k j) := by
  subst hy hz
  simp only [pointwise]
  exact congrArg x (congrArg (ix2 k) (Fin.ext (Nat.zero_add _)))

/-- Two columns of four words set side by side. -/
theorem beside4 {x y : S4.Idx → Word} {x' y' : S4x1.Idx → Word} {z : S4x2.Idx → Word}
    (hx : x' = broadcastInDim S4x1 ![0] bcast_S4_S4x1_0 x) (hy : y' = broadcastInDim S4x1 ![0] bcast_S4_S4x1_0 y)
    (hz : z = concatenate S4x2 1 [⟨S4x1, x'⟩, ⟨S4x1, y'⟩] concatenates_S4x1_S4x1_S4x2_d1) (k : Fin 4) :
    z (ix2 k 0) = x (ix1 k) ∧ z (ix2 k 1) = y (ix1 k) := by
  subst hx hy hz
  constructor
  · refine (concatenate_pair_apply _ _ _ _ _).trans ((dif_pos Nat.zero_lt_one).trans ?_)
    exact congrArg x (funext fun b => by fin_cases b; rfl)
  · refine (concatenate_pair_apply _ _ _ _ _).trans ((dif_neg (Nat.lt_irrefl 1)).trans ?_)
    exact congrArg y (funext fun b => by fin_cases b; rfl)

/-- Two columns of two words set side by side. -/
theorem beside2 {x y : S2.Idx → Word} {x' y' : S2x1.Idx → Word} {z : S2x2.Idx → Word}
    (hx : x' = broadcastInDim S2x1 ![0] bcast_S2_S2x1_0 x) (hy : y' = broadcastInDim S2x1 ![0] bcast_S2_S2x1_0 y)
    (hz : z = concatenate S2x2 1 [⟨S2x1, x'⟩, ⟨S2x1, y'⟩] concatenates_S2x1_S2x1_S2x2_d1) (k : Fin 2) :
    z (ix2 k 0) = x (ix1 k) ∧ z (ix2 k 1) = y (ix1 k) := by
  subst hx hy hz
  constructor
  · refine (concatenate_pair_apply _ _ _ _ _).trans ((dif_pos Nat.zero_lt_one).trans ?_)
    exact congrArg x (funext fun b => by fin_cases b; rfl)
  · refine (concatenate_pair_apply _ _ _ _ _).trans ((dif_neg (Nat.lt_irrefl 1)).trans ?_)
    exact congrArg y (funext fun b => by fin_cases b; rfl)

/-! ## Counters -/

section

variable {s : Shape} {p : s.Idx → BitVec 64} {t u v w x : s.Idx → BitVec 64} {c c' : S_.Idx → BitVec 64}
  {lo hi : s.Idx → Word} {h1 h2 : S_.BroadcastsInDim s ![]}

/-- A counter below `2 ^ 32`, cut into its two halves. -/
theorem halves (hc : c = constantI S_ 64 32#64) (hv : v = broadcastInDim s ![] h1 c) (hx : x = Host.shrui p v)
    (hlo : lo = trunci 32 p (by decide)) (hhi : hi = trunci 32 x (by decide)) (i : s.Idx) (n : ℕ) (hn : n < 1000)
    (hp : p i = BitVec.ofNat 64 n) : hi i = 0#32 ∧ lo i = BitVec.ofNat 32 n := by
  subst hc hv hx hlo hhi
  constructor
  · show (IntOp.shrui .host (p i) 32#64).setWidth 32 = 0#32
    rw [hp]
    clear hp
    revert n
    decide +kernel
  · show (p i).setWidth 32 = _
    rw [hp]
    exact BitVec.eq_of_toNat_eq (by simp only [BitVec.toNat_setWidth, BitVec.toNat_ofNat]; omega)

end

/-- The counter along one axis. -/
theorem along {s : Shape} {p q t : s.Idx → BitVec 64} {c : S_.Idx → BitVec 64} {h : S_.BroadcastsInDim s ![]}
    {d : Fin s.rank} (ht : t = iotaInDim s 64 d) (hc : c = constantI S_ 64 1#64) (hq : q = broadcastInDim s ![] h c)
    (hp : p = muli q t) (i : s.Idx) : p i = BitVec.ofNat 64 (i d).val := by
  subst ht hc hq hp
  exact BitVec.one_mul _

/-- The row-major counter over a table two columns wide. -/
theorem rowwise {t t' q q' p p' r : S100x2.Idx → BitVec 64} {c c' : S_.Idx → BitVec 64}
    {h h' : S_.BroadcastsInDim S100x2 ![]}
    (ht : t = iotaInDim S100x2 64 0) (ht' : t' = iotaInDim S100x2 64 1) (hc : c = constantI S_ 64 2#64)
    (hq : q = broadcastInDim S100x2 ![] h c) (hp : p = muli q t) (hc' : c' = constantI S_ 64 1#64)
    (hq' : q' = broadcastInDim S100x2 ![] h' c') (hp' : p' = muli q' t') (hr : r = addi p p') (i : Fin 100) (j : Fin 2) :
    r (ix2 i j) = BitVec.ofNat 64 (2 * i.val + j.val) := by
  subst ht ht' hc hq hp hc' hq' hp' hr
  show 2#64 * BitVec.ofNat 64 i.val + 1#64 * BitVec.ofNat 64 j.val = _
  rw [BitVec.one_mul]
  exact BitVec.eq_of_toNat_eq (by simp only [BitVec.toNat_add, BitVec.toNat_mul, BitVec.toNat_ofNat]; omega)

/-! ## Words of the draws -/

/-- The `n`-th key split off a key. -/
def splitKey (k : Word × Word) (n : ℕ) : Word × Word := hash k.1 k.2 (0#32, BitVec.ofNat 32 n)

/-- The `n`-th random word under a key. -/
def randomWord (k : Word × Word) (n : ℕ) : Word :=
  (hash k.1 k.2 (0#32, BitVec.ofNat 32 n)).1 ^^^ (hash k.1 k.2 (0#32, BitVec.ofNat 32 n)).2

/-- The `n`-th random column under a key: two random words taken together modulo 2000. -/
def randomColumn (k : Word × Word) (n : ℕ) : Word :=
  (randomWord (splitKey k 0) n % 2000#32 * 1296#32 + randomWord (splitKey k 1) n % 2000#32) % 2000#32

/-- The pattern of the number drawn uniformly from `[1, 2)`. -/
def unitPattern (k : Word × Word) : Word := (randomWord k 0 >>> 9) ||| 1065353216#32

/-- A key read off an array of two words. -/
def keyOf (x : S2.Idx → Word) : Word × Word := (x (ix1 0), x (ix1 1))

section

variable {E : Valuation τ sig (Elt Ideal)}

theorem sat_split4 {a} {φ : fn_threefry_split.Bufs} (h : (split4 (F := Ideal) a φ).Sat E) (k : Fin 4) :
    (rd E φ.v14 (ix2 k 0), rd E φ.v14 (ix2 k 1)) = splitKey (keyOf (rd E a)) k := by
  obtain ⟨h0, h1, h2, h3, h4, hc, h5, h6, hc0, h7, h8, h9, h10, hash, h12, h13, h14, -⟩ := h
  obtain ⟨e0, e1⟩ := beside4 h12 h13 h14 k
  obtain ⟨n0, n1⟩ := halves hc0 h7 h8 h9 h10 (ix1 k) k.val (by omega) (along h4 hc h5 h6 _)
  have := sat_threefry4 hash (ix1 k)
  rw [word0 h0 h1, word1 h2 h3, n0, n1] at this
  rw [e0, e1]
  exact this.symm

theorem sat_split2 {a} {φ : fn_threefry_split_2.Bufs} (h : (split2 (F := Ideal) a φ).Sat E) (k : Fin 2) :
    (rd E φ.v14 (ix2 k 0), rd E φ.v14 (ix2 k 1)) = splitKey (keyOf (rd E a)) k := by
  obtain ⟨h0, h1, h2, h3, h4, hc, h5, h6, hc0, h7, h8, h9, h10, hash, h12, h13, h14, -⟩ := h
  obtain ⟨e0, e1⟩ := beside2 h12 h13 h14 k
  obtain ⟨n0, n1⟩ := halves hc0 h7 h8 h9 h10 (ix1 k) k.val (by omega) (along h4 hc h5 h6 _)
  have := sat_threefry2 hash (ix1 k)
  rw [word0 h0 h1, word1 h2 h3, n0, n1] at this
  rw [e0, e1]
  exact this.symm

/-! ## A uniform draw -/

theorem scaled {b c v0 v1 v10 cst v11 v12 v13 v14 v15 v16 : FVec Ideal S_ .f32} {v7 c1 v8 c2 v9 : S_.Idx → Word}
    (hb : b = constant S_ .f32 0x00000000#32) (hc : c = constant S_ .f32 0x3F800000#32) (h0 : v0 = id b) (h1 : v1 = id c)
    (hc1 : c1 = constantI S_ 32 9#32) (h8 : v8 = Host.shrui v7 c1) (hc2 : c2 = constantI S_ 32 1065353216#32)
    (h9 : v9 = ori v8 c2) (h10 : v10 = bitcastToFloat .f32 v9) (hcst : cst = constant S_ .f32 0x3F800000#32)
    (h11 : v11 = subf v10 cst) (h12 : v12 = subf v1 v0) (h13 : v13 = mulf v11 v12) (h14 : v14 = addf v13 v0)
    (h15 : v15 = shapeCast S_ v14 shapeCasts_S_S_) (h16 : v16 = maximumf v0 v15) (w : Word) (hw : v7 pt = w) :
    v16 pt = max (Ideal.ofBits .f32 0x00000000#32)
      ((Ideal.ofBits .f32 ((w >>> 9) ||| 1065353216#32) - Ideal.ofBits .f32 0x3F800000#32)
        * (Ideal.ofBits .f32 0x3F800000#32 - Ideal.ofBits .f32 0x00000000#32) + Ideal.ofBits .f32 0x00000000#32) := by
  subst hb hc h0 h1 hc1 h8 hc2 h9 h10 hcst h11 h12 h13 h14 h15 h16 hw
  have e : Shape.reshapeEquiv shapeCasts_S_S_ pt = pt := funext fun a => a.elim0
  unfold maximumf shapeCast
  rw [e]
  rfl

theorem sat_uniform {a b c} {φ : fn_uniform.Bufs} (h : (uniform (F := Ideal) a b c φ).Sat E)
    (hb : rd E b = constant (F := Ideal) S_ .f32 0x00000000#32) (hc : rd E c = constant (F := Ideal) S_ .f32 0x3F800000#32) :
    rd E φ.v16 pt = max (Ideal.ofBits .f32 0x00000000#32)
      ((Ideal.ofBits .f32 (unitPattern (keyOf (rd E a))) - Ideal.ofBits .f32 0x3F800000#32)
        * (Ideal.ofBits .f32 0x3F800000#32 - Ideal.ofBits .f32 0x00000000#32) + Ideal.ofBits .f32 0x00000000#32) := by
  obtain ⟨h0, h1, h2, h3, h4, h5, hz, hz', hash, h7, hc1, h8, hc2, h9, h10, hcst, h11, h12, h13, h14, h15, h16, -⟩ := h
  have q := sat_threefryS hash
  rw [word0 h2 h3, word1 h4 h5, show rd E φ.c pt = 0#32 from congrFun (show rd E φ.c = constantI S_ 32 0#32 from hz) pt,
    show rd E φ.c_0 pt = 0#32 from congrFun (show rd E φ.c_0 = constantI S_ 32 0#32 from hz') pt] at q
  refine scaled hb hc h0 h1 hc1 h8 hc2 h9 h10 hcst h11 h12 h13 h14 h15 h16 _ ?_
  have e : rd E φ.v7 = xori (rd E φ.call0.v116) (rd E φ.call0.v118) := h7
  rw [e]
  show (rd E φ.call0.v116 pt, rd E φ.call0.v118 pt).1 ^^^ (rd E φ.call0.v116 pt, rd E φ.call0.v118 pt).2 = _
  rw [← q]
  rfl

/-! ## A table of random columns -/

/-- Broadcast of a number to one place. -/
abbrev toOne {α : Type} (x : S_.Idx → α) : S1x1.Idx → α := broadcastInDim S1x1 ![] bcast_S_S1x1 x

/-- Broadcast of one place over the table. -/
abbrev toTable {α : Type} (x : S1x1.Idx → α) : S100x2.Idx → α := broadcastInDim S100x2 ![0, 1] bcast_S1x1_S100x2_0_1 x

theorem span {lo hi c c0 c1 w0 w1 c2 c3 x0 x1 v3 c4 c5 y0 y1 v5 c12 c13 c14 : S_.Idx → Word} {v1 : S_.Idx → BitVec 1}
    {v6 v7 v47 v48 v50 v51 v55 v56 v57 v58 v59 v60 v61 : S1x1.Idx → Word} {v49 v52 v53 v54 : S1x1.Idx → BitVec 1}
    (hlo : lo = constantI S_ 32 0#32) (hhi : hi = constantI S_ 32 2000#32)
    (hc : c = constantI S_ 32 2147483647#32) (hc0 : c0 = constantI S_ 32 2147483648#32)
    (hc1 : c1 = constantI S_ 32 2147483647#32) (hw0 : w0 = maxsi c0 c) (hw1 : w1 = minsi c1 w0)
    (h1 : v1 = cmpi .sgt hi w1) (hc2 : c2 = constantI S_ 32 2147483648#32) (hc3 : c3 = constantI S_ 32 2147483647#32)
    (hx0 : x0 = maxsi c2 lo) (hx1 : x1 = minsi c3 x0) (h3 : v3 = id x1)
    (hc4 : c4 = constantI S_ 32 2147483648#32) (hc5 : c5 = constantI S_ 32 2147483647#32)
    (hy0 : y0 = maxsi c4 hi) (hy1 : y1 = minsi c5 y0) (h5 : v5 = id y1) (h6 : v6 = toOne v3) (h7 : v7 = toOne v5)
    (h47 : v47 = subi v7 v6) (h48 : v48 = id v47) (h49 : v49 = cmpi .sle v7 v6) (hc12 : c12 = constantI S_ 32 1#32)
    (h50 : v50 = toOne c12) (h51 : v51 = select v49 v50 v48) (h52 : v52 = cmpi .sgt v7 v6) (h53 : v53 = toOne v1)
    (h54 : v54 = andi v53 v52) (hc13 : c13 = constantI S_ 32 1#32) (h55 : v55 = toOne c13) (h56 : v56 = addi v51 v55)
    (h57 : v57 = select v54 v56 v51) (hc14 : c14 = constantI S_ 32 65536#32) (h58 : v58 = toOne c14)
    (h59 : v59 = Host.remui v58 v57) (h60 : v60 = muli v59 v59) (h61 : v61 = Host.remui v60 v57) :
    v6 = constantI S1x1 32 0#32 ∧ v57 = constantI S1x1 32 2000#32 ∧ v61 = constantI S1x1 32 1296#32 := by
  subst hlo hhi hc hc0 hc1 hw0 hw1 h1 hc2 hc3 hx0 hx1 h3 hc4 hc5 hy0 hy1 h5 h6 h7 h47 h48 h49 hc12 h50 h51 h52 h53 h54
    hc13 h55 h56 h57 hc14 h58 h59 h60 h61
  refine ⟨funext ?_, funext ?_, funext ?_⟩ <;> decide +kernel

theorem table {v29 v62 v63 v64 v65 v46 v66 v67 v68 v69 v70 v71 v72 v73 : S100x2.Idx → Word} {v6 v57 v61 : S1x1.Idx → Word}
    (h6 : v6 = constantI S1x1 32 0#32) (h57 : v57 = constantI S1x1 32 2000#32) (h61 : v61 = constantI S1x1 32 1296#32)
    (h62 : v62 = toTable v57) (h63 : v63 = Host.remui v29 v62) (h64 : v64 = toTable v61) (h65 : v65 = muli v63 v64)
    (h66 : v66 = toTable v57) (h67 : v67 = Host.remui v46 v66) (h68 : v68 = addi v65 v67) (h69 : v69 = toTable v57)
    (h70 : v70 = Host.remui v68 v69) (h71 : v71 = id v70) (h72 : v72 = toTable v6) (h73 : v73 = addi v72 v71)
    (i : S100x2.Idx) : v73 i = (v29 i % 2000#32 * 1296#32 + v46 i % 2000#32) % 2000#32 := by
  subst h6 h57 h61 h62 h63 h64 h65 h66 h67 h68 h69 h70 h71 h72 h73
  have e : ∀ x : Word, IntOp.remui .host x 2000#32 = x % 2000#32 := fun x => if_neg (by decide)
  show 0#32 + IntOp.remui .host (IntOp.remui .host (v29 i) 2000#32 * 1296#32 + IntOp.remui .host (v46 i) 2000#32) 2000#32 = _
  rw [e, e, e, BitVec.zero_add]

/-- One table of random words. -/
theorem sat_words {k0 k1 x0 x1} {φ : fn_threefry2x32_4.Bufs} (h : (threefry200 (F := Ideal) k0 k1 x0 x1 φ).Sat E)
    {v : S100x2.Idx → Word} (hv : v = xori (rd E φ.v171) (rd E φ.v175)) (k : Word × Word) (i : S100x2.Idx) (n : ℕ)
    (hk : (rd E k0 pt, rd E k1 pt) = k) (h0 : rd E x0 i = 0#32 ∧ rd E x1 i = BitVec.ofNat 32 n) :
    v i = randomWord k n := by
  subst hk hv
  have q := sat_threefry200 h i
  rw [h0.1, h0.2] at q
  show (rd E φ.v171 i, rd E φ.v175 i).1 ^^^ (rd E φ.v171 i, rd E φ.v175 i).2 = _
  rw [← q]
  rfl

theorem sat_randint {a b c} {φ : fn_randint.Bufs} (h : (randint (F := Ideal) a b c φ).Sat E)
    (hb : rd E b = constantI S_ 32 0#32) (hc : rd E c = constantI S_ 32 2000#32) (i : Fin 100) (j : Fin 2) :
    rd E φ.v73 (ix2 i j) = randomColumn (keyOf (rd E a)) (2 * i.val + j.val) := by
  obtain ⟨⟨k, k0, k1, ⟨w0, w1, -⟩, h1, k2, k3, ⟨x0, x1, -⟩, h3, k4, k5, ⟨y0, y1, -⟩, h5, h6, h7, split, h9, h10, h11, h12,
    h13, h14, h15, h16, h17, h18, k6, h19, h20, k7, h21, h22, h23, k8, h24, h25, h26, h27, hash4, h29, h30, h31, h32, h33,
    h34, h35, k9, h36, h37, k10, h38, h39, h40, k11, h41, h42, h43, h44, hash5, h46⟩,
    h47, h48, h49, k12, h50, h51, h52, h53, h54, k13, h55, h56, h57, k14, h58, h59, h60, h61, h62, h63, h64, h65, h66, h67,
    h68, h69, h70, h71, h72, h73, -⟩ := h
  obtain ⟨e6, e57, e61⟩ := span hb hc k k0 k1 w0 w1 h1 k2 k3 x0 x1 h3 k4 k5 y0 y1 h5 h6 h7 h47 h48 h49 k12 h50 h51 h52 h53
    h54 k13 h55 h56 h57 k14 h58 h59 h60 h61
  have hn : 2 * i.val + j.val < 1000 := by omega
  have s0 : (rd E φ.v14 pt, rd E φ.v16 pt) = splitKey (keyOf (rd E a)) 0 := by
    rw [word0 h13 h14, word1 h15 h16, key2 0 _ h9 h10, key2 0 _ h9 h10]
    exact sat_split2 split 0
  have s1 : (rd E φ.v31 pt, rd E φ.v33 pt) = splitKey (keyOf (rd E a)) 1 := by
    rw [word0 h30 h31, word1 h32 h33, key2 1 _ h11 h12, key2 1 _ h11 h12]
    exact sat_split2 split 1
  have e29 := sat_words hash4 h29 _ (ix2 i j) _ s0
    (halves k8 h24 h25 h26 h27 (ix2 i j) _ hn (rowwise h17 h18 k6 h19 h20 k7 h21 h22 h23 i j))
  have e46 := sat_words hash5 h46 _ (ix2 i j) _ s1
    (halves k11 h41 h42 h43 h44 (ix2 i j) _ hn (rowwise h34 h35 k9 h36 h37 k10 h38 h39 h40 i j))
  rw [table e6 e57 e61 h62 h63 h64 h65 h66 h67 h68 h69 h70 h71 h72 h73 (ix2 i j), e29, e46]
  rfl

end

end Cert.Proof.Host

end
-- ==== Proof.Coins.lean ====
/-
  The reference's two coins: two uniform draws, one above a half and one below.
-/
module

public import proofs.«01_k».proof.Proof.Draws

@[expose] public section

noncomputable section

namespace Cert.Proof.Host

open Cert.ReferenceIdeal Cert.ReferenceIdeal.Gen
open Idealize.ShloMosaic

/-- The root key. -/
def rootKey : Word × Word := (0#32, 42#32)

/-- The key the exchanged columns are drawn from. -/
def swapKey : Word × Word := splitKey rootKey 2

theorem bits_zero : Ideal.ofBits .f32 0x00000000#32 = ((0 : ℝ) : EReal) := by simp [Ideal.ofBits, Ideal.ieee]

theorem bits_one : Ideal.ofBits .f32 0x3F800000#32 = ((1 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_first : Ideal.ofBits .f32 1071457306#32 = ((14492698 / 8388608 : ℝ) : EReal) := by
  simp [Ideal.ofBits, Ideal.ieee, -EReal.coe_mul]; norm_num

theorem bits_second : Ideal.ofBits .f32 1068616486#32 = ((11651878 / 8388608 : ℝ) : EReal) := by
  simp [Ideal.ofBits, Ideal.ieee, -EReal.coe_mul]; norm_num

/-- The number drawn uniformly from `[0, 1)` under a key. -/
def unitDraw (k : Word × Word) : EReal :=
  max (Ideal.ofBits .f32 0x00000000#32)
    ((Ideal.ofBits .f32 (unitPattern k) - Ideal.ofBits .f32 0x3F800000#32)
      * (Ideal.ofBits .f32 0x3F800000#32 - Ideal.ofBits .f32 0x00000000#32) + Ideal.ofBits .f32 0x00000000#32)

theorem unitDraw_of (k : Word × Word) (w : Word) (q : ℝ) (hw : unitPattern k = w) (hq : Ideal.ofBits .f32 w = (q : EReal))
    (h : 1 ≤ q) : unitDraw k = ((q - 1 : ℝ) : EReal) := by
  unfold unitDraw
  rw [hw, hq, bits_zero, bits_one, ← EReal.coe_sub, ← EReal.coe_sub, ← EReal.coe_mul, ← EReal.coe_add, sub_zero, mul_one,
    add_zero]
  exact max_eq_right (EReal.coe_le_coe_iff.2 (by linarith))

/-- The first coin: not below a half, so the first array is left as it is. -/
theorem first_coin : Ideal.cmp .olt (unitDraw (splitKey rootKey 1)) (Ideal.ofBits .f32 0x3F000000#32) = 0#1 := by
  rw [unitDraw_of _ 1071457306#32 _ (by decide +kernel) bits_first (by norm_num), bits_half]
  show BitVec.ofBool (decide _) = _
  rw [decide_eq_false (by rw [EReal.coe_lt_coe_iff]; norm_num)]
  rfl

/-- The second coin: below a half, so the second array's columns are exchanged. -/
theorem second_coin : Ideal.cmp .olt (unitDraw (splitKey rootKey 3)) (Ideal.ofBits .f32 0x3F000000#32) = 1#1 := by
  rw [unitDraw_of _ 1068616486#32 _ (by decide +kernel) bits_second (by norm_num), bits_half]
  show BitVec.ofBool (decide _) = _
  rw [decide_eq_true (by rw [EReal.coe_lt_coe_iff]; norm_num)]
  rfl

end Cert.Proof.Host

end
-- ==== Proof.Exchange.lean ====
/-
  Columns of a matrix read and written by an index vector: the reference's gather and scatter, read at one element.
-/
module

public import proofs.«01_k».proof.Proof.Gen.ReferenceIdeal
public import Idealize.ShloMosaic.Lib.PointwiseCore
public import Idealize.ShloMosaic.Lib.Routing.OpsPair

@[expose] public section

noncomputable section

namespace Cert.Proof.Host

open Cert.ReferenceIdeal Cert.ReferenceIdeal.Gen
open Idealize.ShloMosaic

/-! ## Folds that act at few places -/

/-- A fold over `N` places that acts only at the places an increasing map names is the fold over those. -/
theorem foldl_hits {α : Type} {N M : ℕ} (e : Fin M → Fin N) (he : StrictMono e) (hit : Fin N → Prop) [DecidablePred hit]
    (hr : ∀ n, hit n → ∃ p, e p = n) (v : Fin N → α) (a : α) :
    (List.finRange N).foldl (fun b n => if hit n then v n else b) a
      = (List.finRange M).foldl (fun b p => if hit (e p) then v (e p) else b) a := by
  have key : (List.finRange N).filter (fun n => decide (hit n))
      = ((List.finRange M).filter fun p => decide (hit (e p))).map e := by
    have s1 : List.Pairwise (· < ·) ((List.finRange N).filter fun n => decide (hit n)) :=
      (List.pairwise_lt_finRange N).filter _
    have s2 : List.Pairwise (· < ·) (((List.finRange M).filter fun p => decide (hit (e p))).map e) :=
      List.pairwise_map.2 (((List.pairwise_lt_finRange M).filter _).imp fun h => he h)
    refine List.Perm.eq_of_pairwise (le := (· < ·)) (fun a b _ _ h h' => (lt_asymm h h').elim) s1 s2 ?_
    refine (List.perm_ext_iff_of_nodup (s1.imp fun h => ne_of_lt h) (s2.imp fun h => ne_of_lt h)).2 fun n => ?_
    simp only [List.mem_filter, List.mem_map, List.mem_finRange, true_and, decide_eq_true_eq]
    constructor
    · intro h
      obtain ⟨p, rfl⟩ := hr n h
      exact ⟨p, h, rfl⟩
    · rintro ⟨p, h, rfl⟩
      exact h
  have f1 := List.foldl_filter (p := fun n => decide (hit n)) (f := fun (_ : α) n => v n) (l := List.finRange N) (init := a)
  have f2 := List.foldl_filter (p := fun p => decide (hit (e p))) (f := fun (_ : α) p => v (e p)) (l := List.finRange M) (init := a)
  simp only [decide_eq_true_eq] at f1 f2
  rw [← f1, ← f2, key, List.foldl_map]

/-- A fold choosing among values is the value at a fold choosing among places. -/
theorem foldl_value {α ι β : Type} (g : β → α) (hit : ι → Prop) [DecidablePred hit] (v : ι → β) (l : List ι) (b : β) :
    l.foldl (fun y k => if hit k then g (v k) else y) (g b) = g (l.foldl (fun q k => if hit k then v k else q) b) := by
  induction l generalizing b with
  | nil => rfl
  | cons k l ih =>
    simp only [List.foldl_cons]
    rw [← ih]
    split <;> rfl

/-! ## The gather and the scatter -/

section

variable {α : Type} {idx : IVec S100x1 32}

/-- A column in range, from its number. -/
abbrev colAt (n : ℕ) (h : n < 2000) : Fin 2000 := ⟨n, h⟩

theorem small (w : BitVec 32) (h : w.toNat < 2000) : w.toInt = (w.toNat : ℤ) := by
  rw [BitVec.toInt_eq_toNat_cond, if_pos (by omega)]

/-- Column `p` of what is gathered is the operand's column that the `p`-th index names. -/
theorem gather_at (x : S8192x2000.Idx → α) (r : Fin 8192) (p : Fin 100) (h : (idx (ix2 p 0)).toNat < 2000) :
    Host.gather gather_S8192x2000_S100x1_S8192x100_0_1_n_n_1_1_81921 x idx (ix2 r p) = x (ix2 r (colAt _ h)) := by
  have hs : gather_S8192x2000_S100x1_S8192x100_0_1_n_n_1_1_81921.siIdx (ix2 r p) ⟨0, by decide⟩ = ix2 p 0 := by
    funext b
    fin_cases b <;> rfl
  have h1 : gather_S8192x2000_S100x1_S8192x100_0_1_n_n_1_1_81921.start (ix2 r p) idx 1
      = min (idx (ix2 p 0)).toInt.toNat (2000 - 1) := congrArg (fun i => min (idx i).toInt.toNat (2000 - 1)) hs
  refine congrArg x (funext fun a => Fin.ext ?_)
  match a with
  | ⟨0, _⟩ => exact Nat.zero_add _
  | ⟨1, _⟩ =>
    refine (show _ = gather_S8192x2000_S100x1_S8192x100_0_1_n_n_1_1_81921.start (ix2 r p) idx 1 from rfl).trans (h1.trans ?_)
    rw [small _ h, Int.toNat_natCast]
    exact Nat.min_eq_left (Nat.le_sub_one_of_lt h)

/-- Where the update at `(r, p)` lands: row `r`, at the column that the `p`-th index names. -/
theorem lands (r r' : Fin 8192) (p : Fin 100) (c : Fin 2000) (h : (idx (ix2 p 0)).toNat < 2000) :
    scatter_S8192x2000_S100x1_S8192x100_0_1_1_1.resultIdx? (ix2 r' p) idx = some (ix2 r c)
      ↔ r' = r ∧ (idx (ix2 p 0)).toNat = c.val := by
  have hs : scatter_S8192x2000_S100x1_S8192x100_0_1_1_1.siIdx (ix2 r' p) ⟨0, by decide⟩ = ix2 p 0 := by
    funext b
    fin_cases b <;> rfl
  have h0 : scatter_S8192x2000_S100x1_S8192x100_0_1_1_1.start (ix2 r' p) idx 0 = 0 := rfl
  have h1 : scatter_S8192x2000_S100x1_S8192x100_0_1_1_1.start (ix2 r' p) idx 1 = (idx (ix2 p 0)).toInt :=
    congrArg (fun i => (idx i).toInt) hs
  have w0 : scatter_S8192x2000_S100x1_S8192x100_0_1_1_1.window (ix2 r' p) 0 = r'.val := rfl
  have w1 : scatter_S8192x2000_S100x1_S8192x100_0_1_1_1.window (ix2 r' p) 1 = 0 := rfl
  rw [ix2_eq_valueIdx r c, Routing.resultIdx?_ix2, h0, h1, w0, w1, small _ h]
  constructor
  · rintro ⟨a, b⟩
    exact ⟨Fin.ext (by omega), by omega⟩
  · rintro ⟨rfl, b⟩
    exact ⟨by omega, by omega⟩

/-- What is scattered, read at row `r`, column `c`: the last update whose index names the column, else the operand. -/
theorem scatter_at (x : S8192x2000.Idx → α) (u : S8192x100.Idx → α) (h : ∀ p, (idx (ix2 p 0)).toNat < 2000) (r : Fin 8192)
    (c : Fin 2000) :
    Host.scatter scatter_S8192x2000_S100x1_S8192x100_0_1_1_1 (fun _ b => b) x idx u (ix2 r c)
      = (List.finRange 100).foldl (fun a p => if (idx (ix2 p 0)).toNat = c.val then u (ix2 r p) else a) (x (ix2 r c)) := by
  rw [Routing.scatter_at]
  have hv : ∀ p : Fin 100, (S8192x100.rowMajor (ix2 r p)).val = r.val * 100 + p.val := fun p => Shape.rowMajor_val_two _
  rw [foldl_hits (fun p : Fin 100 => S8192x100.rowMajor (ix2 r p)) (fun p q hpq => by
      rw [Fin.lt_def, hv, hv]; have := Fin.lt_def.1 hpq; omega) _ (fun n hn => by
      obtain ⟨r', p, e⟩ : ∃ (r' : Fin 8192) (p : Fin 100), S8192x100.rowMajor.symm n = ix2 r' p := ⟨_, _, (ix2_eta _).symm⟩
      rw [e, lands r _ _ c (h _)] at hn
      refine ⟨p, ?_⟩
      rw [← hn.1, ← e, Equiv.apply_symm_apply])]
  simp only [Equiv.symm_apply_apply, lands r r _ c (h _), true_and]

/-- Where column `c` of the exchanged array is read from: the second columns are written from the first after the first
    from the second, a later pair over an earlier one. -/
def source (l : List (ℕ × ℕ)) (c : ℕ) : ℕ :=
  l.foldl (fun q ab => if ab.2 = c then ab.1 else q) (l.foldl (fun q ab => if ab.1 = c then ab.2 else q) c)

/-- A column of a row, by its number. -/
def rowAt (x : S8192x2000.Idx → α) (r : Fin 8192) (n : ℕ) : α := x (ix2 r (Fin.ofNat 2000 n))

theorem rowAt_lt (x : S8192x2000.Idx → α) (r : Fin 8192) (n : ℕ) (h : n < 2000) : x (ix2 r (colAt n h)) = rowAt x r n :=
  congrArg (fun c => x (ix2 r c)) (Fin.ext (Nat.mod_eq_of_lt h).symm)

/-- The two gathers and the two scatters together exchange columns by `source`. -/
theorem exchange_at {i0 i1 : IVec S100x1 32} {g0 g1 : S8192x100.Idx → α} {x y z : S8192x2000.Idx → α}
    (h0 : ∀ p, (i0 (ix2 p 0)).toNat < 2000) (h1 : ∀ p, (i1 (ix2 p 0)).toNat < 2000)
    (hg0 : g0 = Host.gather gather_S8192x2000_S100x1_S8192x100_0_1_n_n_1_1_81921 x i0)
    (hg1 : g1 = Host.gather gather_S8192x2000_S100x1_S8192x100_0_1_n_n_1_1_81921 x i1)
    (hy : y = Host.scatter scatter_S8192x2000_S100x1_S8192x100_0_1_1_1 (fun _ b => b) x i0 g1)
    (hz : z = Host.scatter scatter_S8192x2000_S100x1_S8192x100_0_1_1_1 (fun _ b => b) y i1 g0)
    (l : List (ℕ × ℕ)) (hl : (List.finRange 100).map (fun p => ((i0 (ix2 p 0)).toNat, (i1 (ix2 p 0)).toNat)) = l)
    (r : Fin 8192) (c : Fin 2000) : z (ix2 r c) = rowAt x r (source l c.val) := by
  have e0 : ∀ p : Fin 100, g0 (ix2 r p) = rowAt x r (i0 (ix2 p 0)).toNat := fun p => by
    rw [hg0]; exact (gather_at x r p (h0 p)).trans (rowAt_lt x r _ (h0 p))
  have e1 : ∀ p : Fin 100, g1 (ix2 r p) = rowAt x r (i1 (ix2 p 0)).toNat := fun p => by
    rw [hg1]; exact (gather_at x r p (h1 p)).trans (rowAt_lt x r _ (h1 p))
  have ec : x (ix2 r c) = rowAt x r c.val := rowAt_lt x r c.val c.isLt
  rw [hz, scatter_at _ _ h1, hy, scatter_at _ _ h0, ec, ← hl]
  simp only [e0, e1]
  rw [foldl_value (rowAt x r), foldl_value (rowAt x r)]
  unfold source
  simp only [List.foldl_map]

end

end Cert.Proof.Host

end
-- ==== Proof.Parts.lean ====
/-
  What the reference leaves, in terms of its draws: the first array as it is, the second with its columns exchanged.
-/
module

public import proofs.«01_k».proof.Proof.Coins
public import proofs.«01_k».proof.Proof.Exchange

@[expose] public section

noncomputable section

namespace Cert.Proof.Host

open Cert.ReferenceIdeal Cert.ReferenceIdeal.Gen Cert.Proof.Solve
open Idealize.ShloMosaic Idealize.ShloMosaic.StableHlo

/-! ## Small steps -/

/-- Two words beside each other. -/
theorem pair_at {x y : S1.Idx → Word} {z : S2.Idx → Word}
    (hz : z = concatenate S2 0 [⟨S1, x⟩, ⟨S1, y⟩] concatenates_S1_S1_S2_d0) : z (ix1 0) = x (ix1 0) ∧ z (ix1 1) = y (ix1 0) := by
  subst hz
  constructor
  · refine (concatenate_pair_apply _ _ _ _ _).trans ((dif_pos Nat.zero_lt_one).trans ?_)
    exact congrArg x (funext fun b => by fin_cases b; rfl)
  · refine (concatenate_pair_apply _ _ _ _ _).trans ((dif_neg (Nat.lt_irrefl 1)).trans ?_)
    exact congrArg y (funext fun b => by fin_cases b; rfl)

/-- The root key, as the program writes its two words. -/
theorem root {c c0 v0 v1 c1 v3 v4 : S_.Idx → Word} {v2 v5 : S1.Idx → Word} {v6 : S2.Idx → Word}
    (hc : c = constantI S_ 32 42#32) (hc0 : c0 = constantI S_ 32 32#32) (h0 : v0 = Host.shrui c c0) (h1 : v1 = id v0)
    (h2 : v2 = broadcastInDim S1 ![] bcast_S_S1 v1) (hc1 : c1 = constantI S_ 32 4294967295#32) (h3 : v3 = andi c c1)
    (h4 : v4 = id v3) (h5 : v5 = broadcastInDim S1 ![] bcast_S_S1 v4)
    (h6 : v6 = concatenate S2 0 [⟨S1, v2⟩, ⟨S1, v5⟩] concatenates_S1_S1_S2_d0) : keyOf v6 = rootKey := by
  obtain ⟨e0, e1⟩ := pair_at h6
  unfold keyOf
  rw [e0, e1]
  subst hc hc0 h0 h1 h2 hc1 h3 h4 h5
  clear h6 e0 e1
  decide +kernel

/-- One column of the table drawn, made a column of indices: a negative index is counted from the end, and none is. -/
theorem index_at {T : S100x2.Idx → Word} {u i : S100x1.Idx → Word} {v b b' a s : S100.Idx → Word} {c c' : S_.Idx → Word}
    {m : S100.Idx → BitVec 1} (j : Fin 2) (hs : S100x2.Slices ![0, j.val] S100x1)
    (hu : u = extractStridedSlice S100x1 ![0, j.val] T hs) (hv : v = shapeCast S100 u shapeCasts_S100x1_S100)
    (hc : c = constantI S_ 32 0#32) (hb : b = broadcastInDim S100 ![] bcast_S_S100 c) (hm : m = cmpi .slt v b)
    (_hc' : c' = constantI S_ 32 2000#32) (_hb' : b' = broadcastInDim S100 ![] bcast_S_S100 c') (_ha : a = addi v b')
    (hse : s = select m a v) (hi : i = broadcastInDim S100x1 ![0] bcast_S100_S100x1_0 s)
    (hT : ∀ p, (T (ix2 p j)).toNat < 2000) (p : Fin 100) : i (ix2 p 0) = T (ix2 p j) := by
  have e : v (ix1 p) = T (ix2 p j) := by
    subst hu hv
    simp only [pointwise]
    refine congrArg T ?_
    have e0 : (⟨![0, j.val] 0 + p.val, by have := p.isLt; show 0 + p.val < 100; omega⟩ : Fin 100) = p :=
      Fin.ext (Nat.zero_add _)
    have e1 : (⟨![0, j.val] 1 + 0, j.isLt⟩ : Fin 2) = j := Fin.ext (Nat.add_zero _)
    exact congrArg₂ ix2 e0 e1
  subst hc hb hm hse hi
  refine Eq.trans ?_ e
  refine (show _ = Scalar.select (IntOp.cmpi .slt (v (ix1 p)) 0#32) (a (ix1 p)) (v (ix1 p)) from ?_).trans
    (Routing.wrap_of_lt _ _ (by rw [e]; exact (hT p).trans (by decide)))
  simp only [pointwise]
  rfl

theorem column_lt (k : Word × Word) (n : ℕ) : (randomColumn k n).toNat < 2000 := by
  unfold randomColumn
  rw [BitVec.toNat_umod]
  exact Nat.mod_lt _ (by decide)

/-- A choice by one bit between two arrays. -/
theorem choose_at {b : S_.Idx → BitVec 1} {x y z : S8192x2000.Idx → EReal}
    (h : z = select (broadcastInDim S8192x2000 ![] bcast_S_S8192x2000 b) x y) (w : BitVec 1) (hw : b pt = w) :
    z = if w = 1#1 then x else y := by
  subst h hw
  have e : broadcastInDim S8192x2000 ![] bcast_S_S8192x2000 b = fun _ => b pt :=
    funext fun i => congrArg b (funext fun a => a.elim0)
  rw [e]
  split
  · exact funext fun i => if_pos ‹_›
  · exact funext fun i => if_neg ‹_›

/-- A comparison with a half. -/
theorem coin_of {x c : FVec Ideal S_ .f32} {b : S_.Idx → BitVec 1} (hc : c = constant S_ .f32 0x3F000000#32)
    (hb : b = cmpf .olt x c) (q : EReal) (hq : x pt = q) : b pt = Ideal.cmp .olt q (Ideal.ofBits .f32 0x3F000000#32) := by
  subst hc hb hq
  rfl

/-! ## The parts -/

section

variable {E : Valuation τ sig (Elt Ideal)} {d : Dev nD}

/-- What the first part leaves for the rest: the keys, and the first draw. -/
theorem sat_part0 (h : (part0 (F := Ideal) d).Sat E) :
    keyOf (E (Proc.devRef .tc main_v13)) = swapKey ∧ keyOf (E (Proc.devRef .tc main_v15)) = splitKey rootKey 3
      ∧ (E (Proc.devRef .tc main_v16) : S_.Idx → EReal) pt = unitDraw (splitKey rootKey 1) := by
  obtain ⟨hc, hc0, h0, h1, h2, hc1, h3, h4, h5, h6, hsplit, h8, h9, h10, h11, h12, h13, h14, h15, hz, ho, hu, -⟩ := h
  have k := root hc hc0 h0 h1 h2 hc1 h3 h4 h5 h6
  have e : ∀ n : Fin 4, _ := sat_split4 hsplit
  have e1 : keyOf (E (Proc.devRef .tc main_v11)) = splitKey rootKey 1 := by
    rw [← k]
    exact (Prod.ext (key4 1 _ h10 h11 0) (key4 1 _ h10 h11 1)).trans (e 1)
  have e2 : keyOf (E (Proc.devRef .tc main_v13)) = splitKey rootKey 2 := by
    rw [← k]
    exact (Prod.ext (key4 2 _ h12 h13 0) (key4 2 _ h12 h13 1)).trans (e 2)
  have e3 : keyOf (E (Proc.devRef .tc main_v15)) = splitKey rootKey 3 := by
    rw [← k]
    exact (Prod.ext (key4 3 _ h14 h15 0) (key4 3 _ h14 h15 1)).trans (e 3)
  refine ⟨e2, e3, ?_⟩
  rw [← e1]
  exact sat_uniform hu hz ho

/-- The pairs of columns drawn. -/
def drawnPairs : List (ℕ × ℕ) :=
  (List.finRange 100).map fun p => ((randomColumn swapKey (2 * p.val)).toNat, (randomColumn swapKey (2 * p.val + 1)).toNat)

/-- What the program leaves: the first array as it is, the second with the drawn columns exchanged. -/
theorem sat_program (h : (program (F := Ideal) d).Sat E) :
    (E (Proc.devRef .tc main_v55) : S8192x2000.Idx → EReal) = E (Proc.devRef .tc main_arg0)
      ∧ ∀ (r : Fin 8192) (c : Fin 2000), (E (Proc.devRef .tc main_v95) : S8192x2000.Idx → EReal) (ix2 r c)
        = rowAt (E (Proc.devRef .tc main_arg1)) r (source drawnPairs c.val) := by
  obtain ⟨hpart0, hpart1, hpart2⟩ := h
  obtain ⟨ek, ek', e16⟩ := sat_part0 hpart0
  obtain ⟨-, -, -, -, -, -, -, -, -, hcst, h54, ⟨h55, -⟩, hz, ho, hu, hlo, hhi, hr,
    h58, h59, k18, h60, h61, k19, h62, h63, h64, h65, h66,
    h67, h68, k20, h69, h70, k21, h71, h72, h73, h74, h75,
    h76, h77, k22, h78, h79, k23, h80, h81, h82, h83, h84,
    h85, h86, k24, h87, h88, k25, h89, h90, h91⟩ := hpart1
  obtain ⟨h92, h93, hcst', h94, ⟨h95, -⟩, -⟩ := hpart2
  constructor
  · exact (choose_at h55 _ (coin_of hcst h54 _ e16)).trans (if_neg (by rw [first_coin]; decide))
  · have e56 : (E (Proc.devRef .tc main_v56) : S_.Idx → EReal) pt = unitDraw (splitKey rootKey 3) := by
      rw [← ek']
      exact sat_uniform hu hz ho
    have e95 : (E (Proc.devRef .tc main_v95) : S8192x2000.Idx → EReal) = E (Proc.devRef .tc main_v93) :=
      (choose_at h95 _ (coin_of hcst' h94 _ e56)).trans (if_pos second_coin)
    have eT : ∀ (p : Fin 100) (j : Fin 2), (E (Proc.devRef .tc main_v57) : S100x2.Idx → Word) (ix2 p j)
        = randomColumn swapKey (2 * p.val + j.val) := fun p j => by
      rw [← ek]
      exact sat_randint hr hlo hhi p j
    have lt : ∀ (j : Fin 2) (p : Fin 100), ((E (Proc.devRef .tc main_v57) : S100x2.Idx → Word) (ix2 p j)).toNat < 2000 :=
      fun j p => by rw [eT]; exact column_lt _ _
    have i65 := fun p => (index_at 0 _ h58 h59 k18 h60 h61 k19 h62 h63 h64 h65 (lt 0) p).trans (eT p 0)
    have i74 := fun p => (index_at 1 _ h67 h68 k20 h69 h70 k21 h71 h72 h73 h74 (lt 1) p).trans (eT p 1)
    have i83 := fun p => (index_at 0 _ h76 h77 k22 h78 h79 k23 h80 h81 h82 h83 (lt 0) p).trans (eT p 0)
    have i92 := fun p => (index_at 1 _ h85 h86 k24 h87 h88 k25 h89 h90 h91 h92 (lt 1) p).trans (eT p 1)
    have s0 : (E (Proc.devRef .tc main_v83) : S100x1.Idx → Word) = E (Proc.devRef .tc main_v65) := by
      funext q
      obtain ⟨p, z, rfl⟩ : ∃ (p : Fin 100) (z : Fin 1), q = ix2 p z := ⟨_, _, (ix2_eta q).symm⟩
      rw [Subsingleton.elim z 0]
      exact (i83 p).trans (i65 p).symm
    have s1 : (E (Proc.devRef .tc main_v92) : S100x1.Idx → Word) = E (Proc.devRef .tc main_v74) := by
      funext q
      obtain ⟨p, z, rfl⟩ : ∃ (p : Fin 100) (z : Fin 1), q = ix2 p z := ⟨_, _, (ix2_eta q).symm⟩
      rw [Subsingleton.elim z 0]
      exact (i92 p).trans (i74 p).symm
    intro r c
    rw [e95]
    refine exchange_at (i0 := E (Proc.devRef .tc main_v65)) (i1 := E (Proc.devRef .tc main_v74)) (y := E (Proc.devRef .tc main_v84))
      (fun p => by rw [i65]; exact column_lt _ _) (fun p => by rw [i74]; exact column_lt _ _) h66 h75 ?_ ?_ drawnPairs ?_ r c
    · rw [← s0]; exact h84
    · rw [← s1]; exact h93
    · unfold drawnPairs
      refine congrArg (List.map · (List.finRange 100)) (funext fun p => ?_)
      exact Prod.ext (congrArg BitVec.toNat (i65 p)) (congrArg BitVec.toNat (i74 p))

end

end Cert.Proof.Host

end
-- ==== Proof.Pairs.lean ====
/-
  The 100 pairs of columns the reference draws, as a table, and the column map their exchange amounts to: the kernel's.
-/
module

public import proofs.«01_k».proof.Proof.Parts
public import proofs.«01_k».proof.Proof.Cols

@[expose] public section

noncomputable section

namespace Cert.Proof.Host

open Idealize.ShloMosaic

theorem swapKey_eq : swapKey = (2465931498#32, 255383827#32) := by decide +kernel

/-- The pairs drawn. -/
def pairs : List (ℕ × ℕ) :=
   [(417, 669), (1307, 1936), (1565, 514), (1651, 1465), (562, 1971), (1945, 1207), (520, 1611), (318, 1618), (1724,
    1746), (1389, 1637), (1653, 372), (167, 90), (1013, 357), (693, 1668), (183, 997), (1333, 566), (646, 636),
    (1480, 1752), (157, 1721), (584, 732), (254, 1994), (550, 1224), (1391, 1895), (131, 426), (1330, 961), (319,
    1821), (380, 771), (1323, 1968), (462, 15), (1178, 1430), (732, 1417), (879, 842), (634, 1623), (1348, 1497),
    (26, 147), (1103, 515), (582, 590), (1215, 145), (1291, 965), (1982, 237), (1633, 1539), (1552, 1711), (1890,
    682), (1909, 349), (126, 1965), (1093, 957), (59, 1744), (61, 964), (338, 1058), (625, 1833), (193, 1044),
    (1311, 274), (147, 1947), (1617, 690), (1728, 1167), (343, 996), (656, 1584), (1381, 1412), (1634, 917), (1671,
    858), (1240, 1819), (888, 1800), (1807, 741), (1400, 242), (1307, 1869), (945, 1022), (242, 1954), (699, 119),
    (227, 1925), (1139, 273), (393, 1834), (1138, 122), (43, 119), (1386, 944), (1822, 753), (683, 396), (1592,
    1793), (616, 477), (1162, 754), (1724, 680), (1515, 911), (1123, 114), (173, 1276), (95, 1721), (25, 1930),
    (1948, 927), (1437, 156), (277, 326), (578, 1751), (1560, 1299), (969, 506), (589, 1894), (286, 443), (1359,
    1607), (900, 1707), (1526, 1659), (1510, 1089), (1455, 1644), (141, 908), (1700, 1265)]

theorem pairs_eq : drawnPairs = pairs := by
  unfold drawnPairs
  rw [swapKey_eq]
  decide +kernel

theorem source_eq : ∀ c : Fin 2000, source pairs c.val = Cols.colOf c.val := by
  rw [Cols.colOf_eq]
  decide +kernel

theorem source_lt : ∀ c : Fin 2000, source pairs c.val < 2000 := by decide +kernel

variable {d : Dev Cert.ReferenceIdeal.nD} {E : Valuation Cert.ReferenceIdeal.τ Cert.ReferenceIdeal.sig (Elt Ideal)}

/-- The reference's second result is the kernel's function of the second argument. -/
theorem sat_out (h : (program (F := Ideal) d).Sat E) :
    (E (Proc.devRef .tc Cert.ReferenceIdeal.main_v95) : Vec Ideal Cert.KernelIdeal.S8192x2000 .f32)
      = Cols.out (E (Proc.devRef .tc Cert.ReferenceIdeal.main_arg1)) := by
  funext j
  obtain ⟨r, c, rfl⟩ : ∃ (r : Fin 8192) (c : Fin 2000), j = ix2 r c := ⟨_, _, (ix2_eta j).symm⟩
  refine ((sat_program h).2 r c).trans ?_
  rw [pairs_eq, ← rowAt_lt _ _ _ (source_lt c)]
  refine congrArg (E (Proc.devRef .tc Cert.ReferenceIdeal.main_arg1) : Cert.KernelIdeal.S8192x2000.Idx → EReal) (funext fun a => ?_)
  match a with
  | 0 => rfl
  | 1 =>
    have lt : Cols.colOf c.val < 2000 := source_eq c ▸ source_lt c
    exact (Fin.ext (source_eq c)).trans (dif_pos lt).symm

end Cert.Proof.Host

end
-- ==== Proof.lean ====
/-
  The proof of the certificate: the frames of the three programs, and the kernel's results equal to the reference's over the
  extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.HostRun
public import proofs.«01_k».proof.Proof.Pairs
public import Idealize.ShloMosaic.Adequacy
public import Idealize.ShloMosaic.Init

@[expose] public section

noncomputable section

namespace Cert.Proof

open Idealize.ShloMosaic Idealize.SL.Sem

/-- The kernel as it is: the run over bits, of the same text. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩)
    (Kern.run_main (F := Bits) m ρ)

/-- The kernel over the extended reals. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩)
    (Kern.run_main (F := Ideal) m ρ)

/-- The reference over the extended reals. -/
theorem frame_reference : Cert.quiescent_ReferenceIdeal := fun m ρ _ =>
  (θ_run Cert.ReferenceIdeal.defs _ _).mono (fun r h => ⟨fun c => by
      obtain ⟨E, hE, -, h0, h1, h2⟩ := h c
      exact ⟨(hE _).trans h0, (hE _).trans h1, (hE _).trans h2⟩, sem_eq_zero_of_no_sems (by decide) r.2⟩)
    (Host.run m ρ)

/-- The two programs' results: the first and third arguments as they came, and the second with its columns exchanged. -/
theorem values : Cert.algebraic_KernelIdeal_ReferenceIdeal := fun m ρ m' ρ' _ hm =>
  ⟨fun c => m (Kern.tcLoc c Cert.KernelIdeal.main_arg0), fun c => Cols.out (m (Kern.xLoc c)),
    fun c => m (Kern.tcLoc c Cert.KernelIdeal.main_arg2),
    (θ_run Cert.KernelIdeal.defs _ _).mono (fun _ h c =>
        ⟨(h.1 c).1, (h.1 c).2.2.2, (h.1 c).2.2.1, (h.1 c).1, (h.1 c).2.1, (h.1 c).2.2.1⟩)
      (Kern.run_main (F := Ideal) m ρ),
    (θ_run Cert.ReferenceIdeal.defs _ _).mono (fun _ h c => by
        obtain ⟨E, hE, hs, h0, h1, h2⟩ := h c
        exact ⟨(hE _).trans ((Host.sat_program hs).1.trans (h0.trans (hm c).1)),
          (hE _).trans ((Host.sat_out hs).trans (congrArg Cols.out (h1.trans (hm c).2.1))),
          (hE _).trans (h2.trans (hm c).2.2), (hE _).trans h0, (hE _).trans h1, (hE _).trans h2⟩)
      (Host.run m' ρ')⟩

theorem claim : Cert.Claim :=
  ⟨Cert.Kernel.Gen.facts, Cert.KernelIdeal.Gen.facts, Cert.ReferenceIdeal.Gen.facts, frame_kernel, frame_ideal, frame_reference,
    trivial, values⟩

end Cert.Proof

end
